-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_RefScanIdeal (m : (ℓ : Loc Cert.RefScanIdeal.nD Cert.RefScanIdeal.τ Cert.RefScanIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_RefGluIdeal (m : (ℓ : Loc Cert.RefGluIdeal.nD Cert.RefGluIdeal.τ Cert.RefGluIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_Readout (m : (ℓ : Loc Cert.Readout.nD Cert.Readout.τ Cert.Readout.sig) → Buf (Elt Bits) ℓ) : Prop :=
  True

def Pre_ReadoutIdeal (m : (ℓ : Loc Cert.ReadoutIdeal.nD Cert.ReadoutIdeal.τ Cert.ReadoutIdeal.sig) → Buf (Elt Ideal) ℓ) : Prop :=
  True

def Pre_RefReadoutIdeal (m : (ℓ : Loc Cert.RefReadoutIdeal.nD Cert.RefReadoutIdeal.τ Cert.RefReadoutIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_RefAdaIdeal (m : (ℓ : Loc Cert.RefAdaIdeal.nD Cert.RefAdaIdeal.τ Cert.RefAdaIdeal.sig) → Buf (Elt Ideal) ℓ) : Prop :=
  True

def Pre_ProjCtx (m : (ℓ : Loc Cert.ProjCtx.nD Cert.ProjCtx.τ Cert.ProjCtx.sig) → Buf (Elt Bits) ℓ) : Prop :=
  True

def Pre_ProjCtxIdeal (m : (ℓ : Loc Cert.ProjCtxIdeal.nD Cert.ProjCtxIdeal.τ Cert.ProjCtxIdeal.sig) → Buf (Elt Ideal) ℓ) : Prop :=
  True

def Pre_RefProjCtxIdeal (m : (ℓ : Loc Cert.RefProjCtxIdeal.nD Cert.RefProjCtxIdeal.τ Cert.RefProjCtxIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2))
      ∧ r.2.sem = fun _ => 0)

def quiescent_RefScanIdeal [hRefScanIdeal : Cert.RefScanIdeal.Facts] : Prop :=
  ∀ (m : (ℓ : Loc Cert.RefScanIdeal.nD Cert.RefScanIdeal.τ Cert.RefScanIdeal.sig) → Buf (Elt Ideal) ℓ) (g : Dev Cert.RefScanIdeal.nD → PrngReg), Pre_RefScanIdeal m →
    θ_run (Cert.RefScanIdeal.defs (F := Ideal)) (onTc (τ := Cert.RefScanIdeal.τ) (Cert.RefScanIdeal.main (F := Ideal))) ⟨m, fun _ => 0, g⟩ (fun r => (∀ c : Dev Cert.RefScanIdeal.nD,
      r.2.mem ((c.tc : Thread Cert.RefScanIdeal.nD Cert.RefScanIdeal.τ).loc Cert.RefScanIdeal.main_arg0) = m ((c.tc : Thread Cert.RefScanIdeal.nD Cert.RefScanIdeal.τ).loc Cert.RefScanIdeal.main_arg0)
      ∧ r.2.mem ((c.tc : Thread Cert.RefScanIdeal.nD Cert.RefScanIdeal.τ).loc Cert.RefScanIdeal.main_arg1) = m ((c.tc : Thread Cert.RefScanIdeal.nD Cert.RefScanIdeal.τ).loc Cert.RefScanIdeal.main_arg1)
      ∧ r.2.mem ((c.tc : Thread Cert.RefScanIdeal.nD Cert.RefScanIdeal.τ).loc Cert.RefScanIdeal.main_arg2) = m ((c.tc : Thread Cert.RefScanIdeal.nD Cert.RefScanIdeal.τ).loc Cert.RefScanIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_RefGluIdeal [hRefGluIdeal : Cert.RefGluIdeal.Facts] : Prop :=
  ∀ (m : (ℓ : Loc Cert.RefGluIdeal.nD Cert.RefGluIdeal.τ Cert.RefGluIdeal.sig) → Buf (Elt Ideal) ℓ) (g : Dev Cert.RefGluIdeal.nD → PrngReg), Pre_RefGluIdeal m →
    θ_run (Cert.RefGluIdeal.defs (F := Ideal)) (onTc (τ := Cert.RefGluIdeal.τ) (Cert.RefGluIdeal.main (F := Ideal))) ⟨m, fun _ => 0, g⟩ (fun r => (∀ c : Dev Cert.RefGluIdeal.nD,
      r.2.mem ((c.tc : Thread Cert.RefGluIdeal.nD Cert.RefGluIdeal.τ).loc Cert.RefGluIdeal.main_arg0) = m ((c.tc : Thread Cert.RefGluIdeal.nD Cert.RefGluIdeal.τ).loc Cert.RefGluIdeal.main_arg0)
      ∧ r.2.mem ((c.tc : Thread Cert.RefGluIdeal.nD Cert.RefGluIdeal.τ).loc Cert.RefGluIdeal.main_arg1) = m ((c.tc : Thread Cert.RefGluIdeal.nD Cert.RefGluIdeal.τ).loc Cert.RefGluIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5))
      ∧ r.2.sem = fun _ => 0)

def quiescent_Readout [hReadout : Cert.Readout.Facts] : Prop :=
  ∀ (m : (ℓ : Loc Cert.Readout.nD Cert.Readout.τ Cert.Readout.sig) → Buf (Elt Bits) ℓ) (g : Dev Cert.Readout.nD → PrngReg), Pre_Readout m →
    θ_run (Cert.Readout.defs (F := Bits)) (onTc (τ := Cert.Readout.τ) (Cert.Readout.main (F := Bits))) ⟨m, fun _ => 0, g⟩ (fun r => (∀ c : Dev Cert.Readout.nD,
      r.2.mem ((c.tc : Thread Cert.Readout.nD Cert.Readout.τ).loc Cert.Readout.main_arg0) = m ((c.tc : Thread Cert.Readout.nD Cert.Readout.τ).loc Cert.Readout.main_arg0)
      ∧ r.2.mem ((c.tc : Thread Cert.Readout.nD Cert.Readout.τ).loc Cert.Readout.main_arg1) = m ((c.tc : Thread Cert.Readout.nD Cert.Readout.τ).loc Cert.Readout.main_arg1)
      ∧ r.2.mem ((c.tc : Thread Cert.Readout.nD Cert.Readout.τ).loc Cert.Readout.main_arg2) = m ((c.tc : Thread Cert.Readout.nD Cert.Readout.τ).loc Cert.Readout.main_arg2)
      ∧ r.2.mem ((c.tc : Thread Cert.Readout.nD Cert.Readout.τ).loc Cert.Readout.main_arg3) = m ((c.tc : Thread Cert.Readout.nD Cert.Readout.τ).loc Cert.Readout.main_arg3)
      ∧ r.2.mem ((c.tc : Thread Cert.Readout.nD Cert.Readout.τ).loc Cert.Readout.main_arg4) = m ((c.tc : Thread Cert.Readout.nD Cert.Readout.τ).loc Cert.Readout.main_arg4)
      ∧ r.2.mem ((c.tc : Thread Cert.Readout.nD Cert.Readout.τ).loc Cert.Readout.main_arg5) = m ((c.tc : Thread Cert.Readout.nD Cert.Readout.τ).loc Cert.Readout.main_arg5))
      ∧ r.2.sem = fun _ => 0)

def quiescent_ReadoutIdeal [hReadoutIdeal : Cert.ReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg), Pre_ReadoutIdeal m →
    θ_run (Cert.ReadoutIdeal.defs (F := Ideal)) (onTc (τ := Cert.ReadoutIdeal.τ) (Cert.ReadoutIdeal.main (F := Ideal))) ⟨m, fun _ => 0, g⟩ (fun r => (∀ c : Dev Cert.ReadoutIdeal.nD,
      r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
      ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
      ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
      ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
      ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
      ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5))
      ∧ r.2.sem = fun _ => 0)

def quiescent_RefReadoutIdeal [hRefReadoutIdeal : Cert.RefReadoutIdeal.Facts] : Prop :=
  ∀ (m : (ℓ : Loc Cert.RefReadoutIdeal.nD Cert.RefReadoutIdeal.τ Cert.RefReadoutIdeal.sig) → Buf (Elt Ideal) ℓ) (g : Dev Cert.RefReadoutIdeal.nD → PrngReg), Pre_RefReadoutIdeal m →
    θ_run (Cert.RefReadoutIdeal.defs (F := Ideal)) (onTc (τ := Cert.RefReadoutIdeal.τ) (Cert.RefReadoutIdeal.main (F := Ideal))) ⟨m, fun _ => 0, g⟩ (fun r => (∀ c : Dev Cert.RefReadoutIdeal.nD,
      r.2.mem ((c.tc : Thread Cert.RefReadoutIdeal.nD Cert.RefReadoutIdeal.τ).loc Cert.RefReadoutIdeal.main_arg0) = m ((c.tc : Thread Cert.RefReadoutIdeal.nD Cert.RefReadoutIdeal.τ).loc Cert.RefReadoutIdeal.main_arg0)
      ∧ r.2.mem ((c.tc : Thread Cert.RefReadoutIdeal.nD Cert.RefReadoutIdeal.τ).loc Cert.RefReadoutIdeal.main_arg1) = m ((c.tc : Thread Cert.RefReadoutIdeal.nD Cert.RefReadoutIdeal.τ).loc Cert.RefReadoutIdeal.main_arg1)
      ∧ r.2.mem ((c.tc : Thread Cert.RefReadoutIdeal.nD Cert.RefReadoutIdeal.τ).loc Cert.RefReadoutIdeal.main_arg2) = m ((c.tc : Thread Cert.RefReadoutIdeal.nD Cert.RefReadoutIdeal.τ).loc Cert.RefReadoutIdeal.main_arg2)
      ∧ r.2.mem ((c.tc : Thread Cert.RefReadoutIdeal.nD Cert.RefReadoutIdeal.τ).loc Cert.RefReadoutIdeal.main_arg3) = m ((c.tc : Thread Cert.RefReadoutIdeal.nD Cert.RefReadoutIdeal.τ).loc Cert.RefReadoutIdeal.main_arg3)
      ∧ r.2.mem ((c.tc : Thread Cert.RefReadoutIdeal.nD Cert.RefReadoutIdeal.τ).loc Cert.RefReadoutIdeal.main_arg4) = m ((c.tc : Thread Cert.RefReadoutIdeal.nD Cert.RefReadoutIdeal.τ).loc Cert.RefReadoutIdeal.main_arg4)
      ∧ r.2.mem ((c.tc : Thread Cert.RefReadoutIdeal.nD Cert.RefReadoutIdeal.τ).loc Cert.RefReadoutIdeal.main_arg5) = m ((c.tc : Thread Cert.RefReadoutIdeal.nD Cert.RefReadoutIdeal.τ).loc Cert.RefReadoutIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1)
      ∧ r.2.mem ((c.tc : Thread Cert.RefNormIdeal.nD Cert.RefNormIdeal.τ).loc Cert.RefNormIdeal.main_arg2) = m ((c.tc : Thread Cert.RefNormIdeal.nD Cert.RefNormIdeal.τ).loc Cert.RefNormIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_RefAdaIdeal [hRefAdaIdeal : Cert.RefAdaIdeal.Facts] : Prop :=
  ∀ (m : (ℓ : Loc Cert.RefAdaIdeal.nD Cert.RefAdaIdeal.τ Cert.RefAdaIdeal.sig) → Buf (Elt Ideal) ℓ) (g : Dev Cert.RefAdaIdeal.nD → PrngReg), Pre_RefAdaIdeal m →
    θ_run (Cert.RefAdaIdeal.defs (F := Ideal)) (onTc (τ := Cert.RefAdaIdeal.τ) (Cert.RefAdaIdeal.main (F := Ideal))) ⟨m, fun _ => 0, g⟩ (fun r => (∀ c : Dev Cert.RefAdaIdeal.nD,
      r.2.mem ((c.tc : Thread Cert.RefAdaIdeal.nD Cert.RefAdaIdeal.τ).loc Cert.RefAdaIdeal.main_arg0) = m ((c.tc : Thread Cert.RefAdaIdeal.nD Cert.RefAdaIdeal.τ).loc Cert.RefAdaIdeal.main_arg0)
      ∧ r.2.mem ((c.tc : Thread Cert.RefAdaIdeal.nD Cert.RefAdaIdeal.τ).loc Cert.RefAdaIdeal.main_arg1) = m ((c.tc : Thread Cert.RefAdaIdeal.nD Cert.RefAdaIdeal.τ).loc Cert.RefAdaIdeal.main_arg1)
      ∧ r.2.mem ((c.tc : Thread Cert.RefAdaIdeal.nD Cert.RefAdaIdeal.τ).loc Cert.RefAdaIdeal.main_arg2) = m ((c.tc : Thread Cert.RefAdaIdeal.nD Cert.RefAdaIdeal.τ).loc Cert.RefAdaIdeal.main_arg2)
      ∧ r.2.mem ((c.tc : Thread Cert.RefAdaIdeal.nD Cert.RefAdaIdeal.τ).loc Cert.RefAdaIdeal.main_arg3) = m ((c.tc : Thread Cert.RefAdaIdeal.nD Cert.RefAdaIdeal.τ).loc Cert.RefAdaIdeal.main_arg3))
      ∧ r.2.sem = fun _ => 0)

def quiescent_ProjCtx [hProjCtx : Cert.ProjCtx.Facts] : Prop :=
  ∀ (m : (ℓ : Loc Cert.ProjCtx.nD Cert.ProjCtx.τ Cert.ProjCtx.sig) → Buf (Elt Bits) ℓ) (g : Dev Cert.ProjCtx.nD → PrngReg), Pre_ProjCtx m →
    θ_run (Cert.ProjCtx.defs (F := Bits)) (onTc (τ := Cert.ProjCtx.τ) (Cert.ProjCtx.main (F := Bits))) ⟨m, fun _ => 0, g⟩ (fun r => (∀ c : Dev Cert.ProjCtx.nD,
      r.2.mem ((c.tc : Thread Cert.ProjCtx.nD Cert.ProjCtx.τ).loc Cert.ProjCtx.main_arg0) = m ((c.tc : Thread Cert.ProjCtx.nD Cert.ProjCtx.τ).loc Cert.ProjCtx.main_arg0)
      ∧ r.2.mem ((c.tc : Thread Cert.ProjCtx.nD Cert.ProjCtx.τ).loc Cert.ProjCtx.main_arg1) = m ((c.tc : Thread Cert.ProjCtx.nD Cert.ProjCtx.τ).loc Cert.ProjCtx.main_arg1))
      ∧ r.2.sem = fun _ => 0)

def quiescent_ProjCtxIdeal [hProjCtxIdeal : Cert.ProjCtxIdeal.Facts] : Prop :=
  ∀ (m : (ℓ : Loc Cert.ProjCtxIdeal.nD Cert.ProjCtxIdeal.τ Cert.ProjCtxIdeal.sig) → Buf (Elt Ideal) ℓ) (g : Dev Cert.ProjCtxIdeal.nD → PrngReg), Pre_ProjCtxIdeal m →
    θ_run (Cert.ProjCtxIdeal.defs (F := Ideal)) (onTc (τ := Cert.ProjCtxIdeal.τ) (Cert.ProjCtxIdeal.main (F := Ideal))) ⟨m, fun _ => 0, g⟩ (fun r => (∀ c : Dev Cert.ProjCtxIdeal.nD,
      r.2.mem ((c.tc : Thread Cert.ProjCtxIdeal.nD Cert.ProjCtxIdeal.τ).loc Cert.ProjCtxIdeal.main_arg0) = m ((c.tc : Thread Cert.ProjCtxIdeal.nD Cert.ProjCtxIdeal.τ).loc Cert.ProjCtxIdeal.main_arg0)
      ∧ r.2.mem ((c.tc : Thread Cert.ProjCtxIdeal.nD Cert.ProjCtxIdeal.τ).loc Cert.ProjCtxIdeal.main_arg1) = m ((c.tc : Thread Cert.ProjCtxIdeal.nD Cert.ProjCtxIdeal.τ).loc Cert.ProjCtxIdeal.main_arg1))
      ∧ r.2.sem = fun _ => 0)

def quiescent_RefProjCtxIdeal [hRefProjCtxIdeal : Cert.RefProjCtxIdeal.Facts] : Prop :=
  ∀ (m : (ℓ : Loc Cert.RefProjCtxIdeal.nD Cert.RefProjCtxIdeal.τ Cert.RefProjCtxIdeal.sig) → Buf (Elt Ideal) ℓ) (g : Dev Cert.RefProjCtxIdeal.nD → PrngReg), Pre_RefProjCtxIdeal m →
    θ_run (Cert.RefProjCtxIdeal.defs (F := Ideal)) (onTc (τ := Cert.RefProjCtxIdeal.τ) (Cert.RefProjCtxIdeal.main (F := Ideal))) ⟨m, fun _ => 0, g⟩ (fun r => (∀ c : Dev Cert.RefProjCtxIdeal.nD,
      r.2.mem ((c.tc : Thread Cert.RefProjCtxIdeal.nD Cert.RefProjCtxIdeal.τ).loc Cert.RefProjCtxIdeal.main_arg0) = m ((c.tc : Thread Cert.RefProjCtxIdeal.nD Cert.RefProjCtxIdeal.τ).loc Cert.RefProjCtxIdeal.main_arg0)
      ∧ r.2.mem ((c.tc : Thread Cert.RefProjCtxIdeal.nD Cert.RefProjCtxIdeal.τ).loc Cert.RefProjCtxIdeal.main_arg1) = m ((c.tc : Thread Cert.RefProjCtxIdeal.nD Cert.RefProjCtxIdeal.τ).loc Cert.RefProjCtxIdeal.main_arg1))
      ∧ r.2.sem = fun _ => 0)

def preserves_Scan_ScanIdeal : Prop :=
  True

def algebraic_ScanIdeal_RefScanIdeal [hScanIdeal : Cert.ScanIdeal.Facts] [hRefScanIdeal : Cert.RefScanIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.RefScanIdeal.nD Cert.RefScanIdeal.τ Cert.RefScanIdeal.sig) → Buf (Elt Ideal) ℓ) (g' : Dev Cert.RefScanIdeal.nD → PrngReg), Pre_ScanIdeal m →
    (∀ c : Dev Cert.ScanIdeal.nD,
      m' ((c.tc : Thread Cert.RefScanIdeal.nD Cert.RefScanIdeal.τ).loc Cert.RefScanIdeal.main_arg0) = m ((c.tc : Thread Cert.ScanIdeal.nD Cert.ScanIdeal.τ).loc Cert.ScanIdeal.main_arg0)
      ∧ m' ((c.tc : Thread Cert.RefScanIdeal.nD Cert.RefScanIdeal.τ).loc Cert.RefScanIdeal.main_arg1) = m ((c.tc : Thread Cert.ScanIdeal.nD Cert.ScanIdeal.τ).loc Cert.ScanIdeal.main_arg1)
      ∧ m' ((c.tc : Thread Cert.RefScanIdeal.nD Cert.RefScanIdeal.τ).loc Cert.RefScanIdeal.main_arg2) = m ((c.tc : Thread Cert.ScanIdeal.nD Cert.ScanIdeal.τ).loc Cert.ScanIdeal.main_arg2)) →
    ∃ (v0 : (c : Dev Cert.ScanIdeal.nD) → Buf (Elt Ideal) ((c.tc : Thread Cert.ScanIdeal.nD Cert.ScanIdeal.τ).loc Cert.ScanIdeal.main_v15)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v15) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2))
      ∧ θ_run (Cert.RefScanIdeal.defs (F := Ideal)) (onTc (τ := Cert.RefScanIdeal.τ) (Cert.RefScanIdeal.main (F := Ideal))) ⟨m', fun _ => 0, g'⟩ (fun r => ∀ c : Dev Cert.RefScanIdeal.nD,
          r.2.mem ((c.tc : Thread Cert.RefScanIdeal.nD Cert.RefScanIdeal.τ).loc Cert.RefScanIdeal.main_v102) = v0 c
          ∧ r.2.mem ((c.tc : Thread Cert.RefScanIdeal.nD Cert.RefScanIdeal.τ).loc Cert.RefScanIdeal.main_arg0) = m' ((c.tc : Thread Cert.RefScanIdeal.nD Cert.RefScanIdeal.τ).loc Cert.RefScanIdeal.main_arg0)
          ∧ r.2.mem ((c.tc : Thread Cert.RefScanIdeal.nD Cert.RefScanIdeal.τ).loc Cert.RefScanIdeal.main_arg1) = m' ((c.tc : Thread Cert.RefScanIdeal.nD Cert.RefScanIdeal.τ).loc Cert.RefScanIdeal.main_arg1)
          ∧ r.2.mem ((c.tc : Thread Cert.RefScanIdeal.nD Cert.RefScanIdeal.τ).loc Cert.RefScanIdeal.main_arg2) = m' ((c.tc : Thread Cert.RefScanIdeal.nD Cert.RefScanIdeal.τ).loc Cert.RefScanIdeal.main_arg2))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v4) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1))

def preserves_Glu_GluIdeal : Prop :=
  True

def algebraic_GluIdeal_RefGluIdeal [hGluIdeal : Cert.GluIdeal.Facts] [hRefGluIdeal : Cert.RefGluIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.RefGluIdeal.nD Cert.RefGluIdeal.τ Cert.RefGluIdeal.sig) → Buf (Elt Ideal) ℓ) (g' : Dev Cert.RefGluIdeal.nD → PrngReg), Pre_GluIdeal m →
    (∀ c : Dev Cert.GluIdeal.nD,
      m' ((c.tc : Thread Cert.RefGluIdeal.nD Cert.RefGluIdeal.τ).loc Cert.RefGluIdeal.main_arg0) = m ((c.tc : Thread Cert.GluIdeal.nD Cert.GluIdeal.τ).loc Cert.GluIdeal.main_arg0)
      ∧ m' ((c.tc : Thread Cert.RefGluIdeal.nD Cert.RefGluIdeal.τ).loc Cert.RefGluIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.RefGluIdeal.defs (F := Ideal)) (onTc (τ := Cert.RefGluIdeal.τ) (Cert.RefGluIdeal.main (F := Ideal))) ⟨m', fun _ => 0, g'⟩ (fun r => ∀ c : Dev Cert.RefGluIdeal.nD,
          r.2.mem ((c.tc : Thread Cert.RefGluIdeal.nD Cert.RefGluIdeal.τ).loc Cert.RefGluIdeal.main_v13) = v0 c
          ∧ r.2.mem ((c.tc : Thread Cert.RefGluIdeal.nD Cert.RefGluIdeal.τ).loc Cert.RefGluIdeal.main_arg0) = m' ((c.tc : Thread Cert.RefGluIdeal.nD Cert.RefGluIdeal.τ).loc Cert.RefGluIdeal.main_arg0)
          ∧ r.2.mem ((c.tc : Thread Cert.RefGluIdeal.nD Cert.RefGluIdeal.τ).loc Cert.RefGluIdeal.main_arg1) = m' ((c.tc : Thread Cert.RefGluIdeal.nD Cert.RefGluIdeal.τ).loc Cert.RefGluIdeal.main_arg1))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)
      ∧ m' ((c.tc : Thread Cert.RefOutIdeal.nD Cert.RefOutIdeal.τ).loc Cert.RefOutIdeal.main_arg4) = m ((c.tc : Thread Cert.OutIdeal.nD Cert.OutIdeal.τ).loc Cert.OutIdeal.main_arg4)
      ∧ m' ((c.tc : Thread Cert.RefOutIdeal.nD Cert.RefOutIdeal.τ).loc Cert.RefOutIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v39) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5))

def preserves_Readout_ReadoutIdeal : Prop :=
  True

def algebraic_ReadoutIdeal_RefReadoutIdeal [hReadoutIdeal : Cert.ReadoutIdeal.Facts] [hRefReadoutIdeal : Cert.RefReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg)
    (m' : (ℓ : Loc Cert.RefReadoutIdeal.nD Cert.RefReadoutIdeal.τ Cert.RefReadoutIdeal.sig) → Buf (Elt Ideal) ℓ) (g' : Dev Cert.RefReadoutIdeal.nD → PrngReg), Pre_ReadoutIdeal m →
    (∀ c : Dev Cert.ReadoutIdeal.nD,
      m' ((c.tc : Thread Cert.RefReadoutIdeal.nD Cert.RefReadoutIdeal.τ).loc Cert.RefReadoutIdeal.main_arg0) = m ((c.tc : Thread Cert.ReadoutIdeal.nD Cert.ReadoutIdeal.τ).loc Cert.ReadoutIdeal.main_arg0)
      ∧ m' ((c.tc : Thread Cert.RefReadoutIdeal.nD Cert.RefReadoutIdeal.τ).loc Cert.RefReadoutIdeal.main_arg1) = m ((c.tc : Thread Cert.ReadoutIdeal.nD Cert.ReadoutIdeal.τ).loc Cert.ReadoutIdeal.main_arg1)
      ∧ m' ((c.tc : Thread Cert.RefReadoutIdeal.nD Cert.RefReadoutIdeal.τ).loc Cert.RefReadoutIdeal.main_arg2) = m ((c.tc : Thread Cert.ReadoutIdeal.nD Cert.ReadoutIdeal.τ).loc Cert.ReadoutIdeal.main_arg2)
      ∧ m' ((c.tc : Thread Cert.RefReadoutIdeal.nD Cert.RefReadoutIdeal.τ).loc Cert.RefReadoutIdeal.main_arg3) = m ((c.tc : Thread Cert.ReadoutIdeal.nD Cert.ReadoutIdeal.τ).loc Cert.ReadoutIdeal.main_arg3)
      ∧ m' ((c.tc : Thread Cert.RefReadoutIdeal.nD Cert.RefReadoutIdeal.τ).loc Cert.RefReadoutIdeal.main_arg4) = m ((c.tc : Thread Cert.ReadoutIdeal.nD Cert.ReadoutIdeal.τ).loc Cert.ReadoutIdeal.main_arg4)
      ∧ m' ((c.tc : Thread Cert.RefReadoutIdeal.nD Cert.RefReadoutIdeal.τ).loc Cert.RefReadoutIdeal.main_arg5) = m ((c.tc : Thread Cert.ReadoutIdeal.nD Cert.ReadoutIdeal.τ).loc Cert.ReadoutIdeal.main_arg5)) →
    ∃ (v0 : (c : Dev Cert.ReadoutIdeal.nD) → Buf (Elt Ideal) ((c.tc : Thread Cert.ReadoutIdeal.nD Cert.ReadoutIdeal.τ).loc Cert.ReadoutIdeal.main_v4)),
      θ_run (Cert.ReadoutIdeal.defs (F := Ideal)) (onTc (τ := Cert.ReadoutIdeal.τ) (Cert.ReadoutIdeal.main (F := Ideal))) ⟨m, fun _ => 0, g⟩ (fun r => ∀ c : Dev Cert.ReadoutIdeal.nD,
          r.2.mem ((c.tc : Thread Cert.ReadoutIdeal.nD Cert.ReadoutIdeal.τ).loc Cert.ReadoutIdeal.main_v4) = v0 c
          ∧ r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
          ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
          ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
          ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
          ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
          ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5))
      ∧ θ_run (Cert.RefReadoutIdeal.defs (F := Ideal)) (onTc (τ := Cert.RefReadoutIdeal.τ) (Cert.RefReadoutIdeal.main (F := Ideal))) ⟨m', fun _ => 0, g'⟩ (fun r => ∀ c : Dev Cert.RefReadoutIdeal.nD,
          r.2.mem ((c.tc : Thread Cert.RefReadoutIdeal.nD Cert.RefReadoutIdeal.τ).loc Cert.RefReadoutIdeal.main_v41) = v0 c
          ∧ r.2.mem ((c.tc : Thread Cert.RefReadoutIdeal.nD Cert.RefReadoutIdeal.τ).loc Cert.RefReadoutIdeal.main_arg0) = m' ((c.tc : Thread Cert.RefReadoutIdeal.nD Cert.RefReadoutIdeal.τ).loc Cert.RefReadoutIdeal.main_arg0)
          ∧ r.2.mem ((c.tc : Thread Cert.RefReadoutIdeal.nD Cert.RefReadoutIdeal.τ).loc Cert.RefReadoutIdeal.main_arg1) = m' ((c.tc : Thread Cert.RefReadoutIdeal.nD Cert.RefReadoutIdeal.τ).loc Cert.RefReadoutIdeal.main_arg1)
          ∧ r.2.mem ((c.tc : Thread Cert.RefReadoutIdeal.nD Cert.RefReadoutIdeal.τ).loc Cert.RefReadoutIdeal.main_arg2) = m' ((c.tc : Thread Cert.RefReadoutIdeal.nD Cert.RefReadoutIdeal.τ).loc Cert.RefReadoutIdeal.main_arg2)
          ∧ r.2.mem ((c.tc : Thread Cert.RefReadoutIdeal.nD Cert.RefReadoutIdeal.τ).loc Cert.RefReadoutIdeal.main_arg3) = m' ((c.tc : Thread Cert.RefReadoutIdeal.nD Cert.RefReadoutIdeal.τ).loc Cert.RefReadoutIdeal.main_arg3)
          ∧ r.2.mem ((c.tc : Thread Cert.RefReadoutIdeal.nD Cert.RefReadoutIdeal.τ).loc Cert.RefReadoutIdeal.main_arg4) = m' ((c.tc : Thread Cert.RefReadoutIdeal.nD Cert.RefReadoutIdeal.τ).loc Cert.RefReadoutIdeal.main_arg4)
          ∧ r.2.mem ((c.tc : Thread Cert.RefReadoutIdeal.nD Cert.RefReadoutIdeal.τ).loc Cert.RefReadoutIdeal.main_arg5) = m' ((c.tc : Thread Cert.RefReadoutIdeal.nD Cert.RefReadoutIdeal.τ).loc Cert.RefReadoutIdeal.main_arg5))

def preserves_Norm_NormIdeal : Prop :=
  True

def algebraic_NormIdeal_RefNormIdeal [hNormIdeal : Cert.NormIdeal.Facts] [hRefNormIdeal : Cert.RefNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)
      ∧ m' ((c.tc : Thread Cert.RefNormIdeal.nD Cert.RefNormIdeal.τ).loc Cert.RefNormIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v30) = v0 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1)
          ∧ r.2.mem ((c.tc : Thread Cert.RefNormIdeal.nD Cert.RefNormIdeal.τ).loc Cert.RefNormIdeal.main_arg2) = m' ((c.tc : Thread Cert.RefNormIdeal.nD Cert.RefNormIdeal.τ).loc Cert.RefNormIdeal.main_arg2))

def preserves_Ada_AdaIdeal : Prop :=
  True

def algebraic_AdaIdeal_RefAdaIdeal [hAdaIdeal : Cert.AdaIdeal.Facts] [hRefAdaIdeal : Cert.RefAdaIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.RefAdaIdeal.nD Cert.RefAdaIdeal.τ Cert.RefAdaIdeal.sig) → Buf (Elt Ideal) ℓ) (g' : Dev Cert.RefAdaIdeal.nD → PrngReg), Pre_AdaIdeal m →
    (∀ c : Dev Cert.AdaIdeal.nD,
      m' ((c.tc : Thread Cert.RefAdaIdeal.nD Cert.RefAdaIdeal.τ).loc Cert.RefAdaIdeal.main_arg0) = m ((c.tc : Thread Cert.AdaIdeal.nD Cert.AdaIdeal.τ).loc Cert.AdaIdeal.main_arg0)
      ∧ m' ((c.tc : Thread Cert.RefAdaIdeal.nD Cert.RefAdaIdeal.τ).loc Cert.RefAdaIdeal.main_arg1) = m ((c.tc : Thread Cert.AdaIdeal.nD Cert.AdaIdeal.τ).loc Cert.AdaIdeal.main_arg1)
      ∧ m' ((c.tc : Thread Cert.RefAdaIdeal.nD Cert.RefAdaIdeal.τ).loc Cert.RefAdaIdeal.main_arg2) = m ((c.tc : Thread Cert.AdaIdeal.nD Cert.AdaIdeal.τ).loc Cert.AdaIdeal.main_arg2)
      ∧ m' ((c.tc : Thread Cert.RefAdaIdeal.nD Cert.RefAdaIdeal.τ).loc Cert.RefAdaIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.RefAdaIdeal.defs (F := Ideal)) (onTc (τ := Cert.RefAdaIdeal.τ) (Cert.RefAdaIdeal.main (F := Ideal))) ⟨m', fun _ => 0, g'⟩ (fun r => ∀ c : Dev Cert.RefAdaIdeal.nD,
          r.2.mem ((c.tc : Thread Cert.RefAdaIdeal.nD Cert.RefAdaIdeal.τ).loc Cert.RefAdaIdeal.main_v22) = v0 c
          ∧ r.2.mem ((c.tc : Thread Cert.RefAdaIdeal.nD Cert.RefAdaIdeal.τ).loc Cert.RefAdaIdeal.main_arg0) = m' ((c.tc : Thread Cert.RefAdaIdeal.nD Cert.RefAdaIdeal.τ).loc Cert.RefAdaIdeal.main_arg0)
          ∧ r.2.mem ((c.tc : Thread Cert.RefAdaIdeal.nD Cert.RefAdaIdeal.τ).loc Cert.RefAdaIdeal.main_arg1) = m' ((c.tc : Thread Cert.RefAdaIdeal.nD Cert.RefAdaIdeal.τ).loc Cert.RefAdaIdeal.main_arg1)
          ∧ r.2.mem ((c.tc : Thread Cert.RefAdaIdeal.nD Cert.RefAdaIdeal.τ).loc Cert.RefAdaIdeal.main_arg2) = m' ((c.tc : Thread Cert.RefAdaIdeal.nD Cert.RefAdaIdeal.τ).loc Cert.RefAdaIdeal.main_arg2)
          ∧ r.2.mem ((c.tc : Thread Cert.RefAdaIdeal.nD Cert.RefAdaIdeal.τ).loc Cert.RefAdaIdeal.main_arg3) = m' ((c.tc : Thread Cert.RefAdaIdeal.nD Cert.RefAdaIdeal.τ).loc Cert.RefAdaIdeal.main_arg3))

def preserves_ProjCtx_ProjCtxIdeal : Prop :=
  True

def algebraic_ProjCtxIdeal_RefProjCtxIdeal [hProjCtxIdeal : Cert.ProjCtxIdeal.Facts] [hRefProjCtxIdeal : Cert.RefProjCtxIdeal.Facts] : Prop :=
  ∀ (m : (ℓ : Loc Cert.ProjCtxIdeal.nD Cert.ProjCtxIdeal.τ Cert.ProjCtxIdeal.sig) → Buf (Elt Ideal) ℓ) (g : Dev Cert.ProjCtxIdeal.nD → PrngReg)
    (m' : (ℓ : Loc Cert.RefProjCtxIdeal.nD Cert.RefProjCtxIdeal.τ Cert.RefProjCtxIdeal.sig) → Buf (Elt Ideal) ℓ) (g' : Dev Cert.RefProjCtxIdeal.nD → PrngReg), Pre_ProjCtxIdeal m →
    (∀ c : Dev Cert.ProjCtxIdeal.nD,
      m' ((c.tc : Thread Cert.RefProjCtxIdeal.nD Cert.RefProjCtxIdeal.τ).loc Cert.RefProjCtxIdeal.main_arg0) = m ((c.tc : Thread Cert.ProjCtxIdeal.nD Cert.ProjCtxIdeal.τ).loc Cert.ProjCtxIdeal.main_arg0)
      ∧ m' ((c.tc : Thread Cert.RefProjCtxIdeal.nD Cert.RefProjCtxIdeal.τ).loc Cert.RefProjCtxIdeal.main_arg1) = m ((c.tc : Thread Cert.ProjCtxIdeal.nD Cert.ProjCtxIdeal.τ).loc Cert.ProjCtxIdeal.main_arg1)) →
    ∃ (v0 : (c : Dev Cert.ProjCtxIdeal.nD) → Buf (Elt Ideal) ((c.tc : Thread Cert.ProjCtxIdeal.nD Cert.ProjCtxIdeal.τ).loc Cert.ProjCtxIdeal.main_v2)),
      θ_run (Cert.ProjCtxIdeal.defs (F := Ideal)) (onTc (τ := Cert.ProjCtxIdeal.τ) (Cert.ProjCtxIdeal.main (F := Ideal))) ⟨m, fun _ => 0, g⟩ (fun r => ∀ c : Dev Cert.ProjCtxIdeal.nD,
          r.2.mem ((c.tc : Thread Cert.ProjCtxIdeal.nD Cert.ProjCtxIdeal.τ).loc Cert.ProjCtxIdeal.main_v2) = v0 c
          ∧ r.2.mem ((c.tc : Thread Cert.ProjCtxIdeal.nD Cert.ProjCtxIdeal.τ).loc Cert.ProjCtxIdeal.main_arg0) = m ((c.tc : Thread Cert.ProjCtxIdeal.nD Cert.ProjCtxIdeal.τ).loc Cert.ProjCtxIdeal.main_arg0)
          ∧ r.2.mem ((c.tc : Thread Cert.ProjCtxIdeal.nD Cert.ProjCtxIdeal.τ).loc Cert.ProjCtxIdeal.main_arg1) = m ((c.tc : Thread Cert.ProjCtxIdeal.nD Cert.ProjCtxIdeal.τ).loc Cert.ProjCtxIdeal.main_arg1))
      ∧ θ_run (Cert.RefProjCtxIdeal.defs (F := Ideal)) (onTc (τ := Cert.RefProjCtxIdeal.τ) (Cert.RefProjCtxIdeal.main (F := Ideal))) ⟨m', fun _ => 0, g'⟩ (fun r => ∀ c : Dev Cert.RefProjCtxIdeal.nD,
          r.2.mem ((c.tc : Thread Cert.RefProjCtxIdeal.nD Cert.RefProjCtxIdeal.τ).loc Cert.RefProjCtxIdeal.main_v4) = v0 c
          ∧ r.2.mem ((c.tc : Thread Cert.RefProjCtxIdeal.nD Cert.RefProjCtxIdeal.τ).loc Cert.RefProjCtxIdeal.main_arg0) = m' ((c.tc : Thread Cert.RefProjCtxIdeal.nD Cert.RefProjCtxIdeal.τ).loc Cert.RefProjCtxIdeal.main_arg0)
          ∧ r.2.mem ((c.tc : Thread Cert.RefProjCtxIdeal.nD Cert.RefProjCtxIdeal.τ).loc Cert.RefProjCtxIdeal.main_arg1) = m' ((c.tc : Thread Cert.RefProjCtxIdeal.nD Cert.RefProjCtxIdeal.τ).loc Cert.RefProjCtxIdeal.main_arg1))

def Claim : Prop :=
  ∃ (hScan : Cert.Scan.Facts) (hScanIdeal : Cert.ScanIdeal.Facts) (hRefScanIdeal : Cert.RefScanIdeal.Facts) (hProj : Cert.Proj.Facts) (hProjIdeal : Cert.ProjIdeal.Facts) (hRefProjIdeal : Cert.RefProjIdeal.Facts) (hGlu : Cert.Glu.Facts) (hGluIdeal : Cert.GluIdeal.Facts) (hRefGluIdeal : Cert.RefGluIdeal.Facts) (hOut : Cert.Out.Facts) (hOutIdeal : Cert.OutIdeal.Facts) (hRefOutIdeal : Cert.RefOutIdeal.Facts) (hReadout : Cert.Readout.Facts) (hReadoutIdeal : Cert.ReadoutIdeal.Facts) (hRefReadoutIdeal : Cert.RefReadoutIdeal.Facts) (hNorm : Cert.Norm.Facts) (hNormIdeal : Cert.NormIdeal.Facts) (hRefNormIdeal : Cert.RefNormIdeal.Facts) (hAda : Cert.Ada.Facts) (hAdaIdeal : Cert.AdaIdeal.Facts) (hRefAdaIdeal : Cert.RefAdaIdeal.Facts) (hProjCtx : Cert.ProjCtx.Facts) (hProjCtxIdeal : Cert.ProjCtxIdeal.Facts) (hRefProjCtxIdeal : Cert.RefProjCtxIdeal.Facts),
    quiescent_Scan (hScan := hScan)
    ∧ quiescent_ScanIdeal (hScanIdeal := hScanIdeal)
    ∧ quiescent_RefScanIdeal (hRefScanIdeal := hRefScanIdeal)
    ∧ quiescent_Proj (hProj := hProj)
    ∧ quiescent_ProjIdeal (hProjIdeal := hProjIdeal)
    ∧ quiescent_RefProjIdeal (hRefProjIdeal := hRefProjIdeal)
    ∧ quiescent_Glu (hGlu := hGlu)
    ∧ quiescent_GluIdeal (hGluIdeal := hGluIdeal)
    ∧ quiescent_RefGluIdeal (hRefGluIdeal := hRefGluIdeal)
    ∧ quiescent_Out (hOut := hOut)
    ∧ quiescent_OutIdeal (hOutIdeal := hOutIdeal)
    ∧ quiescent_RefOutIdeal (hRefOutIdeal := hRefOutIdeal)
    ∧ quiescent_Readout (hReadout := hReadout)
    ∧ quiescent_ReadoutIdeal (hReadoutIdeal := hReadoutIdeal)
    ∧ quiescent_RefReadoutIdeal (hRefReadoutIdeal := hRefReadoutIdeal)
    ∧ quiescent_Norm (hNorm := hNorm)
    ∧ quiescent_NormIdeal (hNormIdeal := hNormIdeal)
    ∧ quiescent_RefNormIdeal (hRefNormIdeal := hRefNormIdeal)
    ∧ quiescent_Ada (hAda := hAda)
    ∧ quiescent_AdaIdeal (hAdaIdeal := hAdaIdeal)
    ∧ quiescent_RefAdaIdeal (hRefAdaIdeal := hRefAdaIdeal)
    ∧ quiescent_ProjCtx (hProjCtx := hProjCtx)
    ∧ quiescent_ProjCtxIdeal (hProjCtxIdeal := hProjCtxIdeal)
    ∧ quiescent_RefProjCtxIdeal (hRefProjCtxIdeal := hRefProjCtxIdeal)
    ∧ preserves_Scan_ScanIdeal
    ∧ algebraic_ScanIdeal_RefScanIdeal (hScanIdeal := hScanIdeal) (hRefScanIdeal := hRefScanIdeal)
    ∧ preserves_Proj_ProjIdeal
    ∧ algebraic_ProjIdeal_RefProjIdeal (hProjIdeal := hProjIdeal) (hRefProjIdeal := hRefProjIdeal)
    ∧ preserves_Glu_GluIdeal
    ∧ algebraic_GluIdeal_RefGluIdeal (hGluIdeal := hGluIdeal) (hRefGluIdeal := hRefGluIdeal)
    ∧ preserves_Out_OutIdeal
    ∧ algebraic_OutIdeal_RefOutIdeal (hOutIdeal := hOutIdeal) (hRefOutIdeal := hRefOutIdeal)
    ∧ preserves_Readout_ReadoutIdeal
    ∧ algebraic_ReadoutIdeal_RefReadoutIdeal (hReadoutIdeal := hReadoutIdeal) (hRefReadoutIdeal := hRefReadoutIdeal)
    ∧ preserves_Norm_NormIdeal
    ∧ algebraic_NormIdeal_RefNormIdeal (hNormIdeal := hNormIdeal) (hRefNormIdeal := hRefNormIdeal)
    ∧ preserves_Ada_AdaIdeal
    ∧ algebraic_AdaIdeal_RefAdaIdeal (hAdaIdeal := hAdaIdeal) (hRefAdaIdeal := hRefAdaIdeal)
    ∧ preserves_ProjCtx_ProjCtxIdeal
    ∧ algebraic_ProjCtxIdeal_RefProjCtxIdeal (hProjCtxIdeal := hProjCtxIdeal) (hRefProjCtxIdeal := hRefProjCtxIdeal)
-- ==== Scan.lean ====
abbrev S8x256x10240 : Shape := ⟨3, ![8, 256, 10240]⟩
abbrev S8x2048x10240 : Shape := ⟨3, ![8, 2048, 10240]⟩
abbrev S2x3x2048 : Shape := ⟨3, ![2, 3, 2048]⟩
abbrev S_ : Shape := ⟨0, ![]⟩
abbrev S2x2048 : Shape := ⟨2, ![2, 2048]⟩
abbrev S2x1x2048 : Shape := ⟨3, ![2, 1, 2048]⟩
abbrev S2x8x2048x2048 : Shape := ⟨4, ![2, 8, 2048, 2048]⟩
abbrev S1x256x2048 : Shape := ⟨3, ![1, 256, 2048]⟩
abbrev S1x1x2048 : Shape := ⟨3, ![1, 1, 2048]⟩
abbrev S1x1x256x2048 : Shape := ⟨4, ![1, 1, 256, 2048]⟩
abbrev S5x16x128x128 : Shape := ⟨4, ![5, 16, 128, 128]⟩
abbrev S4 : Shape := ⟨1, ![4]⟩
abbrev S64x2048 : Shape := ⟨2, ![64, 2048]⟩
abbrev S16x128x128 : Shape := ⟨3, ![16, 128, 128]⟩
abbrev S1x16x128x128 : Shape := ⟨4, ![1, 16, 128, 128]⟩
abbrev S1x2048 : Shape := ⟨2, ![1, 2048]⟩
abbrev S64x64 : Shape := ⟨2, ![64, 64]⟩
abbrev S64x1 : Shape := ⟨2, ![64, 1]⟩
abbrev S1x64x2048 : Shape := ⟨3, ![1, 64, 2048]⟩
abbrev S1x1x128x128 : Shape := ⟨4, ![1, 1, 128, 128]⟩
abbrev S128x128 : Shape := ⟨2, ![128, 128]⟩
abbrev S64x128 : Shape := ⟨2, ![64, 128]⟩
abbrev S1x128 : Shape := ⟨2, ![1, 128]⟩
abbrev S1 : Shape := ⟨1, ![1]⟩
abbrev S1x1x1 : Shape := ⟨3, ![1, 1, 1]⟩
abbrev S1x1x64x128 : Shape := ⟨4, ![1, 1, 64, 128]⟩
abbrev S128 : Shape := ⟨1, ![128]⟩
abbrev S64 : Shape := ⟨1, ![64]⟩

abbrev nBuf : Space → Nat
  | .hbm => 24
  | .vmem => 21
  | .smem => 1
  | _ => 0

abbrev bufTy : (tb : Table) → Fin (tcTables nBuf tb) → BufTy
  | .hbm, ⟨0, _⟩ => ⟨S8x256x10240, .bf16⟩
  | .hbm, ⟨1, _⟩ => ⟨S8x2048x10240, .bf16⟩
  | .hbm, ⟨2, _⟩ => ⟨S2x3x2048, .f32⟩
  | .hbm, ⟨3, _⟩ => ⟨S_, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S2x1x2048, .f32⟩
  | .hbm, ⟨9, _⟩ => ⟨S2x3x2048, .f32⟩
  | .hbm, ⟨10, _⟩ => ⟨S2x3x2048, .f32⟩
  | .hbm, ⟨11, _⟩ => ⟨S2x3x2048, .f32⟩
  | .hbm, ⟨12, _⟩ => ⟨S_, .f32⟩
  | .hbm, ⟨13, _⟩ => ⟨S2x2048, .f32⟩
  | .hbm, ⟨14, _⟩ => ⟨S2x1x2048, .f32⟩
  | .hbm, ⟨15, _⟩ => ⟨S2x3x2048, .f32⟩
  | .hbm, ⟨16, _⟩ => ⟨S2x3x2048, .f32⟩
  | .hbm, ⟨17, _⟩ => ⟨S_, .f32⟩
  | .hbm, ⟨18, _⟩ => ⟨S_, .f32⟩
  | .hbm, ⟨19, _⟩ => ⟨S2x3x2048, .f32⟩
  | .hbm, ⟨20, _⟩ => ⟨S2x1x2048, .f32⟩
  | .hbm, ⟨21, _⟩ => ⟨S2x2048, .f32⟩
  | .hbm, ⟨22, _⟩ => ⟨S2x1x2048, .f32⟩
  | .hbm, ⟨23, _⟩ => ⟨S2x8x2048x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x1x2048, .f32⟩
  | .local _ .vmem, ⟨13, _⟩ => ⟨S1x1x2048, .f32⟩
  | .local _ .vmem, ⟨14, _⟩ => ⟨S1x1x256x2048, .bf16⟩
  | .local _ .vmem, ⟨15, _⟩ => ⟨S1x1x256x2048, .bf16⟩
  | .local _ .vmem, ⟨16, _⟩ => ⟨S5x16x128x128, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .smem, ⟨0, _⟩ => ⟨S4, .i32⟩
  | _, _ => ⟨S8x256x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 9], ![false, false, false]⟩

def k0_cond3 (i : grid0.Coords) : BitVec 1 :=
  let arg2 : BitVec 32 := BitVec.ofNat 32 (i 2).val
  let c1_i32_8 : BitVec 32 := 1#32
  let v23 : BitVec 1 := Scalar.cmpi .slt arg2 c1_i32_8
  let v24 : BitVec 32 := Scalar.extui v23
  let c0_i32_9 : BitVec 32 := 0#32
  let v25 : BitVec 1 := Scalar.cmpi .ne v24 c0_i32_9
  v25

def k0_mult1 (i : grid0.Coords) : BitVec 32 :=
  let arg1 : BitVec 32 := BitVec.ofNat 32 (i 1).val
  let c0_i32 : BitVec 32 := 0#32
  let v0 : BitVec 1 := Scalar.cmpi .eq arg1 c0_i32
  let c0_i32_12 : BitVec 32 := 0#32
  let c3_i32 : BitVec 32 := 3#32
  let v29 : BitVec 32 := Scalar.select v0 c0_i32_12 c3_i32
  let c64_i32 : BitVec 32 := 64#32
  let v30 : BitVec 32 := Scalar.muli v29 c64_i32
  v30
def k0_off1 (i : grid0.Coords) (c0_i32_12 : BitVec 32) (c3_i32 : BitVec 32) : Fin 3 → Nat :=
  let c0_13 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v32 : Index := Scalar.indexCast v31
  let c0_14 : Index := 0#32
  ![0, v32.toNat, 0]
def k0_off1_at (r : Fin 4) : BitVec 32 × BitVec 32 :=
  if r.val < 2 then
    if r.val < 1 then
      (0#32, 3#32)
    else
      (1#32, 2#32)
  else
    if r.val < 3 then
      (2#32, 1#32)
    else
      (3#32, 0#32)
def k0_mult2 (i : grid0.Coords) : BitVec 32 :=
  let arg1 : BitVec 32 := BitVec.ofNat 32 (i 1).val
  let c0_i32 : BitVec 32 := 0#32
  let v0 : BitVec 1 := Scalar.cmpi .eq arg1 c0_i32
  let c1_i32_150 : BitVec 32 := 1#32
  let c2_i32_151 : BitVec 32 := 2#32
  let v257 : BitVec 32 := Scalar.select v0 c1_i32_150 c2_i32_151
  let c64_i32_152 : BitVec 32 := 64#32
  let v258 : BitVec 32 := Scalar.muli v257 c64_i32_152
  v258
def k0_mult3 (i : grid0.Coords) : BitVec 32 :=
  let arg1 : BitVec 32 := BitVec.ofNat 32 (i 1).val
  let c0_i32 : BitVec 32 := 0#32
  let v0 : BitVec 1 := Scalar.cmpi .eq arg1 c0_i32
  let c2_i32_305 : BitVec 32 := 2#32
  let c1_i32_306 : BitVec 32 := 1#32
  let v485 : BitVec 32 := Scalar.select v0 c2_i32_305 c1_i32_306
  let c64_i32_307 : BitVec 32 := 64#32
  let v486 : BitVec 32 := Scalar.muli v485 c64_i32_307
  v486
def k0_mult4 (i : grid0.Coords) : BitVec 32 :=
  let arg1 : BitVec 32 := BitVec.ofNat 32 (i 1).val
  let c0_i32 : BitVec 32 := 0#32
  let v0 : BitVec 1 := Scalar.cmpi .eq arg1 c0_i32
  let c3_i32_460 : BitVec 32 := 3#32
  let c0_i32_461 : BitVec 32 := 0#32
  let v713 : BitVec 32 := Scalar.select v0 c3_i32_460 c0_i32_461
  let c64_i32_462 : BitVec 32 := 64#32
  let v714 : BitVec 32 := Scalar.muli v713 c64_i32_462
  v714
def k0_cond4 (i : grid0.Coords) : BitVec 1 :=
  let arg2 : BitVec 32 := BitVec.ofNat 32 (i 2).val
  let c1_i32_10 : BitVec 32 := 1#32
  let v26 : BitVec 1 := Scalar.cmpi .sge arg2 c1_i32_10
  let v27 : BitVec 32 := Scalar.extui v26
  let c0_i32_11 : BitVec 32 := 0#32
  let v28 : BitVec 1 := Scalar.cmpi .ne v27 c0_i32_11
  v28

def k0_mult5 (i : grid0.Coords) : BitVec 32 :=
  let arg1 : BitVec 32 := BitVec.ofNat 32 (i 1).val
  let c0_i32 : BitVec 32 := 0#32
  let v0 : BitVec 1 := Scalar.cmpi .eq arg1 c0_i32
  let c0_i32_12 : BitVec 32 := 0#32
  let c3_i32 : BitVec 32 := 3#32
  let v29 : BitVec 32 := Scalar.select v0 c0_i32_12 c3_i32
  let c64_i32 : BitVec 32 := 64#32
  let v30 : BitVec 32 := Scalar.muli v29 c64_i32
  v30
def k0_off2 (i : grid0.Coords) (c0_i32_12 : BitVec 32) (c3_i32 : BitVec 32) : Fin 3 → Nat :=
  let c0_13 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v32 : Index := Scalar.indexCast v31
  let c0_14 : Index := 0#32
  ![0, v32.toNat, 0]
def k0_off2_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off3 (i : grid0.Coords) (c0_i32_12 : BitVec 32) (c3_i32 : BitVec 32) : Fin 4 → Nat :=
  let c0_156 : Index := 0#32
  let c0_157 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v348 : Index := Scalar.indexCast v31
  let c0_158 : Index := 0#32
  ![0, 0, v348.toNat, 0]
def k0_off3_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off4 (i : grid0.Coords) (c0_i32_12 : BitVec 32) (c3_i32 : BitVec 32) : Fin 4 → Nat :=
  let c0_159 : Index := 0#32
  let c0_160 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v354 : Index := Scalar.indexCast v31
  let c128 : Index := 128#32
  ![0, 0, v354.toNat, 128]
def k0_off4_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off5 (i : grid0.Coords) (c0_i32_12 : BitVec 32) (c3_i32 : BitVec 32) : Fin 4 → Nat :=
  let c0_161 : Index := 0#32
  let c0_162 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v360 : Index := Scalar.indexCast v31
  let c256 : Index := 256#32
  ![0, 0, v360.toNat, 256]
def k0_off5_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off6 (i : grid0.Coords) (c0_i32_12 : BitVec 32) (c3_i32 : BitVec 32) : Fin 4 → Nat :=
  let c0_163 : Index := 0#32
  let c0_164 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v366 : Index := Scalar.indexCast v31
  let c384 : Index := 384#32
  ![0, 0, v366.toNat, 384]
def k0_off6_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off7 (i : grid0.Coords) (c0_i32_12 : BitVec 32) (c3_i32 : BitVec 32) : Fin 4 → Nat :=
  let c0_165 : Index := 0#32
  let c0_166 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v372 : Index := Scalar.indexCast v31
  let c512 : Index := 512#32
  ![0, 0, v372.toNat, 512]
def k0_off7_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off8 (i : grid0.Coords) (c0_i32_12 : BitVec 32) (c3_i32 : BitVec 32) : Fin 4 → Nat :=
  let c0_167 : Index := 0#32
  let c0_168 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v378 : Index := Scalar.indexCast v31
  let c640 : Index := 640#32
  ![0, 0, v378.toNat, 640]
def k0_off8_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off9 (i : grid0.Coords) (c0_i32_12 : BitVec 32) (c3_i32 : BitVec 32) : Fin 4 → Nat :=
  let c0_169 : Index := 0#32
  let c0_170 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v384 : Index := Scalar.indexCast v31
  let c768 : Index := 768#32
  ![0, 0, v384.toNat, 768]
def k0_off9_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off10 (i : grid0.Coords) (c0_i32_12 : BitVec 32) (c3_i32 : BitVec 32) : Fin 4 → Nat :=
  let c0_171 : Index := 0#32
  let c0_172 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v390 : Index := Scalar.indexCast v31
  let c896 : Index := 896#32
  ![0, 0, v390.toNat, 896]
def k0_off10_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off11 (i : grid0.Coords) (c0_i32_12 : BitVec 32) (c3_i32 : BitVec 32) : Fin 4 → Nat :=
  let c0_173 : Index := 0#32
  let c0_174 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v396 : Index := Scalar.indexCast v31
  let c1024 : Index := 1024#32
  ![0, 0, v396.toNat, 1024]
def k0_off11_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off12 (i : grid0.Coords) (c0_i32_12 : BitVec 32) (c3_i32 : BitVec 32) : Fin 4 → Nat :=
  let c0_175 : Index := 0#32
  let c0_176 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v402 : Index := Scalar.indexCast v31
  let c1152 : Index := 1152#32
  ![0, 0, v402.toNat, 1152]
def k0_off12_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off13 (i : grid0.Coords) (c0_i32_12 : BitVec 32) (c3_i32 : BitVec 32) : Fin 4 → Nat :=
  let c0_177 : Index := 0#32
  let c0_178 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v408 : Index := Scalar.indexCast v31
  let c1280 : Index := 1280#32
  ![0, 0, v408.toNat, 1280]
def k0_off13_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off14 (i : grid0.Coords) (c0_i32_12 : BitVec 32) (c3_i32 : BitVec 32) : Fin 4 → Nat :=
  let c0_179 : Index := 0#32
  let c0_180 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v414 : Index := Scalar.indexCast v31
  let c1408 : Index := 1408#32
  ![0, 0, v414.toNat, 1408]
def k0_off14_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off15 (i : grid0.Coords) (c0_i32_12 : BitVec 32) (c3_i32 : BitVec 32) : Fin 4 → Nat :=
  let c0_181 : Index := 0#32
  let c0_182 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v420 : Index := Scalar.indexCast v31
  let c1536 : Index := 1536#32
  ![0, 0, v420.toNat, 1536]
def k0_off15_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off16 (i : grid0.Coords) (c0_i32_12 : BitVec 32) (c3_i32 : BitVec 32) : Fin 4 → Nat :=
  let c0_183 : Index := 0#32
  let c0_184 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v426 : Index := Scalar.indexCast v31
  let c1664 : Index := 1664#32
  ![0, 0, v426.toNat, 1664]
def k0_off16_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off17 (i : grid0.Coords) (c0_i32_12 : BitVec 32) (c3_i32 : BitVec 32) : Fin 4 → Nat :=
  let c0_185 : Index := 0#32
  let c0_186 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v432 : Index := Scalar.indexCast v31
  let c1792 : Index := 1792#32
  ![0, 0, v432.toNat, 1792]
def k0_off17_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off18 (i : grid0.Coords) (c0_i32_12 : BitVec 32) (c3_i32 : BitVec 32) : Fin 4 → Nat :=
  let c0_187 : Index := 0#32
  let c0_188 : Index := 0#32
  let arg1 : BitVec 32 := BitVec.ofNat 32 (i 1).val
  let c0_i32 : BitVec 32 := 0#32
  let v0 : BitVec 1 := Scalar.cmpi .eq arg1 c0_i32
  let v29 : BitVec 32 := Scalar.select v0 c0_i32_12 c3_i32
  let c64_i32 : BitVec 32 := 64#32
  let v30 : BitVec 32 := Scalar.muli v29 c64_i32
  let v31 : BitVec 32 := v30
  let v438 : Index := Scalar.indexCast v31
  let c1920 : Index := 1920#32
  ![0, 0, v438.toNat, 1920]
def k0_off18_at (r : Fin 4) : BitVec 32 × BitVec 32 :=
  if r.val < 2 then
    if r.val < 1 then
      (0#32, 3#32)
    else
      (1#32, 2#32)
  else
    if r.val < 3 then
      (2#32, 1#32)
    else
      (3#32, 0#32)
def k0_mult6 (i : grid0.Coords) : BitVec 32 :=
  let arg1 : BitVec 32 := BitVec.ofNat 32 (i 1).val
  let c0_i32 : BitVec 32 := 0#32
  let v0 : BitVec 1 := Scalar.cmpi .eq arg1 c0_i32
  let c1_i32_253 : BitVec 32 := 1#32
  let c2_i32_254 : BitVec 32 := 2#32
  let v554 : BitVec 32 := Scalar.select v0 c1_i32_253 c2_i32_254
  let c64_i32_255 : BitVec 32 := 64#32
  let v555 : BitVec 32 := Scalar.muli v554 c64_i32_255
  v555
def k0_mult7 (i : grid0.Coords) : BitVec 32 :=
  let arg1 : BitVec 32 := BitVec.ofNat 32 (i 1).val
  let c0_i32 : BitVec 32 := 0#32
  let v0 : BitVec 1 := Scalar.cmpi .eq arg1 c0_i32
  let c2_i32_526 : BitVec 32 := 2#32
  let c1_i32_527 : BitVec 32 := 1#32
  let v1079 : BitVec 32 := Scalar.select v0 c2_i32_526 c1_i32_527
  let c64_i32_528 : BitVec 32 := 64#32
  let v1080 : BitVec 32 := Scalar.muli v1079 c64_i32_528
  v1080
def k0_mult8 (i : grid0.Coords) : BitVec 32 :=
  let arg1 : BitVec 32 := BitVec.ofNat 32 (i 1).val
  let c0_i32 : BitVec 32 := 0#32
  let v0 : BitVec 1 := Scalar.cmpi .eq arg1 c0_i32
  let c3_i32_799 : BitVec 32 := 3#32
  let c0_i32_800 : BitVec 32 := 0#32
  let v1604 : BitVec 32 := Scalar.select v0 c3_i32_799 c0_i32_800
  let c64_i32_801 : BitVec 32 := 64#32
  let v1605 : BitVec 32 := Scalar.muli v1604 c64_i32_801
  v1605
@[reducible] def k0_t1_loop : Scf.Loop 32 :=
  let c0_i32_1072 : BitVec 32 := 0#32
  let c4_i32 : BitVec 32 := 4#32
  let v2129 : BitVec 32 := Scalar.addi c0_i32_1072 c4_i32
  let c1_i32_1073 : BitVec 32 := 1#32
  ⟨c0_i32_1072, v2129, c1_i32_1073⟩
def k0_off19 (k0_t1 : Fin k0_t1_loop.trips) : Fin 1 → Nat :=
  let c0_i32_1072 : BitVec 32 := 0#32
  let c1_i32_1073 : BitVec 32 := 1#32
  let arg17 : BitVec 32 := Scf.iv c0_i32_1072 c1_i32_1073 k0_t1
  let v2130 : Index := Scalar.indexCast arg17
  ![v2130.toNat]
def k0_mult9 (i : grid0.Coords) (k0_t1 : Fin k0_t1_loop.trips) : BitVec 32 :=
  let arg1 : BitVec 32 := BitVec.ofNat 32 (i 1).val
  let c0_i32 : BitVec 32 := 0#32
  let v0 : BitVec 1 := Scalar.cmpi .eq arg1 c0_i32
  let c0_i32_1072 : BitVec 32 := 0#32
  let c1_i32_1073 : BitVec 32 := 1#32
  let arg17 : BitVec 32 := Scf.iv c0_i32_1072 c1_i32_1073 k0_t1
  let c3_i32_1077 : BitVec 32 := 3#32
  let v2135 : BitVec 32 := Scalar.subi c3_i32_1077 arg17
  let v2136 : BitVec 32 := Scalar.select v0 arg17 v2135
  let c64_i32_1078 : BitVec 32 := 64#32
  let v2137 : BitVec 32 := Scalar.muli v2136 c64_i32_1078
  v2137
def k0_off20 (i : grid0.Coords) (k0_t1 : Fin k0_t1_loop.trips) : Fin 3 → Nat :=
  let c0_1079 : Index := 0#32
  let arg1 : BitVec 32 := BitVec.ofNat 32 (i 1).val
  let c0_i32 : BitVec 32 := 0#32
  let v0 : BitVec 1 := Scalar.cmpi .eq arg1 c0_i32
  let c0_i32_1072 : BitVec 32 := 0#32
  let c1_i32_1073 : BitVec 32 := 1#32
  let arg17 : BitVec 32 := Scf.iv c0_i32_1072 c1_i32_1073 k0_t1
  let c3_i32_1077 : BitVec 32 := 3#32
  let v2135 : BitVec 32 := Scalar.subi c3_i32_1077 arg17
  let v2136 : BitVec 32 := Scalar.select v0 arg17 v2135
  let c64_i32_1078 : BitVec 32 := 64#32
  let v2137 : BitVec 32 := Scalar.muli v2136 c64_i32_1078
  let v2138 : BitVec 32 := v2137
  let v2139 : Index := Scalar.indexCast v2138
  let c0_1080 : Index := 0#32
  ![0, v2139.toNat, 0]
@[reducible] def k0_t2_loop : Scf.Loop 32 :=
  let c0_i32_1097 : BitVec 32 := 0#32
  let c16_i32 : BitVec 32 := 16#32
  let v2182 : BitVec 32 := Scalar.addi c0_i32_1097 c16_i32
  let c1_i32_1098 : BitVec 32 := 1#32
  ⟨c0_i32_1097, v2182, c1_i32_1098⟩
def k0_mult10 (k0_t2 : Fin k0_t2_loop.trips) : BitVec 32 :=
  let c0_i32_1097 : BitVec 32 := 0#32
  let c1_i32_1098 : BitVec 32 := 1#32
  let arg18 : BitVec 32 := Scf.iv c0_i32_1097 c1_i32_1098 k0_t2
  let c128_i32 : BitVec 32 := 128#32
  let v2183 : BitVec 32 := Scalar.muli arg18 c128_i32
  v2183
def k0_off21 (k0_t2 : Fin k0_t2_loop.trips) : Fin 2 → Nat :=
  let c0_1100 : Index := 0#32
  let c0_i32_1097 : BitVec 32 := 0#32
  let c1_i32_1098 : BitVec 32 := 1#32
  let arg18 : BitVec 32 := Scf.iv c0_i32_1097 c1_i32_1098 k0_t2
  let c128_i32 : BitVec 32 := 128#32
  let v2183 : BitVec 32 := Scalar.muli arg18 c128_i32
  let v2184 : BitVec 32 := v2183
  let v2185 : Index := Scalar.indexCast v2184
  ![0, v2185.toNat]
def k0_off22 (k0_t1 : Fin k0_t1_loop.trips) (k0_t2 : Fin k0_t2_loop.trips) : Fin 4 → Nat :=
  let c0_i32_1072 : BitVec 32 := 0#32
  let c1_i32_1073 : BitVec 32 := 1#32
  let arg17 : BitVec 32 := Scf.iv c0_i32_1072 c1_i32_1073 k0_t1
  let v2196 : Index := Scalar.indexCast arg17
  let c0_i32_1097 : BitVec 32 := 0#32
  let c1_i32_1098 : BitVec 32 := 1#32
  let arg18 : BitVec 32 := Scf.iv c0_i32_1097 c1_i32_1098 k0_t2
  let v2197 : Index := Scalar.indexCast arg18
  let c0_1104 : Index := 0#32
  let c0_1105 : Index := 0#32
  ![v2196.toNat, v2197.toNat, 0, 0]
@[reducible] def k0_t3_loop : Scf.Loop 32 :=
  let c0_i32_1108 : BitVec 32 := 0#32
  let c64_i32_1109 : BitVec 32 := 64#32
  let v2203 : BitVec 32 := Scalar.addi c0_i32_1108 c64_i32_1109
  let c1_i32_1110 : BitVec 32 := 1#32
  ⟨c0_i32_1108, v2203, c1_i32_1110⟩
def k0_off23 (i : grid0.Coords) (k0_t1 : Fin k0_t1_loop.trips) (k0_t2 : Fin k0_t2_loop.trips) : Fin 4 → Nat :=
  let c0_1112 : Index := 0#32
  let c0_1113 : Index := 0#32
  let arg1 : BitVec 32 := BitVec.ofNat 32 (i 1).val
  let c0_i32 : BitVec 32 := 0#32
  let v0 : BitVec 1 := Scalar.cmpi .eq arg1 c0_i32
  let c0_i32_1072 : BitVec 32 := 0#32
  let c1_i32_1073 : BitVec 32 := 1#32
  let arg17 : BitVec 32 := Scf.iv c0_i32_1072 c1_i32_1073 k0_t1
  let c3_i32_1077 : BitVec 32 := 3#32
  let v2135 : BitVec 32 := Scalar.subi c3_i32_1077 arg17
  let v2136 : BitVec 32 := Scalar.select v0 arg17 v2135
  let c64_i32_1078 : BitVec 32 := 64#32
  let v2137 : BitVec 32 := Scalar.muli v2136 c64_i32_1078
  let v2138 : BitVec 32 := v2137
  let v2207 : Index := Scalar.indexCast v2138
  let c0_i32_1097 : BitVec 32 := 0#32
  let c1_i32_1098 : BitVec 32 := 1#32
  let arg18 : BitVec 32 := Scf.iv c0_i32_1097 c1_i32_1098 k0_t2
  let c128_i32 : BitVec 32 := 128#32
  let v2183 : BitVec 32 := Scalar.muli arg18 c128_i32
  let v2184 : BitVec 32 := v2183
  let v2208 : Index := Scalar.indexCast v2184
  ![0, 0, v2207.toNat, v2208.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  let v1 : BitVec 1 := Scalar.cmpi .eq arg1 c0_i32_0
  let c0_i32_1 : BitVec 32 := 0#32
  let v2 : BitVec 32 := Scalar.subi c0_i32_1 v0
  let v3 : BitVec 32 := Scalar.select v1 v0 v2
  let c0_i32_2 : BitVec 32 := 0#32
  let c0_i32_3 : BitVec 32 := 0#32
  ![arg0.toNat, v3.toNat, c0_i32_2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  let v1 : BitVec 1 := Scalar.cmpi .eq arg1 c0_i32_0
  let c0_i32_1 : BitVec 32 := 0#32
  let v2 : BitVec 32 := Scalar.subi c0_i32_1 v0
  let v3 : BitVec 32 := Scalar.select v1 v0 v2
  let c1_i32 : BitVec 32 := 1#32
  let c0_i32_2 : BitVec 32 := 0#32
  ![arg0.toNat, v3.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  let v1 : BitVec 1 := Scalar.cmpi .eq arg1 c0_i32_0
  let c0_i32_1 : BitVec 32 := 0#32
  let v2 : BitVec 32 := Scalar.subi c0_i32_1 v0
  let v3 : BitVec 32 := Scalar.select v1 v0 v2
  let c2_i32 : BitVec 32 := 2#32
  let v4 : BitVec 32 := Scalar.addi c2_i32 arg1
  let c0_i32_2 : BitVec 32 := 0#32
  ![arg0.toNat, v3.toNat, v4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let v2 : BitVec 1 := Scalar.cmpi .eq arg1 c0_i32_0
  let c7_i32 : BitVec 32 := 7#32
  let v3 : BitVec 32 := Scalar.subi c7_i32 v1
  let v4 : BitVec 32 := Scalar.select v2 v1 v3
  let c0_i32_1 : BitVec 32 := 0#32
  let c0_i32_2 : BitVec 32 := 0#32
  ![arg0.toNat, v4.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let v2 : BitVec 1 := Scalar.cmpi .eq arg1 c0_i32_0
  let c7_i32 : BitVec 32 := 7#32
  let v3 : BitVec 32 := Scalar.subi c7_i32 v1
  let v4 : BitVec 32 := Scalar.select v2 v1 v3
  let c1_i32_1 : BitVec 32 := 1#32
  let c0_i32_2 : BitVec 32 := 0#32
  ![arg0.toNat, v4.toNat, c1_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let v2 : BitVec 1 := Scalar.cmpi .eq arg1 c0_i32_0
  let c7_i32 : BitVec 32 := 7#32
  let v3 : BitVec 32 := Scalar.subi c7_i32 v1
  let v4 : BitVec 32 := Scalar.select v2 v1 v3
  let c2_i32 : BitVec 32 := 2#32
  let v5 : BitVec 32 := Scalar.addi c2_i32 arg1
  let c0_i32_1 : BitVec 32 := 0#32
  ![arg0.toNat, v4.toNat, v5.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let v2 : BitVec 1 := Scalar.cmpi .eq arg1 c0_i32_0
  let c7_i32 : BitVec 32 := 7#32
  let v3 : BitVec 32 := Scalar.subi c7_i32 v1
  let v4 : BitVec 32 := Scalar.select v2 v1 v3
  let c0_i32_1 : BitVec 32 := 0#32
  let c0_i32_2 : BitVec 32 := 0#32
  ![arg1.toNat, arg0.toNat, v4.toNat, c0_i32_1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== RefScanIdeal.lean ====
abbrev S8x256x10240 : Shape := ⟨3, ![8, 256, 10240]⟩
abbrev S8x2048x10240 : Shape := ⟨3, ![8, 2048, 10240]⟩
abbrev S2x3x2048 : Shape := ⟨3, ![2, 3, 2048]⟩
abbrev S_ : Shape := ⟨0, ![]⟩
abbrev S2x2048 : Shape := ⟨2, ![2, 2048]⟩
abbrev S2x1x2048 : Shape := ⟨3, ![2, 1, 2048]⟩
abbrev S1x2048 : Shape := ⟨2, ![1, 2048]⟩
abbrev S2048 : Shape := ⟨1, ![2048]⟩
abbrev S8x2304x10240 : Shape := ⟨3, ![8, 2304, 10240]⟩
abbrev S8x2304x2048 : Shape := ⟨3, ![8, 2304, 2048]⟩
abbrev S8x2304x16x128 : Shape := ⟨4, ![8, 2304, 16, 128]⟩
abbrev S16x128 : Shape := ⟨2, ![16, 128]⟩
abbrev S1x1x16x128 : Shape := ⟨4, ![1, 1, 16, 128]⟩
abbrev S16x2304x16x128 : Shape := ⟨4, ![16, 2304, 16, 128]⟩
abbrev S64x64 : Shape := ⟨2, ![64, 64]⟩
abbrev S64x64x1 : Shape := ⟨3, ![64, 64, 1]⟩
abbrev S16x16x128x128 : Shape := ⟨4, ![16, 16, 128, 128]⟩
abbrev S16x36x64x16x128 : Shape := ⟨5, ![16, 36, 64, 16, 128]⟩
abbrev S36x16x16x64x128 : Shape := ⟨5, ![36, 16, 16, 64, 128]⟩
abbrev S1x16x16x64x128 : Shape := ⟨5, ![1, 16, 16, 64, 128]⟩
abbrev S16x16x64x128 : Shape := ⟨4, ![16, 16, 64, 128]⟩
abbrev S16x16x64x1x128 : Shape := ⟨5, ![16, 16, 64, 1, 128]⟩
abbrev S16x16x1x64x128 : Shape := ⟨5, ![16, 16, 1, 64, 128]⟩
abbrev S16x16x64x64x128 : Shape := ⟨5, ![16, 16, 64, 64, 128]⟩
abbrev S16x16x64x64 : Shape := ⟨4, ![16, 16, 64, 64]⟩
abbrev S16x16x1x128 : Shape := ⟨4, ![16, 16, 1, 128]⟩
abbrev S16x16x128 : Shape := ⟨3, ![16, 16, 128]⟩
abbrev S16x16x128x1 : Shape := ⟨4, ![16, 16, 128, 1]⟩
abbrev S16x2048x16x128 : Shape := ⟨4, ![16, 2048, 16, 128]⟩
abbrev S8x2048x16x128 : Shape := ⟨4, ![8, 2048, 16, 128]⟩
abbrev S1x8x2048x16x128 : Shape := ⟨5, ![1, 8, 2048, 16, 128]⟩
abbrev S2x8x2048x16x128 : Shape := ⟨5, ![2, 8, 2048, 16, 128]⟩
abbrev S2x8x2048x2048 : Shape := ⟨4, ![2, 8, 2048, 2048]⟩

abbrev nBuf : Space → Nat
  | .hbm => 232
  | .vmem => 0
  | .smem => 0
  | _ => 0

abbrev hbmTy0_0 (i : Nat) : BufTy := match i % 128 with
  | 0 => ⟨S8x256x10240, .bf16⟩
  | 1 => ⟨S8x2048x10240, .bf16⟩
  | 2 => ⟨S2x3x2048, .f32⟩
  | 3 => ⟨S_, .f32⟩
  | 4 => ⟨S2x2048, .f32⟩
  | 5 => ⟨S_, .f32⟩
  | 6 => ⟨S2x2048, .f32⟩
  | 7 => ⟨S2x2048, .f32⟩
  | 8 => ⟨S2x1x2048, .f32⟩
  | 9 => ⟨S2x3x2048, .f32⟩
  | 10 => ⟨S2x3x2048, .f32⟩
  | 11 => ⟨S2x3x2048, .f32⟩
  | 12 => ⟨S_, .f32⟩
  | 13 => ⟨S2x2048, .f32⟩
  | 14 => ⟨S2x1x2048, .f32⟩
  | 15 => ⟨S2x3x2048, .f32⟩
  | 16 => ⟨S2x3x2048, .f32⟩
  | 17 => ⟨S_, .f32⟩
  | 18 => ⟨S_, .f32⟩
  | 19 => ⟨S2x3x2048, .f32⟩
  | 20 => ⟨S2x1x2048, .f32⟩
  | 21 => ⟨S2x2048, .f32⟩
  | 22 => ⟨S1x2048, .f32⟩
  | 23 => ⟨S2048, .f32⟩
  | 24 => ⟨S8x2304x10240, .bf16⟩
  | 25 => ⟨S8x2304x10240, .f32⟩
  | 26 => ⟨S8x2304x2048, .f32⟩
  | 27 => ⟨S8x2304x16x128, .f32⟩
  | 28 => ⟨S16x128, .f32⟩
  | 29 => ⟨S_, .f32⟩
  | 30 => ⟨S16x128, .f32⟩
  | 31 => ⟨S16x128, .f32⟩
  | 32 => ⟨S8x2304x16x128, .f32⟩
  | 33 => ⟨S8x2304x16x128, .f32⟩
  | 34 => ⟨S_, .f32⟩
  | 35 => ⟨S8x2304x16x128, .f32⟩
  | 36 => ⟨S8x2304x16x128, .f32⟩
  | 37 => ⟨S_, .f32⟩
  | 38 => ⟨S8x2304x16x128, .f32⟩
  | 39 => ⟨S8x2304x16x128, .f32⟩
  | 40 => ⟨S1x1x16x128, .f32⟩
  | 41 => ⟨S8x2304x16x128, .f32⟩
  | 42 => ⟨S8x2304x16x128, .f32⟩
  | 43 => ⟨S1x1x16x128, .f32⟩
  | 44 => ⟨S8x2304x16x128, .f32⟩
  | 45 => ⟨S8x2304x16x128, .f32⟩
  | 46 => ⟨S8x2304x16x128, .f32⟩
  | 47 => ⟨S_, .f32⟩
  | 48 => ⟨S8x2304x16x128, .f32⟩
  | 49 => ⟨S8x2304x16x128, .f32⟩
  | 50 => ⟨S8x2304x2048, .f32⟩
  | 51 => ⟨S8x2304x16x128, .f32⟩
  | 52 => ⟨S8x2304x16x128, .f32⟩
  | 53 => ⟨S8x2304x16x128, .f32⟩
  | 54 => ⟨S_, .f32⟩
  | 55 => ⟨S8x2304x16x128, .f32⟩
  | 56 => ⟨S8x2304x16x128, .f32⟩
  | 57 => ⟨S_, .f32⟩
  | 58 => ⟨S8x2304x16x128, .f32⟩
  | 59 => ⟨S8x2304x16x128, .f32⟩
  | 60 => ⟨S8x2304x16x128, .f32⟩
  | 61 => ⟨S8x2304x2048, .f32⟩
  | 62 => ⟨S8x2304x16x128, .f32⟩
  | 63 => ⟨S1x2048, .f32⟩
  | 64 => ⟨S2048, .f32⟩
  | 65 => ⟨S8x256x10240, .bf16⟩
  | 66 => ⟨S8x2048x10240, .bf16⟩
  | 67 => ⟨S8x2304x10240, .bf16⟩
  | 68 => ⟨S8x2304x10240, .f32⟩
  | 69 => ⟨S8x2304x2048, .f32⟩
  | 70 => ⟨S8x2304x16x128, .f32⟩
  | 71 => ⟨S16x128, .f32⟩
  | 72 => ⟨S_, .f32⟩
  | 73 => ⟨S16x128, .f32⟩
  | 74 => ⟨S16x128, .f32⟩
  | 75 => ⟨S8x2304x16x128, .f32⟩
  | 76 => ⟨S8x2304x16x128, .f32⟩
  | 77 => ⟨S_, .f32⟩
  | 78 => ⟨S8x2304x16x128, .f32⟩
  | 79 => ⟨S8x2304x16x128, .f32⟩
  | 80 => ⟨S_, .f32⟩
  | 81 => ⟨S8x2304x16x128, .f32⟩
  | 82 => ⟨S8x2304x16x128, .f32⟩
  | 83 => ⟨S1x1x16x128, .f32⟩
  | 84 => ⟨S8x2304x16x128, .f32⟩
  | 85 => ⟨S8x2304x16x128, .f32⟩
  | 86 => ⟨S1x1x16x128, .f32⟩
  | 87 => ⟨S8x2304x16x128, .f32⟩
  | 88 => ⟨S8x2304x16x128, .f32⟩
  | 89 => ⟨S8x2304x16x128, .f32⟩
  | 90 => ⟨S_, .f32⟩
  | 91 => ⟨S8x2304x16x128, .f32⟩
  | 92 => ⟨S8x2304x16x128, .f32⟩
  | 93 => ⟨S8x2304x2048, .f32⟩
  | 94 => ⟨S8x2304x16x128, .f32⟩
  | 95 => ⟨S8x2304x16x128, .f32⟩
  | 96 => ⟨S8x2304x16x128, .f32⟩
  | 97 => ⟨S_, .f32⟩
  | 98 => ⟨S8x2304x16x128, .f32⟩
  | 99 => ⟨S8x2304x16x128, .f32⟩
  | 100 => ⟨S_, .f32⟩
  | 101 => ⟨S8x2304x16x128, .f32⟩
  | 102 => ⟨S8x2304x16x128, .f32⟩
  | 103 => ⟨S8x2304x16x128, .f32⟩
  | 104 => ⟨S8x2304x2048, .f32⟩
  | 105 => ⟨S8x2304x16x128, .f32⟩
  | 106 => ⟨S16x2304x16x128, .f32⟩
  | 107 => ⟨S16x2304x16x128, .f32⟩
  | 108 => ⟨S16x2304x16x128, .f32⟩
  | 109 => ⟨S16x2304x16x128, .f32⟩
  | 110 => ⟨S_, .i1⟩
  | 111 => ⟨S64x64, .i1⟩
  | 112 => ⟨S64x64, .i32⟩
  | 113 => ⟨S_, .i32⟩
  | 114 => ⟨S64x64, .i32⟩
  | 115 => ⟨S64x64, .i32⟩
  | 116 => ⟨S64x64, .i32⟩
  | 117 => ⟨S64x64, .i1⟩
  | 118 => ⟨S_, .i1⟩
  | 119 => ⟨S64x64, .i1⟩
  | 120 => ⟨S64x64, .i1⟩
  | 121 => ⟨S64x64x1, .i1⟩
  | 122 => ⟨S_, .f32⟩
  | 123 => ⟨S16x16x128x128, .f32⟩
  | 124 => ⟨S16x36x64x16x128, .f32⟩
  | 125 => ⟨S36x16x16x64x128, .f32⟩
  | 126 => ⟨S16x36x64x16x128, .f32⟩
  | 127 => ⟨S36x16x16x64x128, .f32⟩
  | _ => ⟨S8x256x10240, .bf16⟩

abbrev hbmTy0_1 (i : Nat) : BufTy := match i % 128 with
  | 0 => ⟨S16x36x64x16x128, .f32⟩
  | 1 => ⟨S36x16x16x64x128, .f32⟩
  | 2 => ⟨S16x36x64x16x128, .f32⟩
  | 3 => ⟨S36x16x16x64x128, .f32⟩
  | 4 => ⟨S_, .f32⟩
  | 5 => ⟨S36x16x16x64x128, .f32⟩
  | 6 => ⟨S_, .i32⟩
  | 7 => ⟨S36x16x16x64x128, .f32⟩
  | 8 => ⟨S36x16x16x64x128, .f32⟩
  | 9 => ⟨S36x16x16x64x128, .f32⟩
  | 10 => ⟨S36x16x16x64x128, .f32⟩
  | 11 => ⟨S64x64x1, .i1⟩
  | 12 => ⟨S_, .i32⟩
  | 13 => ⟨S16x16x128x128, .f32⟩
  | 14 => ⟨S36x16x16x64x128, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S1x16x16x64x128, .f32⟩
  | 22 => ⟨S16x16x64x128, .f32⟩
  | 23 => ⟨S_, .i32⟩
  | 24 => ⟨S_, .i32⟩
  | 25 => ⟨S_, .i32⟩
  | 26 => ⟨S_, .i32⟩
  | 27 => ⟨S1x16x16x64x128, .f32⟩
  | 28 => ⟨S16x16x64x128, .f32⟩
  | 29 => ⟨S_, .i32⟩
  | 30 => ⟨S_, .i32⟩
  | 31 => ⟨S_, .i32⟩
  | 32 => ⟨S_, .i32⟩
  | 33 => ⟨S1x16x16x64x128, .f32⟩
  | 34 => ⟨S16x16x64x128, .f32⟩
  | 35 => ⟨S_, .i32⟩
  | 36 => ⟨S_, .i32⟩
  | 37 => ⟨S_, .i32⟩
  | 38 => ⟨S_, .i32⟩
  | 39 => ⟨S1x16x16x64x128, .f32⟩
  | 40 => ⟨S16x16x64x128, .f32⟩
  | 41 => ⟨S_, .f32⟩
  | 42 => ⟨S_, .f32⟩
  | 43 => ⟨S16x16x64x128, .f32⟩
  | 44 => ⟨S16x16x64x128, .f32⟩
  | 45 => ⟨S16x16x64x128, .f32⟩
  | 46 => ⟨S16x16x64x128, .f32⟩
  | 47 => ⟨S16x16x64x1x128, .f32⟩
  | 48 => ⟨S16x16x1x64x128, .f32⟩
  | 49 => ⟨S16x16x64x64x128, .f32⟩
  | 50 => ⟨S16x16x64x64x128, .f32⟩
  | 51 => ⟨S16x16x64x64x128, .f32⟩
  | 52 => ⟨S_, .f32⟩
  | 53 => ⟨S_, .f32⟩
  | 54 => ⟨S16x16x64x64x128, .i1⟩
  | 55 => ⟨S16x16x64x64x128, .f32⟩
  | 56 => ⟨S16x16x64x64x128, .f32⟩
  | 57 => ⟨S16x16x64x64x128, .f32⟩
  | 58 => ⟨S_, .f32⟩
  | 59 => ⟨S_, .f32⟩
  | 60 => ⟨S16x16x64x64x128, .i1⟩
  | 61 => ⟨S16x16x64x64x128, .f32⟩
  | 62 => ⟨S16x16x64x64x128, .f32⟩
  | 63 => ⟨S16x16x64x1x128, .f32⟩
  | 64 => ⟨S16x16x64x64x128, .f32⟩
  | 65 => ⟨S16x16x64x64x128, .f32⟩
  | 66 => ⟨S16x16x1x64x128, .f32⟩
  | 67 => ⟨S16x16x64x64x128, .f32⟩
  | 68 => ⟨S16x16x64x64x128, .f32⟩
  | 69 => ⟨S_, .f32⟩
  | 70 => ⟨S16x16x64x64, .f32⟩
  | 71 => ⟨S16x16x64x128, .f32⟩
  | 72 => ⟨S16x16x1x128, .f32⟩
  | 73 => ⟨S16x16x128, .f32⟩
  | 74 => ⟨S16x16x128, .f32⟩
  | 75 => ⟨S16x16x128x1, .f32⟩
  | 76 => ⟨S16x16x128x128, .f32⟩
  | 77 => ⟨S16x16x128x128, .f32⟩
  | 78 => ⟨S16x16x64x128, .f32⟩
  | 79 => ⟨S16x16x64x128, .f32⟩
  | 80 => ⟨S16x16x64x128, .f32⟩
  | 81 => ⟨S16x16x64x128, .f32⟩
  | 82 => ⟨S16x16x128x128, .f32⟩
  | 83 => ⟨S16x16x128x128, .f32⟩
  | 84 => ⟨S16x16x64x128, .f32⟩
  | 85 => ⟨S1x16x16x64x128, .f32⟩
  | 86 => ⟨S_, .i32⟩
  | 87 => ⟨S_, .i32⟩
  | 88 => ⟨S_, .i32⟩
  | 89 => ⟨S_, .i32⟩
  | 90 => ⟨S36x16x16x64x128, .f32⟩
  | 91 => ⟨S_, .i32⟩
  | 92 => ⟨S_, .i32⟩
  | 93 => ⟨S16x36x64x16x128, .f32⟩
  | 94 => ⟨S16x2304x16x128, .f32⟩
  | 95 => ⟨S16x2048x16x128, .f32⟩
  | 96 => ⟨S8x2048x16x128, .f32⟩
  | 97 => ⟨S8x2048x16x128, .f32⟩
  | 98 => ⟨S8x2048x16x128, .f32⟩
  | 99 => ⟨S1x8x2048x16x128, .f32⟩
  | 100 => ⟨S1x8x2048x16x128, .f32⟩
  | 101 => ⟨S2x8x2048x16x128, .f32⟩
  | 102 => ⟨S2x8x2048x2048, .f32⟩
  | 103 => ⟨S2x8x2048x2048, .bf16⟩
  | _ => ⟨S8x256x10240, .bf16⟩

abbrev hbmTy (i : Nat) : BufTy := match i / 128 with
  | 0 => hbmTy0_0 i
  | 1 => hbmTy0_1 i
  | _ => ⟨S8x256x10240, .bf16⟩

abbrev bufTy : (tb : Table) → Fin (tcTables nBuf tb) → BufTy
  | .hbm, ⟨i, _⟩ => hbmTy i
  | _, _ => ⟨S8x256x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c : Ref sig .tc := ⟨.hbm, 110, rfl⟩
abbrev main_v78 : Ref sig .tc := ⟨.hbm, 111, rfl⟩
abbrev main_call3_v0 : Ref sig .tc := ⟨.hbm, 112, rfl⟩
abbrev main_call3_c : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_c_0 : Ref sig .tc := ⟨.hbm, 118, rfl⟩
abbrev main_call3_v5 : Ref sig .tc := ⟨.hbm, 119, rfl⟩
abbrev main_v79 : Ref sig .tc := ⟨.hbm, 120, rfl⟩
abbrev main_v80 : Ref sig .tc := ⟨.hbm, 121, rfl⟩
abbrev main_cst_10 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_11 : Ref sig .tc := ⟨.hbm, 132, rfl⟩
abbrev main_v90 : Ref sig .tc := ⟨.hbm, 133, rfl⟩
abbrev main_c_12 : Ref sig .tc := ⟨.hbm, 134, rfl⟩
abbrev main_v91_0 : Ref sig .tc := ⟨.hbm, 135, rfl⟩
abbrev main_v91_1 : Ref sig .tc := ⟨.hbm, 136, rfl⟩
abbrev main_v91_2 : Ref sig .tc := ⟨.hbm, 137, rfl⟩
abbrev main_v91_3 : Ref sig .tc := ⟨.hbm, 138, rfl⟩
abbrev main_v91_4 : Ref sig .tc := ⟨.hbm, 139, rfl⟩
abbrev main_v91_5 : Ref sig .tc := ⟨.hbm, 140, rfl⟩
abbrev main_v91_6 : Ref sig .tc := ⟨.hbm, 141, rfl⟩
abbrev main_v91_7 : Ref sig .tc := ⟨.hbm, 142, rfl⟩
abbrev main_while0c_c_20 : Ref sig .tc := ⟨.hbm, 143, rfl⟩
abbrev main_while0c_v103 : Ref sig .tc := ⟨.hbm, 144, rfl⟩
abbrev main_while0b_call4_c : Ref sig .tc := ⟨.hbm, 145, rfl⟩
abbrev main_while0b_call4_c_0 : Ref sig .tc := ⟨.hbm, 146, rfl⟩
abbrev main_while0b_call4_c_1 : Ref sig .tc := ⟨.hbm, 147, rfl⟩
abbrev main_while0b_call4_c_2 : Ref sig .tc := ⟨.hbm, 148, rfl⟩
abbrev main_while0b_call4_v0 : Ref sig .tc := ⟨.hbm, 149, rfl⟩
abbrev main_while0b_v103 : Ref sig .tc := ⟨.hbm, 150, rfl⟩
abbrev main_while0b_call5_c : Ref sig .tc := ⟨.hbm, 151, rfl⟩
abbrev main_while0b_call5_c_0 : Ref sig .tc := ⟨.hbm, 152, rfl⟩
abbrev main_while0b_call5_c_1 : Ref sig .tc := ⟨.hbm, 153, rfl⟩
abbrev main_while0b_call5_c_2 : Ref sig .tc := ⟨.hbm, 154, rfl⟩
abbrev main_while0b_call5_v0 : Ref sig .tc := ⟨.hbm, 155, rfl⟩
abbrev main_while0b_v104 : Ref sig .tc := ⟨.hbm, 156, rfl⟩
abbrev main_while0b_call6_c : Ref sig .tc := ⟨.hbm, 157, rfl⟩
abbrev main_while0b_call6_c_0 : Ref sig .tc := ⟨.hbm, 158, rfl⟩
abbrev main_while0b_call6_c_1 : Ref sig .tc := ⟨.hbm, 159, rfl⟩
abbrev main_while0b_call6_c_2 : Ref sig .tc := ⟨.hbm, 160, rfl⟩
abbrev main_while0b_call6_v0 : Ref sig .tc := ⟨.hbm, 161, rfl⟩
abbrev main_while0b_v105 : Ref sig .tc := ⟨.hbm, 162, rfl⟩
abbrev main_while0b_call7_c : Ref sig .tc := ⟨.hbm, 163, rfl⟩
abbrev main_while0b_call7_c_0 : Ref sig .tc := ⟨.hbm, 164, rfl⟩
abbrev main_while0b_call7_c_1 : Ref sig .tc := ⟨.hbm, 165, rfl⟩
abbrev main_while0b_call7_c_2 : Ref sig .tc := ⟨.hbm, 166, rfl⟩
abbrev main_while0b_call7_v0 : Ref sig .tc := ⟨.hbm, 167, rfl⟩
abbrev main_while0b_v106 : Ref sig .tc := ⟨.hbm, 168, rfl⟩
abbrev main_while0b_call8_call0_cst : Ref sig .tc := ⟨.hbm, 169, rfl⟩
abbrev main_while0b_call8_call0_v0 : Ref sig .tc := ⟨.hbm, 170, rfl⟩
abbrev main_while0b_v107 : Ref sig .tc := ⟨.hbm, 171, rfl⟩
abbrev main_while0b_v108 : Ref sig .tc := ⟨.hbm, 172, rfl⟩
abbrev main_while0b_v109 : Ref sig .tc := ⟨.hbm, 173, rfl⟩
abbrev main_while0b_v110 : Ref sig .tc := ⟨.hbm, 174, rfl⟩
abbrev main_while0b_v111 : Ref sig .tc := ⟨.hbm, 175, rfl⟩
abbrev main_while0b_v112 : Ref sig .tc := ⟨.hbm, 176, rfl⟩
abbrev main_while0b_v113 : Ref sig .tc := ⟨.hbm, 177, rfl⟩
abbrev main_while0b_v114 : Ref sig .tc := ⟨.hbm, 178, rfl⟩
abbrev main_while0b_v115 : Ref sig .tc := ⟨.hbm, 179, rfl⟩
abbrev main_while0b_cst_20 : Ref sig .tc := ⟨.hbm, 180, rfl⟩
abbrev main_while0b_call9_v0 : Ref sig .tc := ⟨.hbm, 181, rfl⟩
abbrev main_while0b_call9_v1 : Ref sig .tc := ⟨.hbm, 182, rfl⟩
abbrev main_while0b_call9_v2 : Ref sig .tc := ⟨.hbm, 183, rfl⟩
abbrev main_while0b_v116 : Ref sig .tc := ⟨.hbm, 184, rfl⟩
abbrev main_while0b_v117 : Ref sig .tc := ⟨.hbm, 185, rfl⟩
abbrev main_while0b_cst_21 : Ref sig .tc := ⟨.hbm, 186, rfl⟩
abbrev main_while0b_call10_v0 : Ref sig .tc := ⟨.hbm, 187, rfl⟩
abbrev main_while0b_call10_v1 : Ref sig .tc := ⟨.hbm, 188, rfl⟩
abbrev main_while0b_call10_v2 : Ref sig .tc := ⟨.hbm, 189, rfl⟩
abbrev main_while0b_v118 : Ref sig .tc := ⟨.hbm, 190, rfl⟩
abbrev main_while0b_v119 : Ref sig .tc := ⟨.hbm, 191, rfl⟩
abbrev main_while0b_v120 : Ref sig .tc := ⟨.hbm, 192, rfl⟩
abbrev main_while0b_v121 : Ref sig .tc := ⟨.hbm, 193, rfl⟩
abbrev main_while0b_v122 : Ref sig .tc := ⟨.hbm, 194, rfl⟩
abbrev main_while0b_v123 : Ref sig .tc := ⟨.hbm, 195, rfl⟩
abbrev main_while0b_v124 : Ref sig .tc := ⟨.hbm, 196, rfl⟩
abbrev main_while0b_cst_22 : Ref sig .tc := ⟨.hbm, 197, rfl⟩
abbrev main_while0b_v125 : Ref sig .tc := ⟨.hbm, 198, rfl⟩
abbrev main_while0b_v126 : Ref sig .tc := ⟨.hbm, 199, rfl⟩
abbrev main_while0b_v127 : Ref sig .tc := ⟨.hbm, 200, rfl⟩
abbrev main_while0b_v128 : Ref sig .tc := ⟨.hbm, 201, rfl⟩
abbrev main_while0b_v129 : Ref sig .tc := ⟨.hbm, 202, rfl⟩
abbrev main_while0b_v130 : Ref sig .tc := ⟨.hbm, 203, rfl⟩
abbrev main_while0b_v131 : Ref sig .tc := ⟨.hbm, 204, rfl⟩
abbrev main_while0b_v132 : Ref sig .tc := ⟨.hbm, 205, rfl⟩
abbrev main_while0b_v133 : Ref sig .tc := ⟨.hbm, 206, rfl⟩
abbrev main_while0b_v134 : Ref sig .tc := ⟨.hbm, 207, rfl⟩
abbrev main_while0b_v135 : Ref sig .tc := ⟨.hbm, 208, rfl⟩
abbrev main_while0b_v136 : Ref sig .tc := ⟨.hbm, 209, rfl⟩
abbrev main_while0b_v137 : Ref sig .tc := ⟨.hbm, 210, rfl⟩
abbrev main_while0b_v138 : Ref sig .tc := ⟨.hbm, 211, rfl⟩
abbrev main_while0b_v139 : Ref sig .tc := ⟨.hbm, 212, rfl⟩
abbrev main_while0b_call11_v0 : Ref sig .tc := ⟨.hbm, 213, rfl⟩
abbrev main_while0b_call11_c : Ref sig .tc := ⟨.hbm, 214, rfl⟩
abbrev main_while0b_call11_c_0 : Ref sig .tc := ⟨.hbm, 215, rfl⟩
abbrev main_while0b_call11_c_1 : Ref sig .tc := ⟨.hbm, 216, rfl⟩
abbrev main_while0b_call11_c_2 : Ref sig .tc := ⟨.hbm, 217, rfl⟩
abbrev main_while0b_v140 : Ref sig .tc := ⟨.hbm, 218, rfl⟩
abbrev main_while0b_c_23 : Ref sig .tc := ⟨.hbm, 219, rfl⟩
abbrev main_while0b_v141 : Ref sig .tc := ⟨.hbm, 220, rfl⟩
abbrev main_v92 : Ref sig .tc := ⟨.hbm, 221, rfl⟩
abbrev main_v93 : Ref sig .tc := ⟨.hbm, 222, rfl⟩
abbrev main_v94 : Ref sig .tc := ⟨.hbm, 223, rfl⟩
abbrev main_v95 : Ref sig .tc := ⟨.hbm, 224, rfl⟩
abbrev main_v96 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_v100 : Ref sig .tc := ⟨.hbm, 229, rfl⟩
abbrev main_v101 : Ref sig .tc := ⟨.hbm, 230, rfl⟩
abbrev main_v102 : Ref sig .tc := ⟨.hbm, 231, rfl⟩

abbrev nD : Nat := 1
abbrev τ : Topo := Topo.v7x

variable {F : FTy → Type} [FloatOps F]

abbrev main_while0_count : Scf.Loop 32 := ⟨0#32, 36#32, 1#32⟩
-- ==== Proj.lean ====
abbrev S8x2048x2048 : Shape := ⟨3, ![8, 2048, 2048]⟩
abbrev S1x2048x10240 : Shape := ⟨3, ![1, 2048, 10240]⟩
abbrev S16384x2048 : Shape := ⟨2, ![16384, 2048]⟩
abbrev S2048x10240 : Shape := ⟨2, ![2048, 10240]⟩
abbrev S16384x10240 : Shape := ⟨2, ![16384, 10240]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x10240, .f32⟩
  | .hbm, ⟨2, _⟩ => ⟨S16384x2048, .bf16⟩
  | .hbm, ⟨3, _⟩ => ⟨S2048x10240, .f32⟩
  | .hbm, ⟨4, _⟩ => ⟨S16384x10240, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefProjIdeal.lean ====
abbrev S8x2048x2048 : Shape := ⟨3, ![8, 2048, 2048]⟩
abbrev S1x2048x10240 : Shape := ⟨3, ![1, 2048, 10240]⟩
abbrev S2048x10240 : Shape := ⟨2, ![2048, 10240]⟩
abbrev S8x2048x10240 : Shape := ⟨3, ![8, 2048, 10240]⟩
abbrev S16384x10240 : Shape := ⟨2, ![16384, 10240]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x10240, .f32⟩
  | .hbm, ⟨2, _⟩ => ⟨S8x2048x2048, .f32⟩
  | .hbm, ⟨3, _⟩ => ⟨S2048x10240, .f32⟩
  | .hbm, ⟨4, _⟩ => ⟨S8x2048x10240, .f32⟩
  | .hbm, ⟨5, _⟩ => ⟨S8x2048x10240, .bf16⟩
  | .hbm, ⟨6, _⟩ => ⟨S16384x10240, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Glu.lean ====
abbrev S8x2048x2048 : Shape := ⟨3, ![8, 2048, 2048]⟩
abbrev S1x2048x4096 : Shape := ⟨3, ![1, 2048, 4096]⟩
abbrev S16384x2048 : Shape := ⟨2, ![16384, 2048]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x4096, .f32⟩
  | .hbm, ⟨2, _⟩ => ⟨S16384x2048, .bf16⟩
  | .hbm, ⟨3, _⟩ => ⟨S2048x4096, .f32⟩
  | .hbm, ⟨4, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefGluIdeal.lean ====
abbrev S8x2048x2048 : Shape := ⟨3, ![8, 2048, 2048]⟩
abbrev S1x2048x4096 : Shape := ⟨3, ![1, 2048, 4096]⟩
abbrev S2048x4096 : Shape := ⟨2, ![2048, 4096]⟩
abbrev S8x2048x4096 : Shape := ⟨3, ![8, 2048, 4096]⟩
abbrev S_ : Shape := ⟨0, ![]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x4096, .f32⟩
  | .hbm, ⟨2, _⟩ => ⟨S8x2048x2048, .f32⟩
  | .hbm, ⟨3, _⟩ => ⟨S2048x4096, .f32⟩
  | .hbm, ⟨4, _⟩ => ⟨S8x2048x4096, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .bf16⟩
  | .hbm, ⟨17, _⟩ => ⟨S16384x2048, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Out.lean ====
abbrev S8x2048x2048 : Shape := ⟨3, ![8, 2048, 2048]⟩
abbrev S1x2048 : Shape := ⟨2, ![1, 2048]⟩
abbrev S1x2048x2048 : Shape := ⟨3, ![1, 2048, 2048]⟩
abbrev S2x16x12288 : Shape := ⟨3, ![2, 16, 12288]⟩
abbrev S32x1x12288 : Shape := ⟨3, ![32, 1, 12288]⟩
abbrev S2048 : Shape := ⟨1, ![2048]⟩
abbrev S2048x2048 : Shape := ⟨2, ![2048, 2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x2048, .bf16⟩
  | .hbm, ⟨1, _⟩ => ⟨S1x2048, .f32⟩
  | .hbm, ⟨2, _⟩ => ⟨S1x2048, .f32⟩
  | .hbm, ⟨3, _⟩ => ⟨S1x2048x2048, .f32⟩
  | .hbm, ⟨4, _⟩ => ⟨S8x2048x2048, .f32⟩
  | .hbm, ⟨5, _⟩ => ⟨S2x16x12288, .f32⟩
  | .hbm, ⟨6, _⟩ => ⟨S32x1x12288, .f32⟩
  | .hbm, ⟨7, _⟩ => ⟨S2048, .f32⟩
  | .hbm, ⟨8, _⟩ => ⟨S2048, .f32⟩
  | .hbm, ⟨9, _⟩ => ⟨S2048x2048, .f32⟩
  | .hbm, ⟨10, _⟩ => ⟨S1x2048, .f32⟩
  | .hbm, ⟨11, _⟩ => ⟨S1x2048, .f32⟩
  | .hbm, ⟨12, _⟩ => ⟨S8x2048x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048, .f32⟩
  | .local _ .vmem, ⟨3, _⟩ => ⟨S1x2048, .f32⟩
  | .local _ .vmem, ⟨4, _⟩ => ⟨S2048x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x256x2048, .f32⟩
  | .local _ .vmem, ⟨10, _⟩ => ⟨S1x256x2048, .f32⟩
  | .local _ .vmem, ⟨11, _⟩ => ⟨S2048x2048, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c2_i32 : BitVec 32 := 2#32
  let c0_i32_0 : BitVec 32 := 0#32
  ![v0.toNat, c0_i32.toNat, c2_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefOutIdeal.lean ====
abbrev S8x2048x2048 : Shape := ⟨3, ![8, 2048, 2048]⟩
abbrev S1x2048 : Shape := ⟨2, ![1, 2048]⟩
abbrev S1x2048x2048 : Shape := ⟨3, ![1, 2048, 2048]⟩
abbrev S2x16x12288 : Shape := ⟨3, ![2, 16, 12288]⟩
abbrev S1x8x12288 : Shape := ⟨3, ![1, 8, 12288]⟩
abbrev S8x12288 : Shape := ⟨2, ![8, 12288]⟩
abbrev S8x1x12288 : Shape := ⟨3, ![8, 1, 12288]⟩
abbrev S8x1x2048 : Shape := ⟨3, ![8, 1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x2048 : Shape := ⟨2, ![2048, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048, .f32⟩
  | .hbm, ⟨2, _⟩ => ⟨S1x2048, .f32⟩
  | .hbm, ⟨3, _⟩ => ⟨S1x2048x2048, .f32⟩
  | .hbm, ⟨4, _⟩ => ⟨S8x2048x2048, .f32⟩
  | .hbm, ⟨5, _⟩ => ⟨S2x16x12288, .f32⟩
  | .hbm, ⟨6, _⟩ => ⟨S1x8x12288, .f32⟩
  | .hbm, ⟨7, _⟩ => ⟨S8x12288, .f32⟩
  | .hbm, ⟨8, _⟩ => ⟨S8x1x12288, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S2048, .f32⟩
  | .hbm, ⟨16, _⟩ => ⟨S2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S1x1x2048, .f32⟩
  | .hbm, ⟨40, _⟩ => ⟨S8x2048x2048, .f32⟩
  | .hbm, ⟨41, _⟩ => ⟨S8x2048x2048, .f32⟩
  | .hbm, ⟨42, _⟩ => ⟨S1x1x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Readout.lean ====
abbrev S2x8x2048x2048 : Shape := ⟨4, ![2, 8, 2048, 2048]⟩
abbrev S8x2048x10240 : Shape := ⟨3, ![8, 2048, 10240]⟩
abbrev S1x128 : Shape := ⟨2, ![1, 128]⟩
abbrev S1x2048x2048 : Shape := ⟨3, ![1, 2048, 2048]⟩
abbrev S8x2048x2048 : Shape := ⟨3, ![8, 2048, 2048]⟩
abbrev S2x16x12288 : Shape := ⟨3, ![2, 16, 12288]⟩
abbrev S32x1x12288 : Shape := ⟨3, ![32, 1, 12288]⟩
abbrev S128 : Shape := ⟨1, ![128]⟩
abbrev S2048x2048 : Shape := ⟨2, ![2048, 2048]⟩
abbrev S1x1x256x2048 : Shape := ⟨4, ![1, 1, 256, 2048]⟩
abbrev S1x256x2048 : Shape := ⟨3, ![1, 256, 2048]⟩
abbrev S1x1x2048 : Shape := ⟨3, ![1, 1, 2048]⟩
abbrev S256x2048 : Shape := ⟨2, ![256, 2048]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S1x2048 : Shape := ⟨2, ![1, 2048]⟩

abbrev nBuf : Space → Nat
  | .hbm => 11
  | .vmem => 16
  | .smem => 0
  | _ => 0

abbrev bufTy : (tb : Table) → Fin (tcTables nBuf tb) → BufTy
  | .hbm, ⟨0, _⟩ => ⟨S2x8x2048x2048, .bf16⟩
  | .hbm, ⟨1, _⟩ => ⟨S8x2048x10240, .bf16⟩
  | .hbm, ⟨2, _⟩ => ⟨S1x128, .f32⟩
  | .hbm, ⟨3, _⟩ => ⟨S1x2048x2048, .f32⟩
  | .hbm, ⟨4, _⟩ => ⟨S8x2048x2048, .f32⟩
  | .hbm, ⟨5, _⟩ => ⟨S2x16x12288, .f32⟩
  | .hbm, ⟨6, _⟩ => ⟨S32x1x12288, .f32⟩
  | .hbm, ⟨7, _⟩ => ⟨S128, .f32⟩
  | .hbm, ⟨8, _⟩ => ⟨S2048x2048, .f32⟩
  | .hbm, ⟨9, _⟩ => ⟨S1x128, .f32⟩
  | .hbm, ⟨10, _⟩ => ⟨S8x2048x2048, .f32⟩
  | .local _ .vmem, ⟨0, _⟩ => ⟨S1x1x256x2048, .bf16⟩
  | .local _ .vmem, ⟨1, _⟩ => ⟨S1x1x256x2048, .bf16⟩
  | .local _ .vmem, ⟨2, _⟩ => ⟨S1x1x256x2048, .bf16⟩
  | .local _ .vmem, ⟨3, _⟩ => ⟨S1x1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x128, .f32⟩
  | .local _ .vmem, ⟨7, _⟩ => ⟨S2048x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x256x2048, .f32⟩
  | .local _ .vmem, ⟨13, _⟩ => ⟨S1x256x2048, .f32⟩
  | .local _ .vmem, ⟨14, _⟩ => ⟨S2048x2048, .bf16⟩
  | .local _ .vmem, ⟨15, _⟩ => ⟨S256x2048, .bf16⟩
  | _, _ => ⟨S2x8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c2_i32 : BitVec 32 := 2#32
  let c0_i32_1 : BitVec 32 := 0#32
  ![v0.toNat, c0_i32_0.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefReadoutIdeal.lean ====
abbrev S2x8x2048x2048 : Shape := ⟨4, ![2, 8, 2048, 2048]⟩
abbrev S8x2048x10240 : Shape := ⟨3, ![8, 2048, 10240]⟩
abbrev S1x128 : Shape := ⟨2, ![1, 128]⟩
abbrev S1x2048x2048 : Shape := ⟨3, ![1, 2048, 2048]⟩
abbrev S8x2048x2048 : Shape := ⟨3, ![8, 2048, 2048]⟩
abbrev S2x16x12288 : Shape := ⟨3, ![2, 16, 12288]⟩
abbrev S1x8x12288 : Shape := ⟨3, ![1, 8, 12288]⟩
abbrev S8x12288 : Shape := ⟨2, ![8, 12288]⟩
abbrev S8x1x12288 : Shape := ⟨3, ![8, 1, 12288]⟩
abbrev S8x1x2048 : Shape := ⟨3, ![8, 1, 2048]⟩
abbrev S1x8x2048x2048 : Shape := ⟨4, ![1, 8, 2048, 2048]⟩
abbrev S8x2048x16x128 : Shape := ⟨4, ![8, 2048, 16, 128]⟩
abbrev S128 : Shape := ⟨1, ![128]⟩
abbrev S_ : Shape := ⟨0, ![]⟩
abbrev S8x2048x16 : Shape := ⟨3, ![8, 2048, 16]⟩
abbrev S8x2048x16x1 : Shape := ⟨4, ![8, 2048, 16, 1]⟩
abbrev S1x1x1x128 : Shape := ⟨4, ![1, 1, 1, 128]⟩
abbrev S2048x2048 : Shape := ⟨2, ![2048, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2x8x2048x2048, .bf16⟩
  | .hbm, ⟨1, _⟩ => ⟨S8x2048x10240, .bf16⟩
  | .hbm, ⟨2, _⟩ => ⟨S1x128, .f32⟩
  | .hbm, ⟨3, _⟩ => ⟨S1x2048x2048, .f32⟩
  | .hbm, ⟨4, _⟩ => ⟨S8x2048x2048, .f32⟩
  | .hbm, ⟨5, _⟩ => ⟨S2x16x12288, .f32⟩
  | .hbm, ⟨6, _⟩ => ⟨S1x8x12288, .f32⟩
  | .hbm, ⟨7, _⟩ => ⟨S8x12288, .f32⟩
  | .hbm, ⟨8, _⟩ => ⟨S8x1x12288, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S8x2048x2048, .bf16⟩
  | .hbm, ⟨16, _⟩ => ⟨S8x2048x2048, .f32⟩
  | .hbm, ⟨17, _⟩ => ⟨S1x8x2048x2048, .bf16⟩
  | .hbm, ⟨18, _⟩ => ⟨S8x2048x2048, .bf16⟩
  | .hbm, ⟨19, _⟩ => ⟨S8x2048x2048, .f32⟩
  | .hbm, ⟨20, _⟩ => ⟨S1x8x2048x2048, .bf16⟩
  | .hbm, ⟨21, _⟩ => ⟨S8x2048x2048, .bf16⟩
  | .hbm, ⟨22, _⟩ => ⟨S8x2048x2048, .f32⟩
  | .hbm, ⟨23, _⟩ => ⟨S8x2048x2048, .f32⟩
  | .hbm, ⟨24, _⟩ => ⟨S8x2048x16x128, .f32⟩
  | .hbm, ⟨25, _⟩ => ⟨S128, .f32⟩
  | .hbm, ⟨26, _⟩ => ⟨S8x2048x16x128, .f32⟩
  | .hbm, ⟨27, _⟩ => ⟨S_, .f32⟩
  | .hbm, ⟨28, _⟩ => ⟨S8x2048x16, .f32⟩
  | .hbm, ⟨29, _⟩ => ⟨S8x2048x16x1, .f32⟩
  | .hbm, ⟨30, _⟩ => ⟨S_, .f32⟩
  | .hbm, ⟨31, _⟩ => ⟨S8x2048x16x1, .f32⟩
  | .hbm, ⟨32, _⟩ => ⟨S8x2048x16x1, .f32⟩
  | .hbm, ⟨33, _⟩ => ⟨S_, .f32⟩
  | .hbm, ⟨34, _⟩ => ⟨S8x2048x16x1, .f32⟩
  | .hbm, ⟨35, _⟩ => ⟨S8x2048x16x1, .f32⟩
  | .hbm, ⟨36, _⟩ => ⟨S8x2048x16x1, .f32⟩
  | .hbm, ⟨37, _⟩ => ⟨S8x2048x16x128, .f32⟩
  | .hbm, ⟨38, _⟩ => ⟨S8x2048x16x128, .f32⟩
  | .hbm, ⟨39, _⟩ => ⟨S1x1x1x128, .f32⟩
  | .hbm, ⟨40, _⟩ => ⟨S8x2048x16x128, .f32⟩
  | .hbm, ⟨41, _⟩ => ⟨S8x2048x16x128, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S8x2048x16x128, .f32⟩
  | .hbm, ⟨52, _⟩ => ⟨S8x2048x16x128, .f32⟩
  | .hbm, ⟨53, _⟩ => ⟨S8x2048x2048, .f32⟩
  | .hbm, ⟨54, _⟩ => ⟨S2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | _, _ => ⟨S2x8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Norm.lean ====
abbrev S8x2048x2048 : Shape := ⟨3, ![8, 2048, 2048]⟩
abbrev S2x2048 : Shape := ⟨2, ![2, 2048]⟩
abbrev S2x16x12288 : Shape := ⟨3, ![2, 16, 12288]⟩
abbrev S32x1x12288 : Shape := ⟨3, ![32, 1, 12288]⟩
abbrev S1x2048 : Shape := ⟨2, ![1, 2048]⟩
abbrev S2048 : Shape := ⟨1, ![2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x16x12288, .f32⟩
  | .hbm, ⟨3, _⟩ => ⟨S32x1x12288, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c1_i32 : BitVec 32 := 1#32
  let c0_i32_1 : BitVec 32 := 0#32
  ![v0.toNat, c0_i32_0.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefNormIdeal.lean ====
abbrev S8x2048x2048 : Shape := ⟨3, ![8, 2048, 2048]⟩
abbrev S2x2048 : Shape := ⟨2, ![2, 2048]⟩
abbrev S2x16x12288 : Shape := ⟨3, ![2, 16, 12288]⟩
abbrev S1x8x12288 : Shape := ⟨3, ![1, 8, 12288]⟩
abbrev S8x12288 : Shape := ⟨2, ![8, 12288]⟩
abbrev S8x1x12288 : Shape := ⟨3, ![8, 1, 12288]⟩
abbrev S8x1x2048 : Shape := ⟨3, ![8, 1, 2048]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x16x12288, .f32⟩
  | .hbm, ⟨3, _⟩ => ⟨S1x8x12288, .f32⟩
  | .hbm, ⟨4, _⟩ => ⟨S8x12288, .f32⟩
  | .hbm, ⟨5, _⟩ => ⟨S8x1x12288, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S1x2048, .f32⟩
  | .hbm, ⟨13, _⟩ => ⟨S2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S1x1x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x1x2048, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Ada.lean ====
abbrev S8x2048 : Shape := ⟨2, ![8, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S2x1x12288 : Shape := ⟨3, ![2, 1, 12288]⟩
abbrev S2x16x12288 : Shape := ⟨3, ![2, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S16x2048, .f32⟩
  | .hbm, ⟨8, _⟩ => ⟨S2x1x12288, .f32⟩
  | .hbm, ⟨9, _⟩ => ⟨S2x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefAdaIdeal.lean ====
abbrev S8x2048 : Shape := ⟨2, ![8, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩
abbrev S1x16x12288 : Shape := ⟨3, ![1, 16, 12288]⟩
abbrev S2x16x12288 : Shape := ⟨3, ![2, 16, 12288]⟩

abbrev nBuf : Space → Nat
  | .hbm => 36
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S_, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S1x2048x12288, .f32⟩
  | .hbm, ⟨18, _⟩ => ⟨S2048x12288, .f32⟩
  | .hbm, ⟨19, _⟩ => ⟨S16x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S16x12288, .f32⟩
  | .hbm, ⟨24, _⟩ => ⟨S16x12288, .f32⟩
  | .hbm, ⟨25, _⟩ => ⟨S1x2048x12288, .f32⟩
  | .hbm, ⟨26, _⟩ => ⟨S2048x12288, .f32⟩
  | .hbm, ⟨27, _⟩ => ⟨S16x12288, .f32⟩
  | .hbm, ⟨28, _⟩ => ⟨S1x12288, .f32⟩
  | .hbm, ⟨29, _⟩ => ⟨S12288, .f32⟩
  | .hbm, ⟨30, _⟩ => ⟨S1x12288, .f32⟩
  | .hbm, ⟨31, _⟩ => ⟨S16x12288, .f32⟩
  | .hbm, ⟨32, _⟩ => ⟨S16x12288, .f32⟩
  | .hbm, ⟨33, _⟩ => ⟨S1x16x12288, .f32⟩
  | .hbm, ⟨34, _⟩ => ⟨S1x16x12288, .f32⟩
  | .hbm, ⟨35, _⟩ => ⟨S2x16x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== ProjCtx.lean ====
abbrev S8x256x2048 : Shape := ⟨3, ![8, 256, 2048]⟩
abbrev S1x2048x10240 : Shape := ⟨3, ![1, 2048, 10240]⟩
abbrev S2048x2048 : Shape := ⟨2, ![2048, 2048]⟩
abbrev S2048x10240 : Shape := ⟨2, ![2048, 10240]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x256x2048, .bf16⟩
  | .hbm, ⟨1, _⟩ => ⟨S1x2048x10240, .f32⟩
  | .hbm, ⟨2, _⟩ => ⟨S2048x2048, .bf16⟩
  | .hbm, ⟨3, _⟩ => ⟨S2048x10240, .f32⟩
  | .hbm, ⟨4, _⟩ => ⟨S2048x10240, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefProjCtxIdeal.lean ====
abbrev S8x256x2048 : Shape := ⟨3, ![8, 256, 2048]⟩
abbrev S1x2048x10240 : Shape := ⟨3, ![1, 2048, 10240]⟩
abbrev S2048x10240 : Shape := ⟨2, ![2048, 10240]⟩
abbrev S8x256x10240 : Shape := ⟨3, ![8, 256, 10240]⟩

abbrev nBuf : Space → Nat
  | .hbm => 7
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S1x2048x10240, .f32⟩
  | .hbm, ⟨2, _⟩ => ⟨S8x256x2048, .f32⟩
  | .hbm, ⟨3, _⟩ => ⟨S2048x10240, .f32⟩
  | .hbm, ⟨4, _⟩ => ⟨S8x256x10240, .f32⟩
  | .hbm, ⟨5, _⟩ => ⟨S8x256x10240, .bf16⟩
  | .hbm, ⟨6, _⟩ => ⟨S2048x10240, .bf16⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.ScanRunCtx.lean ====
/- Hand-written: the run of the recurrence's kernel body, for any values. -/
module

public import proofs.«01_k».proof.Proof.Gen.ScanIdeal.Frame
public import proofs.«01_k».proof.Proof.Gen.ScanIdeal.Skeleton
public import proofs.«01_k».proof.Proof.Gen.ScanIdeal.Loops
public import Idealize.ShloMosaic.Lib.Pipeline.Frame
public import Idealize.ShloMosaic.Lib.Tactic

@[expose] public section

set_option maxRecDepth 65536

noncomputable section

namespace Cert.Proof.Scan

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 40000000 in
/-- On a context block the body reads its inputs and leaves the states at some contents. -/
theorem run_ctx (c : Dev nD) (i : grid0.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x1x256x2048 .bf16) (harg10 : arg10.IsWhole) (arg11 : Memref sig .tc .vmem S5x16x128x128 .f32) (harg11 : arg11.IsWhole) (arg12 : Memref sig .tc .smem S4 .i32) (harg12 : arg12.IsWhole) (arg13 : Memref sig .tc .vmem S64x2048 .f32) (harg13 : arg13.IsWhole) (arg14 : Memref sig .tc .vmem S64x2048 .f32) (harg14 : arg14.IsWhole) (arg15 : Memref sig .tc .vmem S64x2048 .f32) (harg15 : arg15.IsWhole) (arg16 : Memref sig .tc .vmem S64x2048 .f32) (harg16 : arg16.IsWhole)
    (h1 : Scalar.cmpi .ne (Scalar.extui (Scalar.cmpi .eq (BitVec.ofNat 32 (i 2).val) 0#32)) 0#32 = 1#1)
    (h2 : ¬ (Scalar.cmpi .ne (Scalar.extui (Scalar.cmpi .sgt (BitVec.ofNat 32 (i 2).val) 0#32)) 0#32 = 1#1))
    (h3 : k0_cond3 i = 1#1) (h4 : ¬ (k0_cond4 i = 1#1))
    (x3 x4 x5 : Vec F S1x256x2048 .bf16) (x9 : Vec F S1x1x2048 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg9 fullShare x9 ∗ (∃ d, owns (c : Thread nD τ) arg11 fullShare d)
        ∗ (iprop(owns (c : Thread nD τ) arg3 fullShare x3 ∗ owns (c : Thread nD τ) arg4 fullShare x4 ∗ owns (c : Thread nD τ) arg5 fullShare x5
            ∗ owns (c : Thread nD τ) arg9 fullShare x9 ∗ (∃ d, owns (c : Thread nD τ) arg11 fullShare d)) -∗ K ⟨⟩))
      ⊢ wp frame (wpE (defs₀ (F := F)) Variants.none c none) Set.univ (cc0_hgrn_scan i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_hgrn_scan_eq_skeleton]; unfold cc0_hgrn_scan_skel
  unfold owns
  iintro ⟨⟨%f3, %hf3, H3⟩, ⟨%f4, %hf4, H4⟩, ⟨%f5, %hf5, H5⟩, ⟨%f9, %hf9, H9⟩, ⟨%ds, %fs, -, HS⟩, Hk⟩
  sl_exec_parts (disch := first | sl_exact h1 | sl_exact h2 | sl_exact h3 | sl_exact h4)
  sl_step
  iapply Hk
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H9]
  · iexists _; isplitr; swap; · iexact H9
    ipureintro; exact hf9
  iexists _, _; isplitr; swap; · iexact HS
  ipureintro; rfl

end Cert.Proof.Scan
-- ==== Proof.ScanRunLat.lean ====
/- Hand-written: the run of the recurrence's kernel body, for any values. -/
module

public import proofs.«01_k».proof.Proof.Gen.ScanIdeal.Frame
public import proofs.«01_k».proof.Proof.Gen.ScanIdeal.Skeleton
public import proofs.«01_k».proof.Proof.Gen.ScanIdeal.Loops
public import Idealize.ShloMosaic.Lib.Pipeline.Frame
public import Idealize.ShloMosaic.Lib.Tactic

@[expose] public section

set_option maxRecDepth 65536

noncomputable section

namespace Cert.Proof.Scan

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Between the heads of the exact chunk every buffer it touches holds something. -/
@[instance_reducible] def headsInv (c : Dev nD) (i : grid0.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x1x256x2048 .bf16) (harg10 : arg10.IsWhole) (arg11 : Memref sig .tc .vmem S5x16x128x128 .f32) (harg11 : arg11.IsWhole) (arg12 : Memref sig .tc .smem S4 .i32) (harg12 : arg12.IsWhole) (arg13 : Memref sig .tc .vmem S64x2048 .f32) (harg13 : arg13.IsWhole) (arg14 : Memref sig .tc .vmem S64x2048 .f32) (harg14 : arg14.IsWhole) (arg15 : Memref sig .tc .vmem S64x2048 .f32) (harg15 : arg15.IsWhole) (arg16 : Memref sig .tc .vmem S64x2048 .f32) (harg16 : arg16.IsWhole) (h4 : k0_cond4 i = 1#1) (k1 : Fin k0_t1_loop.trips) :
    Gen.LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 h4 k1 where
  inv _ _ := iprop((∃ f, arg10.view.loc (c : Thread nD τ) ↦[arg10.view.set]{fullShare} f) ∗ (∃ f, arg11.view.loc (c : Thread nD τ) ↦[arg11.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))
  step k acc := by
    unfold k0_t2_body
    iintro ⟨⟨%f10, H10⟩, ⟨%f11, H11⟩, ⟨%f13, H13⟩, ⟨%f14, H14⟩, ⟨%f15, H15⟩, ⟨%f16, H16⟩⟩
    sl_exec_parts
    sl_step
    isplitl [H10]; · iexists _; iexact H10
    isplitl [H11]; · iexists _; iexact H11
    isplitl [H13]; · iexists _; iexact H13
    isplitl [H14]; · iexists _; iexact H14
    isplitl [H15]; · iexists _; iexact H15
    iexists _; iexact H16

set_option maxHeartbeats 4000000 in
/-- Between the chunks done again every buffer they touch holds something. -/
@[instance_reducible] def redoInv (c : Dev nD) (i : grid0.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x1x256x2048 .bf16) (harg10 : arg10.IsWhole) (arg11 : Memref sig .tc .vmem S5x16x128x128 .f32) (harg11 : arg11.IsWhole) (arg12 : Memref sig .tc .smem S4 .i32) (harg12 : arg12.IsWhole) (arg13 : Memref sig .tc .vmem S64x2048 .f32) (harg13 : arg13.IsWhole) (arg14 : Memref sig .tc .vmem S64x2048 .f32) (harg14 : arg14.IsWhole) (arg15 : Memref sig .tc .vmem S64x2048 .f32) (harg15 : arg15.IsWhole) (arg16 : Memref sig .tc .vmem S64x2048 .f32) (harg16 : arg16.IsWhole) (v0 : BitVec 1) (v7 : Vec F S1x1x2048 .f32) (h4 : k0_cond4 i = 1#1) (f6 : Buf (Elt F) (arg6.view.loc (c : Thread nD τ))) (f7 : Buf (Elt F) (arg7.view.loc (c : Thread nD τ))) (f8 : Buf (Elt F) (arg8.view.loc (c : Thread nD τ))) :
    Gen.LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 v0 v7 h4 where
  inv _ _ := iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))
  step k acc := by
    unfold k0_t1_body
    iintro ⟨H6, H7, H8, ⟨%f10, H10⟩, ⟨%f11, H11⟩, ⟨%f12, H12⟩, ⟨%f13, H13⟩, ⟨%f14, H14⟩, ⟨%f15, H15⟩, ⟨%f16, H16⟩⟩
    sl_exec_parts
    by_cases hb : redoInv.sl.v2134 c i arg12 h4 k f12 = 1#1
    · sl_exec_parts (disch := sl_exact hb)
      sl_for (fun (_ : ℕ) (_ : Unit) => iprop((∃ f, arg10.view.loc (c : Thread nD τ) ↦[arg10.view.set]{fullShare} f) ∗ (∃ f, arg11.view.loc (c : Thread nD τ) ↦[arg11.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))) $$ [H10 H11 H13 H14 H15 H16]
      case region =>
        exact (headsInv c i arg3 harg3 arg4 harg4 arg5 harg5 arg6 harg6 arg7 harg7 arg8 harg8 arg9 harg9 arg10 harg10 arg11 harg11 arg12 harg12 arg13 harg13 arg14 harg14 arg15 harg15 arg16 harg16 h4 k).step
      · isplitl [H10]; · iexists _; iexact H10
        isplitl [H11]; · iexists _; iexact H11
        isplitl [H13]; · iexists _; iexact H13
        isplitl [H14]; · iexists _; iexact H14
        isplitl [H15]; · iexists _; iexact H15
        iexists _; iexact H16

      iintro %_u ⟨⟨%f10, H10⟩, ⟨%f11, H11⟩, ⟨%f13, H13⟩, ⟨%f14, H14⟩, ⟨%f15, H15⟩, ⟨%f16, H16⟩⟩
      sl_step
      isplitl [H6]; · iexact H6
      isplitl [H7]; · iexact H7
      isplitl [H8]; · iexact H8
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      iexists _; iexact H16

    · sl_exec_parts (disch := sl_exact hb)
      sl_step
      isplitl [H6]; · iexact H6
      isplitl [H7]; · iexact H7
      isplitl [H8]; · iexact H8
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      iexists _; iexact H16

set_option maxHeartbeats 40000000 in
/-- On a latent block the body reads its inputs, and leaves its output and its scratch at some contents. -/
theorem run_lat (c : Dev nD) (i : grid0.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x1x256x2048 .bf16) (harg10 : arg10.IsWhole) (arg11 : Memref sig .tc .vmem S5x16x128x128 .f32) (harg11 : arg11.IsWhole) (arg12 : Memref sig .tc .smem S4 .i32) (harg12 : arg12.IsWhole) (arg13 : Memref sig .tc .vmem S64x2048 .f32) (harg13 : arg13.IsWhole) (arg14 : Memref sig .tc .vmem S64x2048 .f32) (harg14 : arg14.IsWhole) (arg15 : Memref sig .tc .vmem S64x2048 .f32) (harg15 : arg15.IsWhole) (arg16 : Memref sig .tc .vmem S64x2048 .f32) (harg16 : arg16.IsWhole)
    (h1 : ¬ (Scalar.cmpi .ne (Scalar.extui (Scalar.cmpi .eq (BitVec.ofNat 32 (i 2).val) 0#32)) 0#32 = 1#1))
    (h2 : Scalar.cmpi .ne (Scalar.extui (Scalar.cmpi .sgt (BitVec.ofNat 32 (i 2).val) 0#32)) 0#32 = 1#1)
    (h3 : ¬ (k0_cond3 i = 1#1)) (h4 : k0_cond4 i = 1#1)
    (x6 : Vec F S1x256x2048 .bf16) (x7 : Vec F S1x256x2048 .bf16) (x8 : Vec F S1x256x2048 .bf16) (x9 : Vec F S1x1x2048 .f32) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) Set.univ (cc0_hgrn_scan i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_hgrn_scan_eq_skeleton]; unfold cc0_hgrn_scan_skel
  unfold owns
  iintro ⟨⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec_parts (disch := first | sl_exact h1 | sl_exact h2 | sl_exact h3 | sl_exact h4)
  sl_for (fun (_ : ℕ) (_ : Unit) => iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))) $$ [H6 H7 H8 H10 H11 H12 H13 H14 H15 H16]
  case region =>
    exact (redoInv c i arg3 harg3 arg4 harg4 arg5 harg5 arg6 harg6 arg7 harg7 arg8 harg8 arg9 harg9 arg10 harg10 arg11 harg11 arg12 harg12 arg13 harg13 arg14 harg14 arg15 harg15 arg16 harg16 _ _ h4 f6 f7 f8).step
  · isplitl [H6]; · iexact H6
    isplitl [H7]; · iexact H7
    isplitl [H8]; · iexact H8
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %_u ⟨H6, H7, H8, ⟨%f10, H10⟩, ⟨%f11, H11⟩, ⟨%f12, H12⟩, ⟨%f13, H13⟩, ⟨%f14, H14⟩, ⟨%f15, H15⟩, ⟨%f16, H16⟩⟩
  sl_exec_parts (disch := first | sl_exact h1 | sl_exact h2 | sl_exact h3 | sl_exact h4)
  sl_step
  iapply Hk
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end Cert.Proof.Scan
-- ==== Proof.ScanFrame.lean ====
/- Hand-written: the frame of the recurrence, for any values. -/
module

public import proofs.«01_k».proof.Proof.Gen.ScanIdeal.Frame
public import proofs.«01_k».proof.Proof.Gen.ScanIdeal.Skeleton
public import proofs.«01_k».proof.Proof.Gen.ScanIdeal.Loops
public import Idealize.ShloMosaic.Lib.Pipeline.Frame
public import proofs.«01_k».proof.Proof.ScanRunCtx
public import proofs.«01_k».proof.Proof.ScanRunLat
public import Idealize.ShloMosaic.Lib.Tactic

@[expose] public section

set_option maxRecDepth 65536

noncomputable section

namespace Cert.Proof.Scan

open Cert.ScanIdeal Cert.ScanIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging memref at a point, and that it is whole. -/
abbrev ms0 (t : Fin cfg0.N) : Memref sig .tc .vmem S1x256x2048 .bf16 := win0_0.stage (cfg0.slots t 0)
abbrev hs0 (t : Fin cfg0.N) : (ms0 t).IsWhole := hstage0_0 ((cfg0.slots t 0).cast nbuf0_0)
/-- Window 1's staging memref at a point, and that it is whole. -/
abbrev ms1 (t : Fin cfg0.N) : Memref sig .tc .vmem S1x256x2048 .bf16 := win0_1.stage (cfg0.slots t 1)
abbrev hs1 (t : Fin cfg0.N) : (ms1 t).IsWhole := hstage0_1 ((cfg0.slots t 1).cast nbuf0_1)
/-- Window 2's staging memref at a point, and that it is whole. -/
abbrev ms2 (t : Fin cfg0.N) : Memref sig .tc .vmem S1x256x2048 .bf16 := win0_2.stage (cfg0.slots t 2)
abbrev hs2 (t : Fin cfg0.N) : (ms2 t).IsWhole := hstage0_2 ((cfg0.slots t 2).cast nbuf0_2)
/-- Window 3's staging memref at a point, and that it is whole. -/
abbrev ms3 (t : Fin cfg0.N) : Memref sig .tc .vmem S1x256x2048 .bf16 := win0_3.stage (cfg0.slots t 3)
abbrev hs3 (t : Fin cfg0.N) : (ms3 t).IsWhole := hstage0_3 ((cfg0.slots t 3).cast nbuf0_3)
/-- Window 4's staging memref at a point, and that it is whole. -/
abbrev ms4 (t : Fin cfg0.N) : Memref sig .tc .vmem S1x256x2048 .bf16 := win0_4.stage (cfg0.slots t 4)
abbrev hs4 (t : Fin cfg0.N) : (ms4 t).IsWhole := hstage0_4 ((cfg0.slots t 4).cast nbuf0_4)
/-- Window 5's staging memref at a point, and that it is whole. -/
abbrev ms5 (t : Fin cfg0.N) : Memref sig .tc .vmem S1x256x2048 .bf16 := win0_5.stage (cfg0.slots t 5)
abbrev hs5 (t : Fin cfg0.N) : (ms5 t).IsWhole := hstage0_5 ((cfg0.slots t 5).cast nbuf0_5)
/-- Window 6's staging memref at a point, and that it is whole. -/
abbrev ms6 (t : Fin cfg0.N) : Memref sig .tc .vmem S1x1x2048 .f32 := win0_6.stage (cfg0.slots t 6)
abbrev hs6 (t : Fin cfg0.N) : (ms6 t).IsWhole := hstage0_6 ((cfg0.slots t 6).cast nbuf0_6)
/-- Window 7's staging memref at a point, and that it is whole. -/
abbrev ms7 (t : Fin cfg0.N) : Memref sig .tc .vmem S1x1x256x2048 .bf16 := win0_7.stage (cfg0.slots t 7)
abbrev hs7 (t : Fin cfg0.N) : (ms7 t).IsWhole := hstage0_7 ((cfg0.slots t 7).cast nbuf0_7)
/-- The scratch buffers as whole memrefs. -/
abbrev sc0 : Memref sig .tc .vmem S5x16x128x128 .f32 := Memref.whole cc0_scratch0
abbrev sc1 : Memref sig .tc .smem S4 .i32 := Memref.whole cc0_scratch1
abbrev sc2 : Memref sig .tc .vmem S64x2048 .f32 := Memref.whole cc0_scratch2
abbrev sc3 : Memref sig .tc .vmem S64x2048 .f32 := Memref.whole cc0_scratch3
abbrev sc4 : Memref sig .tc .vmem S64x2048 .f32 := Memref.whole cc0_scratch4
abbrev sc5 : Memref sig .tc .vmem S64x2048 .f32 := Memref.whole cc0_scratch5

/-- What the launch hands the region, buffer by buffer. -/
theorem PhiA_eq (c : Dev nD) :
    (Pipeline.ΦA spec0 c : sProp 𝕄)
      = iprop(iprop((∃ d, owns (c : Thread nD τ) sc0 fullShare d) ∗ (∃ d, owns (c : Thread nD τ) sc2 fullShare d)
          ∗ (∃ d, owns (c : Thread nD τ) sc3 fullShare d) ∗ (∃ d, owns (c : Thread nD τ) sc4 fullShare d)
          ∗ (∃ d, owns (c : Thread nD τ) sc5 fullShare d) ∗ (∃ d, owns (c : Thread nD τ) sc1 fullShare d))
          ∗ (∃ r, prngReg c r)) := by
  unfold Pipeline.ΦA; rw [scopedRest0_eq]; simp only [sc0, sc1, sc2, sc3, sc4, sc5, owns_whole]; try rfl

/-- The last grid coordinate of a point. -/
theorem step_val (t : Fin cfg0.N) : (grid0.coords t 2).val = t.val % 9 := by
  have e : (grid0.coords t 2).val = t.val / 1 % 9 := Pipeline.Grid.coords_val t 2 (by decide) rfl
  rw [e, Nat.div_one]

/-- On the context's block the state is cleared and no output is written. -/
theorem conds_ctx : ∀ n : Fin 9, n.val = 0 →
    (Scalar.cmpi .ne (Scalar.extui (Scalar.cmpi .eq (BitVec.ofNat 32 n.val) 0#32)) 0#32 = 1#1)
    ∧ ¬ (Scalar.cmpi .ne (Scalar.extui (Scalar.cmpi .sgt (BitVec.ofNat 32 n.val) 0#32)) 0#32 = 1#1)
    ∧ (Scalar.cmpi .ne (Scalar.extui (Scalar.cmpi .slt (BitVec.ofNat 32 n.val) 1#32)) 0#32 = 1#1)
    ∧ ¬ (Scalar.cmpi .ne (Scalar.extui (Scalar.cmpi .sge (BitVec.ofNat 32 n.val) 1#32)) 0#32 = 1#1) := by decide
/-- On the others the state is handed on and the output written. -/
theorem conds_lat : ∀ n : Fin 9, n.val ≠ 0 →
    ¬ (Scalar.cmpi .ne (Scalar.extui (Scalar.cmpi .eq (BitVec.ofNat 32 n.val) 0#32)) 0#32 = 1#1)
    ∧ (Scalar.cmpi .ne (Scalar.extui (Scalar.cmpi .sgt (BitVec.ofNat 32 n.val) 0#32)) 0#32 = 1#1)
    ∧ ¬ (Scalar.cmpi .ne (Scalar.extui (Scalar.cmpi .slt (BitVec.ofNat 32 n.val) 1#32)) 0#32 = 1#1)
    ∧ (Scalar.cmpi .ne (Scalar.extui (Scalar.cmpi .sge (BitVec.ofNat 32 n.val) 1#32)) 0#32 = 1#1) := by decide

/-- Only the output's contents are forgotten. -/
def forgets : Fin 8 → Bool := fun w => decide (w = 7)

/-- The proof data: each input's buffer keeps its block; the output's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare d))
/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ (∃ d, owns (c : Thread nD τ) (ms7 t) fullShare d))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6,
    show (dats m 0 c).Φ t.succ = Pipeline.ΦA spec0 c from rfl, show (dats m 0 c).Φ t.castSucc = Pipeline.ΦA spec0 c from rfl, PhiA_eq]
  have hn : t.val % 9 < 9 := Nat.mod_lt _ (by decide)
  have hs : (grid0.coords t 2) = (⟨t.val % 9, hn⟩ : Fin 9) := Fin.ext (step_val t)
  by_cases h0 : t.val % 9 = 0
  · obtain ⟨h1, h2, h3, h4⟩ := conds_ctx (grid0.coords t 2) ((step_val t).trans h0)
    iintro ⟨⟨⟨HS0, HS2, HS3, HS4, HS5, HS1⟩, Hg⟩, Ho, ⟨%d0, H0⟩, ⟨%d1, H1⟩, ⟨%d2, H2⟩, ⟨%d3, H3⟩, ⟨%d4, H4⟩, ⟨%d5, H5⟩, ⟨%d6, H6⟩, H7⟩
    iapply (run_ctx c (grid0.coords t) _ _ _ _ _ _ _ _ _ _ _ _ _ _ _ _ _ _ _ _ _ _ _ _ _ _ _ _ h1 h2 h3 h4 (iblk m c 0 t) (iblk m c 1 t) (iblk m c 2 t) (iblk m c 6 t) _)
    isplitl [H0]; · iexact H0
    isplitl [H1]; · iexact H1
    isplitl [H2]; · iexact H2
    isplitl [H6]; · iexact H6
    isplitl [HS0]; · iexact HS0
    iintro ⟨H0, H1, H2, H6, HS0⟩
    isplitl [HS0 HS1 HS2 HS3 HS4 HS5 Hg]
    · isplitl [HS0 HS1 HS2 HS3 HS4 HS5]
      · isplitl [HS0]; · iexact HS0
        isplitl [HS2]; · iexact HS2
        isplitl [HS3]; · iexact HS3
        isplitl [HS4]; · iexact HS4
        isplitl [HS5]; · iexact HS5
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain ⟨h1, h2, h3, h4⟩ := conds_lat (grid0.coords t 2) (by rw [step_val]; exact h0)
    iintro ⟨⟨⟨HS0, HS2, HS3, HS4, HS5, HS1⟩, Hg⟩, Ho, ⟨%d0, H0⟩, ⟨%d1, H1⟩, ⟨%d2, H2⟩, ⟨%d3, H3⟩, ⟨%d4, H4⟩, ⟨%d5, H5⟩, ⟨%d6, H6⟩, H7⟩
    iapply (run_lat c (grid0.coords t) _ _ _ _ _ _ _ _ _ _ _ _ _ _ _ _ _ _ _ _ _ _ _ _ _ _ _ _ h1 h2 h3 h4 (iblk m c 3 t) (iblk m c 4 t) (iblk m c 5 t) (iblk m c 6 t) _)
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    iintro ⟨H3, H4, H5, H6, H7, HS0, HS1, HS2, HS3, HS4, HS5⟩
    isplitl [HS0 HS1 HS2 HS3 HS4 HS5 Hg]
    · isplitl [HS0 HS1 HS2 HS3 HS4 HS5]
      · isplitl [HS0]; · iexact HS0
        isplitl [HS2]; · iexact HS2
        isplitl [HS3]; · iexact HS3
        isplitl [HS4]; · iexact HS4
        isplitl [HS5]; · iexact HS5
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point is the body as the pipeline spells it. -/
theorem defs₀_row (t : Fin cfg0.N) : defs₀ (F := F) .tc cfg0.body (cfg0.bodyArgs t (cfg0.slots t)) = bodyAt0 t := by
  unfold defs₀; rw [Defs.onTc_tc]

/-- The obligation of the body, the output forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every execution ends, with every array no window writes as the region found it and every semaphore at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The frame, for any values: the run ends, the arguments unchanged and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(Pipeline.RDat.FramePost.arr_in h.1 c 2 rfl).trans ((A_eq m c 2).trans (V_main_arg0 m c)),
     (Pipeline.RDat.FramePost.arr_in h.1 c 5 rfl).trans ((A_eq m c 5).trans (V_main_arg1 m c)),
     ((h.1 c).2 main_arg2 (Pipeline.mem_restRefs_of main_arg2 (by decide) (by decide))).trans (V_main_arg2 m c)⟩, h.2⟩)
    (run_main m ρ)

end Cert.Proof.Scan
-- ==== Proof.ScanFrames.lean ====
/- Hand-written: the frames of the recurrence, as it is and read ideally. -/
module

public import proofs.«01_k».proof.Defs
public import proofs.«01_k».proof.Proof.Gen.Scan.Frame
public import proofs.«01_k».proof.Proof.ScanFrame

@[expose] public section

noncomputable section

namespace Cert.Proof

open Idealize.ShloMosaic Idealize.ShloMosaic.TcCoe Idealize.SL.Sem

/-- The recurrence read ideally runs, and leaves its arguments and the semaphores as they were. -/
theorem frame_scanideal : Cert.quiescent_ScanIdeal (hScanIdeal := Cert.ScanIdeal.Gen.facts) := fun m ρ _ => Scan.frame_any (F := Ideal) m ρ

set_option maxRecDepth 100000 in
set_option maxHeartbeats 4000000 in
/-- The two programs' bodies are one text, -/
theorem scan_defs₀_eq : @Cert.Scan.defs₀ Bits _ Cert.Scan.Gen.facts = @Cert.ScanIdeal.defs₀ Bits _ Cert.ScanIdeal.Gen.facts := by
  unfold Cert.Scan.defs₀ Cert.ScanIdeal.defs₀
  refine congrArg Defs.onTc ?_
  funext l a
  match l, a with
  | 0, (t, s) => rfl

set_option maxRecDepth 100000 in
set_option maxHeartbeats 4000000 in
/-- and so are the tables of the whole programs. -/
theorem scan_defs_eq : @Cert.Scan.defs Bits _ Cert.Scan.Gen.facts = @Cert.ScanIdeal.defs Bits _ Cert.ScanIdeal.Gen.facts :=
  congrArg (Pipeline.defs Cert.ScanIdeal.pcfgs) scan_defs₀_eq

set_option maxRecDepth 100000 in
set_option maxHeartbeats 4000000 in
/-- The recurrence as it is: the same run, at the machine's values. -/
theorem frame_scan : Cert.quiescent_Scan (hScan := Cert.Scan.Gen.facts) := fun m ρ _ => by
  rw [scan_defs_eq]
  exact Scan.frame_any (F := Bits) m ρ

end Cert.Proof

end
-- ==== Proof.ScanSpec.lean ====
/- Hand-written: the gated scan over the reals with infinities, a chunk of 64 positions at a time, and the one identity its
   proof rests on: splitting the decay between two positions at the chunk's whole decay changes nothing where the decay is finite. -/
module

public import Idealize.ShloMosaic.PureOps.Ideal
public import Idealize.ShloMosaic.Lib.Pointwise

@[expose] public section

noncomputable section

namespace Cert.Proof.ScanSpec

open Idealize.ShloMosaic

/-- The forget gate. -/
def forget (lb z : EReal) : EReal := lb + (1 - lb) * Ideal.logistic z

/-- Position `s` is read by position `t`: it is not after it in the direction's order. -/
def bef (d : Fin 2) (t s : Fin 64) : Prop := if d = 0 then s ≤ t else t ≤ s

instance (d : Fin 2) (t s : Fin 64) : Decidable (bef d t s) := by unfold bef; infer_instance

/-- The log decay from the chunk's start to position `t`. -/
def cum (d : Fin 2) (lf : Fin 64 → EReal) (t : Fin 64) : EReal := ∑ s, if bef d t s then lf s else 0

/-- The chunk's whole log decay. -/
def tot (lf : Fin 64 → EReal) : EReal := ∑ s, lf s

/-- A state's entry after the chunk. -/
def stepS (d : Fin 2) (S : EReal) (lf kk v : Fin 64 → EReal) : EReal :=
  S * Ideal.exp (tot lf) + ∑ s, v s * (kk s * Ideal.exp (tot lf - cum d lf s))

/-- What position `t` reads at position `s` of its own chunk. -/
def score (d : Fin 2) (q lf kk : Fin 64 → Fin 128 → EReal) (t s : Fin 64) : EReal :=
  ∑ k, q t k * (if bef d t s then Ideal.exp (cum d (fun u => lf u k) t - cum d (fun u => lf u k) s) else 0) * kk s k

/-- One entry of the result at position `t`. -/
def outS (d : Fin 2) (S : Fin 128 → EReal) (q lf kk : Fin 64 → Fin 128 → EReal) (v : Fin 64 → EReal) (t : Fin 64) : EReal :=
  (∑ k, (q t k * Ideal.exp (cum d (fun u => lf u k) t)) * S k) + ∑ s, score d q lf kk t s * v s

/-- The same score with the decay split at the chunk's whole decay. -/
def scoreF (d : Fin 2) (q lf kk : Fin 64 → Fin 128 → EReal) (t s : Fin 64) : EReal :=
  ∑ k, (q t k * Ideal.exp (cum d (fun u => lf u k) t) * Ideal.exp ((-(1/2 : ℝ) : ℝ) * tot (fun u => lf u k)))
    * (kk s k * Ideal.exp (tot (fun u => lf u k) - cum d (fun u => lf u k) s) * Ideal.exp ((-(1/2 : ℝ) : ℝ) * tot (fun u => lf u k)))

/-- The chunk's arrays: at each position and lane. -/
abbrev Chunk := Fin 64 → Fin 2048 → EReal

/-- Lane `k` of head `h`. -/
def lane (h : Fin 16) (k : Fin 128) : Fin 2048 := ⟨128 * h.val + k.val, by omega⟩

def lfC (lb : Fin 2048 → EReal) (z : Chunk) (t : Fin 64) (l : Fin 2048) : EReal := Ideal.log (forget (lb l) (z t l))
def kkC (lb : Fin 2048 → EReal) (z : Chunk) (t : Fin 64) (l : Fin 2048) : EReal := 1 - forget (lb l) (z t l)
def siC (q : Chunk) (t : Fin 64) (l : Fin 2048) : EReal := q t l * Ideal.logistic (q t l)

/-- The states: head, value lane, key lane. -/
abbrev States := Fin 16 → Fin 128 → Fin 128 → EReal

/-- The states after one chunk. -/
def next (d : Fin 2) (lb : Fin 2048 → EReal) (z v : Chunk) (S : States) : States := fun h a k =>
  stepS d (S h a k) (fun s => lfC lb z s (lane h k)) (fun s => kkC lb z s (lane h k)) (fun s => v s (lane h a))

/-- The states after `n` chunks. -/
def states (d : Fin 2) (lb : Fin 2048 → EReal) (z v : ℕ → Chunk) (S : States) : ℕ → States
  | 0 => S
  | n + 1 => next d lb (z n) (v n) (states d lb z v S n)

/-- A chunk's result from the states before it. -/
def outC (d : Fin 2) (lb : Fin 2048 → EReal) (q z v : Chunk) (S : States) (t : Fin 64) (h : Fin 16) (a : Fin 128) : EReal :=
  outS d (S h a) (fun s k => siC q s (lane h k)) (fun s k => lfC lb z s (lane h k)) (fun s k => kkC lb z s (lane h k))
    (fun s => v s (lane h a)) t

theorem states_add (d : Fin 2) (lb : Fin 2048 → EReal) (z v : ℕ → Chunk) (S : States) (n k : ℕ) :
    states d lb (fun c => z (n + c)) (fun c => v (n + c)) (states d lb z v S n) k = states d lb z v S (n + k) := by
  induction k with
  | zero => rfl
  | succ k ih => show next d lb _ _ _ = next d lb _ _ _; rw [ih]; rfl

theorem states_congr (d : Fin 2) (lb lb' : Fin 2048 → EReal) (z v z' v' : ℕ → Chunk) (S S' : States) (n : ℕ)
    (hl : lb = lb') (hz : ∀ c < n, z c = z' c) (hv : ∀ c < n, v c = v' c) (hS : S = S') : states d lb z v S n = states d lb' z' v' S' n := by
  subst hl hS
  induction n with
  | zero => rfl
  | succ n ih =>
    show next d lb _ _ _ = next d lb _ _ _
    rw [ih (fun c hc => hz c (by omega)) (fun c hc => hv c (by omega)), hz n (by omega), hv n (by omega)]

/-! ## Finiteness -/

/-- A finite value. -/
def Fin' (x : EReal) : Prop := ∃ r : ℝ, x = (r : EReal)

theorem fin_logistic (x : EReal) : Fin' (Ideal.logistic x) := by
  induction x using EReal.rec with
  | bot =>
    refine ⟨0, ?_⟩
    have h1 : Ideal.exp ⊤ = ⊤ := rfl
    have h2 : (1 : EReal) + ⊤ = ⊤ := by rw [add_comm]; exact EReal.top_add_of_ne_bot (by decide)
    unfold Ideal.logistic
    rw [EReal.neg_bot, h1, h2]
    simp [Ideal.div]
  | top =>
    refine ⟨1, ?_⟩
    have h1 : Ideal.exp ⊥ = 0 := rfl
    unfold Ideal.logistic
    rw [EReal.neg_top, h1, add_zero]
    simp [Ideal.div]
  | coe r => exact ⟨_, Ideal.logistic_coe r⟩

/-- The gate is never infinite upward. -/
theorem forget_ne_top {lb : EReal} (hl : lb ≠ ⊤) (z : EReal) : forget lb z ≠ ⊤ := by
  unfold forget
  obtain ⟨r, hr⟩ := fin_logistic z
  rw [hr]
  induction lb using EReal.rec with
  | bot => rw [EReal.bot_add]; exact bot_ne_top
  | top => exact absurd rfl hl
  | coe l => norm_cast; exact EReal.coe_ne_top _

theorem log_ne_top {x : EReal} (h : x ≠ ⊤) : Ideal.log x ≠ ⊤ := by
  induction x using EReal.rec with
  | bot => exact bot_ne_top
  | top => exact absurd rfl h
  | coe r =>
    rw [Ideal.log_coe]
    split
    · exact bot_ne_top
    · exact EReal.coe_ne_top _

theorem fin_of_ne {x : EReal} (h : x ≠ ⊥) (h' : x ≠ ⊤) : Fin' x := by
  induction x using EReal.rec with
  | bot => exact absurd rfl h
  | top => exact absurd rfl h'
  | coe r => exact ⟨r, rfl⟩

/-- Adding the differences of terms with themselves to a sum of terms never infinite upward changes nothing. -/
theorem sum_add_sub_self {ι : Type} (s : Finset ι) (f : ι → EReal) (h : ∀ i, f i ≠ ⊤) :
    (∑ i ∈ s, f i) + ∑ i ∈ s, (f i - f i) = ∑ i ∈ s, f i := by
  rw [← Finset.sum_add_distrib]
  refine Finset.sum_congr rfl fun i _ => ?_
  have := h i
  generalize f i = x at this
  induction x using EReal.rec with
  | bot => exact EReal.bot_add _
  | top => exact absurd rfl this
  | coe r => norm_cast; simp

/-- A sum above `⊥` has no term that is `⊥`. -/
theorem ne_bot_of_sum {ι : Type} (s : Finset ι) (f : ι → EReal) (h : ∑ i ∈ s, f i ≠ ⊥) (i : ι) (hi : i ∈ s) : f i ≠ ⊥ := by
  classical
  intro hb
  apply h
  rw [← Finset.add_sum_erase s f hi, hb, EReal.bot_add]

theorem fin_sum {ι : Type} (s : Finset ι) (f : ι → EReal) (h : ∀ i, Fin' (f i)) : Fin' (∑ i ∈ s, f i) := by
  classical
  choose g hg using h
  refine ⟨∑ i ∈ s, g i, ?_⟩
  rw [show f = fun i => (g i : EReal) from funext hg]
  induction s using Finset.induction_on with
  | empty => simp
  | insert a s ha ih => rw [Finset.sum_insert ha, Finset.sum_insert ha, ih, EReal.coe_add]

theorem fin_zero : Fin' 0 := ⟨0, rfl⟩

theorem fin_cum (d : Fin 2) (lf : Fin 64 → EReal) (h : ∀ s, Fin' (lf s)) (t : Fin 64) : Fin' (cum d lf t) :=
  fin_sum _ _ fun s => by
    split
    · exact h s
    · exact fin_zero

theorem fin_tot (lf : Fin 64 → EReal) (h : ∀ s, Fin' (lf s)) : Fin' (tot lf) := fin_sum _ _ h

/-- The split changes nothing. -/
theorem scoreF_eq (d : Fin 2) (q lf kk : Fin 64 → Fin 128 → EReal) (t s : Fin 64) (hb : bef d t s)
    (hl : ∀ s k, Fin' (lf s k)) : scoreF d q lf kk t s = score d q lf kk t s := by
  unfold scoreF score
  refine Finset.sum_congr rfl fun k _ => ?_
  rw [if_pos hb]
  obtain ⟨T, hT⟩ := fin_tot (fun u => lf u k) fun u => hl u k
  obtain ⟨B, hB⟩ := fin_cum d (fun u => lf u k) (fun u => hl u k) t
  obtain ⟨C, hC⟩ := fin_cum d (fun u => lf u k) (fun u => hl u k) s
  rw [hT, hB, hC]
  simp only [← EReal.coe_sub, ← EReal.coe_mul, Ideal.exp_coe]
  have : Real.exp (B - C) = Real.exp B * Real.exp (-(1/2) * T) * (Real.exp (T - C) * Real.exp (-(1/2) * T)) := by
    rw [← Real.exp_add, ← Real.exp_add, ← Real.exp_add]; congr 1; ring
  rw [this]
  simp only [EReal.coe_mul]
  ac_rfl

/-- A chunk's result with the decay split. -/
def fastC (d : Fin 2) (lb : Fin 2048 → EReal) (q z v : Chunk) (S : States) (t : Fin 64) (h : Fin 16) (a : Fin 128) : EReal :=
  (∑ k, (siC q t (lane h k) * Ideal.exp (cum d (fun u => lfC lb z u (lane h k)) t)) * S h a k)
    + ∑ s, (if bef d t s then scoreF d (fun s k => siC q s (lane h k)) (fun s k => lfC lb z s (lane h k)) (fun s k => kkC lb z s (lane h k)) t s else 0)
      * v s (lane h a)

theorem score_of_not (d : Fin 2) (q lf kk : Fin 64 → Fin 128 → EReal) (t s : Fin 64) (hb : ¬ bef d t s) : score d q lf kk t s = 0 := by
  unfold score
  refine Finset.sum_eq_zero fun k _ => ?_
  rw [if_neg hb, mul_zero, zero_mul]

/-- Where no lane's whole decay is infinite the split result is the result. -/
theorem fastC_eq (d : Fin 2) (lb : Fin 2048 → EReal) (q z v : Chunk) (S : States) (hlb : ∀ l, lb l ≠ ⊤)
    (ht : ∀ l, tot (fun s => lfC lb z s l) ≠ ⊥) (t : Fin 64) (h : Fin 16) (a : Fin 128) :
    fastC d lb q z v S t h a = outC d lb q z v S t h a := by
  unfold fastC outC outS
  congr 1
  refine Finset.sum_congr rfl fun s _ => ?_
  congr 1
  by_cases hb : bef d t s
  · rw [if_pos hb]
    exact scoreF_eq _ _ _ _ _ _ hb fun s k => fin_of_ne (ne_bot_of_sum _ _ (ht _) s (Finset.mem_univ s))
      (log_ne_top (forget_ne_top (hlb _) _))
  · rw [if_neg hb, score_of_not _ _ _ _ _ _ hb]

/-- The whole decay is the decay to the direction's last position. -/
theorem cum_last (d : Fin 2) (lf : Fin 64 → EReal) : cum d lf (if d = 0 then 63 else 0) = tot lf := by
  unfold cum tot
  refine Finset.sum_congr rfl fun s _ => ?_
  rw [if_pos]
  unfold bef
  by_cases h : d = 0
  · rw [if_pos h, if_pos h]; exact Fin.le_last s
  · rw [if_neg h, if_neg h]; exact Fin.zero_le s

end Cert.Proof.ScanSpec

end
-- ==== Proof.ScanVec.lean ====
/- Hand-written: what the recurrence's kernel computes of one chunk, read by coordinates over the reals with infinities. -/
module

public import proofs.«01_k».proof.Proof.ScanSpec
public import proofs.«01_k».proof.Proof.Gen.ScanIdeal.Skeleton
public import Idealize.ShloMosaic.Lib.Pointwise

@[expose] public section

set_option maxRecDepth 65536

noncomputable section

namespace Cert.Proof.Scan

open Cert.ScanIdeal Cert.ScanIdeal.Gen Cert.Proof.ScanSpec
open Idealize.ShloMosaic Idealize.ShloMosaic.TcCoe

/-- The direction of a grid point. -/
def dir (i : grid0.Coords) : Fin 2 := ⟨(i 1).val, (i 1).isLt⟩

/-- The mask of the direction's order. -/
theorem mask_apply (i : grid0.Coords) (t s : Fin 64) : k0_pay4 i (ix2 t s) = if bef (dir i) t s then 1#1 else 0#1 := by
  have h : ∀ (d : Fin 2) (t s : Fin 64), IntOp.cmpi CmpIPredicate.sge
      (IntOp.muli (IntOp.subi (BitVec.ofNat 32 t.val) (BitVec.ofNat 32 s.val)) (Scalar.subi (1#32) (Scalar.muli (2#32) (BitVec.ofNat 32 d.val)))) 0#32
      = if bef d t s then 1#1 else 0#1 := by decide +kernel
  pointwise [k0_pay4]
  exact h (dir i) t s

theorem tri_apply (i : grid0.Coords) (t s : Fin 64) : (k0_pay5 (F := Ideal) i (ix2 t s) : EReal) = if bef (dir i) t s then 1 else 0 := by
  pointwise [k0_pay5]
  rw [mask_apply]
  by_cases h : bef (dir i) t s
  · rw [if_pos h, if_pos h]; rfl
  · rw [if_neg h, if_neg h]; rfl

/-- The forward flag. -/
def fwd (i : grid0.Coords) : BitVec 1 := Scalar.cmpi .eq (BitVec.ofNat 32 (i 1).val) 0#32

theorem fwd_eq (i : grid0.Coords) : fwd i = if dir i = 0 then 1#1 else 0#1 := by
  have h : ∀ d : Fin 2, Scalar.cmpi .eq (BitVec.ofNat 32 d.val) 0#32 = if d = 0 then 1#1 else 0#1 := by decide
  exact h (dir i)

/-- A loaded chunk by position and lane. -/
def chk (x : Vec Ideal S1x64x2048 .bf16) : Chunk := fun t l => x (ix3 0 t l)

/-- The gates' lower bounds by lane. -/
def row (x : FVec Ideal S1x2048 .f32) : Fin 2048 → EReal := fun l => x (ix2 0 l)

/-- The gates' lower bounds are not infinite upward. -/
def Good (lb : FVec Ideal S1x2048 .f32) : Prop := ∀ l, row lb l ≠ ⊤

variable (i : grid0.Coords) (lb : FVec Ideal S1x2048 .f32) (z q v : Vec Ideal S1x64x2048 .bf16)

theorem pay248_apply (t : Fin 64) (l : Fin 2048) : (k0_pay248 lb z (ix2 t l) : EReal) = forget (row lb l) (chk z t l) := by
  unfold forget chk row
  pointwise [k0_pay248]

theorem pay249_raw (tri : FVec Ideal S64x64 .bf16) (t : Fin 64) (l : Fin 2048) :
    (k0_pay249 lb tri z (ix2 t l) : EReal) = (∑ s : Fin 64, (tri (ix2 t s) : EReal) * Ideal.log (k0_pay248 lb z (ix2 s l)))
      + ∑ s : Fin 64, (tri (ix2 t s) : EReal) * (Ideal.log (k0_pay248 lb z (ix2 s l)) - Ideal.log (k0_pay248 lb z (ix2 s l))) := by
  pointwise [k0_pay249]

theorem pay249_apply (h : Good lb) (t : Fin 64) (l : Fin 2048) :
    (k0_pay249 lb (k0_pay5 i) z (ix2 t l) : EReal) = cum (dir i) (fun s => lfC (row lb) (chk z) s l) t := by
  rw [pay249_raw]
  have e1 : ∀ x : Fin 64 → EReal, (∀ s, x s ≠ ⊤) → (∑ s, (k0_pay5 (F := Ideal) i (ix2 t s) : EReal) * x s) + ∑ s, (k0_pay5 (F := Ideal) i (ix2 t s) : EReal) * (x s - x s)
      = ∑ s, (k0_pay5 (F := Ideal) i (ix2 t s) : EReal) * x s := by
    intro x hx
    have hm : ∀ s, (k0_pay5 (F := Ideal) i (ix2 t s) : EReal) * (x s - x s)
        = (k0_pay5 (F := Ideal) i (ix2 t s) : EReal) * x s - (k0_pay5 (F := Ideal) i (ix2 t s) : EReal) * x s := by
      intro s
      rw [tri_apply]
      split
      · rw [one_mul, one_mul]
      · rw [zero_mul, zero_mul, sub_zero]
    rw [Finset.sum_congr rfl fun s _ => hm s]
    refine sum_add_sub_self _ _ fun s => ?_
    rw [tri_apply]
    split
    · rw [one_mul]; exact hx s
    · rw [zero_mul]; exact EReal.zero_ne_top
  rw [e1 _ fun s => by rw [pay248_apply]; exact log_ne_top (forget_ne_top (h l) _)]
  unfold cum
  refine Finset.sum_congr rfl fun s _ => ?_
  rw [pay248_apply, tri_apply]
  split
  · rw [one_mul]; rfl
  · rw [zero_mul]

theorem pay250_apply (h : Good lb) (l : Fin 2048) :
    (k0_pay250 (fwd i) lb (k0_pay5 i) z (ix2 0 l) : EReal) = tot (fun s => lfC (row lb) (chk z) s l) := by
  rw [← cum_last (dir i)]
  have e63 : (extractStridedSlice S1x2048 ![63, 0] (k0_pay249 lb (k0_pay5 i) z) slices_S64x2048_o63_0_S1x2048 (ix2 0 l) : EReal)
      = k0_pay249 lb (k0_pay5 i) z (ix2 (63 : Fin 64) l) := by pointwise
  have e0 : (extractStridedSlice S1x2048 ![0, 0] (k0_pay249 lb (k0_pay5 i) z) slices_S64x2048_o0_0_S1x2048 (ix2 0 l) : EReal)
      = k0_pay249 lb (k0_pay5 i) z (ix2 (0 : Fin 64) l) := by pointwise
  unfold k0_pay250
  rw [fwd_eq]
  by_cases hd : dir i = 0
  · simp only [if_pos hd]
    exact e63.trans (pay249_apply i lb z h 63 l)
  · simp only [if_neg hd]
    exact e0.trans (pay249_apply i lb z h 0 l)

theorem pay251_apply (h : Good lb) (t : Fin 64) (l : Fin 2048) :
    (k0_pay251 (fwd i) lb (k0_pay5 i) z (ix2 t l) : EReal)
      = kkC (row lb) (chk z) t l * Ideal.exp (tot (fun s => lfC (row lb) (chk z) s l) - cum (dir i) (fun s => lfC (row lb) (chk z) s l) t) := by
  rw [← pay250_apply i lb z h, ← pay249_apply i lb z h]
  unfold kkC
  rw [← pay248_apply]
  pointwise [k0_pay251]

theorem pay252_apply (h : Good lb) (t : Fin 64) (l : Fin 2048) :
    (k0_pay252 (fwd i) lb (k0_pay5 i) z (ix2 t l) : EReal)
      = kkC (row lb) (chk z) t l * Ideal.exp (tot (fun s => lfC (row lb) (chk z) s l) - cum (dir i) (fun s => lfC (row lb) (chk z) s l) t) := by
  rw [← pay251_apply i lb z h]
  pointwise [k0_pay252]

theorem pay253_apply (h : Good lb) (l : Fin 2048) :
    (k0_pay253 (fwd i) lb (k0_pay5 i) z (ix2 0 l) : EReal) = Ideal.exp (tot (fun s => lfC (row lb) (chk z) s l)) := by
  rw [← pay250_apply i lb z h]
  pointwise [k0_pay253]

theorem pay254_apply (t : Fin 64) (l : Fin 2048) : (k0_pay254 v (ix2 t l) : EReal) = chk v t l := by
  unfold chk; pointwise [k0_pay254]

theorem pay288_apply (b : FVec Ideal S64x2048 .f32) (t : Fin 64) (l : Fin 2048) :
    (k0_pay288 b q (ix2 t l) : EReal) = siC (chk q) t l * Ideal.exp (b (ix2 t l)) := by
  unfold siC chk; pointwise [k0_pay288]

theorem pay289_apply (b : FVec Ideal S64x2048 .f32) (t : Fin 64) (l : Fin 2048) :
    (k0_pay289 b q (ix2 t l) : EReal) = siC (chk q) t l * Ideal.exp (b (ix2 t l)) := by
  rw [← pay288_apply]; pointwise [k0_pay289]

theorem half_bits : Ideal.ofBits .f32 0xBF000000#32 = ((-(1/2 : ℝ) : ℝ) : EReal) := by
  simp [Ideal.ofBits, Ideal.ieee, -EReal.coe_mul, -EReal.coe_neg]
  norm_num

theorem pay291_apply (b : FVec Ideal S64x2048 .f32) (T : FVec Ideal S1x2048 .f32) (t : Fin 64) (l : Fin 2048) :
    (k0_pay291 b T q (ix2 t l) : EReal) = siC (chk q) t l * Ideal.exp (b (ix2 t l)) * Ideal.exp (((-(1/2 : ℝ) : ℝ) : EReal) * T (ix2 0 l)) := by
  rw [← pay288_apply, ← half_bits]; pointwise [k0_pay291, k0_pay290]

theorem pay292_apply (ke : FVec Ideal S64x2048 .f32) (T : FVec Ideal S1x2048 .f32) (t : Fin 64) (l : Fin 2048) :
    (k0_pay292 T ke (ix2 t l) : EReal) = ke (ix2 t l) * Ideal.exp (((-(1/2 : ℝ) : ℝ) : EReal) * T (ix2 0 l)) := by
  rw [← half_bits]; pointwise [k0_pay292, k0_pay290]

/-! ## One head -/

theorem sl64 (h : Fin 16) : S64x2048.Slices ![0, 128 * h.val] S64x128 := by
  revert h; decide
theorem sl1 (h : Fin 16) : S1x2048.Slices ![0, 128 * h.val] S1x128 := by
  revert h; decide

theorem lane_slice {φ : FTy} (x : FVec Ideal S64x2048 φ) (h : Fin 16) (t : Fin 64) (k : Fin 128) :
    extractStridedSlice S64x128 ![0, 128 * h.val] x (sl64 h) (ix2 t k) = x (ix2 t (lane h k)) := by
  unfold lane
  pointwise

theorem lane_slice1 {φ : FTy} (x : FVec Ideal S1x2048 φ) (h : Fin 16) (k : Fin 128) :
    extractStridedSlice S1x128 ![0, 128 * h.val] x (sl1 h) (ix2 0 k) = x (ix2 0 (lane h k)) := by
  unfold lane
  pointwise

/-- A head's state after the chunk. -/
def headState (h : Fin 16) (st : Vec Ideal S1x1x128x128 .f32) (et : FVec Ideal S1x2048 .f32) (v ke : FVec Ideal S64x2048 .bf16) : FVec Ideal S1x1x128x128 .f32 :=
  shapeCast S1x1x128x128 (addf (mulf (shapeCast S128x128 st shapeCasts_S1x1x128x128_S128x128)
      (broadcastTo S128x128 (extractStridedSlice S1x128 ![0, 128 * h.val] et (sl1 h)) broadcasts_S1x128_S128x128))
    (matmul dot_S64x128_S64x128_S128x128_0_0_1_1_n_n none (extractStridedSlice S64x128 ![0, 128 * h.val] v (sl64 h))
      (extractStridedSlice S64x128 ![0, 128 * h.val] ke (sl64 h)) (constant S128x128 .f32 0x00000000#32))) shapeCasts_S128x128_S1x1x128x128

theorem headState_apply (h : Fin 16) (st : Vec Ideal S1x1x128x128 .f32) (et : FVec Ideal S1x2048 .f32) (v ke : FVec Ideal S64x2048 .bf16) (a k : Fin 128) :
    (headState h st et v ke (ix4 0 0 a k) : EReal)
      = st (ix4 0 0 a k) * et (ix2 0 (lane h k)) + ∑ s : Fin 64, (v (ix2 s (lane h a)) : EReal) * (ke (ix2 s (lane h k)) : EReal) := by
  simp only [← lane_slice1 et, ← lane_slice v, ← lane_slice ke]
  unfold headState
  pointwise

/-- A head's result, of the scaled queries, the queries and keys split at the whole decay, the values and the state. -/
def headOut (msk : IVec S64x64 1) (h : Fin 16) (st : Vec Ideal S1x1x128x128 .f32) (qe qh kh v : FVec Ideal S64x2048 .bf16) : FVec Ideal S1x1x64x128 .bf16 :=
  shapeCast S1x1x64x128 (truncf .bf16 (addf
    (matmul dot_S64x128_S128x128_S64x128_1_1_0_0_n_n none (extractStridedSlice S64x128 ![0, 128 * h.val] qe (sl64 h))
      (truncf .bf16 (shapeCast S128x128 st shapeCasts_S1x1x128x128_S128x128) bitsLt_bf16_f32) (constant S64x128 .f32 0x00000000#32))
    (matmul dot_S64x64_S64x128_S64x128_1_0_0_1_n_n none
      (truncf .bf16 (select msk (matmul dot_S64x128_S64x128_S64x64_1_1_0_0_n_n none (extractStridedSlice S64x128 ![0, 128 * h.val] qh (sl64 h))
        (extractStridedSlice S64x128 ![0, 128 * h.val] kh (sl64 h)) (constant S64x64 .f32 0x00000000#32)) (broadcast S64x64 (Scalar.ofBits .f32 0x00000000#32))) bitsLt_bf16_f32)
      (extractStridedSlice S64x128 ![0, 128 * h.val] v (sl64 h)) (constant S64x128 .f32 0x00000000#32))) bitsLt_bf16_f32) shapeCasts_S64x128_S1x1x64x128

theorem headOut_raw (msk : IVec S64x64 1) (h : Fin 16) (st : Vec Ideal S1x1x128x128 .f32) (qe qh kh v : FVec Ideal S64x2048 .bf16) (t : Fin 64) (a : Fin 128) :
    (headOut msk h st qe qh kh v (ix4 0 0 t a) : EReal)
      = (∑ k : Fin 128, (qe (ix2 t (lane h k)) : EReal) * (st (ix4 0 0 a k) : EReal))
        + ∑ s : Fin 64, (Scalar.select (msk (ix2 t s)) (∑ k : Fin 128, (qh (ix2 t (lane h k)) : EReal) * (kh (ix2 s (lane h k)) : EReal)) (0 : EReal)) * (v (ix2 s (lane h a)) : EReal) := by
  simp only [← lane_slice qe, ← lane_slice qh, ← lane_slice kh, ← lane_slice v]
  unfold headOut
  pointwise

/-! ## One head of one chunk, by the specification -/

theorem headState_spec (hg : Good lb) (S : States) (h : Fin 16) (st : Vec Ideal S1x1x128x128 .f32)
    (hst : ∀ a k, (st (ix4 0 0 a k) : EReal) = S h a k) (a k : Fin 128) :
    (headState h st (k0_pay253 (fwd i) lb (k0_pay5 i) z) (k0_pay254 v) (k0_pay252 (fwd i) lb (k0_pay5 i) z) (ix4 0 0 a k) : EReal)
      = next (dir i) (row lb) (chk z) (chk v) S h a k := by
  rw [headState_apply, hst, pay253_apply i lb z hg]
  unfold next stepS
  congr 1
  refine Finset.sum_congr rfl fun s _ => ?_
  rw [pay254_apply, pay252_apply i lb z hg]

theorem headOut_spec (hg : Good lb) (S : States) (h : Fin 16) (st : Vec Ideal S1x1x128x128 .f32)
    (hst : ∀ a k, (st (ix4 0 0 a k) : EReal) = S h a k) (t : Fin 64) (a : Fin 128) :
    (headOut (k0_pay4 i) h st (k0_pay289 (k0_pay249 lb (k0_pay5 i) z) q)
        (k0_pay291 (k0_pay249 lb (k0_pay5 i) z) (k0_pay250 (fwd i) lb (k0_pay5 i) z) q)
        (k0_pay292 (k0_pay250 (fwd i) lb (k0_pay5 i) z) (k0_pay251 (fwd i) lb (k0_pay5 i) z)) (k0_pay254 v) (ix4 0 0 t a) : EReal)
      = fastC (dir i) (row lb) (chk q) (chk z) (chk v) S t h a := by
  rw [headOut_raw]
  unfold fastC
  congr 1
  · refine Finset.sum_congr rfl fun k _ => ?_
    rw [hst, pay289_apply, pay249_apply i lb z hg]
  · refine Finset.sum_congr rfl fun s _ => ?_
    rw [pay254_apply, mask_apply]
    congr 1
    by_cases hb : bef (dir i) t s
    · rw [if_pos hb, if_pos hb]
      unfold scoreF
      have sel : ∀ x y : EReal, Scalar.select 1#1 x y = x := fun _ _ => rfl
      rw [sel]
      refine Finset.sum_congr rfl fun k _ => ?_
      rw [pay291_apply, pay292_apply, pay249_apply i lb z hg, pay250_apply i lb z hg, pay251_apply i lb z hg]
    · rw [if_neg hb, if_neg hb]; rfl

end Cert.Proof.Scan

end
-- ==== Proof.ScanPieces.lean ====
/- Hand-written: lists of writes into the recurrence's states and output, read against the specification. -/
module

public import proofs.«01_k».proof.Proof.ScanVec
public import Idealize.ShloMosaic.Lib.Writes

@[expose] public section

set_option maxRecDepth 65536

noncomputable section

namespace Cert.Proof.Scan

open Cert.ScanIdeal Cert.ScanIdeal.Gen Cert.Proof.ScanSpec
open Idealize.ShloMosaic Idealize.ShloMosaic.TcCoe

/-- The block's row of position `t` of chunk `c`, the chunks taken in the direction's order. -/
def rowOf (d : Fin 2) (c : ℕ) (t : Fin 64) : Fin 256 := ⟨(64 * (if d = 0 then c else 3 - c) + t.val) % 256, Nat.mod_lt _ (by omega)⟩

/-- The chunks of a block. -/
def blkC (d : Fin 2) (X : Vec Ideal S1x256x2048 .bf16) : ℕ → Chunk := fun c t l => X (ix3 0 (rowOf d c t) l)

/-- The chunk's offset as the kernel computes it. -/
theorem off_val (d : Fin 2) (r : Fin 4) : (Scalar.muli (Scalar.select (Scalar.cmpi .eq (BitVec.ofNat 32 d.val) 0#32) (BitVec.ofNat 32 r.val) (BitVec.ofNat 32 (3 - r.val))) 64#32 : BitVec 32).toNat
    = 64 * (if d = 0 then r.val else 3 - r.val) := by revert d r; decide +kernel

theorem rowOf_val (d : Fin 2) (r : Fin 4) (t : Fin 64) : (rowOf d r.val t).val = 64 * (if d = 0 then r.val else 3 - r.val) + t.val := by
  unfold rowOf
  refine Nat.mod_eq_of_lt ?_
  split_ifs <;> omega

theorem chk_off2 (i : grid0.Coords) (r : Fin 4) (A : Memref sig .tc .vmem S1x256x2048 .bf16) (f : A.view.ty.Contents (Elt Ideal))
    (hb : ∀ a, k0_off2 i (BitVec.ofNat 32 r.val) (BitVec.ofNat 32 (3 - r.val)) a + S1x64x2048.size a ≤ S1x256x2048.size a) :
    chk (View.readAt (Elt Ideal) A.view (Rect.unit (s := S1x256x2048) (k0_off2 i (BitVec.ofNat 32 r.val) (BitVec.ofNat 32 (3 - r.val))) S1x64x2048.size hb).toLoadRect f)
      = blkC (dir i) (A.view.read (Elt Ideal) f) r.val := by
  funext t l
  unfold chk blkC
  rw [View.readAt_apply]
  congr 1
  funext a
  apply Fin.ext
  fin_cases a
  · rfl
  · show _ = (rowOf (dir i) r.val t).val
    rw [rowOf_val, ← off_val]
    show _ + 1 * t.val = _ + t.val
    rw [Nat.one_mul]; rfl
  · show 0 + 1 * l.val = l.val
    omega

theorem chk_off1 (i : grid0.Coords) (r : Fin 4) (A : Memref sig .tc .vmem S1x256x2048 .bf16) (f : A.view.ty.Contents (Elt Ideal))
    (hb : ∀ a, k0_off1 i (BitVec.ofNat 32 r.val) (BitVec.ofNat 32 (3 - r.val)) a + S1x64x2048.size a ≤ S1x256x2048.size a) :
    chk (View.readAt (Elt Ideal) A.view (Rect.unit (s := S1x256x2048) (k0_off1 i (BitVec.ofNat 32 r.val) (BitVec.ofNat 32 (3 - r.val))) S1x64x2048.size hb).toLoadRect f)
      = blkC (dir i) (A.view.read (Elt Ideal) f) r.val := by
  funext t l
  unfold chk blkC
  rw [View.readAt_apply]
  congr 1
  funext a
  apply Fin.ext
  fin_cases a
  · rfl
  · show _ = (rowOf (dir i) r.val t).val
    rw [rowOf_val, ← off_val]
    show _ + 1 * t.val = _ + t.val
    rw [Nat.one_mul]; rfl
  · show 0 + 1 * l.val = l.val
    omega

section States

variable (G : ℕ → States)

/-- The scratch array of states: one layer per number of chunks done. -/
def stArr (y : S5x16x128x128.Idx) : EReal := G (y 0).val (y 1) (y 2) (y 3)

/-- The writes agree with the states, and the layers are written up to state number `n` past the first. -/
def Ok (L : List (View.Piece (Elt Ideal) S5x16x128x128 .f32)) (n : ℕ) : Prop :=
  (∀ p ∈ L, ∀ x : p.1.shape.Idx, (p.2 x : EReal) = stArr G (p.1.emb x)) ∧
    ∀ y : S5x16x128x128.Idx, 16 * (y 0).val + (y 1).val < 16 + n → ∃ p ∈ L, y ∈ p.1.set

theorem Ok.first (inb : ∀ a, (![0, 0, 0, 0] : Fin 4 → ℕ) a + S1x16x128x128.size a ≤ S5x16x128x128.size a) (w : Vec Ideal S1x16x128x128 .f32) (hw : ∀ h a k, (w (ix4 0 h a k) : EReal) = G 0 h a k) :
    Ok G [⟨Rect.unit (s := S5x16x128x128) ![0, 0, 0, 0] S1x16x128x128.size inb, w⟩] 0 := by
  constructor
  · intro p hp x
    rw [List.mem_singleton] at hp
    subst hp
    have hx : x = (ix4 (0 : Fin 1) (x 1 : Fin 16) (x 2 : Fin 128) (x 3 : Fin 128) : S1x16x128x128.Idx) := by
      funext a; fin_cases a
      · exact Subsingleton.elim (α := Fin 1) _ _
      all_goals rfl
    have h1 : (w x : EReal) = G 0 (x 1) (x 2) (x 3) := by
      rw [hx]; exact hw _ _ _
    refine h1.trans ?_
    have : (Rect.unit (s := S5x16x128x128) ![0, 0, 0, 0] S1x16x128x128.size inb).emb x = (ix4 (0 : Fin 5) (x 1 : Fin 16) (x 2 : Fin 128) (x 3 : Fin 128) : S5x16x128x128.Idx) := by
      refine Rect.emb_eq_of_coords _ _ _ fun a => ?_
      fin_cases a
      · show 0 = 0 + 1 * (x 0).val
        have : (x 0).val < 1 := (x 0).isLt
        omega
      · show (x 1).val = 0 + 1 * (x 1).val
        omega
      · show (x 2).val = 0 + 1 * (x 2).val
        omega
      · show (x 3).val = 0 + 1 * (x 3).val
        omega
    rw [this]; rfl
  · intro y hy
    refine ⟨_, List.mem_singleton_self _, ?_⟩
    rw [Rect.mem_set_unit]
    intro a
    have h1 : (y 1).val < 16 := (y 1).isLt
    have h2 : (y 2).val < 128 := (y 2).isLt
    have h3 : (y 3).val < 128 := (y 3).isLt
    fin_cases a
    · show 0 ≤ (y 0).val ∧ (y 0).val < 0 + 1
      omega
    · show 0 ≤ (y 1).val ∧ (y 1).val < 0 + 16
      omega
    · show 0 ≤ (y 2).val ∧ (y 2).val < 0 + 128
      omega
    · show 0 ≤ (y 3).val ∧ (y 3).val < 0 + 128
      omega

theorem Ok.cons {L : List (View.Piece (Elt Ideal) S5x16x128x128 .f32)} (c : Fin 4) (h : Fin 16) (inb : ∀ a, (![c.val + 1, h.val, 0, 0] : Fin 4 → ℕ) a + S1x1x128x128.size a ≤ S5x16x128x128.size a) (w : Vec Ideal S1x1x128x128 .f32)
    (hw : ∀ a k, (w (ix4 0 0 a k) : EReal) = G (c.val + 1) h a k) (hL : Ok G L (16 * c.val + h.val)) :
    Ok G (⟨Rect.unit (s := S5x16x128x128) ![c.val + 1, h.val, 0, 0] S1x1x128x128.size inb, w⟩ :: L) (16 * c.val + h.val + 1) := by
  constructor
  · intro p hp x
    rcases List.mem_cons.mp hp with hp | hp
    · subst hp
      have hx : x = (ix4 (0 : Fin 1) (0 : Fin 1) (x 2 : Fin 128) (x 3 : Fin 128) : S1x1x128x128.Idx) := by
        funext a; fin_cases a
        · exact Subsingleton.elim (α := Fin 1) _ _
        · exact Subsingleton.elim (α := Fin 1) _ _
        all_goals rfl
      have h1 : (w x : EReal) = G (c.val + 1) h (x 2) (x 3) := by
        rw [hx]; exact hw _ _
      refine h1.trans ?_
      have : (Rect.unit (s := S5x16x128x128) ![c.val + 1, h.val, 0, 0] S1x1x128x128.size inb).emb x
          = (ix4 (⟨c.val + 1, Nat.succ_lt_succ c.isLt⟩ : Fin 5) h (x 2 : Fin 128) (x 3 : Fin 128) : S5x16x128x128.Idx) := by
        refine Rect.emb_eq_of_coords _ _ _ fun a => ?_
        fin_cases a
        · show c.val + 1 = c.val + 1 + 1 * (x 0).val
          have : (x 0).val < 1 := (x 0).isLt
          omega
        · show h.val = h.val + 1 * (x 1).val
          have : (x 1).val < 1 := (x 1).isLt
          omega
        · show (x 2).val = 0 + 1 * (x 2).val
          omega
        · show (x 3).val = 0 + 1 * (x 3).val
          omega
      rw [this]; rfl
    · exact hL.1 p hp x
  · intro y hy
    have h1 : (y 1).val < 16 := (y 1).isLt
    have h2 : (y 2).val < 128 := (y 2).isLt
    have h3 : (y 3).val < 128 := (y 3).isLt
    have hh := h.isLt
    by_cases hn : 16 * (y 0).val + (y 1).val < 16 + (16 * c.val + h.val)
    · obtain ⟨p, hp, hy⟩ := hL.2 y hn
      exact ⟨p, List.mem_cons_of_mem _ hp, hy⟩
    · refine ⟨_, List.mem_cons_self, ?_⟩
      rw [Rect.mem_set_unit]
      intro a
      fin_cases a
      · show c.val + 1 ≤ (y 0).val ∧ (y 0).val < c.val + 1 + 1
        omega
      · show h.val ≤ (y 1).val ∧ (y 1).val < h.val + 1
        omega
      · show 0 ≤ (y 2).val ∧ (y 2).val < 0 + 128
        omega
      · show 0 ≤ (y 3).val ∧ (y 3).val < 0 + 128
        omega

theorem Ok.read {L : List (View.Piece (Elt Ideal) S5x16x128x128 .f32)} {n : ℕ} (hL : Ok G L n)
    (A : Memref sig .tc .vmem S5x16x128x128 .f32) (f : A.view.ty.Contents (Elt Ideal)) (c : Fin 5) (h : Fin 16) (a k : Fin 128)
    (hn : 16 * c.val + h.val < 16 + n) :
    (A.view.read (Elt Ideal) (A.view.writes (Elt Ideal) f L) (ix4 c h a k) : EReal) = G c.val h a k :=
  View.read_writes_apply_of_pieces A.view f (stArr G) L hL.1 (ix4 c h a k) (hL.2 _ hn)

theorem Ok.load {L : List (View.Piece (Elt Ideal) S5x16x128x128 .f32)} {n : ℕ} (hL : Ok G L n)
    (A : Memref sig .tc .vmem S5x16x128x128 .f32) (c : Fin 5) (h : Fin 16) (inb : ∀ a, (![c.val, h.val, 0, 0] : Fin 4 → ℕ) a + S1x1x128x128.size a ≤ S5x16x128x128.size a) (hn : 16 * c.val + h.val < 16 + n) (a k : Fin 128) :
    (A.view.readCov L (Rect.unit (s := S5x16x128x128) ![c.val, h.val, 0, 0] S1x1x128x128.size inb).toLoadRect (ix4 0 0 a k) : EReal) = G c.val h a k := by
  refine Eq.trans ?_ (Ok.read G hL A A.view.junk c h a k hn)
  unfold View.readCov
  rw [View.readAt_apply]
  congr 1
  funext b
  apply Fin.ext
  fin_cases b
  · rfl
  · rfl
  · show 0 + 1 * a.val = a.val
    omega
  · show 0 + 1 * k.val = k.val
    omega

end States

section Out

variable (d : Fin 2) (G : Fin 4 → Fin 64 → Fin 16 → Fin 128 → EReal)

/-- The chunk of a row of the block. -/
def chunkOf (r : Fin 256) : Fin 4 := ⟨if d = 0 then r.val / 64 else 3 - r.val / 64, by have := r.isLt; split_ifs <;> omega⟩

/-- The output block. -/
def outArr (y : S1x1x256x2048.Idx) : EReal :=
  G (chunkOf d (y 2)) ⟨(y 2).val % 64, Nat.mod_lt _ (by omega)⟩ ⟨(y 3).val / 128, by have : (y 3).val < 2048 := (y 3).isLt; omega⟩
    ⟨(y 3).val % 128, Nat.mod_lt _ (by omega)⟩

/-- The writes agree with the results, and the first `n` of them (16 a chunk) are there. -/
def OkO (L : List (View.Piece (Elt Ideal) S1x1x256x2048 .bf16)) (n : ℕ) : Prop :=
  (∀ p ∈ L, ∀ x : p.1.shape.Idx, (p.2 x : EReal) = outArr d G (p.1.emb x)) ∧
    ∀ y : S1x1x256x2048.Idx, 16 * (chunkOf d (y 2)).val + (y 3).val / 128 < n → ∃ p ∈ L, y ∈ p.1.set

theorem OkO.nil : OkO d G [] 0 := ⟨fun p hp => absurd hp List.not_mem_nil, fun y hy => absurd hy (by omega)⟩

theorem outPiece (c : Fin 4) (h : Fin 16) (off : Fin 4 → ℕ) (inb : ∀ a, off a + S1x1x64x128.size a ≤ S1x1x256x2048.size a) (w : Vec Ideal S1x1x64x128 .bf16)
    (ho : off = ![0, 0, 64 * (if d = 0 then c.val else 3 - c.val), 128 * h.val])
    (hw : ∀ t a, (w (ix4 0 0 t a) : EReal) = G c t h a) (x : S1x1x64x128.Idx) :
    (w x : EReal) = outArr d G ((Rect.unit (s := S1x1x256x2048) off S1x1x64x128.size inb).emb x) := by
  subst ho
  have hh := h.isLt
  have hc := c.isLt
  have hx : x = (ix4 (0 : Fin 1) (0 : Fin 1) (x 2 : Fin 64) (x 3 : Fin 128) : S1x1x64x128.Idx) := by
    funext a; fin_cases a
    · exact Subsingleton.elim (α := Fin 1) _ _
    · exact Subsingleton.elim (α := Fin 1) _ _
    all_goals rfl
  have h1 : (w x : EReal) = G c (x 2) h (x 3) := by
    rw [hx]; exact hw _ _
  refine h1.trans ?_
  have h2 : (x 2).val < 64 := (x 2).isLt
  have h3 : (x 3).val < 128 := (x 3).isLt
  unfold outArr
  have e2 : ((Rect.unit (s := S1x1x256x2048) ![0, 0, 64 * (if d = 0 then c.val else 3 - c.val), 128 * h.val] S1x1x64x128.size inb).emb x 2).val
      = 64 * (if d = 0 then c.val else 3 - c.val) + (x 2).val := by
    show 64 * (if d = 0 then c.val else 3 - c.val) + 1 * (x 2).val = _
    omega
  have e3 : ((Rect.unit (s := S1x1x256x2048) ![0, 0, 64 * (if d = 0 then c.val else 3 - c.val), 128 * h.val] S1x1x64x128.size inb).emb x 3).val
      = 128 * h.val + (x 3).val := by
    show 128 * h.val + 1 * (x 3).val = _
    omega
  congr 1
  · apply Fin.ext
    show c.val = if d = 0 then _ / 64 else 3 - _ / 64
    rw [e2]
    split_ifs <;> omega
  · apply Fin.ext
    show (x 2).val = _ % 64
    rw [e2]; omega
  · apply Fin.ext
    show h.val = _ / 128
    rw [e3]; omega
  · apply Fin.ext
    show (x 3).val = _ % 128
    rw [e3]; omega

theorem OkO.cons {L : List (View.Piece (Elt Ideal) S1x1x256x2048 .bf16)} (c : Fin 4) (h : Fin 16) (off : Fin 4 → ℕ) (inb : ∀ a, off a + S1x1x64x128.size a ≤ S1x1x256x2048.size a) (w : Vec Ideal S1x1x64x128 .bf16)
    (ho : off = ![0, 0, 64 * (if d = 0 then c.val else 3 - c.val), 128 * h.val])
    (hw : ∀ t a, (w (ix4 0 0 t a) : EReal) = G c t h a) (hL : OkO d G L (16 * c.val + h.val)) :
    OkO d G (⟨Rect.unit (s := S1x1x256x2048) off S1x1x64x128.size inb, w⟩ :: L) (16 * c.val + h.val + 1) := by
  subst ho
  have hh := h.isLt
  have hc := c.isLt
  constructor
  · intro p hp x
    rcases List.mem_cons.mp hp with hp | hp
    · subst hp
      exact outPiece d G c h _ inb w rfl hw x
    · exact hL.1 p hp x
  · intro y hy
    by_cases hn : 16 * (chunkOf d (y 2)).val + (y 3).val / 128 < 16 * c.val + h.val
    · obtain ⟨p, hp, hy⟩ := hL.2 y hn
      exact ⟨p, List.mem_cons_of_mem _ hp, hy⟩
    · refine ⟨_, List.mem_cons_self, ?_⟩
      rw [Rect.mem_set_unit]
      have h0 : (y 0).val < 1 := (y 0).isLt
      have h1 : (y 1).val < 1 := (y 1).isLt
      have h2 : (y 2).val < 256 := (y 2).isLt
      have h3 : (y 3).val < 2048 := (y 3).isLt
      have hcv : (chunkOf d (y 2)).val = if d = 0 then (y 2).val / 64 else 3 - (y 2).val / 64 := rfl
      rw [hcv] at hy hn
      intro a
      fin_cases a
      · show 0 ≤ (y 0).val ∧ (y 0).val < 0 + 1
        omega
      · show 0 ≤ (y 1).val ∧ (y 1).val < 0 + 1
        omega
      · show 64 * (if d = 0 then c.val else 3 - c.val) ≤ (y 2).val ∧ (y 2).val < 64 * (if d = 0 then c.val else 3 - c.val) + 64
        split_ifs at hy hn ⊢ <;> omega
      · show 128 * h.val ≤ (y 3).val ∧ (y 3).val < 128 * h.val + 128
        split_ifs at hy hn <;> omega

theorem OkO.read {L : List (View.Piece (Elt Ideal) S1x1x256x2048 .bf16)} (hL : OkO d G L 64)
    (A : Memref sig .tc .vmem S1x1x256x2048 .bf16) (f : A.view.ty.Contents (Elt Ideal)) (y : S1x1x256x2048.Idx) :
    (A.view.read (Elt Ideal) (A.view.writes (Elt Ideal) f L) y : EReal) = outArr d G y :=
  View.read_writes_apply_of_pieces A.view f (outArr d G) L hL.1 y (hL.2 _ (by
    have h3 : (y 3).val < 2048 := (y 3).isLt
    have := (chunkOf d (y 2)).isLt
    omega))

end Out

section Chunk

variable (i : grid0.Coords) (lb : Vec Ideal S1x2048 .f32) (Q Z V : Vec Ideal S1x256x2048 .bf16) (S : States)

/-- The states before chunk `n` of the block. -/
def stG (n : ℕ) : States := states (dir i) (row lb) (blkC (dir i) Z) (blkC (dir i) V) S n

/-- The results of chunk `c` of the block. -/
def outG (c : Fin 4) (t : Fin 64) (h : Fin 16) (a : Fin 128) : EReal :=
  outC (dir i) (row lb) (blkC (dir i) Q c.val) (blkC (dir i) Z c.val) (blkC (dir i) V c.val) (stG i lb Z V S c.val) t h a

/-- The same with the decay split. -/
def fastG (c : Fin 4) (t : Fin 64) (h : Fin 16) (a : Fin 128) : EReal :=
  fastC (dir i) (row lb) (blkC (dir i) Q c.val) (blkC (dir i) Z c.val) (blkC (dir i) V c.val) (stG i lb Z V S c.val) t h a

variable {lb Q Z V}

theorem piece_state (hg : Good lb) (c : Fin 4) (h : Fin 16) (z v : Vec Ideal S1x64x2048 .bf16) (hz : chk z = blkC (dir i) Z c.val)
    (hv : chk v = blkC (dir i) V c.val) (st : Vec Ideal S1x1x128x128 .f32) (hst : ∀ a k, (st (ix4 0 0 a k) : EReal) = stG i lb Z V S c.val h a k)
    (a k : Fin 128) :
    (headState h st (k0_pay253 (fwd i) lb (k0_pay5 i) z) (k0_pay254 v) (k0_pay252 (fwd i) lb (k0_pay5 i) z) (ix4 0 0 a k) : EReal)
      = stG i lb Z V S (c.val + 1) h a k := by
  rw [headState_spec i lb z v hg (stG i lb Z V S c.val) h st hst, hz, hv]
  rfl

theorem piece_out (hg : Good lb) (c : Fin 4) (h : Fin 16) (z q v : Vec Ideal S1x64x2048 .bf16)
    (hz : chk z = blkC (dir i) Z c.val) (hq : chk q = blkC (dir i) Q c.val)
    (hv : chk v = blkC (dir i) V c.val) (st : Vec Ideal S1x1x128x128 .f32) (hst : ∀ a k, (st (ix4 0 0 a k) : EReal) = stG i lb Z V S c.val h a k)
    (t : Fin 64) (a : Fin 128) :
    (headOut (k0_pay4 i) h st (k0_pay289 (k0_pay249 lb (k0_pay5 i) z) q)
        (k0_pay291 (k0_pay249 lb (k0_pay5 i) z) (k0_pay250 (fwd i) lb (k0_pay5 i) z) q)
        (k0_pay292 (k0_pay250 (fwd i) lb (k0_pay5 i) z) (k0_pay251 (fwd i) lb (k0_pay5 i) z)) (k0_pay254 v) (ix4 0 0 t a) : EReal)
      = fastG i lb Q Z V S c t h a := by
  rw [headOut_spec i lb z q v hg (stG i lb Z V S c.val) h st hst, hz, hv, hq]
  rfl

end Chunk

theorem off3_eq (i : grid0.Coords) (r : Fin 4) : k0_off3 i (BitVec.ofNat 32 r.val) (BitVec.ofNat 32 (3 - r.val))
    = ![0, 0, 64 * (if dir i = 0 then r.val else 3 - r.val), 128 * (0 : Fin 16).val] := by
  funext a; fin_cases a
  · rfl
  · rfl
  · exact off_val (dir i) r
  · rfl

theorem off4_eq (i : grid0.Coords) (r : Fin 4) : k0_off4 i (BitVec.ofNat 32 r.val) (BitVec.ofNat 32 (3 - r.val))
    = ![0, 0, 64 * (if dir i = 0 then r.val else 3 - r.val), 128 * (1 : Fin 16).val] := by
  funext a; fin_cases a
  · rfl
  · rfl
  · exact off_val (dir i) r
  · rfl

theorem off5_eq (i : grid0.Coords) (r : Fin 4) : k0_off5 i (BitVec.ofNat 32 r.val) (BitVec.ofNat 32 (3 - r.val))
    = ![0, 0, 64 * (if dir i = 0 then r.val else 3 - r.val), 128 * (2 : Fin 16).val] := by
  funext a; fin_cases a
  · rfl
  · rfl
  · exact off_val (dir i) r
  · rfl

theorem off6_eq (i : grid0.Coords) (r : Fin 4) : k0_off6 i (BitVec.ofNat 32 r.val) (BitVec.ofNat 32 (3 - r.val))
    = ![0, 0, 64 * (if dir i = 0 then r.val else 3 - r.val), 128 * (3 : Fin 16).val] := by
  funext a; fin_cases a
  · rfl
  · rfl
  · exact off_val (dir i) r
  · rfl

theorem off7_eq (i : grid0.Coords) (r : Fin 4) : k0_off7 i (BitVec.ofNat 32 r.val) (BitVec.ofNat 32 (3 - r.val))
    = ![0, 0, 64 * (if dir i = 0 then r.val else 3 - r.val), 128 * (4 : Fin 16).val] := by
  funext a; fin_cases a
  · rfl
  · rfl
  · exact off_val (dir i) r
  · rfl

theorem off8_eq (i : grid0.Coords) (r : Fin 4) : k0_off8 i (BitVec.ofNat 32 r.val) (BitVec.ofNat 32 (3 - r.val))
    = ![0, 0, 64 * (if dir i = 0 then r.val else 3 - r.val), 128 * (5 : Fin 16).val] := by
  funext a; fin_cases a
  · rfl
  · rfl
  · exact off_val (dir i) r
  · rfl

theorem off9_eq (i : grid0.Coords) (r : Fin 4) : k0_off9 i (BitVec.ofNat 32 r.val) (BitVec.ofNat 32 (3 - r.val))
    = ![0, 0, 64 * (if dir i = 0 then r.val else 3 - r.val), 128 * (6 : Fin 16).val] := by
  funext a; fin_cases a
  · rfl
  · rfl
  · exact off_val (dir i) r
  · rfl

theorem off10_eq (i : grid0.Coords) (r : Fin 4) : k0_off10 i (BitVec.ofNat 32 r.val) (BitVec.ofNat 32 (3 - r.val))
    = ![0, 0, 64 * (if dir i = 0 then r.val else 3 - r.val), 128 * (7 : Fin 16).val] := by
  funext a; fin_cases a
  · rfl
  · rfl
  · exact off_val (dir i) r
  · rfl

theorem off11_eq (i : grid0.Coords) (r : Fin 4) : k0_off11 i (BitVec.ofNat 32 r.val) (BitVec.ofNat 32 (3 - r.val))
    = ![0, 0, 64 * (if dir i = 0 then r.val else 3 - r.val), 128 * (8 : Fin 16).val] := by
  funext a; fin_cases a
  · rfl
  · rfl
  · exact off_val (dir i) r
  · rfl

theorem off12_eq (i : grid0.Coords) (r : Fin 4) : k0_off12 i (BitVec.ofNat 32 r.val) (BitVec.ofNat 32 (3 - r.val))
    = ![0, 0, 64 * (if dir i = 0 then r.val else 3 - r.val), 128 * (9 : Fin 16).val] := by
  funext a; fin_cases a
  · rfl
  · rfl
  · exact off_val (dir i) r
  · rfl

theorem off13_eq (i : grid0.Coords) (r : Fin 4) : k0_off13 i (BitVec.ofNat 32 r.val) (BitVec.ofNat 32 (3 - r.val))
    = ![0, 0, 64 * (if dir i = 0 then r.val else 3 - r.val), 128 * (10 : Fin 16).val] := by
  funext a; fin_cases a
  · rfl
  · rfl
  · exact off_val (dir i) r
  · rfl

theorem off14_eq (i : grid0.Coords) (r : Fin 4) : k0_off14 i (BitVec.ofNat 32 r.val) (BitVec.ofNat 32 (3 - r.val))
    = ![0, 0, 64 * (if dir i = 0 then r.val else 3 - r.val), 128 * (11 : Fin 16).val] := by
  funext a; fin_cases a
  · rfl
  · rfl
  · exact off_val (dir i) r
  · rfl

theorem off15_eq (i : grid0.Coords) (r : Fin 4) : k0_off15 i (BitVec.ofNat 32 r.val) (BitVec.ofNat 32 (3 - r.val))
    = ![0, 0, 64 * (if dir i = 0 then r.val else 3 - r.val), 128 * (12 : Fin 16).val] := by
  funext a; fin_cases a
  · rfl
  · rfl
  · exact off_val (dir i) r
  · rfl

theorem off16_eq (i : grid0.Coords) (r : Fin 4) : k0_off16 i (BitVec.ofNat 32 r.val) (BitVec.ofNat 32 (3 - r.val))
    = ![0, 0, 64 * (if dir i = 0 then r.val else 3 - r.val), 128 * (13 : Fin 16).val] := by
  funext a; fin_cases a
  · rfl
  · rfl
  · exact off_val (dir i) r
  · rfl

theorem off17_eq (i : grid0.Coords) (r : Fin 4) : k0_off17 i (BitVec.ofNat 32 r.val) (BitVec.ofNat 32 (3 - r.val))
    = ![0, 0, 64 * (if dir i = 0 then r.val else 3 - r.val), 128 * (14 : Fin 16).val] := by
  funext a; fin_cases a
  · rfl
  · rfl
  · exact off_val (dir i) r
  · rfl

theorem off18_eq (i : grid0.Coords) (r : Fin 4) : k0_off18 i (BitVec.ofNat 32 r.val) (BitVec.ofNat 32 (3 - r.val))
    = ![0, 0, 64 * (if dir i = 0 then r.val else 3 - r.val), 128 * (15 : Fin 16).val] := by
  funext a; fin_cases a
  · rfl
  · rfl
  · exact off_val (dir i) r
  · rfl

end Cert.Proof.Scan
-- ==== Proof.ScanSeq.lean ====
/- Hand-written: the chunks of the two sequences in each direction's order, and the recurrence's result. -/
module

public import proofs.«01_k».proof.Proof.ScanSpec

@[expose] public section

noncomputable section

namespace Cert.Proof.ScanSpec

open Idealize.ShloMosaic

/-- Lane `l` of section `o` of a projection's row. -/
def col (o : Fin 5) (l : Fin 2048) : Fin 10240 := ⟨2048 * o.val + l.val, by omega⟩

/-- The section the forget inputs of a direction are in. -/
def zsec (d : Fin 2) : Fin 5 := ⟨2 + d.val, by omega⟩

/-- Chunk `n` of a section: the first four are the context's, the others the latents', in the direction's order. -/
def seqC (pc : Fin 8 → Fin 256 → Fin 10240 → EReal) (pl : Fin 8 → Fin 2048 → Fin 10240 → EReal) (d : Fin 2) (b : Fin 8) (o : Fin 5) (n : ℕ) : Chunk :=
  fun t l => if n < 4 then pc b ⟨(64 * (if d = 0 then n else 3 - n) + t.val) % 256, Nat.mod_lt _ (by omega)⟩ (col o l)
    else pl b ⟨(64 * (if d = 0 then n - 4 else 35 - n) + t.val) % 2048, Nat.mod_lt _ (by omega)⟩ (col o l)

/-- The states of one direction and batch row before chunk `n`. -/
def scanSt (lb : Fin 2 → Fin 2048 → EReal) (pc : Fin 8 → Fin 256 → Fin 10240 → EReal) (pl : Fin 8 → Fin 2048 → Fin 10240 → EReal) (d : Fin 2) (b : Fin 8) (n : ℕ) : States :=
  states d (lb d) (seqC pc pl d b (zsec d)) (seqC pc pl d b 1) (fun _ _ _ => 0) n

/-- The result at position `t` of chunk `n`. -/
def scanOut (lb : Fin 2 → Fin 2048 → EReal) (pc : Fin 8 → Fin 256 → Fin 10240 → EReal) (pl : Fin 8 → Fin 2048 → Fin 10240 → EReal) (d : Fin 2) (b : Fin 8) (n : ℕ)
    (t : Fin 64) (h : Fin 16) (a : Fin 128) : EReal :=
  outC d (lb d) (seqC pc pl d b 0 n) (seqC pc pl d b (zsec d) n) (seqC pc pl d b 1 n) (scanSt lb pc pl d b n) t h a

/-- The result at a row of the latents. -/
def scanAt (lb : Fin 2 → Fin 2048 → EReal) (pc : Fin 8 → Fin 256 → Fin 10240 → EReal) (pl : Fin 8 → Fin 2048 → Fin 10240 → EReal) (d : Fin 2) (b : Fin 8)
    (r : Fin 2048) (l : Fin 2048) : EReal :=
  scanOut lb pc pl d b (if d = 0 then 4 + r.val / 64 else 35 - r.val / 64) ⟨r.val % 64, Nat.mod_lt _ (by omega)⟩ ⟨l.val / 128, by omega⟩ ⟨l.val % 128, Nat.mod_lt _ (by omega)⟩

end Cert.Proof.ScanSpec
-- ==== Proof.ScanBlocks.lean ====
/- Hand-written: the blocks the recurrence's kernel is given at each point, and where its results go. -/
module

public import proofs.«01_k».proof.Proof.ScanFrame
public import proofs.«01_k».proof.Proof.ScanPieces
public import proofs.«01_k».proof.Proof.ScanSeq

@[expose] public section

set_option maxRecDepth 65536

noncomputable section

namespace Cert.Proof.Scan

open Cert.ScanIdeal Cert.ScanIdeal.Gen Cert.Proof.ScanSpec
open Idealize.ShloMosaic Idealize.ShloMosaic.TcCoe Idealize.ShloMosaic.Tactic
open Idealize.SL Idealize.SL.RA Idealize.SL.BI

variable (m : (ℓ : Loc nD τ sig) → Buf (Elt Ideal) ℓ)

/-- The direction, the batch row and the latents' block of a point. -/
def dOf (n : ℕ) : Fin 2 := ⟨n / 9 % 2, Nat.mod_lt _ (by omega)⟩
def bOf (n : ℕ) : Fin 8 := ⟨n / 18 % 8, Nat.mod_lt _ (by omega)⟩
def lOf (n : ℕ) : Fin 8 := ⟨if dOf n = 0 then n % 9 - 1 else 7 - (n % 9 - 1), by split_ifs <;> omega⟩

theorem where0 : ∀ t : Fin cfg0.N, win0_0.index t (0 : Fin 3) = (bOf t.val).val ∧ win0_0.index t (1 : Fin 3) = 0 ∧ win0_0.index t (2 : Fin 3) = 0 :=
  (by decide +kernel : ∀ t : Fin grid0.N, _)
theorem where1 : ∀ t : Fin cfg0.N, win0_1.index t (0 : Fin 3) = (bOf t.val).val ∧ win0_1.index t (1 : Fin 3) = 0 ∧ win0_1.index t (2 : Fin 3) = 1 :=
  (by decide +kernel : ∀ t : Fin grid0.N, _)
theorem where2 : ∀ t : Fin cfg0.N, win0_2.index t (0 : Fin 3) = (bOf t.val).val ∧ win0_2.index t (1 : Fin 3) = 0 ∧ win0_2.index t (2 : Fin 3) = (zsec (dOf t.val)).val :=
  (by decide +kernel : ∀ t : Fin grid0.N, _)
theorem where3 : ∀ t : Fin cfg0.N, win0_3.index t (0 : Fin 3) = (bOf t.val).val ∧ win0_3.index t (1 : Fin 3) = (lOf t.val).val ∧ win0_3.index t (2 : Fin 3) = 0 :=
  (by decide +kernel : ∀ t : Fin grid0.N, _)
theorem where4 : ∀ t : Fin cfg0.N, win0_4.index t (0 : Fin 3) = (bOf t.val).val ∧ win0_4.index t (1 : Fin 3) = (lOf t.val).val ∧ win0_4.index t (2 : Fin 3) = 1 :=
  (by decide +kernel : ∀ t : Fin grid0.N, _)
theorem where5 : ∀ t : Fin cfg0.N, win0_5.index t (0 : Fin 3) = (bOf t.val).val ∧ win0_5.index t (1 : Fin 3) = (lOf t.val).val ∧ win0_5.index t (2 : Fin 3) = (zsec (dOf t.val)).val :=
  (by decide +kernel : ∀ t : Fin grid0.N, _)
theorem where6 : ∀ t : Fin cfg0.N, win0_6.index t (0 : Fin 3) = (dOf t.val).val ∧ win0_6.index t (1 : Fin 3) = 0 ∧ win0_6.index t (2 : Fin 3) = 0 :=
  (by decide +kernel : ∀ t : Fin grid0.N, _)
theorem where7 : ∀ t : Fin cfg0.N, win0_7.index t (0 : Fin 4) = (dOf t.val).val ∧ win0_7.index t (1 : Fin 4) = (bOf t.val).val ∧ win0_7.index t (2 : Fin 4) = (lOf t.val).val ∧ win0_7.index t (3 : Fin 4) = 0 :=
  (by decide +kernel : ∀ t : Fin grid0.N, _)
/-- The output is written at every point but the context's. -/
theorem flush_iff : ∀ t : Fin cfg0.N, (cfg0.win 7).flush t = true ↔ t.val % 9 ≠ 0 :=
  (by decide +kernel : ∀ t : Fin grid0.N, (win0_7.flush t = true ↔ t.val % 9 ≠ 0))

theorem dir_eq (t : Fin cfg0.N) : dir (grid0.coords t) = dOf t.val :=
  (by decide +kernel : ∀ t : Fin grid0.N, dir (grid0.coords t) = dOf t.val) t

/-- The two projections and the lower bounds, entry by entry. -/
def pcA (c : Dev nD) : Fin 8 → Fin 256 → Fin 10240 → EReal := fun b r l => V m c main_arg0 (ix3 b r l)
def plA (c : Dev nD) : Fin 8 → Fin 2048 → Fin 10240 → EReal := fun b r l => V m c main_arg1 (ix3 b r l)
def lbA (c : Dev nD) : Fin 2 → Fin 2048 → EReal := fun d l => V m c main_v14 (ix3 d 0 l)

theorem blk_0 (c : Dev nD) (t : Fin cfg0.N) (r : Fin 256) (l : Fin 2048) :
    ((iblk m c 0 t : Vec Ideal S1x256x2048 .bf16) (ix3 0 r l) : EReal) = pcA m c (bOf t.val) r (col 0 l) := by
  have e := where0 t
  unfold iblk pcA
  rw [View.read_apply]
  show V m c main_arg0 _ = V m c main_arg0 _
  congr 1
  funext a
  apply Fin.ext
  match a with
  | ⟨0, _⟩ => show win0_0.index t 0 * 1 + 1 * 0 = (bOf t.val).val; rw [e.1]; omega
  | ⟨1, _⟩ => show win0_0.index t 1 * 256 + 1 * r.val = r.val; rw [e.2.1]; omega
  | ⟨2, _⟩ => show win0_0.index t 2 * 2048 + 1 * l.val = 2048 * (0 : Fin 5).val + l.val; rw [e.2.2]; first | done | (norm_num; done) | omega

theorem seq_0 (c : Dev nD) (t : Fin cfg0.N) (n : ℕ) (hn : n < 4) :
    blkC (dOf t.val) (iblk m c 0 t) n = seqC (pcA m c) (plA m c) (dOf t.val) (bOf t.val) 0 n := by
  funext q l
  unfold blkC seqC
  have hq := q.isLt
  rw [if_pos hn]
  refine (blk_0 m c t _ l).trans ?_
  rfl

theorem blk_1 (c : Dev nD) (t : Fin cfg0.N) (r : Fin 256) (l : Fin 2048) :
    ((iblk m c 1 t : Vec Ideal S1x256x2048 .bf16) (ix3 0 r l) : EReal) = pcA m c (bOf t.val) r (col 1 l) := by
  have e := where1 t
  unfold iblk pcA
  rw [View.read_apply]
  show V m c main_arg0 _ = V m c main_arg0 _
  congr 1
  funext a
  apply Fin.ext
  match a with
  | ⟨0, _⟩ => show win0_1.index t 0 * 1 + 1 * 0 = (bOf t.val).val; rw [e.1]; omega
  | ⟨1, _⟩ => show win0_1.index t 1 * 256 + 1 * r.val = r.val; rw [e.2.1]; omega
  | ⟨2, _⟩ => show win0_1.index t 2 * 2048 + 1 * l.val = 2048 * (1 : Fin 5).val + l.val; rw [e.2.2]; first | done | (norm_num; done) | omega

theorem seq_1 (c : Dev nD) (t : Fin cfg0.N) (n : ℕ) (hn : n < 4) :
    blkC (dOf t.val) (iblk m c 1 t) n = seqC (pcA m c) (plA m c) (dOf t.val) (bOf t.val) 1 n := by
  funext q l
  unfold blkC seqC
  have hq := q.isLt
  rw [if_pos hn]
  refine (blk_1 m c t _ l).trans ?_
  rfl

theorem blk_2 (c : Dev nD) (t : Fin cfg0.N) (r : Fin 256) (l : Fin 2048) :
    ((iblk m c 2 t : Vec Ideal S1x256x2048 .bf16) (ix3 0 r l) : EReal) = pcA m c (bOf t.val) r (col (zsec (dOf t.val)) l) := by
  have e := where2 t
  unfold iblk pcA
  rw [View.read_apply]
  show V m c main_arg0 _ = V m c main_arg0 _
  congr 1
  funext a
  apply Fin.ext
  match a with
  | ⟨0, _⟩ => show win0_2.index t 0 * 1 + 1 * 0 = (bOf t.val).val; rw [e.1]; omega
  | ⟨1, _⟩ => show win0_2.index t 1 * 256 + 1 * r.val = r.val; rw [e.2.1]; omega
  | ⟨2, _⟩ => show win0_2.index t 2 * 2048 + 1 * l.val = 2048 * (zsec (dOf t.val)).val + l.val; rw [e.2.2]; first | done | (norm_num; done) | omega

theorem seq_2 (c : Dev nD) (t : Fin cfg0.N) (n : ℕ) (hn : n < 4) :
    blkC (dOf t.val) (iblk m c 2 t) n = seqC (pcA m c) (plA m c) (dOf t.val) (bOf t.val) (zsec (dOf t.val)) n := by
  funext q l
  unfold blkC seqC
  have hq := q.isLt
  rw [if_pos hn]
  refine (blk_2 m c t _ l).trans ?_
  rfl

theorem blk_3 (c : Dev nD) (t : Fin cfg0.N) (r : Fin 256) (l : Fin 2048) :
    ((iblk m c 3 t : Vec Ideal S1x256x2048 .bf16) (ix3 0 r l) : EReal) = plA m c (bOf t.val) ⟨256 * (lOf t.val).val + r.val, by have := (lOf t.val).isLt; omega⟩ (col 0 l) := by
  have e := where3 t
  unfold iblk plA
  rw [View.read_apply]
  show V m c main_arg1 _ = V m c main_arg1 _
  congr 1
  funext a
  apply Fin.ext
  match a with
  | ⟨0, _⟩ => show win0_3.index t 0 * 1 + 1 * 0 = (bOf t.val).val; rw [e.1]; omega
  | ⟨1, _⟩ => show win0_3.index t 1 * 256 + 1 * r.val = 256 * (lOf t.val).val + r.val; rw [e.2.1]; omega
  | ⟨2, _⟩ => show win0_3.index t 2 * 2048 + 1 * l.val = 2048 * (0 : Fin 5).val + l.val; rw [e.2.2]; first | done | (norm_num; done) | omega

theorem seq_3 (c : Dev nD) (t : Fin cfg0.N) (n : ℕ) (hn : n < 4) (h0 : t.val % 9 ≠ 0) :
    blkC (dOf t.val) (iblk m c 3 t) n = seqC (pcA m c) (plA m c) (dOf t.val) (bOf t.val) 0 (4 * (t.val % 9) + n) := by
  funext q l
  unfold blkC seqC
  have hq := q.isLt
  rw [if_neg (by omega)]
  refine (blk_3 m c t _ l).trans ?_
  congr 1
  apply Fin.ext
  show 256 * (if dOf t.val = 0 then t.val % 9 - 1 else 7 - (t.val % 9 - 1)) + (64 * (if dOf t.val = 0 then n else 3 - n) + q.val) % 256
    = (64 * (if dOf t.val = 0 then 4 * (t.val % 9) + n - 4 else 35 - (4 * (t.val % 9) + n)) + q.val) % 2048
  split_ifs <;> omega

theorem blk_4 (c : Dev nD) (t : Fin cfg0.N) (r : Fin 256) (l : Fin 2048) :
    ((iblk m c 4 t : Vec Ideal S1x256x2048 .bf16) (ix3 0 r l) : EReal) = plA m c (bOf t.val) ⟨256 * (lOf t.val).val + r.val, by have := (lOf t.val).isLt; omega⟩ (col 1 l) := by
  have e := where4 t
  unfold iblk plA
  rw [View.read_apply]
  show V m c main_arg1 _ = V m c main_arg1 _
  congr 1
  funext a
  apply Fin.ext
  match a with
  | ⟨0, _⟩ => show win0_4.index t 0 * 1 + 1 * 0 = (bOf t.val).val; rw [e.1]; omega
  | ⟨1, _⟩ => show win0_4.index t 1 * 256 + 1 * r.val = 256 * (lOf t.val).val + r.val; rw [e.2.1]; omega
  | ⟨2, _⟩ => show win0_4.index t 2 * 2048 + 1 * l.val = 2048 * (1 : Fin 5).val + l.val; rw [e.2.2]; first | done | (norm_num; done) | omega

theorem seq_4 (c : Dev nD) (t : Fin cfg0.N) (n : ℕ) (hn : n < 4) (h0 : t.val % 9 ≠ 0) :
    blkC (dOf t.val) (iblk m c 4 t) n = seqC (pcA m c) (plA m c) (dOf t.val) (bOf t.val) 1 (4 * (t.val % 9) + n) := by
  funext q l
  unfold blkC seqC
  have hq := q.isLt
  rw [if_neg (by omega)]
  refine (blk_4 m c t _ l).trans ?_
  congr 1
  apply Fin.ext
  show 256 * (if dOf t.val = 0 then t.val % 9 - 1 else 7 - (t.val % 9 - 1)) + (64 * (if dOf t.val = 0 then n else 3 - n) + q.val) % 256
    = (64 * (if dOf t.val = 0 then 4 * (t.val % 9) + n - 4 else 35 - (4 * (t.val % 9) + n)) + q.val) % 2048
  split_ifs <;> omega

theorem blk_5 (c : Dev nD) (t : Fin cfg0.N) (r : Fin 256) (l : Fin 2048) :
    ((iblk m c 5 t : Vec Ideal S1x256x2048 .bf16) (ix3 0 r l) : EReal) = plA m c (bOf t.val) ⟨256 * (lOf t.val).val + r.val, by have := (lOf t.val).isLt; omega⟩ (col (zsec (dOf t.val)) l) := by
  have e := where5 t
  unfold iblk plA
  rw [View.read_apply]
  show V m c main_arg1 _ = V m c main_arg1 _
  congr 1
  funext a
  apply Fin.ext
  match a with
  | ⟨0, _⟩ => show win0_5.index t 0 * 1 + 1 * 0 = (bOf t.val).val; rw [e.1]; omega
  | ⟨1, _⟩ => show win0_5.index t 1 * 256 + 1 * r.val = 256 * (lOf t.val).val + r.val; rw [e.2.1]; omega
  | ⟨2, _⟩ => show win0_5.index t 2 * 2048 + 1 * l.val = 2048 * (zsec (dOf t.val)).val + l.val; rw [e.2.2]; first | done | (norm_num; done) | omega

theorem seq_5 (c : Dev nD) (t : Fin cfg0.N) (n : ℕ) (hn : n < 4) (h0 : t.val % 9 ≠ 0) :
    blkC (dOf t.val) (iblk m c 5 t) n = seqC (pcA m c) (plA m c) (dOf t.val) (bOf t.val) (zsec (dOf t.val)) (4 * (t.val % 9) + n) := by
  funext q l
  unfold blkC seqC
  have hq := q.isLt
  rw [if_neg (by omega)]
  refine (blk_5 m c t _ l).trans ?_
  congr 1
  apply Fin.ext
  show 256 * (if dOf t.val = 0 then t.val % 9 - 1 else 7 - (t.val % 9 - 1)) + (64 * (if dOf t.val = 0 then n else 3 - n) + q.val) % 256
    = (64 * (if dOf t.val = 0 then 4 * (t.val % 9) + n - 4 else 35 - (4 * (t.val % 9) + n)) + q.val) % 2048
  split_ifs <;> omega

theorem bound_blk (c : Dev nD) (t : Fin cfg0.N) : row (k0_pay3 (F := Ideal) (iblk m c 6 t)) = lbA m c (dOf t.val) := by
  have e := where6 t
  funext l
  unfold row
  have hp : (k0_pay3 (F := Ideal) (iblk m c 6 t : Vec Ideal S1x1x2048 .f32) (ix2 (0 : Fin 1) l) : EReal) = (iblk m c 6 t : Vec Ideal S1x1x2048 .f32) (ix3 (0 : Fin 1) (0 : Fin 1) l) := by
    pointwise [k0_pay3]
  refine hp.trans ?_
  unfold iblk
  rw [View.read_apply]
  show V m c main_v14 _ = V m c main_v14 _
  congr 1
  funext a
  apply Fin.ext
  match a with
  | ⟨0, _⟩ => show win0_6.index t 0 * 1 + 1 * 0 = (dOf t.val).val; rw [e.1]; omega
  | ⟨1, _⟩ => show win0_6.index t 1 * 1 + 1 * 0 = 0; rw [e.2.1]
  | ⟨2, _⟩ => show win0_6.index t 2 * 2048 + 1 * l.val = l.val; rw [e.2.2]; omega

end Cert.Proof.Scan
-- ==== Proof.ScanExact.lean ====
/- Hand-written: what the recurrence's kernel computes of one head of one chunk position by position, read by coordinates over the
   reals with infinities. -/
module

public import proofs.«01_k».proof.Proof.ScanPieces

@[expose] public section

set_option maxRecDepth 65536

noncomputable section

namespace Cert.Proof.Scan

open Cert.ScanIdeal Cert.ScanIdeal.Gen Cert.Proof.ScanSpec
open Idealize.ShloMosaic Idealize.ShloMosaic.TcCoe

theorem pay245_apply (i : grid0.Coords) (lb : FVec Ideal S1x2048 .f32) (z : Vec Ideal S1x64x2048 .bf16) (h : Good lb) (t : Fin 64) (l : Fin 2048) :
    (k0_pay245 lb (k0_pay5 i) z (ix2 t l) : EReal) = cum (dir i) (fun s => lfC (row lb) (chk z) s l) t := by
  rw [← pay249_apply i lb z h, pay249_raw]
  pointwise [k0_pay245]
  rfl

theorem pay246_apply (q : Vec Ideal S1x64x2048 .bf16) (t : Fin 64) (l : Fin 2048) : (k0_pay246 q (ix2 t l) : EReal) = siC (chk q) t l := by
  pointwise [k0_pay246]
  rfl

theorem pay247_apply (lb : FVec Ideal S1x2048 .f32) (z : Vec Ideal S1x64x2048 .bf16) (t : Fin 64) (l : Fin 2048) :
    (k0_pay247 lb z (ix2 t l) : EReal) = kkC (row lb) (chk z) t l := by
  have h := pay248_apply lb z t l
  pointwise [k0_pay247]
  show (1 : EReal) - k0_pay248 lb z (ix2 t l) = _
  rw [h]
  rfl

theorem pay9_apply (v : Vec Ideal S1x64x2048 .bf16) (t : Fin 64) (l : Fin 2048) : (k0_pay9 v (ix2 t l) : EReal) = chk v t l := by
  pointwise [k0_pay9]
  rfl

theorem trips3 : k0_t3_loop.trips = 64 := by decide +kernel
theorem trips2 : k0_t2_loop.trips = 16 := by decide +kernel
theorem trips1 : k0_t1_loop.trips = 4 := by decide +kernel

theorem pick_eq (t s : Fin 64) : IntOp.cmpi CmpIPredicate.eq (BitVec.ofNat 32 t.val) (Scf.iv 0#32 1#32 s.val) = if t = s then 1#1 else 0#1 := by
  revert t s; decide +kernel

theorem valid_eq (d : Fin 2) (t s : Fin 64) : IntOp.cmpi CmpIPredicate.sge
      (IntOp.muli (IntOp.subi (BitVec.ofNat 32 t.val) (Scf.iv 0#32 1#32 s.val)) (Scalar.subi (1#32) (Scalar.muli (2#32) (BitVec.ofNat 32 d.val)))) 0#32
      = if bef d t s then 1#1 else 0#1 := by revert d t s; decide +kernel

theorem pay11_apply (i : grid0.Coords) (b q k v : Vec Ideal S64x128 .f32) (s : Fin k0_t3_loop.trips) (u : Fin 64) (hu : u.val = s.val) (acc : FVec Ideal S64x128 .f32) (t : Fin 64) (a : Fin 128) :
    (k0_pay11 i b q k v s acc (ix2 t a) : EReal) = acc (ix2 t a) +
      (∑ l : Fin 128, q (ix2 t l) * (if bef (dir i) t u then Ideal.exp (b (ix2 t l) - b (ix2 u l)) else 0) * k (ix2 u l))
        * (v (ix2 u a) : EReal) := by
  have pick : ∀ f : Fin 64 → EReal, (∑ x : Fin 64, Scalar.select (IntOp.cmpi CmpIPredicate.eq (BitVec.ofNat 32 x.val) (Scf.iv 0#32 1#32 s.val)) (f x) 0)
      = f u := by
    intro f
    rw [Finset.sum_eq_single u]
    · rw [← hu, pick_eq, if_pos rfl]; rfl
    · intro x _ hx
      rw [← hu, pick_eq, if_neg hx]; rfl
    · intro hx; exact absurd (Finset.mem_univ _) hx
  pointwise [k0_pay11]
  rw [pick]
  congr 2
  refine Finset.sum_congr rfl fun l _ => ?_
  rw [pick (fun x => b (ix2 x l)), pick (fun x => k (ix2 x l))]
  have hv := valid_eq (dir i) t u
  by_cases hb : bef (dir i) t u
  · rw [if_pos hb] at hv ⊢
    rw [← hu]
    refine Eq.trans (congrArg₂ (fun m n => Scalar.select m (q (ix2 t l) * Ideal.exp (Scalar.select n (b (ix2 t l) - b (ix2 u l)) 0) * k (ix2 u l)) 0) hv hv) ?_
    rfl
  · rw [if_neg hb] at hv ⊢
    rw [← hu]
    refine Eq.trans (congrArg₂ (fun m n => Scalar.select m (q (ix2 t l) * Ideal.exp (Scalar.select n (b (ix2 t l) - b (ix2 u l)) 0) * k (ix2 u l)) 0) hv hv) ?_
    show (0 : EReal) = _
    rw [mul_zero, zero_mul]

/-- All the positions of the chunk, one after another. -/
theorem fold_apply (i : grid0.Coords) (b q k v : Vec Ideal S64x128 .f32) (t : Fin 64) (a : Fin 128) :
    (Scf.fold (k0_pay11 i b q k v) k0_pay10 (ix2 t a) : EReal) = ∑ s : Fin 64,
      (∑ l : Fin 128, q (ix2 t l) * (if bef (dir i) t s then Ideal.exp (b (ix2 t l) - b (ix2 s l)) else 0) * k (ix2 s l)) * (v (ix2 s a) : EReal) := by
  rw [Scf.fold_eq]
  have hl : ∀ (L : List (Fin k0_t3_loop.trips)) (acc : FVec Ideal S64x128 .f32),
      (L.foldl (fun acc s => k0_pay11 i b q k v s acc) acc (ix2 t a) : EReal) = acc (ix2 t a) + (L.map fun s =>
        (∑ l : Fin 128, q (ix2 t l) * (if bef (dir i) t (s.cast trips3) then Ideal.exp (b (ix2 t l) - b (ix2 (s.cast trips3) l)) else 0) * k (ix2 (s.cast trips3) l))
          * (v (ix2 (s.cast trips3) a) : EReal)).sum := by
    intro L
    induction L with
    | nil => intro acc; simp
    | cons s L ih => intro acc; rw [List.foldl_cons, ih, pay11_apply i b q k v s (s.cast trips3) rfl, List.map_cons, List.sum_cons, add_assoc]
  rw [hl]
  have h0 : (k0_pay10 (F := Ideal) (ix2 t a) : EReal) = 0 := by pointwise [k0_pay10]
  rw [h0, zero_add, ← Fin.sum_univ_def]
  exact Fintype.sum_equiv (finCongr trips3) _ _ fun s => rfl

variable (i : grid0.Coords) (rl : Fin 2048 → EReal) (z q v : Chunk)

/-- One head's results done position by position are the specification's. -/
theorem headExact_spec (S : States) (h : Fin 16) (b qs k vs : Vec Ideal S64x128 .f32) (st : Vec Ideal S1x1x128x128 .f32)
    (hb : ∀ t l, (b (ix2 t l) : EReal) = cum (dir i) (fun s => lfC rl z s (lane h l)) t)
    (hq : ∀ t l, (qs (ix2 t l) : EReal) = siC q t (lane h l))
    (hk : ∀ t l, (k (ix2 t l) : EReal) = kkC rl z t (lane h l))
    (hv : ∀ t l, (vs (ix2 t l) : EReal) = v t (lane h l))
    (hst : ∀ a k, (st (ix4 0 0 a k) : EReal) = S h a k) (t : Fin 64) (a : Fin 128) :
    (k0_pay12 b qs st (Scf.fold (k0_pay11 i b qs k vs) k0_pay10) (ix4 0 0 t a) : EReal)
      = outC (dir i) rl q z v S t h a := by
  have e : (k0_pay12 b qs st (Scf.fold (k0_pay11 i b qs k vs) k0_pay10) (ix4 0 0 t a) : EReal)
      = (∑ l : Fin 128, qs (ix2 t l) * Ideal.exp (b (ix2 t l)) * st (ix4 0 0 a l)) + Scf.fold (k0_pay11 i b qs k vs) k0_pay10 (ix2 t a) := by
    pointwise [k0_pay12]
  rw [e, fold_apply]
  unfold outC outS
  congr 1
  · refine Finset.sum_congr rfl fun l _ => ?_
    rw [hb, hq, hst]
  · refine Finset.sum_congr rfl fun s _ => ?_
    rw [hv]
    congr 1
    unfold score
    refine Finset.sum_congr rfl fun l _ => ?_
    rw [hb, hb, hq, hk]

theorem off20_eq (i : grid0.Coords) (k : Fin k0_t1_loop.trips) (r : Fin 4) (hr : r.val = k.val) :
    k0_off20 i k = ![0, 64 * (if dir i = 0 then r.val else 3 - r.val), 0] := by
  have h : ∀ (d : Fin 2) (r : Fin 4), (Scalar.muli (Scalar.select (Scalar.cmpi .eq (BitVec.ofNat 32 d.val) 0#32) (Scf.iv 0#32 1#32 r.val)
      (Scalar.subi 3#32 (Scf.iv 0#32 1#32 r.val))) 64#32 : BitVec 32).toNat = 64 * (if d = 0 then r.val else 3 - r.val) := by decide +kernel
  funext a; fin_cases a
  · rfl
  · have := h (dir i) r
    rw [hr] at this
    rw [hr]
    exact this
  · rfl

theorem off21_eq (k : Fin k0_t2_loop.trips) (h : Fin 16) (hh : h.val = k.val) : k0_off21 k = ![0, 128 * h.val] := by
  have e : ∀ h : Fin 16, (Scalar.indexCast (Scalar.muli (Scf.iv 0#32 1#32 h.val) 128#32 : BitVec 32) : Index).toNat = 128 * h.val := by decide +kernel
  have := e h
  rw [hh] at this ⊢
  funext a; fin_cases a
  · rfl
  · exact this

theorem off22_eq (k1 : Fin k0_t1_loop.trips) (k : Fin k0_t2_loop.trips) (r : Fin 4) (hr : r.val = k1.val) (h : Fin 16) (hh : h.val = k.val) :
    k0_off22 k1 k = ![r.val, h.val, 0, 0] := by
  have e : ∀ h : Fin 16, (Scalar.indexCast (Scf.iv 0#32 1#32 h.val : BitVec 32) : Index).toNat = h.val := by decide +kernel
  have e1 := e h
  have e2 := e (r.castLE (by omega))
  have e3 : (r.castLE (by omega : 4 ≤ 16)).val = k1.val := hr
  rw [hh] at e1 ⊢
  rw [e3] at e2
  rw [hr]
  funext a; fin_cases a
  · exact e2
  · exact e1
  · rfl
  · rfl

theorem off23_eq (i : grid0.Coords) (k1 : Fin k0_t1_loop.trips) (k : Fin k0_t2_loop.trips) (r : Fin 4) (hr : r.val = k1.val) (h : Fin 16) (hh : h.val = k.val) :
    k0_off23 i k1 k = ![0, 0, 64 * (if dir i = 0 then r.val else 3 - r.val), 128 * h.val] := by
  have e1 := congrFun (off20_eq i k1 r hr) 1
  have e2 := congrFun (off21_eq k h hh) 1
  funext a; fin_cases a
  · rfl
  · rfl
  · exact e1
  · exact e2

end Cert.Proof.Scan
-- ==== Proof.ScanMix.lean ====
/- Hand-written: a block's outputs part way through the redo, over the reals with infinities: the first of them exact, the rest
   still with the decay split; and when a chunk's flag lets the split ones stand. -/
module

public import proofs.«01_k».proof.Proof.ScanExact

@[expose] public section

set_option maxRecDepth 65536

noncomputable section

namespace Cert.Proof.Scan

open Cert.ScanIdeal Cert.ScanIdeal.Gen Cert.Proof.ScanSpec
open Idealize.ShloMosaic Idealize.ShloMosaic.TcCoe

/-- The first `n` heads (16 a chunk) of the one, the others of the other. -/
def mixG (A B : Fin 4 → Fin 64 → Fin 16 → Fin 128 → EReal) (n : ℕ) (c : Fin 4) (t : Fin 64) (h : Fin 16) (a : Fin 128) : EReal :=
  if 16 * c.val + h.val < n then A c t h a else B c t h a

theorem mixG_zero (A B : Fin 4 → Fin 64 → Fin 16 → Fin 128 → EReal) : mixG A B 0 = B := by
  funext c t h a; exact if_neg (by omega)

theorem mixG_all (A B : Fin 4 → Fin 64 → Fin 16 → Fin 128 → EReal) : mixG A B 64 = A := by
  funext c t h a; exact if_pos (by have := c.isLt; have := h.isLt; omega)

/-- A chunk where the two agree needs nothing. -/
theorem mixG_skip (A B : Fin 4 → Fin 64 → Fin 16 → Fin 128 → EReal) (k : Fin 4) (hk : ∀ t h a, B k t h a = A k t h a) :
    mixG A B (16 * k.val) = mixG A B (16 * (k.val + 1)) := by
  funext c t h a
  have hh := h.isLt
  unfold mixG
  by_cases hc : c = k
  · subst hc
    rw [if_neg (by omega), if_pos (by omega)]; exact hk t h a
  · have hc' : c.val ≠ k.val := fun e => hc (Fin.ext e)
    by_cases hl : c.val < k.val
    · rw [if_pos (by omega), if_pos (by omega)]
    · rw [if_neg (by omega), if_neg (by omega)]

/-- A view written at a rectangle reads what was written there and what it read elsewhere. -/
theorem move_read {κ : Kind} {sp : Space} {s : Shape} {e : EltTy} (v : View sig κ sp s e) (f : v.ty.Contents (Elt Ideal)) (O O' : s.Idx → Elt Ideal e)
    (r : Rect s) (w : r.shape.Idx → Elt Ideal e) (hf : ∀ y, v.read (Elt Ideal) f y = O y) (hw : ∀ x, w x = O' (r.emb x))
    (hn : ∀ y, y ∉ r.set → O y = O' y) (y : s.Idx) :
    v.read (Elt Ideal) (v.writes (Elt Ideal) f [⟨r, w⟩]) y = O' y := by
  by_cases hy : y ∈ r.set
  · exact View.read_writes_apply_of_pieces v f O' _ (fun p hp x => by
      rw [List.mem_singleton] at hp; subst hp; exact hw x) y ⟨_, List.mem_singleton_self _, hy⟩
  · exact (View.read_writes_cons_miss v f ⟨r, w⟩ [] y hy).trans ((hf y).trans (hn y hy))

/-- Writing the next head moves on by one. -/
theorem mix_read (d : Fin 2) (A B : Fin 4 → Fin 64 → Fin 16 → Fin 128 → EReal) (v : View sig .tc .vmem S1x1x256x2048 .bf16) (f : v.ty.Contents (Elt Ideal))
    (c : Fin 4) (h : Fin 16) (off : Fin 4 → ℕ) (inb : ∀ a, off a + S1x1x64x128.size a ≤ S1x1x256x2048.size a) (w : Vec Ideal S1x1x64x128 .bf16)
    (hf : ∀ y, (v.read (Elt Ideal) f y : EReal) = outArr d (mixG A B (16 * c.val + h.val)) y)
    (ho : off = ![0, 0, 64 * (if d = 0 then c.val else 3 - c.val), 128 * h.val])
    (hw : ∀ t a, (w (ix4 0 0 t a) : EReal) = A c t h a) (y : S1x1x256x2048.Idx) :
    (v.read (Elt Ideal) (v.writes (Elt Ideal) f [⟨Rect.unit (s := S1x1x256x2048) off S1x1x64x128.size inb, w⟩]) y : EReal)
      = outArr d (mixG A B (16 * c.val + h.val + 1)) y := by
  refine move_read v f (outArr d (mixG A B (16 * c.val + h.val))) (outArr d (mixG A B (16 * c.val + h.val + 1))) _ _ hf
    (outPiece d _ c h off inb w ho (fun t a => (hw t a).trans (if_pos (by omega)).symm)) (fun y hy => ?_) y
  · clear hf hw
    have hne : 16 * (chunkOf d (y 2)).val + (y 3).val / 128 ≠ 16 * c.val + h.val := by
      intro he
      apply hy
      subst ho
      have hh := h.isLt
      have hc := c.isLt
      rw [Rect.mem_set_unit]
      have h0 : (y 0).val < 1 := (y 0).isLt
      have h1 : (y 1).val < 1 := (y 1).isLt
      have h2 : (y 2).val < 256 := (y 2).isLt
      have h3 : (y 3).val < 2048 := (y 3).isLt
      have hcv : (chunkOf d (y 2)).val = if d = 0 then (y 2).val / 64 else 3 - (y 2).val / 64 := rfl
      rw [hcv] at he
      intro a
      fin_cases a
      · show 0 ≤ (y 0).val ∧ (y 0).val < 0 + 1
        omega
      · show 0 ≤ (y 1).val ∧ (y 1).val < 0 + 1
        omega
      · show 64 * (if d = 0 then c.val else 3 - c.val) ≤ (y 2).val ∧ (y 2).val < 64 * (if d = 0 then c.val else 3 - c.val) + 64
        split_ifs at he ⊢ <;> omega
      · show 128 * h.val ≤ (y 3).val ∧ (y 3).val < 128 * h.val + 128
        split_ifs at he <;> omega
    unfold outArr mixG
    refine if_congr ?_ rfl rfl
    show 16 * (chunkOf d (y 2)).val + (y 3).val / 128 < _ ↔ 16 * (chunkOf d (y 2)).val + (y 3).val / 128 < _
    omega

/-- The flag of a chunk's whole decay. -/
def flagW (T : FVec Ideal S1x2048 .f32) : BitVec 32 := Scalar.extui (Scalar.cmpf .olt (k0_pay293 T) (Scalar.ofBits (F := Ideal) .f32 0xC2A00000#32))

theorem pay293_raw (T : FVec Ideal S1x2048 .f32) :
    (k0_pay293 T : EReal) = Finset.fold min (Ideal.ofBits FTy.f32 2139095040#32) (fun x : Fin 1 × Fin 2048 => (T (ix2 0 x.2) : EReal)) Finset.univ := by
  pointwise [k0_pay293]

theorem safe_bits : Ideal.ofBits .f32 0xC2A00000#32 = ((-80 : ℝ) : EReal) := by
  simp [Ideal.ofBits, Ideal.ieee, -EReal.coe_mul, -EReal.coe_neg]
  norm_num

/-- Where the flag is not set no lane's whole decay is infinite. -/
theorem flagW_ne (T : FVec Ideal S1x2048 .f32) (hf : flagW T ≠ 1#32) (l : Fin 2048) : (T (ix2 0 l) : EReal) ≠ ⊥ := by
  intro hb
  apply hf
  have h1 : (k0_pay293 T : EReal) ≤ ⊥ := by
    rw [pay293_raw]
    exact (Finset.fold_min_le _).mpr (Or.inr ⟨(0, l), Finset.mem_univ _, hb.le⟩)
  have h2 : (k0_pay293 T : EReal) < Ideal.ofBits .f32 0xC2A00000#32 := by
    rw [safe_bits]; exact lt_of_le_of_lt h1 (EReal.bot_lt_coe _)
  have h3 : Scalar.cmpf .olt (k0_pay293 T) (Scalar.ofBits (F := Ideal) .f32 0xC2A00000#32) = 1#1 := by
    show BitVec.ofBool (decide ((k0_pay293 T : EReal) < Ideal.ofBits .f32 0xC2A00000#32)) = 1#1
    rw [decide_eq_true h2]; rfl
  unfold flagW
  rw [h3]; rfl

theorem off19_eq (k : Fin k0_t1_loop.trips) : k0_off19 k = ![k.val] := by
  have e : ∀ k : Fin 4, (Scalar.indexCast (Scf.iv 0#32 1#32 k.val : BitVec 32) : Index).toNat = k.val := by decide +kernel
  have := e ⟨k.val, trips1 ▸ k.isLt⟩
  funext a; fin_cases a
  exact this

/-- A chunk whose flag is not set keeps the results it has. -/
theorem fast_ok (i : grid0.Coords) (lb : Vec Ideal S1x2048 .f32) (Q Z V : Vec Ideal S1x256x2048 .bf16) (S : States) (hg : Good lb) (c : Fin 4)
    (z : Vec Ideal S1x64x2048 .bf16) (hz : chk z = blkC (dir i) Z c.val) (hf : flagW (k0_pay250 (fwd i) lb (k0_pay5 i) z) ≠ 1#32)
    (t : Fin 64) (h : Fin 16) (a : Fin 128) : fastG i lb Q Z V S c t h a = outG i lb Q Z V S c t h a := by
  refine fastC_eq _ _ _ _ _ _ hg (fun l => ?_) t h a
  have := flagW_ne _ hf l
  rw [pay250_apply i lb z hg, hz] at this
  exact this

end Cert.Proof.Scan

end
-- ==== Proof.ScanRedo.lean ====
/- Hand-written: the chunks done again position by position: each leaves its results exact, over the reals with infinities. -/
module

public import proofs.«01_k».proof.Proof.ScanMix
public import proofs.«01_k».proof.Proof.Gen.ScanIdeal.Frame
public import proofs.«01_k».proof.Proof.Gen.ScanIdeal.Loops
public import Idealize.ShloMosaic.Lib.Pipeline.Frame
public import Idealize.ShloMosaic.Lib.Tactic

@[expose] public section

set_option maxRecDepth 65536

noncomputable section

namespace Cert.Proof.Scan

open Cert.ScanIdeal Cert.ScanIdeal.Gen Cert.Proof.ScanSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The head's lanes of a scratch array. -/
theorem lanes_read (A : Memref sig .tc .vmem S64x2048 .f32) (f : A.view.ty.Contents (Elt Ideal)) (k : Fin k0_t2_loop.trips) (h : Fin 16) (hh : h.val = k.val)
    (inb : ∀ a, k0_off21 k a + S64x128.size a ≤ S64x2048.size a) (t : Fin 64) (l : Fin 128) :
    View.readAt (Elt Ideal) A.view (Rect.unit (s := S64x2048) (k0_off21 k) S64x128.size inb).toLoadRect f (ix2 t l)
      = A.view.read (Elt Ideal) f (ix2 t (lane h l)) := by
  rw [View.readAt_apply]
  congr 1
  funext a
  apply Fin.ext
  fin_cases a
  · show k0_off21 k 0 + 1 * t.val = t.val
    rw [off21_eq k h hh]
    show 0 + 1 * t.val = t.val
    omega
  · show k0_off21 k 1 + 1 * l.val = 128 * h.val + l.val
    rw [off21_eq k h hh]
    show 128 * h.val + 1 * l.val = 128 * h.val + l.val
    omega

/-- The head's state. -/
theorem state_read (A : Memref sig .tc .vmem S5x16x128x128 .f32) (f : A.view.ty.Contents (Elt Ideal)) (k1 : Fin k0_t1_loop.trips) (k : Fin k0_t2_loop.trips)
    (r : Fin 4) (hr : r.val = k1.val) (h : Fin 16) (hh : h.val = k.val)
    (inb : ∀ a, k0_off22 k1 k a + S1x1x128x128.size a ≤ S5x16x128x128.size a) (a b : Fin 128) :
    View.readAt (Elt Ideal) A.view (Rect.unit (s := S5x16x128x128) (k0_off22 k1 k) S1x1x128x128.size inb).toLoadRect f (ix4 0 0 a b)
      = A.view.read (Elt Ideal) f (ix4 r.castSucc h a b) := by
  rw [View.readAt_apply]
  congr 1
  funext x
  apply Fin.ext
  fin_cases x
  · show k0_off22 k1 k 0 + 1 * 0 = r.val
    rw [off22_eq k1 k r hr h hh]; rfl
  · show k0_off22 k1 k 1 + 1 * 0 = h.val
    rw [off22_eq k1 k r hr h hh]; rfl
  · show k0_off22 k1 k 2 + 1 * a.val = a.val
    rw [off22_eq k1 k r hr h hh]
    show 0 + 1 * a.val = a.val
    omega
  · show k0_off22 k1 k 3 + 1 * b.val = b.val
    rw [off22_eq k1 k r hr h hh]
    show 0 + 1 * b.val = b.val
    omega

/-- The chunk's flag. -/
theorem flag_read (A : Memref sig .tc .smem S4 .i32) (f : A.view.ty.Contents (Elt Ideal)) (k : Fin k0_t1_loop.trips) (r : Fin 4) (hr : r.val = k.val)
    (inb : ∀ a, k0_off19 k a + S1.size a ≤ S4.size a) (x : S1.Idx) :
    View.readAt (Elt Ideal) A.view (Rect.unit (s := S4) (k0_off19 k) S1.size inb).toLoadRect f x = A.view.read (Elt Ideal) f (ix1 r) := by
  rw [View.readAt_apply]
  congr 1
  funext a
  apply Fin.ext
  fin_cases a
  show k0_off19 k 0 + 1 * (x 0).val = r.val
  have hx : (x 0).val < 1 := (x 0).isLt
  rw [off19_eq k]
  show k.val + 1 * (x 0).val = r.val
  omega

set_option maxHeartbeats 4000000 in
/-- Between the heads of a chunk done again the output holds the results of the chunks and heads before. -/
@[instance_reducible] def headsV (c : Dev nD) (i : grid0.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x1x256x2048 .bf16) (harg10 : arg10.IsWhole) (arg11 : Memref sig .tc .vmem S5x16x128x128 .f32) (harg11 : arg11.IsWhole) (arg12 : Memref sig .tc .smem S4 .i32) (harg12 : arg12.IsWhole) (arg13 : Memref sig .tc .vmem S64x2048 .f32) (harg13 : arg13.IsWhole) (arg14 : Memref sig .tc .vmem S64x2048 .f32) (harg14 : arg14.IsWhole) (arg15 : Memref sig .tc .vmem S64x2048 .f32) (harg15 : arg15.IsWhole) (arg16 : Memref sig .tc .vmem S64x2048 .f32) (harg16 : arg16.IsWhole) (h4 : k0_cond4 i = 1#1) (k1 : Fin k0_t1_loop.trips)
    (lb : Vec Ideal S1x2048 .f32) (Q Z V : Vec Ideal S1x256x2048 .bf16) (S : States) (r : Fin 4) (hr : r.val = k1.val)
    (f11 : Buf (Elt Ideal) (arg11.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ)))
    (hst : ∀ h a k, (arg11.view.read (Elt Ideal) f11 (ix4 r.castSucc h a k) : EReal) = stG i lb Z V S r.val h a k)
    (h13 : ∀ t l, (arg13.view.read (Elt Ideal) f13 (ix2 t l) : EReal) = cum (dir i) (fun s => lfC (row lb) (blkC (dir i) Z r.val) s l) t)
    (h14 : ∀ t l, (arg14.view.read (Elt Ideal) f14 (ix2 t l) : EReal) = siC (blkC (dir i) Q r.val) t l)
    (h15 : ∀ t l, (arg15.view.read (Elt Ideal) f15 (ix2 t l) : EReal) = kkC (row lb) (blkC (dir i) Z r.val) t l)
    (h16 : ∀ t l, (arg16.view.read (Elt Ideal) f16 (ix2 t l) : EReal) = blkC (dir i) V r.val t l) :
    Gen.LoopInvTy_k0_t2 (F := Ideal) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 h4 k1 where
  inv n _ := iprop((∃ f, ⌜∀ y, (arg10.view.read (Elt Ideal) f y : EReal) = outArr (dir i) (mixG (outG i lb Q Z V S) (fastG i lb Q Z V S) (16 * r.val + n)) y⌝ ∗ (arg10.view.loc (c : Thread nD τ) ↦[arg10.view.set]{fullShare} f)) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))
  step k acc := by
    unfold k0_t2_body
    iintro ⟨⟨%f10, %h10, H10⟩, H11, H13, H14, H15, H16⟩
    sl_exec_parts
    sl_step
    isplitl [H10]
    · iexists _; isplitr; swap; · iexact H10
      ipureintro
      have hk : k.val < 16 := trips2 ▸ k.isLt
      exact mix_read (dir i) (outG i lb Q Z V S) (fastG i lb Q Z V S) arg10.view f10 r ⟨k.val, hk⟩ _ _ _ h10 (off23_eq i k1 k r hr ⟨k.val, hk⟩ rfl)
          (headExact_spec i (row lb) (blkC (dir i) Z r.val) (blkC (dir i) Q r.val) (blkC (dir i) V r.val) (stG i lb Z V S r.val) ⟨k.val, hk⟩ _ _ _ _ _
            (fun t l => (lanes_read arg13 f13 k ⟨k.val, hk⟩ rfl _ t l).trans (h13 t _))
            (fun t l => (lanes_read arg14 f14 k ⟨k.val, hk⟩ rfl _ t l).trans (h14 t _))
            (fun t l => (lanes_read arg15 f15 k ⟨k.val, hk⟩ rfl _ t l).trans (h15 t _))
            (fun t l => (lanes_read arg16 f16 k ⟨k.val, hk⟩ rfl _ t l).trans (h16 t _))
            (fun a b => (state_read arg11 f11 k1 k r hr ⟨k.val, hk⟩ rfl _ a b).trans (hst ⟨k.val, hk⟩ a b)))
    isplitl [H11]; · iexact H11
    isplitl [H13]; · iexact H13
    isplitl [H14]; · iexact H14
    isplitl [H15]; · iexact H15
    iexact H16

/-- A scratch array written whole reads what was written. -/
theorem whole_read (v : View sig .tc .vmem S64x2048 .f32) (f : v.ty.Contents (Elt Ideal)) (inb : ∀ a, (![0, 0] : Fin 2 → ℕ) a + S64x2048.size a ≤ S64x2048.size a)
    (w : Vec Ideal S64x2048 .f32) (y : S64x2048.Idx) :
    v.read (Elt Ideal) (v.writes (Elt Ideal) f [⟨Rect.unit (s := S64x2048) ![0, 0] S64x2048.size inb, w⟩]) y = w y := by
  have he : ∀ x : S64x2048.Idx, (Rect.unit (s := S64x2048) ![0, 0] S64x2048.size inb).emb x = x := by
    intro x
    refine Rect.emb_eq_of_coords _ _ _ fun a => ?_
    fin_cases a
    · show (x 0).val = 0 + 1 * (x 0).val
      omega
    · show (x 1).val = 0 + 1 * (x 1).val
      omega
  refine View.read_writes_apply_of_pieces v f w _ (fun p hp x => ?_) y ⟨_, List.mem_singleton_self _, ?_⟩
  · rw [List.mem_singleton] at hp; subst hp; exact congrArg w (he x).symm
  · show y ∈ (Rect.unit (s := S64x2048) ![0, 0] S64x2048.size inb).set
    rw [Rect.mem_set_unit]
    intro a
    fin_cases a
    · exact ⟨Nat.zero_le _, by show (y 0).val < 0 + 64; have := (y 0).isLt; exact (Nat.zero_add 64).symm ▸ this⟩
    · exact ⟨Nat.zero_le _, by show (y 1).val < 0 + 2048; have := (y 1).isLt; exact (Nat.zero_add 2048).symm ▸ this⟩

theorem chk_off20 (i : grid0.Coords) (k : Fin k0_t1_loop.trips) (r : Fin 4) (hr : r.val = k.val) (A : Memref sig .tc .vmem S1x256x2048 .bf16)
    (f : A.view.ty.Contents (Elt Ideal)) (inb : ∀ a, k0_off20 i k a + S1x64x2048.size a ≤ S1x256x2048.size a) :
    chk (View.readAt (Elt Ideal) A.view (Rect.unit (s := S1x256x2048) (k0_off20 i k) S1x64x2048.size inb).toLoadRect f)
      = blkC (dir i) (A.view.read (Elt Ideal) f) r.val := by
  funext t l
  unfold chk blkC
  rw [View.readAt_apply]
  congr 1
  funext a
  apply Fin.ext
  fin_cases a
  · show k0_off20 i k 0 + 1 * 0 = 0
    rw [off20_eq i k r hr]; rfl
  · show k0_off20 i k 1 + 1 * t.val = (rowOf (dir i) r.val t).val
    rw [rowOf_val, off20_eq i k r hr]
    show 64 * (if dir i = 0 then r.val else 3 - r.val) + 1 * t.val = _
    rw [Nat.one_mul]
  · show k0_off20 i k 2 + 1 * l.val = l.val
    rw [off20_eq i k r hr]
    show 0 + 1 * l.val = l.val
    omega

set_option maxHeartbeats 8000000 in
/-- Between the chunks the output holds the results of the chunks before, and the others with the decay split. -/
@[instance_reducible] def redoV (c : Dev nD) (i : grid0.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x1x256x2048 .bf16) (harg10 : arg10.IsWhole) (arg11 : Memref sig .tc .vmem S5x16x128x128 .f32) (harg11 : arg11.IsWhole) (arg12 : Memref sig .tc .smem S4 .i32) (harg12 : arg12.IsWhole) (arg13 : Memref sig .tc .vmem S64x2048 .f32) (harg13 : arg13.IsWhole) (arg14 : Memref sig .tc .vmem S64x2048 .f32) (harg14 : arg14.IsWhole) (arg15 : Memref sig .tc .vmem S64x2048 .f32) (harg15 : arg15.IsWhole) (arg16 : Memref sig .tc .vmem S64x2048 .f32) (harg16 : arg16.IsWhole) (h4 : k0_cond4 i = 1#1)
    (v0 : BitVec 1) (hv0 : v0 = fwd i) (v7 : Vec Ideal S1x1x2048 .f32)
    (lb : Vec Ideal S1x2048 .f32) (hlb : lb = k0_pay3 v7) (Q Z V : Vec Ideal S1x256x2048 .bf16) (S : States)
    (f6 : Buf (Elt Ideal) (arg6.view.loc (c : Thread nD τ))) (f7 : Buf (Elt Ideal) (arg7.view.loc (c : Thread nD τ))) (f8 : Buf (Elt Ideal) (arg8.view.loc (c : Thread nD τ))) (f11 : Buf (Elt Ideal) (arg11.view.loc (c : Thread nD τ))) (f12 : Buf (Elt Ideal) (arg12.view.loc (c : Thread nD τ))) (hg : Good lb)
    (h12 : ∀ r : Fin 4, arg12.view.read (Elt Ideal) f12 (ix1 r) ≠ 1#32 → ∀ t h a, fastG i lb Q Z V S r t h a = outG i lb Q Z V S r t h a)
    (h6 : arg6.view.read (Elt Ideal) f6 = Q) (h7 : arg7.view.read (Elt Ideal) f7 = V) (h8 : arg8.view.read (Elt Ideal) f8 = Z)
    (hst : ∀ (r : Fin 4) h a k, (arg11.view.read (Elt Ideal) f11 (ix4 r.castSucc h a k) : EReal) = stG i lb Z V S r.val h a k) :
    Gen.LoopInvTy_k0_t1 (F := Ideal) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 v0 v7 h4 where
  inv n _ := iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, ⌜∀ y, (arg10.view.read (Elt Ideal) f y : EReal) = outArr (dir i) (mixG (outG i lb Q Z V S) (fastG i lb Q Z V S) (16 * n)) y⌝ ∗ (arg10.view.loc (c : Thread nD τ) ↦[arg10.view.set]{fullShare} f)) ∗ (arg11.view.loc (c : Thread nD τ) ↦[arg11.view.set]{fullShare} f11) ∗ (arg12.view.loc (c : Thread nD τ) ↦[arg12.view.set]{fullShare} f12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))
  step k acc := by
    unfold k0_t1_body
    iintro ⟨H6, H7, H8, ⟨%f10, %h10, H10⟩, H11, H12, ⟨%f13, H13⟩, ⟨%f14, H14⟩, ⟨%f15, H15⟩, ⟨%f16, H16⟩⟩
    sl_exec_parts
    by_cases hb : redoV.sl.v2134 c i arg12 h4 f12 k = 1#1
    · sl_exec_parts (disch := sl_exact hb)
      have hk : k.val < 4 := trips1 ▸ k.isLt
      have cz := chk_off20 i k ⟨k.val, hk⟩ rfl arg8 f8 (k0_off20_inb i k h4)
      have cq := chk_off20 i k ⟨k.val, hk⟩ rfl arg6 f6 (k0_off20_inb i k h4)
      have cv := chk_off20 i k ⟨k.val, hk⟩ rfl arg7 f7 (k0_off20_inb i k h4)
      rw [h8] at cz
      rw [h6] at cq
      rw [h7] at cv
      subst hlb hv0
      have e13 : ∀ (t : Fin 64) (l : Fin 2048), (arg13.view.read (Elt Ideal) (arg13.view.writes (Elt Ideal) (View.junk (Val := Elt Ideal) arg13.view) (redoV.sl.H13_1 c i arg8 h4 v7 f8 k)) (ix2 t l) : EReal) = cum (dir i) (fun s => lfC (row (k0_pay3 v7)) (blkC (dir i) Z k.val) s l) t :=
        fun t l => (whole_read arg13.view _ _ _ (ix2 t l)).trans ((pay245_apply i _ _ hg t l).trans (by rw [cz]))
      have e14 : ∀ (t : Fin 64) (l : Fin 2048), (arg14.view.read (Elt Ideal) (arg14.view.writes (Elt Ideal) (View.junk (Val := Elt Ideal) arg14.view) (redoV.sl.H14_1 c i arg6 h4 f6 k)) (ix2 t l) : EReal) = siC (blkC (dir i) Q k.val) t l :=
        fun t l => (whole_read arg14.view _ _ _ (ix2 t l)).trans ((pay246_apply _ t l).trans (by rw [cq]))
      have e15 : ∀ (t : Fin 64) (l : Fin 2048), (arg15.view.read (Elt Ideal) (arg15.view.writes (Elt Ideal) (View.junk (Val := Elt Ideal) arg15.view) (redoV.sl.H15_1 c i arg8 h4 v7 f8 k)) (ix2 t l) : EReal) = kkC (row (k0_pay3 v7)) (blkC (dir i) Z k.val) t l :=
        fun t l => (whole_read arg15.view _ _ _ (ix2 t l)).trans ((pay247_apply _ _ t l).trans (by rw [cz]))
      have e16 : ∀ (t : Fin 64) (l : Fin 2048), (arg16.view.read (Elt Ideal) (arg16.view.writes (Elt Ideal) (View.junk (Val := Elt Ideal) arg16.view) (redoV.sl.H16_1 c i arg7 h4 f7 k)) (ix2 t l) : EReal) = blkC (dir i) V k.val t l :=
        fun t l => (whole_read arg16.view _ _ _ (ix2 t l)).trans ((pay9_apply _ t l).trans (by rw [cv]))
      sl_for (fun (n : ℕ) (_ : Unit) => iprop((∃ f, ⌜∀ y, (arg10.view.read (Elt Ideal) f y : EReal) = outArr (dir i) (mixG (outG i (k0_pay3 v7) Q Z V S) (fastG i (k0_pay3 v7) Q Z V S) (16 * k.val + n)) y⌝ ∗ (arg10.view.loc (c : Thread nD τ) ↦[arg10.view.set]{fullShare} f)) ∗ (arg11.view.loc (c : Thread nD τ) ↦[arg11.view.set]{fullShare} f11) ∗ (arg13.view.loc (c : Thread nD τ) ↦[arg13.view.set]{fullShare} (arg13.view.writes (Elt Ideal) (View.junk (Val := Elt Ideal) arg13.view) (redoV.sl.H13_1 c i arg8 h4 v7 f8 k))) ∗ (arg14.view.loc (c : Thread nD τ) ↦[arg14.view.set]{fullShare} (arg14.view.writes (Elt Ideal) (View.junk (Val := Elt Ideal) arg14.view) (redoV.sl.H14_1 c i arg6 h4 f6 k))) ∗ (arg15.view.loc (c : Thread nD τ) ↦[arg15.view.set]{fullShare} (arg15.view.writes (Elt Ideal) (View.junk (Val := Elt Ideal) arg15.view) (redoV.sl.H15_1 c i arg8 h4 v7 f8 k))) ∗ (arg16.view.loc (c : Thread nD τ) ↦[arg16.view.set]{fullShare} (arg16.view.writes (Elt Ideal) (View.junk (Val := Elt Ideal) arg16.view) (redoV.sl.H16_1 c i arg7 h4 f7 k))))) $$ [H10 H11 H13 H14 H15 H16]
      case region =>
        exact (headsV c i arg3 harg3 arg4 harg4 arg5 harg5 arg6 harg6 arg7 harg7 arg8 harg8 arg9 harg9 arg10 harg10 arg11 harg11 arg12 harg12 arg13 harg13 arg14 harg14 arg15 harg15 arg16 harg16 h4 k (k0_pay3 v7) Q Z V S ⟨k.val, hk⟩ rfl f11 _ _ _ _ (hst ⟨k.val, hk⟩) e13 e14 e15 e16).step
      · isplitl [H10]; · iexists _; isplitr; swap; · iexact H10
                         ipureintro; exact h10
        isplitl [H11]; · iexact H11
        isplitl [H13]; · iexact H13
        isplitl [H14]; · iexact H14
        isplitl [H15]; · iexact H15
        iexact H16
      iintro %_u ⟨⟨%f10', %h10', H10⟩, H11, H13, H14, H15, H16⟩
      sl_step
      isplitl [H6]; · iexact H6
      isplitl [H7]; · iexact H7
      isplitl [H8]; · iexact H8
      isplitl [H10]; · iexists _; isplitr; swap; · iexact H10
                       ipureintro; rw [show Scf.trips k0_t2_loop.lb k0_t2_loop.ub k0_t2_loop.st = 16 from trips2, show 16 * k.val + 16 = 16 * (k.val + 1) by omega] at h10'; exact h10'
      isplitl [H11]; · iexact H11
      isplitl [H12]; · iexact H12
      isplitl [H13]; · iexists _; iexact H13
      isplitl [H14]; · iexists _; iexact H14
      isplitl [H15]; · iexists _; iexact H15
      iexists _; iexact H16
    · sl_exec_parts (disch := sl_exact hb)
      sl_step
      isplitl [H6]; · iexact H6
      isplitl [H7]; · iexact H7
      isplitl [H8]; · iexact H8
      isplitl [H10]; · iexists _; isplitr; swap; · iexact H10
                       ipureintro
                       have hk : k.val < 4 := trips1 ▸ k.isLt
                       have hs := mixG_skip (outG i lb Q Z V S) (fastG i lb Q Z V S) ⟨k.val, hk⟩ (h12 ⟨k.val, hk⟩ (fun he => hb (by
                         have e : redoV.sl.r c i arg12 h4 f12 k = 1#32 := (flag_read arg12 f12 k ⟨k.val, hk⟩ rfl _ _).trans he
                         unfold redoV.sl.v2134 redoV.sl.v2133 redoV.sl.v2132
                         rw [e]
                         rfl)))
                       intro y
                       rw [h10 y]
                       exact congrFun (congrArg (outArr (dir i)) hs) y
      isplitl [H11]; · iexact H11
      isplitl [H12]; · iexact H12
      isplitl [H13]; · iexists _; iexact H13
      isplitl [H14]; · iexists _; iexact H14
      isplitl [H15]; · iexists _; iexact H15
      iexists _; iexact H16

end Cert.Proof.Scan
-- ==== Proof.ScanLatPieces.lean ====
/- Hand-written: the lists of writes of the recurrence's run on a latent block, each write the specification's entry. -/
module

public import proofs.«01_k».proof.Proof.ScanPieces
public import proofs.«01_k».proof.Proof.ScanRunLat

@[expose] public section

set_option maxRecDepth 65536

noncomputable section

namespace Cert.Proof.Scan

open Cert.ScanIdeal Cert.ScanIdeal.Gen Cert.Proof.ScanSpec
open Idealize.ShloMosaic Idealize.ShloMosaic.TcCoe

variable (c : Dev nD) (i : grid0.Coords)
    (arg6 : Memref sig .tc .vmem S1x256x2048 .bf16)
    (arg7 : Memref sig .tc .vmem S1x256x2048 .bf16)
    (arg8 : Memref sig .tc .vmem S1x256x2048 .bf16)
    (arg9 : Memref sig .tc .vmem S1x1x2048 .f32) (arg11 : Memref sig .tc .vmem S5x16x128x128 .f32)
    (h4 : k0_cond4 i = 1#1)
    (f6 : arg6.view.ty.Contents (Elt Ideal))
    (f7 : arg7.view.ty.Contents (Elt Ideal))
    (f8 : arg8.view.ty.Contents (Elt Ideal))
    (f9 : arg9.view.ty.Contents (Elt Ideal))
    (f11 : arg11.view.ty.Contents (Elt Ideal))

theorem lat_st0 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_1 (F := Ideal) c arg11 f11) 0) :
    Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_17 (F := Ideal) c i arg7 arg8 arg9 arg11 h4 f7 f8 f9 f11) 16 := by
  have hz := chk_off2 i 0 arg8 f8 (k0_off2_inb i h4 0)
  have hv := chk_off2 i 0 arg7 f7 (k0_off2_inb i h4 0)
  refine Ok.cons _ 0 15 _ _ (piece_state i S hg 0 15 _ _ hz hv (run_lat.sl.v95 (F := Ideal) c arg11 f11) (Ok.load _ h0 arg11 0 15 _ (by decide))) ?_
  refine Ok.cons _ 0 14 _ _ (piece_state i S hg 0 14 _ _ hz hv (run_lat.sl.v93 (F := Ideal) c arg11 f11) (Ok.load _ h0 arg11 0 14 _ (by decide))) ?_
  refine Ok.cons _ 0 13 _ _ (piece_state i S hg 0 13 _ _ hz hv (run_lat.sl.v91 (F := Ideal) c arg11 f11) (Ok.load _ h0 arg11 0 13 _ (by decide))) ?_
  refine Ok.cons _ 0 12 _ _ (piece_state i S hg 0 12 _ _ hz hv (run_lat.sl.v89 (F := Ideal) c arg11 f11) (Ok.load _ h0 arg11 0 12 _ (by decide))) ?_
  refine Ok.cons _ 0 11 _ _ (piece_state i S hg 0 11 _ _ hz hv (run_lat.sl.v87 (F := Ideal) c arg11 f11) (Ok.load _ h0 arg11 0 11 _ (by decide))) ?_
  refine Ok.cons _ 0 10 _ _ (piece_state i S hg 0 10 _ _ hz hv (run_lat.sl.v85 (F := Ideal) c arg11 f11) (Ok.load _ h0 arg11 0 10 _ (by decide))) ?_
  refine Ok.cons _ 0 9 _ _ (piece_state i S hg 0 9 _ _ hz hv (run_lat.sl.v83 (F := Ideal) c arg11 f11) (Ok.load _ h0 arg11 0 9 _ (by decide))) ?_
  refine Ok.cons _ 0 8 _ _ (piece_state i S hg 0 8 _ _ hz hv (run_lat.sl.v81 (F := Ideal) c arg11 f11) (Ok.load _ h0 arg11 0 8 _ (by decide))) ?_
  refine Ok.cons _ 0 7 _ _ (piece_state i S hg 0 7 _ _ hz hv (run_lat.sl.v79 (F := Ideal) c arg11 f11) (Ok.load _ h0 arg11 0 7 _ (by decide))) ?_
  refine Ok.cons _ 0 6 _ _ (piece_state i S hg 0 6 _ _ hz hv (run_lat.sl.v77 (F := Ideal) c arg11 f11) (Ok.load _ h0 arg11 0 6 _ (by decide))) ?_
  refine Ok.cons _ 0 5 _ _ (piece_state i S hg 0 5 _ _ hz hv (run_lat.sl.v75 (F := Ideal) c arg11 f11) (Ok.load _ h0 arg11 0 5 _ (by decide))) ?_
  refine Ok.cons _ 0 4 _ _ (piece_state i S hg 0 4 _ _ hz hv (run_lat.sl.v73 (F := Ideal) c arg11 f11) (Ok.load _ h0 arg11 0 4 _ (by decide))) ?_
  refine Ok.cons _ 0 3 _ _ (piece_state i S hg 0 3 _ _ hz hv (run_lat.sl.v71 (F := Ideal) c arg11 f11) (Ok.load _ h0 arg11 0 3 _ (by decide))) ?_
  refine Ok.cons _ 0 2 _ _ (piece_state i S hg 0 2 _ _ hz hv (run_lat.sl.v69 (F := Ideal) c arg11 f11) (Ok.load _ h0 arg11 0 2 _ (by decide))) ?_
  refine Ok.cons _ 0 1 _ _ (piece_state i S hg 0 1 _ _ hz hv (run_lat.sl.v67 (F := Ideal) c arg11 f11) (Ok.load _ h0 arg11 0 1 _ (by decide))) ?_
  refine Ok.cons _ 0 0 _ _ (piece_state i S hg 0 0 _ _ hz hv (run_lat.sl.v65 (F := Ideal) c arg11 f11) (Ok.load _ h0 arg11 0 0 _ (by decide))) ?_
  exact h0

theorem lat_out0 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_1 (F := Ideal) c arg11 f11) 0)
    (h1 : OkO (dir i) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) [] 0) :
    OkO (dir i) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) (run_lat.sl.H10_16 (F := Ideal) c i arg6 arg7 arg8 arg9 arg11 h4 f6 f7 f8 f9 f11) 16 := by
  have hz := chk_off2 i 0 arg8 f8 (k0_off2_inb i h4 0)
  have hv := chk_off2 i 0 arg7 f7 (k0_off2_inb i h4 0)
  have hq := chk_off2 i 0 arg6 f6 (k0_off2_inb i h4 0)
  refine OkO.cons _ _ 0 15 _ _ _ (off18_eq i 0) (piece_out i S hg 0 15 _ _ _ hz hq hv (run_lat.sl.v95 (F := Ideal) c arg11 f11) (Ok.load _ h0 arg11 0 15 _ (by decide))) ?_
  refine OkO.cons _ _ 0 14 _ _ _ (off17_eq i 0) (piece_out i S hg 0 14 _ _ _ hz hq hv (run_lat.sl.v93 (F := Ideal) c arg11 f11) (Ok.load _ h0 arg11 0 14 _ (by decide))) ?_
  refine OkO.cons _ _ 0 13 _ _ _ (off16_eq i 0) (piece_out i S hg 0 13 _ _ _ hz hq hv (run_lat.sl.v91 (F := Ideal) c arg11 f11) (Ok.load _ h0 arg11 0 13 _ (by decide))) ?_
  refine OkO.cons _ _ 0 12 _ _ _ (off15_eq i 0) (piece_out i S hg 0 12 _ _ _ hz hq hv (run_lat.sl.v89 (F := Ideal) c arg11 f11) (Ok.load _ h0 arg11 0 12 _ (by decide))) ?_
  refine OkO.cons _ _ 0 11 _ _ _ (off14_eq i 0) (piece_out i S hg 0 11 _ _ _ hz hq hv (run_lat.sl.v87 (F := Ideal) c arg11 f11) (Ok.load _ h0 arg11 0 11 _ (by decide))) ?_
  refine OkO.cons _ _ 0 10 _ _ _ (off13_eq i 0) (piece_out i S hg 0 10 _ _ _ hz hq hv (run_lat.sl.v85 (F := Ideal) c arg11 f11) (Ok.load _ h0 arg11 0 10 _ (by decide))) ?_
  refine OkO.cons _ _ 0 9 _ _ _ (off12_eq i 0) (piece_out i S hg 0 9 _ _ _ hz hq hv (run_lat.sl.v83 (F := Ideal) c arg11 f11) (Ok.load _ h0 arg11 0 9 _ (by decide))) ?_
  refine OkO.cons _ _ 0 8 _ _ _ (off11_eq i 0) (piece_out i S hg 0 8 _ _ _ hz hq hv (run_lat.sl.v81 (F := Ideal) c arg11 f11) (Ok.load _ h0 arg11 0 8 _ (by decide))) ?_
  refine OkO.cons _ _ 0 7 _ _ _ (off10_eq i 0) (piece_out i S hg 0 7 _ _ _ hz hq hv (run_lat.sl.v79 (F := Ideal) c arg11 f11) (Ok.load _ h0 arg11 0 7 _ (by decide))) ?_
  refine OkO.cons _ _ 0 6 _ _ _ (off9_eq i 0) (piece_out i S hg 0 6 _ _ _ hz hq hv (run_lat.sl.v77 (F := Ideal) c arg11 f11) (Ok.load _ h0 arg11 0 6 _ (by decide))) ?_
  refine OkO.cons _ _ 0 5 _ _ _ (off8_eq i 0) (piece_out i S hg 0 5 _ _ _ hz hq hv (run_lat.sl.v75 (F := Ideal) c arg11 f11) (Ok.load _ h0 arg11 0 5 _ (by decide))) ?_
  refine OkO.cons _ _ 0 4 _ _ _ (off7_eq i 0) (piece_out i S hg 0 4 _ _ _ hz hq hv (run_lat.sl.v73 (F := Ideal) c arg11 f11) (Ok.load _ h0 arg11 0 4 _ (by decide))) ?_
  refine OkO.cons _ _ 0 3 _ _ _ (off6_eq i 0) (piece_out i S hg 0 3 _ _ _ hz hq hv (run_lat.sl.v71 (F := Ideal) c arg11 f11) (Ok.load _ h0 arg11 0 3 _ (by decide))) ?_
  refine OkO.cons _ _ 0 2 _ _ _ (off5_eq i 0) (piece_out i S hg 0 2 _ _ _ hz hq hv (run_lat.sl.v69 (F := Ideal) c arg11 f11) (Ok.load _ h0 arg11 0 2 _ (by decide))) ?_
  refine OkO.cons _ _ 0 1 _ _ _ (off4_eq i 0) (piece_out i S hg 0 1 _ _ _ hz hq hv (run_lat.sl.v67 (F := Ideal) c arg11 f11) (Ok.load _ h0 arg11 0 1 _ (by decide))) ?_
  refine OkO.cons _ _ 0 0 _ _ _ (off3_eq i 0) (piece_out i S hg 0 0 _ _ _ hz hq hv (run_lat.sl.v65 (F := Ideal) c arg11 f11) (Ok.load _ h0 arg11 0 0 _ (by decide))) ?_
  exact h1

theorem lat_st1 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_17 (F := Ideal) c i arg7 arg8 arg9 arg11 h4 f7 f8 f9 f11) 16) :
    Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_33 (F := Ideal) c i arg7 arg8 arg9 arg11 h4 f7 f8 f9 f11) 32 := by
  have hz := chk_off2 i 1 arg8 f8 (k0_off2_inb i h4 1)
  have hv := chk_off2 i 1 arg7 f7 (k0_off2_inb i h4 1)
  refine Ok.cons _ 1 15 _ _ (piece_state i S hg 1 15 _ _ hz hv (run_lat.sl.v620 (F := Ideal) c i arg7 arg8 arg9 arg11 h4 f7 f8 f9 f11) (Ok.load _ h0 arg11 1 15 _ (by decide))) ?_
  refine Ok.cons _ 1 14 _ _ (piece_state i S hg 1 14 _ _ hz hv (run_lat.sl.v618 (F := Ideal) c i arg7 arg8 arg9 arg11 h4 f7 f8 f9 f11) (Ok.load _ h0 arg11 1 14 _ (by decide))) ?_
  refine Ok.cons _ 1 13 _ _ (piece_state i S hg 1 13 _ _ hz hv (run_lat.sl.v616 (F := Ideal) c i arg7 arg8 arg9 arg11 h4 f7 f8 f9 f11) (Ok.load _ h0 arg11 1 13 _ (by decide))) ?_
  refine Ok.cons _ 1 12 _ _ (piece_state i S hg 1 12 _ _ hz hv (run_lat.sl.v614 (F := Ideal) c i arg7 arg8 arg9 arg11 h4 f7 f8 f9 f11) (Ok.load _ h0 arg11 1 12 _ (by decide))) ?_
  refine Ok.cons _ 1 11 _ _ (piece_state i S hg 1 11 _ _ hz hv (run_lat.sl.v612 (F := Ideal) c i arg7 arg8 arg9 arg11 h4 f7 f8 f9 f11) (Ok.load _ h0 arg11 1 11 _ (by decide))) ?_
  refine Ok.cons _ 1 10 _ _ (piece_state i S hg 1 10 _ _ hz hv (run_lat.sl.v610 (F := Ideal) c i arg7 arg8 arg9 arg11 h4 f7 f8 f9 f11) (Ok.load _ h0 arg11 1 10 _ (by decide))) ?_
  refine Ok.cons _ 1 9 _ _ (piece_state i S hg 1 9 _ _ hz hv (run_lat.sl.v608 (F := Ideal) c i arg7 arg8 arg9 arg11 h4 f7 f8 f9 f11) (Ok.load _ h0 arg11 1 9 _ (by decide))) ?_
  refine Ok.cons _ 1 8 _ _ (piece_state i S hg 1 8 _ _ hz hv (run_lat.sl.v606 (F := Ideal) c i arg7 arg8 arg9 arg11 h4 f7 f8 f9 f11) (Ok.load _ h0 arg11 1 8 _ (by decide))) ?_
  refine Ok.cons _ 1 7 _ _ (piece_state i S hg 1 7 _ _ hz hv (run_lat.sl.v604 (F := Ideal) c i arg7 arg8 arg9 arg11 h4 f7 f8 f9 f11) (Ok.load _ h0 arg11 1 7 _ (by decide))) ?_
  refine Ok.cons _ 1 6 _ _ (piece_state i S hg 1 6 _ _ hz hv (run_lat.sl.v602 (F := Ideal) c i arg7 arg8 arg9 arg11 h4 f7 f8 f9 f11) (Ok.load _ h0 arg11 1 6 _ (by decide))) ?_
  refine Ok.cons _ 1 5 _ _ (piece_state i S hg 1 5 _ _ hz hv (run_lat.sl.v600 (F := Ideal) c i arg7 arg8 arg9 arg11 h4 f7 f8 f9 f11) (Ok.load _ h0 arg11 1 5 _ (by decide))) ?_
  refine Ok.cons _ 1 4 _ _ (piece_state i S hg 1 4 _ _ hz hv (run_lat.sl.v598 (F := Ideal) c i arg7 arg8 arg9 arg11 h4 f7 f8 f9 f11) (Ok.load _ h0 arg11 1 4 _ (by decide))) ?_
  refine Ok.cons _ 1 3 _ _ (piece_state i S hg 1 3 _ _ hz hv (run_lat.sl.v596 (F := Ideal) c i arg7 arg8 arg9 arg11 h4 f7 f8 f9 f11) (Ok.load _ h0 arg11 1 3 _ (by decide))) ?_
  refine Ok.cons _ 1 2 _ _ (piece_state i S hg 1 2 _ _ hz hv (run_lat.sl.v594 (F := Ideal) c i arg7 arg8 arg9 arg11 h4 f7 f8 f9 f11) (Ok.load _ h0 arg11 1 2 _ (by decide))) ?_
  refine Ok.cons _ 1 1 _ _ (piece_state i S hg 1 1 _ _ hz hv (run_lat.sl.v592 (F := Ideal) c i arg7 arg8 arg9 arg11 h4 f7 f8 f9 f11) (Ok.load _ h0 arg11 1 1 _ (by decide))) ?_
  refine Ok.cons _ 1 0 _ _ (piece_state i S hg 1 0 _ _ hz hv (run_lat.sl.v590 (F := Ideal) c i arg7 arg8 arg9 arg11 h4 f7 f8 f9 f11) (Ok.load _ h0 arg11 1 0 _ (by decide))) ?_
  exact h0

theorem lat_out1 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_17 (F := Ideal) c i arg7 arg8 arg9 arg11 h4 f7 f8 f9 f11) 16)
    (h1 : OkO (dir i) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) (run_lat.sl.H10_16 (F := Ideal) c i arg6 arg7 arg8 arg9 arg11 h4 f6 f7 f8 f9 f11) 16) :
    OkO (dir i) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) (run_lat.sl.H10_32 (F := Ideal) c i arg6 arg7 arg8 arg9 arg11 h4 f6 f7 f8 f9 f11) 32 := by
  have hz := chk_off2 i 1 arg8 f8 (k0_off2_inb i h4 1)
  have hv := chk_off2 i 1 arg7 f7 (k0_off2_inb i h4 1)
  have hq := chk_off2 i 1 arg6 f6 (k0_off2_inb i h4 1)
  refine OkO.cons _ _ 1 15 _ _ _ (off18_eq i 1) (piece_out i S hg 1 15 _ _ _ hz hq hv (run_lat.sl.v620 (F := Ideal) c i arg7 arg8 arg9 arg11 h4 f7 f8 f9 f11) (Ok.load _ h0 arg11 1 15 _ (by decide))) ?_
  refine OkO.cons _ _ 1 14 _ _ _ (off17_eq i 1) (piece_out i S hg 1 14 _ _ _ hz hq hv (run_lat.sl.v618 (F := Ideal) c i arg7 arg8 arg9 arg11 h4 f7 f8 f9 f11) (Ok.load _ h0 arg11 1 14 _ (by decide))) ?_
  refine OkO.cons _ _ 1 13 _ _ _ (off16_eq i 1) (piece_out i S hg 1 13 _ _ _ hz hq hv (run_lat.sl.v616 (F := Ideal) c i arg7 arg8 arg9 arg11 h4 f7 f8 f9 f11) (Ok.load _ h0 arg11 1 13 _ (by decide))) ?_
  refine OkO.cons _ _ 1 12 _ _ _ (off15_eq i 1) (piece_out i S hg 1 12 _ _ _ hz hq hv (run_lat.sl.v614 (F := Ideal) c i arg7 arg8 arg9 arg11 h4 f7 f8 f9 f11) (Ok.load _ h0 arg11 1 12 _ (by decide))) ?_
  refine OkO.cons _ _ 1 11 _ _ _ (off14_eq i 1) (piece_out i S hg 1 11 _ _ _ hz hq hv (run_lat.sl.v612 (F := Ideal) c i arg7 arg8 arg9 arg11 h4 f7 f8 f9 f11) (Ok.load _ h0 arg11 1 11 _ (by decide))) ?_
  refine OkO.cons _ _ 1 10 _ _ _ (off13_eq i 1) (piece_out i S hg 1 10 _ _ _ hz hq hv (run_lat.sl.v610 (F := Ideal) c i arg7 arg8 arg9 arg11 h4 f7 f8 f9 f11) (Ok.load _ h0 arg11 1 10 _ (by decide))) ?_
  refine OkO.cons _ _ 1 9 _ _ _ (off12_eq i 1) (piece_out i S hg 1 9 _ _ _ hz hq hv (run_lat.sl.v608 (F := Ideal) c i arg7 arg8 arg9 arg11 h4 f7 f8 f9 f11) (Ok.load _ h0 arg11 1 9 _ (by decide))) ?_
  refine OkO.cons _ _ 1 8 _ _ _ (off11_eq i 1) (piece_out i S hg 1 8 _ _ _ hz hq hv (run_lat.sl.v606 (F := Ideal) c i arg7 arg8 arg9 arg11 h4 f7 f8 f9 f11) (Ok.load _ h0 arg11 1 8 _ (by decide))) ?_
  refine OkO.cons _ _ 1 7 _ _ _ (off10_eq i 1) (piece_out i S hg 1 7 _ _ _ hz hq hv (run_lat.sl.v604 (F := Ideal) c i arg7 arg8 arg9 arg11 h4 f7 f8 f9 f11) (Ok.load _ h0 arg11 1 7 _ (by decide))) ?_
  refine OkO.cons _ _ 1 6 _ _ _ (off9_eq i 1) (piece_out i S hg 1 6 _ _ _ hz hq hv (run_lat.sl.v602 (F := Ideal) c i arg7 arg8 arg9 arg11 h4 f7 f8 f9 f11) (Ok.load _ h0 arg11 1 6 _ (by decide))) ?_
  refine OkO.cons _ _ 1 5 _ _ _ (off8_eq i 1) (piece_out i S hg 1 5 _ _ _ hz hq hv (run_lat.sl.v600 (F := Ideal) c i arg7 arg8 arg9 arg11 h4 f7 f8 f9 f11) (Ok.load _ h0 arg11 1 5 _ (by decide))) ?_
  refine OkO.cons _ _ 1 4 _ _ _ (off7_eq i 1) (piece_out i S hg 1 4 _ _ _ hz hq hv (run_lat.sl.v598 (F := Ideal) c i arg7 arg8 arg9 arg11 h4 f7 f8 f9 f11) (Ok.load _ h0 arg11 1 4 _ (by decide))) ?_
  refine OkO.cons _ _ 1 3 _ _ _ (off6_eq i 1) (piece_out i S hg 1 3 _ _ _ hz hq hv (run_lat.sl.v596 (F := Ideal) c i arg7 arg8 arg9 arg11 h4 f7 f8 f9 f11) (Ok.load _ h0 arg11 1 3 _ (by decide))) ?_
  refine OkO.cons _ _ 1 2 _ _ _ (off5_eq i 1) (piece_out i S hg 1 2 _ _ _ hz hq hv (run_lat.sl.v594 (F := Ideal) c i arg7 arg8 arg9 arg11 h4 f7 f8 f9 f11) (Ok.load _ h0 arg11 1 2 _ (by decide))) ?_
  refine OkO.cons _ _ 1 1 _ _ _ (off4_eq i 1) (piece_out i S hg 1 1 _ _ _ hz hq hv (run_lat.sl.v592 (F := Ideal) c i arg7 arg8 arg9 arg11 h4 f7 f8 f9 f11) (Ok.load _ h0 arg11 1 1 _ (by decide))) ?_
  refine OkO.cons _ _ 1 0 _ _ _ (off3_eq i 1) (piece_out i S hg 1 0 _ _ _ hz hq hv (run_lat.sl.v590 (F := Ideal) c i arg7 arg8 arg9 arg11 h4 f7 f8 f9 f11) (Ok.load _ h0 arg11 1 0 _ (by decide))) ?_
  exact h1

theorem lat_st2 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_33 (F := Ideal) c i arg7 arg8 arg9 arg11 h4 f7 f8 f9 f11) 32) :
    Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_49 (F := Ideal) c i arg7 arg8 arg9 arg11 h4 f7 f8 f9 f11) 48 := by
  have hz := chk_off2 i 2 arg8 f8 (k0_off2_inb i h4 2)
  have hv := chk_off2 i 2 arg7 f7 (k0_off2_inb i h4 2)
  refine Ok.cons _ 2 15 _ _ (piece_state i S hg 2 15 _ _ hz hv (run_lat.sl.v1145 (F := Ideal) c i arg7 arg8 arg9 arg11 h4 f7 f8 f9 f11) (Ok.load _ h0 arg11 2 15 _ (by decide))) ?_
  refine Ok.cons _ 2 14 _ _ (piece_state i S hg 2 14 _ _ hz hv (run_lat.sl.v1143 (F := Ideal) c i arg7 arg8 arg9 arg11 h4 f7 f8 f9 f11) (Ok.load _ h0 arg11 2 14 _ (by decide))) ?_
  refine Ok.cons _ 2 13 _ _ (piece_state i S hg 2 13 _ _ hz hv (run_lat.sl.v1141 (F := Ideal) c i arg7 arg8 arg9 arg11 h4 f7 f8 f9 f11) (Ok.load _ h0 arg11 2 13 _ (by decide))) ?_
  refine Ok.cons _ 2 12 _ _ (piece_state i S hg 2 12 _ _ hz hv (run_lat.sl.v1139 (F := Ideal) c i arg7 arg8 arg9 arg11 h4 f7 f8 f9 f11) (Ok.load _ h0 arg11 2 12 _ (by decide))) ?_
  refine Ok.cons _ 2 11 _ _ (piece_state i S hg 2 11 _ _ hz hv (run_lat.sl.v1137 (F := Ideal) c i arg7 arg8 arg9 arg11 h4 f7 f8 f9 f11) (Ok.load _ h0 arg11 2 11 _ (by decide))) ?_
  refine Ok.cons _ 2 10 _ _ (piece_state i S hg 2 10 _ _ hz hv (run_lat.sl.v1135 (F := Ideal) c i arg7 arg8 arg9 arg11 h4 f7 f8 f9 f11) (Ok.load _ h0 arg11 2 10 _ (by decide))) ?_
  refine Ok.cons _ 2 9 _ _ (piece_state i S hg 2 9 _ _ hz hv (run_lat.sl.v1133 (F := Ideal) c i arg7 arg8 arg9 arg11 h4 f7 f8 f9 f11) (Ok.load _ h0 arg11 2 9 _ (by decide))) ?_
  refine Ok.cons _ 2 8 _ _ (piece_state i S hg 2 8 _ _ hz hv (run_lat.sl.v1131 (F := Ideal) c i arg7 arg8 arg9 arg11 h4 f7 f8 f9 f11) (Ok.load _ h0 arg11 2 8 _ (by decide))) ?_
  refine Ok.cons _ 2 7 _ _ (piece_state i S hg 2 7 _ _ hz hv (run_lat.sl.v1129 (F := Ideal) c i arg7 arg8 arg9 arg11 h4 f7 f8 f9 f11) (Ok.load _ h0 arg11 2 7 _ (by decide))) ?_
  refine Ok.cons _ 2 6 _ _ (piece_state i S hg 2 6 _ _ hz hv (run_lat.sl.v1127 (F := Ideal) c i arg7 arg8 arg9 arg11 h4 f7 f8 f9 f11) (Ok.load _ h0 arg11 2 6 _ (by decide))) ?_
  refine Ok.cons _ 2 5 _ _ (piece_state i S hg 2 5 _ _ hz hv (run_lat.sl.v1125 (F := Ideal) c i arg7 arg8 arg9 arg11 h4 f7 f8 f9 f11) (Ok.load _ h0 arg11 2 5 _ (by decide))) ?_
  refine Ok.cons _ 2 4 _ _ (piece_state i S hg 2 4 _ _ hz hv (run_lat.sl.v1123 (F := Ideal) c i arg7 arg8 arg9 arg11 h4 f7 f8 f9 f11) (Ok.load _ h0 arg11 2 4 _ (by decide))) ?_
  refine Ok.cons _ 2 3 _ _ (piece_state i S hg 2 3 _ _ hz hv (run_lat.sl.v1121 (F := Ideal) c i arg7 arg8 arg9 arg11 h4 f7 f8 f9 f11) (Ok.load _ h0 arg11 2 3 _ (by decide))) ?_
  refine Ok.cons _ 2 2 _ _ (piece_state i S hg 2 2 _ _ hz hv (run_lat.sl.v1119 (F := Ideal) c i arg7 arg8 arg9 arg11 h4 f7 f8 f9 f11) (Ok.load _ h0 arg11 2 2 _ (by decide))) ?_
  refine Ok.cons _ 2 1 _ _ (piece_state i S hg 2 1 _ _ hz hv (run_lat.sl.v1117 (F := Ideal) c i arg7 arg8 arg9 arg11 h4 f7 f8 f9 f11) (Ok.load _ h0 arg11 2 1 _ (by decide))) ?_
  refine Ok.cons _ 2 0 _ _ (piece_state i S hg 2 0 _ _ hz hv (run_lat.sl.v1115 (F := Ideal) c i arg7 arg8 arg9 arg11 h4 f7 f8 f9 f11) (Ok.load _ h0 arg11 2 0 _ (by decide))) ?_
  exact h0

theorem lat_out2 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_33 (F := Ideal) c i arg7 arg8 arg9 arg11 h4 f7 f8 f9 f11) 32)
    (h1 : OkO (dir i) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) (run_lat.sl.H10_32 (F := Ideal) c i arg6 arg7 arg8 arg9 arg11 h4 f6 f7 f8 f9 f11) 32) :
    OkO (dir i) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) (run_lat.sl.H10_48 (F := Ideal) c i arg6 arg7 arg8 arg9 arg11 h4 f6 f7 f8 f9 f11) 48 := by
  have hz := chk_off2 i 2 arg8 f8 (k0_off2_inb i h4 2)
  have hv := chk_off2 i 2 arg7 f7 (k0_off2_inb i h4 2)
  have hq := chk_off2 i 2 arg6 f6 (k0_off2_inb i h4 2)
  refine OkO.cons _ _ 2 15 _ _ _ (off18_eq i 2) (piece_out i S hg 2 15 _ _ _ hz hq hv (run_lat.sl.v1145 (F := Ideal) c i arg7 arg8 arg9 arg11 h4 f7 f8 f9 f11) (Ok.load _ h0 arg11 2 15 _ (by decide))) ?_
  refine OkO.cons _ _ 2 14 _ _ _ (off17_eq i 2) (piece_out i S hg 2 14 _ _ _ hz hq hv (run_lat.sl.v1143 (F := Ideal) c i arg7 arg8 arg9 arg11 h4 f7 f8 f9 f11) (Ok.load _ h0 arg11 2 14 _ (by decide))) ?_
  refine OkO.cons _ _ 2 13 _ _ _ (off16_eq i 2) (piece_out i S hg 2 13 _ _ _ hz hq hv (run_lat.sl.v1141 (F := Ideal) c i arg7 arg8 arg9 arg11 h4 f7 f8 f9 f11) (Ok.load _ h0 arg11 2 13 _ (by decide))) ?_
  refine OkO.cons _ _ 2 12 _ _ _ (off15_eq i 2) (piece_out i S hg 2 12 _ _ _ hz hq hv (run_lat.sl.v1139 (F := Ideal) c i arg7 arg8 arg9 arg11 h4 f7 f8 f9 f11) (Ok.load _ h0 arg11 2 12 _ (by decide))) ?_
  refine OkO.cons _ _ 2 11 _ _ _ (off14_eq i 2) (piece_out i S hg 2 11 _ _ _ hz hq hv (run_lat.sl.v1137 (F := Ideal) c i arg7 arg8 arg9 arg11 h4 f7 f8 f9 f11) (Ok.load _ h0 arg11 2 11 _ (by decide))) ?_
  refine OkO.cons _ _ 2 10 _ _ _ (off13_eq i 2) (piece_out i S hg 2 10 _ _ _ hz hq hv (run_lat.sl.v1135 (F := Ideal) c i arg7 arg8 arg9 arg11 h4 f7 f8 f9 f11) (Ok.load _ h0 arg11 2 10 _ (by decide))) ?_
  refine OkO.cons _ _ 2 9 _ _ _ (off12_eq i 2) (piece_out i S hg 2 9 _ _ _ hz hq hv (run_lat.sl.v1133 (F := Ideal) c i arg7 arg8 arg9 arg11 h4 f7 f8 f9 f11) (Ok.load _ h0 arg11 2 9 _ (by decide))) ?_
  refine OkO.cons _ _ 2 8 _ _ _ (off11_eq i 2) (piece_out i S hg 2 8 _ _ _ hz hq hv (run_lat.sl.v1131 (F := Ideal) c i arg7 arg8 arg9 arg11 h4 f7 f8 f9 f11) (Ok.load _ h0 arg11 2 8 _ (by decide))) ?_
  refine OkO.cons _ _ 2 7 _ _ _ (off10_eq i 2) (piece_out i S hg 2 7 _ _ _ hz hq hv (run_lat.sl.v1129 (F := Ideal) c i arg7 arg8 arg9 arg11 h4 f7 f8 f9 f11) (Ok.load _ h0 arg11 2 7 _ (by decide))) ?_
  refine OkO.cons _ _ 2 6 _ _ _ (off9_eq i 2) (piece_out i S hg 2 6 _ _ _ hz hq hv (run_lat.sl.v1127 (F := Ideal) c i arg7 arg8 arg9 arg11 h4 f7 f8 f9 f11) (Ok.load _ h0 arg11 2 6 _ (by decide))) ?_
  refine OkO.cons _ _ 2 5 _ _ _ (off8_eq i 2) (piece_out i S hg 2 5 _ _ _ hz hq hv (run_lat.sl.v1125 (F := Ideal) c i arg7 arg8 arg9 arg11 h4 f7 f8 f9 f11) (Ok.load _ h0 arg11 2 5 _ (by decide))) ?_
  refine OkO.cons _ _ 2 4 _ _ _ (off7_eq i 2) (piece_out i S hg 2 4 _ _ _ hz hq hv (run_lat.sl.v1123 (F := Ideal) c i arg7 arg8 arg9 arg11 h4 f7 f8 f9 f11) (Ok.load _ h0 arg11 2 4 _ (by decide))) ?_
  refine OkO.cons _ _ 2 3 _ _ _ (off6_eq i 2) (piece_out i S hg 2 3 _ _ _ hz hq hv (run_lat.sl.v1121 (F := Ideal) c i arg7 arg8 arg9 arg11 h4 f7 f8 f9 f11) (Ok.load _ h0 arg11 2 3 _ (by decide))) ?_
  refine OkO.cons _ _ 2 2 _ _ _ (off5_eq i 2) (piece_out i S hg 2 2 _ _ _ hz hq hv (run_lat.sl.v1119 (F := Ideal) c i arg7 arg8 arg9 arg11 h4 f7 f8 f9 f11) (Ok.load _ h0 arg11 2 2 _ (by decide))) ?_
  refine OkO.cons _ _ 2 1 _ _ _ (off4_eq i 2) (piece_out i S hg 2 1 _ _ _ hz hq hv (run_lat.sl.v1117 (F := Ideal) c i arg7 arg8 arg9 arg11 h4 f7 f8 f9 f11) (Ok.load _ h0 arg11 2 1 _ (by decide))) ?_
  refine OkO.cons _ _ 2 0 _ _ _ (off3_eq i 2) (piece_out i S hg 2 0 _ _ _ hz hq hv (run_lat.sl.v1115 (F := Ideal) c i arg7 arg8 arg9 arg11 h4 f7 f8 f9 f11) (Ok.load _ h0 arg11 2 0 _ (by decide))) ?_
  exact h1

theorem lat_st3 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_49 (F := Ideal) c i arg7 arg8 arg9 arg11 h4 f7 f8 f9 f11) 48) :
    Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_65 (F := Ideal) c i arg7 arg8 arg9 arg11 h4 f7 f8 f9 f11) 64 := by
  have hz := chk_off2 i 3 arg8 f8 (k0_off2_inb i h4 3)
  have hv := chk_off2 i 3 arg7 f7 (k0_off2_inb i h4 3)
  refine Ok.cons _ 3 15 _ _ (piece_state i S hg 3 15 _ _ hz hv (run_lat.sl.v1670 (F := Ideal) c i arg7 arg8 arg9 arg11 h4 f7 f8 f9 f11) (Ok.load _ h0 arg11 3 15 _ (by decide))) ?_
  refine Ok.cons _ 3 14 _ _ (piece_state i S hg 3 14 _ _ hz hv (run_lat.sl.v1668 (F := Ideal) c i arg7 arg8 arg9 arg11 h4 f7 f8 f9 f11) (Ok.load _ h0 arg11 3 14 _ (by decide))) ?_
  refine Ok.cons _ 3 13 _ _ (piece_state i S hg 3 13 _ _ hz hv (run_lat.sl.v1666 (F := Ideal) c i arg7 arg8 arg9 arg11 h4 f7 f8 f9 f11) (Ok.load _ h0 arg11 3 13 _ (by decide))) ?_
  refine Ok.cons _ 3 12 _ _ (piece_state i S hg 3 12 _ _ hz hv (run_lat.sl.v1664 (F := Ideal) c i arg7 arg8 arg9 arg11 h4 f7 f8 f9 f11) (Ok.load _ h0 arg11 3 12 _ (by decide))) ?_
  refine Ok.cons _ 3 11 _ _ (piece_state i S hg 3 11 _ _ hz hv (run_lat.sl.v1662 (F := Ideal) c i arg7 arg8 arg9 arg11 h4 f7 f8 f9 f11) (Ok.load _ h0 arg11 3 11 _ (by decide))) ?_
  refine Ok.cons _ 3 10 _ _ (piece_state i S hg 3 10 _ _ hz hv (run_lat.sl.v1660 (F := Ideal) c i arg7 arg8 arg9 arg11 h4 f7 f8 f9 f11) (Ok.load _ h0 arg11 3 10 _ (by decide))) ?_
  refine Ok.cons _ 3 9 _ _ (piece_state i S hg 3 9 _ _ hz hv (run_lat.sl.v1658 (F := Ideal) c i arg7 arg8 arg9 arg11 h4 f7 f8 f9 f11) (Ok.load _ h0 arg11 3 9 _ (by decide))) ?_
  refine Ok.cons _ 3 8 _ _ (piece_state i S hg 3 8 _ _ hz hv (run_lat.sl.v1656 (F := Ideal) c i arg7 arg8 arg9 arg11 h4 f7 f8 f9 f11) (Ok.load _ h0 arg11 3 8 _ (by decide))) ?_
  refine Ok.cons _ 3 7 _ _ (piece_state i S hg 3 7 _ _ hz hv (run_lat.sl.v1654 (F := Ideal) c i arg7 arg8 arg9 arg11 h4 f7 f8 f9 f11) (Ok.load _ h0 arg11 3 7 _ (by decide))) ?_
  refine Ok.cons _ 3 6 _ _ (piece_state i S hg 3 6 _ _ hz hv (run_lat.sl.v1652 (F := Ideal) c i arg7 arg8 arg9 arg11 h4 f7 f8 f9 f11) (Ok.load _ h0 arg11 3 6 _ (by decide))) ?_
  refine Ok.cons _ 3 5 _ _ (piece_state i S hg 3 5 _ _ hz hv (run_lat.sl.v1650 (F := Ideal) c i arg7 arg8 arg9 arg11 h4 f7 f8 f9 f11) (Ok.load _ h0 arg11 3 5 _ (by decide))) ?_
  refine Ok.cons _ 3 4 _ _ (piece_state i S hg 3 4 _ _ hz hv (run_lat.sl.v1648 (F := Ideal) c i arg7 arg8 arg9 arg11 h4 f7 f8 f9 f11) (Ok.load _ h0 arg11 3 4 _ (by decide))) ?_
  refine Ok.cons _ 3 3 _ _ (piece_state i S hg 3 3 _ _ hz hv (run_lat.sl.v1646 (F := Ideal) c i arg7 arg8 arg9 arg11 h4 f7 f8 f9 f11) (Ok.load _ h0 arg11 3 3 _ (by decide))) ?_
  refine Ok.cons _ 3 2 _ _ (piece_state i S hg 3 2 _ _ hz hv (run_lat.sl.v1644 (F := Ideal) c i arg7 arg8 arg9 arg11 h4 f7 f8 f9 f11) (Ok.load _ h0 arg11 3 2 _ (by decide))) ?_
  refine Ok.cons _ 3 1 _ _ (piece_state i S hg 3 1 _ _ hz hv (run_lat.sl.v1642 (F := Ideal) c i arg7 arg8 arg9 arg11 h4 f7 f8 f9 f11) (Ok.load _ h0 arg11 3 1 _ (by decide))) ?_
  refine Ok.cons _ 3 0 _ _ (piece_state i S hg 3 0 _ _ hz hv (run_lat.sl.v1640 (F := Ideal) c i arg7 arg8 arg9 arg11 h4 f7 f8 f9 f11) (Ok.load _ h0 arg11 3 0 _ (by decide))) ?_
  exact h0

theorem lat_out3 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_49 (F := Ideal) c i arg7 arg8 arg9 arg11 h4 f7 f8 f9 f11) 48)
    (h1 : OkO (dir i) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) (run_lat.sl.H10_48 (F := Ideal) c i arg6 arg7 arg8 arg9 arg11 h4 f6 f7 f8 f9 f11) 48) :
    OkO (dir i) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) (run_lat.sl.H10_64 (F := Ideal) c i arg6 arg7 arg8 arg9 arg11 h4 f6 f7 f8 f9 f11) 64 := by
  have hz := chk_off2 i 3 arg8 f8 (k0_off2_inb i h4 3)
  have hv := chk_off2 i 3 arg7 f7 (k0_off2_inb i h4 3)
  have hq := chk_off2 i 3 arg6 f6 (k0_off2_inb i h4 3)
  refine OkO.cons _ _ 3 15 _ _ _ (off18_eq i 3) (piece_out i S hg 3 15 _ _ _ hz hq hv (run_lat.sl.v1670 (F := Ideal) c i arg7 arg8 arg9 arg11 h4 f7 f8 f9 f11) (Ok.load _ h0 arg11 3 15 _ (by decide))) ?_
  refine OkO.cons _ _ 3 14 _ _ _ (off17_eq i 3) (piece_out i S hg 3 14 _ _ _ hz hq hv (run_lat.sl.v1668 (F := Ideal) c i arg7 arg8 arg9 arg11 h4 f7 f8 f9 f11) (Ok.load _ h0 arg11 3 14 _ (by decide))) ?_
  refine OkO.cons _ _ 3 13 _ _ _ (off16_eq i 3) (piece_out i S hg 3 13 _ _ _ hz hq hv (run_lat.sl.v1666 (F := Ideal) c i arg7 arg8 arg9 arg11 h4 f7 f8 f9 f11) (Ok.load _ h0 arg11 3 13 _ (by decide))) ?_
  refine OkO.cons _ _ 3 12 _ _ _ (off15_eq i 3) (piece_out i S hg 3 12 _ _ _ hz hq hv (run_lat.sl.v1664 (F := Ideal) c i arg7 arg8 arg9 arg11 h4 f7 f8 f9 f11) (Ok.load _ h0 arg11 3 12 _ (by decide))) ?_
  refine OkO.cons _ _ 3 11 _ _ _ (off14_eq i 3) (piece_out i S hg 3 11 _ _ _ hz hq hv (run_lat.sl.v1662 (F := Ideal) c i arg7 arg8 arg9 arg11 h4 f7 f8 f9 f11) (Ok.load _ h0 arg11 3 11 _ (by decide))) ?_
  refine OkO.cons _ _ 3 10 _ _ _ (off13_eq i 3) (piece_out i S hg 3 10 _ _ _ hz hq hv (run_lat.sl.v1660 (F := Ideal) c i arg7 arg8 arg9 arg11 h4 f7 f8 f9 f11) (Ok.load _ h0 arg11 3 10 _ (by decide))) ?_
  refine OkO.cons _ _ 3 9 _ _ _ (off12_eq i 3) (piece_out i S hg 3 9 _ _ _ hz hq hv (run_lat.sl.v1658 (F := Ideal) c i arg7 arg8 arg9 arg11 h4 f7 f8 f9 f11) (Ok.load _ h0 arg11 3 9 _ (by decide))) ?_
  refine OkO.cons _ _ 3 8 _ _ _ (off11_eq i 3) (piece_out i S hg 3 8 _ _ _ hz hq hv (run_lat.sl.v1656 (F := Ideal) c i arg7 arg8 arg9 arg11 h4 f7 f8 f9 f11) (Ok.load _ h0 arg11 3 8 _ (by decide))) ?_
  refine OkO.cons _ _ 3 7 _ _ _ (off10_eq i 3) (piece_out i S hg 3 7 _ _ _ hz hq hv (run_lat.sl.v1654 (F := Ideal) c i arg7 arg8 arg9 arg11 h4 f7 f8 f9 f11) (Ok.load _ h0 arg11 3 7 _ (by decide))) ?_
  refine OkO.cons _ _ 3 6 _ _ _ (off9_eq i 3) (piece_out i S hg 3 6 _ _ _ hz hq hv (run_lat.sl.v1652 (F := Ideal) c i arg7 arg8 arg9 arg11 h4 f7 f8 f9 f11) (Ok.load _ h0 arg11 3 6 _ (by decide))) ?_
  refine OkO.cons _ _ 3 5 _ _ _ (off8_eq i 3) (piece_out i S hg 3 5 _ _ _ hz hq hv (run_lat.sl.v1650 (F := Ideal) c i arg7 arg8 arg9 arg11 h4 f7 f8 f9 f11) (Ok.load _ h0 arg11 3 5 _ (by decide))) ?_
  refine OkO.cons _ _ 3 4 _ _ _ (off7_eq i 3) (piece_out i S hg 3 4 _ _ _ hz hq hv (run_lat.sl.v1648 (F := Ideal) c i arg7 arg8 arg9 arg11 h4 f7 f8 f9 f11) (Ok.load _ h0 arg11 3 4 _ (by decide))) ?_
  refine OkO.cons _ _ 3 3 _ _ _ (off6_eq i 3) (piece_out i S hg 3 3 _ _ _ hz hq hv (run_lat.sl.v1646 (F := Ideal) c i arg7 arg8 arg9 arg11 h4 f7 f8 f9 f11) (Ok.load _ h0 arg11 3 3 _ (by decide))) ?_
  refine OkO.cons _ _ 3 2 _ _ _ (off5_eq i 3) (piece_out i S hg 3 2 _ _ _ hz hq hv (run_lat.sl.v1644 (F := Ideal) c i arg7 arg8 arg9 arg11 h4 f7 f8 f9 f11) (Ok.load _ h0 arg11 3 2 _ (by decide))) ?_
  refine OkO.cons _ _ 3 1 _ _ _ (off4_eq i 3) (piece_out i S hg 3 1 _ _ _ hz hq hv (run_lat.sl.v1642 (F := Ideal) c i arg7 arg8 arg9 arg11 h4 f7 f8 f9 f11) (Ok.load _ h0 arg11 3 1 _ (by decide))) ?_
  refine OkO.cons _ _ 3 0 _ _ _ (off3_eq i 3) (piece_out i S hg 3 0 _ _ _ hz hq hv (run_lat.sl.v1640 (F := Ideal) c i arg7 arg8 arg9 arg11 h4 f7 f8 f9 f11) (Ok.load _ h0 arg11 3 0 _ (by decide))) ?_
  exact h1

end Cert.Proof.Scan
-- ==== Proof.ScanCtxPieces.lean ====
/- Hand-written: the lists of writes of the recurrence's run on a context block, each write the specification's entry. -/
module

public import proofs.«01_k».proof.Proof.ScanPieces
public import proofs.«01_k».proof.Proof.ScanRunCtx

@[expose] public section

set_option maxRecDepth 65536

noncomputable section

namespace Cert.Proof.Scan

open Cert.ScanIdeal Cert.ScanIdeal.Gen Cert.Proof.ScanSpec
open Idealize.ShloMosaic Idealize.ShloMosaic.TcCoe

variable (c : Dev nD) (i : grid0.Coords)
    (arg4 : Memref sig .tc .vmem S1x256x2048 .bf16)
    (arg5 : Memref sig .tc .vmem S1x256x2048 .bf16)
    (arg9 : Memref sig .tc .vmem S1x1x2048 .f32) (arg11 : Memref sig .tc .vmem S5x16x128x128 .f32)
    (h3 : k0_cond3 i = 1#1)
    (f4 : arg4.view.ty.Contents (Elt Ideal))
    (f5 : arg5.view.ty.Contents (Elt Ideal))
    (f9 : arg9.view.ty.Contents (Elt Ideal))

theorem ctx_st0 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) S) (run_ctx.sl.HS_1 (F := Ideal)) 0) :
    Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) S) (run_ctx.sl.HS_17 (F := Ideal) c i arg4 arg5 arg9 arg11 h3 f4 f5 f9) 16 := by
  have hz := chk_off1 i 0 arg5 f5 (k0_off1_inb i h3 0)
  have hv := chk_off1 i 0 arg4 f4 (k0_off1_inb i h3 0)
  refine Ok.cons _ 0 15 _ _ (piece_state i S hg 0 15 _ _ hz hv (run_ctx.sl.v95 (F := Ideal) c arg11) (Ok.load _ h0 arg11 0 15 _ (by decide))) ?_
  refine Ok.cons _ 0 14 _ _ (piece_state i S hg 0 14 _ _ hz hv (run_ctx.sl.v93 (F := Ideal) c arg11) (Ok.load _ h0 arg11 0 14 _ (by decide))) ?_
  refine Ok.cons _ 0 13 _ _ (piece_state i S hg 0 13 _ _ hz hv (run_ctx.sl.v91 (F := Ideal) c arg11) (Ok.load _ h0 arg11 0 13 _ (by decide))) ?_
  refine Ok.cons _ 0 12 _ _ (piece_state i S hg 0 12 _ _ hz hv (run_ctx.sl.v89 (F := Ideal) c arg11) (Ok.load _ h0 arg11 0 12 _ (by decide))) ?_
  refine Ok.cons _ 0 11 _ _ (piece_state i S hg 0 11 _ _ hz hv (run_ctx.sl.v87 (F := Ideal) c arg11) (Ok.load _ h0 arg11 0 11 _ (by decide))) ?_
  refine Ok.cons _ 0 10 _ _ (piece_state i S hg 0 10 _ _ hz hv (run_ctx.sl.v85 (F := Ideal) c arg11) (Ok.load _ h0 arg11 0 10 _ (by decide))) ?_
  refine Ok.cons _ 0 9 _ _ (piece_state i S hg 0 9 _ _ hz hv (run_ctx.sl.v83 (F := Ideal) c arg11) (Ok.load _ h0 arg11 0 9 _ (by decide))) ?_
  refine Ok.cons _ 0 8 _ _ (piece_state i S hg 0 8 _ _ hz hv (run_ctx.sl.v81 (F := Ideal) c arg11) (Ok.load _ h0 arg11 0 8 _ (by decide))) ?_
  refine Ok.cons _ 0 7 _ _ (piece_state i S hg 0 7 _ _ hz hv (run_ctx.sl.v79 (F := Ideal) c arg11) (Ok.load _ h0 arg11 0 7 _ (by decide))) ?_
  refine Ok.cons _ 0 6 _ _ (piece_state i S hg 0 6 _ _ hz hv (run_ctx.sl.v77 (F := Ideal) c arg11) (Ok.load _ h0 arg11 0 6 _ (by decide))) ?_
  refine Ok.cons _ 0 5 _ _ (piece_state i S hg 0 5 _ _ hz hv (run_ctx.sl.v75 (F := Ideal) c arg11) (Ok.load _ h0 arg11 0 5 _ (by decide))) ?_
  refine Ok.cons _ 0 4 _ _ (piece_state i S hg 0 4 _ _ hz hv (run_ctx.sl.v73 (F := Ideal) c arg11) (Ok.load _ h0 arg11 0 4 _ (by decide))) ?_
  refine Ok.cons _ 0 3 _ _ (piece_state i S hg 0 3 _ _ hz hv (run_ctx.sl.v71 (F := Ideal) c arg11) (Ok.load _ h0 arg11 0 3 _ (by decide))) ?_
  refine Ok.cons _ 0 2 _ _ (piece_state i S hg 0 2 _ _ hz hv (run_ctx.sl.v69 (F := Ideal) c arg11) (Ok.load _ h0 arg11 0 2 _ (by decide))) ?_
  refine Ok.cons _ 0 1 _ _ (piece_state i S hg 0 1 _ _ hz hv (run_ctx.sl.v67 (F := Ideal) c arg11) (Ok.load _ h0 arg11 0 1 _ (by decide))) ?_
  refine Ok.cons _ 0 0 _ _ (piece_state i S hg 0 0 _ _ hz hv (run_ctx.sl.v65 (F := Ideal) c arg11) (Ok.load _ h0 arg11 0 0 _ (by decide))) ?_
  exact h0

theorem ctx_st1 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) S) (run_ctx.sl.HS_17 (F := Ideal) c i arg4 arg5 arg9 arg11 h3 f4 f5 f9) 16) :
    Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) S) (run_ctx.sl.HS_33 (F := Ideal) c i arg4 arg5 arg9 arg11 h3 f4 f5 f9) 32 := by
  have hz := chk_off1 i 1 arg5 f5 (k0_off1_inb i h3 1)
  have hv := chk_off1 i 1 arg4 f4 (k0_off1_inb i h3 1)
  refine Ok.cons _ 1 15 _ _ (piece_state i S hg 1 15 _ _ hz hv (run_ctx.sl.v323 (F := Ideal) c i arg4 arg5 arg9 arg11 h3 f4 f5 f9) (Ok.load _ h0 arg11 1 15 _ (by decide))) ?_
  refine Ok.cons _ 1 14 _ _ (piece_state i S hg 1 14 _ _ hz hv (run_ctx.sl.v321 (F := Ideal) c i arg4 arg5 arg9 arg11 h3 f4 f5 f9) (Ok.load _ h0 arg11 1 14 _ (by decide))) ?_
  refine Ok.cons _ 1 13 _ _ (piece_state i S hg 1 13 _ _ hz hv (run_ctx.sl.v319 (F := Ideal) c i arg4 arg5 arg9 arg11 h3 f4 f5 f9) (Ok.load _ h0 arg11 1 13 _ (by decide))) ?_
  refine Ok.cons _ 1 12 _ _ (piece_state i S hg 1 12 _ _ hz hv (run_ctx.sl.v317 (F := Ideal) c i arg4 arg5 arg9 arg11 h3 f4 f5 f9) (Ok.load _ h0 arg11 1 12 _ (by decide))) ?_
  refine Ok.cons _ 1 11 _ _ (piece_state i S hg 1 11 _ _ hz hv (run_ctx.sl.v315 (F := Ideal) c i arg4 arg5 arg9 arg11 h3 f4 f5 f9) (Ok.load _ h0 arg11 1 11 _ (by decide))) ?_
  refine Ok.cons _ 1 10 _ _ (piece_state i S hg 1 10 _ _ hz hv (run_ctx.sl.v313 (F := Ideal) c i arg4 arg5 arg9 arg11 h3 f4 f5 f9) (Ok.load _ h0 arg11 1 10 _ (by decide))) ?_
  refine Ok.cons _ 1 9 _ _ (piece_state i S hg 1 9 _ _ hz hv (run_ctx.sl.v311 (F := Ideal) c i arg4 arg5 arg9 arg11 h3 f4 f5 f9) (Ok.load _ h0 arg11 1 9 _ (by decide))) ?_
  refine Ok.cons _ 1 8 _ _ (piece_state i S hg 1 8 _ _ hz hv (run_ctx.sl.v309 (F := Ideal) c i arg4 arg5 arg9 arg11 h3 f4 f5 f9) (Ok.load _ h0 arg11 1 8 _ (by decide))) ?_
  refine Ok.cons _ 1 7 _ _ (piece_state i S hg 1 7 _ _ hz hv (run_ctx.sl.v307 (F := Ideal) c i arg4 arg5 arg9 arg11 h3 f4 f5 f9) (Ok.load _ h0 arg11 1 7 _ (by decide))) ?_
  refine Ok.cons _ 1 6 _ _ (piece_state i S hg 1 6 _ _ hz hv (run_ctx.sl.v305 (F := Ideal) c i arg4 arg5 arg9 arg11 h3 f4 f5 f9) (Ok.load _ h0 arg11 1 6 _ (by decide))) ?_
  refine Ok.cons _ 1 5 _ _ (piece_state i S hg 1 5 _ _ hz hv (run_ctx.sl.v303 (F := Ideal) c i arg4 arg5 arg9 arg11 h3 f4 f5 f9) (Ok.load _ h0 arg11 1 5 _ (by decide))) ?_
  refine Ok.cons _ 1 4 _ _ (piece_state i S hg 1 4 _ _ hz hv (run_ctx.sl.v301 (F := Ideal) c i arg4 arg5 arg9 arg11 h3 f4 f5 f9) (Ok.load _ h0 arg11 1 4 _ (by decide))) ?_
  refine Ok.cons _ 1 3 _ _ (piece_state i S hg 1 3 _ _ hz hv (run_ctx.sl.v299 (F := Ideal) c i arg4 arg5 arg9 arg11 h3 f4 f5 f9) (Ok.load _ h0 arg11 1 3 _ (by decide))) ?_
  refine Ok.cons _ 1 2 _ _ (piece_state i S hg 1 2 _ _ hz hv (run_ctx.sl.v297 (F := Ideal) c i arg4 arg5 arg9 arg11 h3 f4 f5 f9) (Ok.load _ h0 arg11 1 2 _ (by decide))) ?_
  refine Ok.cons _ 1 1 _ _ (piece_state i S hg 1 1 _ _ hz hv (run_ctx.sl.v295 (F := Ideal) c i arg4 arg5 arg9 arg11 h3 f4 f5 f9) (Ok.load _ h0 arg11 1 1 _ (by decide))) ?_
  refine Ok.cons _ 1 0 _ _ (piece_state i S hg 1 0 _ _ hz hv (run_ctx.sl.v293 (F := Ideal) c i arg4 arg5 arg9 arg11 h3 f4 f5 f9) (Ok.load _ h0 arg11 1 0 _ (by decide))) ?_
  exact h0

theorem ctx_st2 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) S) (run_ctx.sl.HS_33 (F := Ideal) c i arg4 arg5 arg9 arg11 h3 f4 f5 f9) 32) :
    Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) S) (run_ctx.sl.HS_49 (F := Ideal) c i arg4 arg5 arg9 arg11 h3 f4 f5 f9) 48 := by
  have hz := chk_off1 i 2 arg5 f5 (k0_off1_inb i h3 2)
  have hv := chk_off1 i 2 arg4 f4 (k0_off1_inb i h3 2)
  refine Ok.cons _ 2 15 _ _ (piece_state i S hg 2 15 _ _ hz hv (run_ctx.sl.v551 (F := Ideal) c i arg4 arg5 arg9 arg11 h3 f4 f5 f9) (Ok.load _ h0 arg11 2 15 _ (by decide))) ?_
  refine Ok.cons _ 2 14 _ _ (piece_state i S hg 2 14 _ _ hz hv (run_ctx.sl.v549 (F := Ideal) c i arg4 arg5 arg9 arg11 h3 f4 f5 f9) (Ok.load _ h0 arg11 2 14 _ (by decide))) ?_
  refine Ok.cons _ 2 13 _ _ (piece_state i S hg 2 13 _ _ hz hv (run_ctx.sl.v547 (F := Ideal) c i arg4 arg5 arg9 arg11 h3 f4 f5 f9) (Ok.load _ h0 arg11 2 13 _ (by decide))) ?_
  refine Ok.cons _ 2 12 _ _ (piece_state i S hg 2 12 _ _ hz hv (run_ctx.sl.v545 (F := Ideal) c i arg4 arg5 arg9 arg11 h3 f4 f5 f9) (Ok.load _ h0 arg11 2 12 _ (by decide))) ?_
  refine Ok.cons _ 2 11 _ _ (piece_state i S hg 2 11 _ _ hz hv (run_ctx.sl.v543 (F := Ideal) c i arg4 arg5 arg9 arg11 h3 f4 f5 f9) (Ok.load _ h0 arg11 2 11 _ (by decide))) ?_
  refine Ok.cons _ 2 10 _ _ (piece_state i S hg 2 10 _ _ hz hv (run_ctx.sl.v541 (F := Ideal) c i arg4 arg5 arg9 arg11 h3 f4 f5 f9) (Ok.load _ h0 arg11 2 10 _ (by decide))) ?_
  refine Ok.cons _ 2 9 _ _ (piece_state i S hg 2 9 _ _ hz hv (run_ctx.sl.v539 (F := Ideal) c i arg4 arg5 arg9 arg11 h3 f4 f5 f9) (Ok.load _ h0 arg11 2 9 _ (by decide))) ?_
  refine Ok.cons _ 2 8 _ _ (piece_state i S hg 2 8 _ _ hz hv (run_ctx.sl.v537 (F := Ideal) c i arg4 arg5 arg9 arg11 h3 f4 f5 f9) (Ok.load _ h0 arg11 2 8 _ (by decide))) ?_
  refine Ok.cons _ 2 7 _ _ (piece_state i S hg 2 7 _ _ hz hv (run_ctx.sl.v535 (F := Ideal) c i arg4 arg5 arg9 arg11 h3 f4 f5 f9) (Ok.load _ h0 arg11 2 7 _ (by decide))) ?_
  refine Ok.cons _ 2 6 _ _ (piece_state i S hg 2 6 _ _ hz hv (run_ctx.sl.v533 (F := Ideal) c i arg4 arg5 arg9 arg11 h3 f4 f5 f9) (Ok.load _ h0 arg11 2 6 _ (by decide))) ?_
  refine Ok.cons _ 2 5 _ _ (piece_state i S hg 2 5 _ _ hz hv (run_ctx.sl.v531 (F := Ideal) c i arg4 arg5 arg9 arg11 h3 f4 f5 f9) (Ok.load _ h0 arg11 2 5 _ (by decide))) ?_
  refine Ok.cons _ 2 4 _ _ (piece_state i S hg 2 4 _ _ hz hv (run_ctx.sl.v529 (F := Ideal) c i arg4 arg5 arg9 arg11 h3 f4 f5 f9) (Ok.load _ h0 arg11 2 4 _ (by decide))) ?_
  refine Ok.cons _ 2 3 _ _ (piece_state i S hg 2 3 _ _ hz hv (run_ctx.sl.v527 (F := Ideal) c i arg4 arg5 arg9 arg11 h3 f4 f5 f9) (Ok.load _ h0 arg11 2 3 _ (by decide))) ?_
  refine Ok.cons _ 2 2 _ _ (piece_state i S hg 2 2 _ _ hz hv (run_ctx.sl.v525 (F := Ideal) c i arg4 arg5 arg9 arg11 h3 f4 f5 f9) (Ok.load _ h0 arg11 2 2 _ (by decide))) ?_
  refine Ok.cons _ 2 1 _ _ (piece_state i S hg 2 1 _ _ hz hv (run_ctx.sl.v523 (F := Ideal) c i arg4 arg5 arg9 arg11 h3 f4 f5 f9) (Ok.load _ h0 arg11 2 1 _ (by decide))) ?_
  refine Ok.cons _ 2 0 _ _ (piece_state i S hg 2 0 _ _ hz hv (run_ctx.sl.v521 (F := Ideal) c i arg4 arg5 arg9 arg11 h3 f4 f5 f9) (Ok.load _ h0 arg11 2 0 _ (by decide))) ?_
  exact h0

theorem ctx_st3 (S : States) (hg : Good (k0_pay3 (F := Ideal) (View.readAt (Elt Ideal) arg9.view (Rect.unit (s := S1x1x2048) ![0, 0, 0] S1x1x2048.size inb_S1x1x2048_S1x1x2048_0_0_0).toLoadRect f9)))
    (h0 : Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) S) (run_ctx.sl.HS_49 (F := Ideal) c i arg4 arg5 arg9 arg11 h3 f4 f5 f9) 48) :
    Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) S) (run_ctx.sl.HS_57 (F := Ideal) c i arg4 arg5 arg9 arg11 h3 f4 f5 f9) 56 := by
  have hz := chk_off1 i 3 arg5 f5 (k0_off1_inb i h3 3)
  have hv := chk_off1 i 3 arg4 f4 (k0_off1_inb i h3 3)
  refine Ok.cons _ 3 7 _ _ (piece_state i S hg 3 7 _ _ hz hv (run_ctx.sl.v763 (F := Ideal) c i arg4 arg5 arg9 arg11 h3 f4 f5 f9) (Ok.load _ h0 arg11 3 7 _ (by decide))) ?_
  refine Ok.cons _ 3 6 _ _ (piece_state i S hg 3 6 _ _ hz hv (run_ctx.sl.v761 (F := Ideal) c i arg4 arg5 arg9 arg11 h3 f4 f5 f9) (Ok.load _ h0 arg11 3 6 _ (by decide))) ?_
  refine Ok.cons _ 3 5 _ _ (piece_state i S hg 3 5 _ _ hz hv (run_ctx.sl.v759 (F := Ideal) c i arg4 arg5 arg9 arg11 h3 f4 f5 f9) (Ok.load _ h0 arg11 3 5 _ (by decide))) ?_
  refine Ok.cons _ 3 4 _ _ (piece_state i S hg 3 4 _ _ hz hv (run_ctx.sl.v757 (F := Ideal) c i arg4 arg5 arg9 arg11 h3 f4 f5 f9) (Ok.load _ h0 arg11 3 4 _ (by decide))) ?_
  refine Ok.cons _ 3 3 _ _ (piece_state i S hg 3 3 _ _ hz hv (run_ctx.sl.v755 (F := Ideal) c i arg4 arg5 arg9 arg11 h3 f4 f5 f9) (Ok.load _ h0 arg11 3 3 _ (by decide))) ?_
  refine Ok.cons _ 3 2 _ _ (piece_state i S hg 3 2 _ _ hz hv (run_ctx.sl.v753 (F := Ideal) c i arg4 arg5 arg9 arg11 h3 f4 f5 f9) (Ok.load _ h0 arg11 3 2 _ (by decide))) ?_
  refine Ok.cons _ 3 1 _ _ (piece_state i S hg 3 1 _ _ hz hv (run_ctx.sl.v751 (F := Ideal) c i arg4 arg5 arg9 arg11 h3 f4 f5 f9) (Ok.load _ h0 arg11 3 1 _ (by decide))) ?_
  refine Ok.cons _ 3 0 _ _ (piece_state i S hg 3 0 _ _ hz hv (run_ctx.sl.v749 (F := Ideal) c i arg4 arg5 arg9 arg11 h3 f4 f5 f9) (Ok.load _ h0 arg11 3 0 _ (by decide))) ?_
  exact h0

end Cert.Proof.Scan
-- ==== Proof.ScanRunV.lean ====
/- Hand-written: the run of the recurrence's kernel body at the ideal values, with what it leaves. -/
module

public import proofs.«01_k».proof.Proof.ScanRedo
public import proofs.«01_k».proof.Proof.ScanLatPieces
public import proofs.«01_k».proof.Proof.ScanCtxPieces

@[expose] public section

set_option maxRecDepth 65536

noncomputable section

namespace Cert.Proof.Scan

open Cert.ScanIdeal Cert.ScanIdeal.Gen Cert.Proof.ScanSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem bound_whole (arg9 : Memref sig .tc .vmem S1x1x2048 .f32) (f9 : arg9.view.ty.Contents (Elt Ideal)) :
    (View.readAt (Elt Ideal) arg9.view (Rect.unit (s := S1x1x2048) ![0, 0, 0] S1x1x2048.size inb_S1x1x2048_S1x1x2048_0_0_0).toLoadRect f9) = arg9.view.read (Elt Ideal) f9 := by
  funext x
  rw [View.readAt_apply]
  congr 1
  funext a
  apply Fin.ext
  fin_cases a
  · show 0 + 1 * (x 0).val = (x 0).val
    omega
  · show 0 + 1 * (x 1).val = (x 1).val
    omega
  · show 0 + 1 * (x 2).val = (x 2).val
    omega

theorem pay2_apply (w : Vec Ideal S1x16x128x128 .f32) (h : Fin 16) (a k : Fin 128) :
    (k0_pay2 (F := Ideal) w (ix4 (0 : Fin 1) h a k : S1x16x128x128.Idx) : EReal) = w (ix4 (0 : Fin 1) h a k : S1x16x128x128.Idx) := by
  pointwise [k0_pay2]
  try rfl

theorem lat_first (c : Dev nD) (i : grid0.Coords) (arg7 : Memref sig .tc .vmem S1x256x2048 .bf16) (arg8 : Memref sig .tc .vmem S1x256x2048 .bf16) (arg9 : Memref sig .tc .vmem S1x1x2048 .f32) (arg11 : Memref sig .tc .vmem S5x16x128x128 .f32)  (f7 : arg7.view.ty.Contents (Elt Ideal)) (f8 : arg8.view.ty.Contents (Elt Ideal)) (f9 : arg9.view.ty.Contents (Elt Ideal)) (f11 : arg11.view.ty.Contents (Elt Ideal))  (S : States) (hS : ∀ h a k, (arg11.view.read (Elt Ideal) f11 (ix4 (4 : Fin 5) (h : Fin 16) (a : Fin 128) (k : Fin 128) : S5x16x128x128.Idx) : EReal) = S h a k) :
    Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_1 (F := Ideal) c arg11 f11) 0 := by
  refine Ok.first _ _ _ fun h a k => ?_
  rw [pay2_apply]
  refine Eq.trans ?_ (hS h a k)
  refine (View.readAt_apply _ _ _).trans ?_
  congr 1
  funext b
  apply Fin.ext
  fin_cases b
  · rfl
  · show 0 + 1 * h.val = h.val
    omega
  · show 0 + 1 * a.val = a.val
    omega
  · show 0 + 1 * k.val = k.val
    omega

theorem lat_states (c : Dev nD) (i : grid0.Coords) (arg7 : Memref sig .tc .vmem S1x256x2048 .bf16) (arg8 : Memref sig .tc .vmem S1x256x2048 .bf16) (arg9 : Memref sig .tc .vmem S1x1x2048 .f32) (arg11 : Memref sig .tc .vmem S5x16x128x128 .f32)  (h4 : k0_cond4 i = 1#1) (f7 : arg7.view.ty.Contents (Elt Ideal)) (f8 : arg8.view.ty.Contents (Elt Ideal)) (f9 : arg9.view.ty.Contents (Elt Ideal)) (f11 : arg11.view.ty.Contents (Elt Ideal))  (S : States) (hg : Good (k0_pay3 (F := Ideal) (View.readAt (Elt Ideal) arg9.view (Rect.unit (s := S1x1x2048) ![0, 0, 0] S1x1x2048.size inb_S1x1x2048_S1x1x2048_0_0_0).toLoadRect f9))) (hS : ∀ h a k, (arg11.view.read (Elt Ideal) f11 (ix4 (4 : Fin 5) (h : Fin 16) (a : Fin 128) (k : Fin 128) : S5x16x128x128.Idx) : EReal) = S h a k) :
    Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_lat.sl.H11_65 (F := Ideal) c i arg7 arg8 arg9 arg11 h4 f7 f8 f9 f11) 64 :=
  lat_st3 c i arg7 arg8 arg9 arg11 h4 f7 f8 f9 f11 S hg (lat_st2 c i arg7 arg8 arg9 arg11 h4 f7 f8 f9 f11 S hg
    (lat_st1 c i arg7 arg8 arg9 arg11 h4 f7 f8 f9 f11 S hg (lat_st0 c i arg7 arg8 arg9 arg11 h4 f7 f8 f9 f11 S hg (lat_first c i arg7 arg8 arg9 arg11 f7 f8 f9 f11 S hS))))

theorem lat_outs (c : Dev nD) (i : grid0.Coords) (arg6 : Memref sig .tc .vmem S1x256x2048 .bf16) (arg7 : Memref sig .tc .vmem S1x256x2048 .bf16) (arg8 : Memref sig .tc .vmem S1x256x2048 .bf16) (arg9 : Memref sig .tc .vmem S1x1x2048 .f32) (arg11 : Memref sig .tc .vmem S5x16x128x128 .f32)  (h4 : k0_cond4 i = 1#1) (f6 : arg6.view.ty.Contents (Elt Ideal)) (f7 : arg7.view.ty.Contents (Elt Ideal)) (f8 : arg8.view.ty.Contents (Elt Ideal)) (f9 : arg9.view.ty.Contents (Elt Ideal)) (f11 : arg11.view.ty.Contents (Elt Ideal))  (S : States) (hg : Good (k0_pay3 (F := Ideal) (View.readAt (Elt Ideal) arg9.view (Rect.unit (s := S1x1x2048) ![0, 0, 0] S1x1x2048.size inb_S1x1x2048_S1x1x2048_0_0_0).toLoadRect f9))) (hS : ∀ h a k, (arg11.view.read (Elt Ideal) f11 (ix4 (4 : Fin 5) (h : Fin 16) (a : Fin 128) (k : Fin 128) : S5x16x128x128.Idx) : EReal) = S h a k) :
    OkO (dir i) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) (run_lat.sl.H10_64 (F := Ideal) c i arg6 arg7 arg8 arg9 arg11 h4 f6 f7 f8 f9 f11) 64 := by
  have s0 := lat_first c i arg7 arg8 arg9 arg11 f7 f8 f9 f11 S hS
  have s1 := lat_st0 c i arg7 arg8 arg9 arg11 h4 f7 f8 f9 f11 S hg s0
  have s2 := lat_st1 c i arg7 arg8 arg9 arg11 h4 f7 f8 f9 f11 S hg s1
  have s3 := lat_st2 c i arg7 arg8 arg9 arg11 h4 f7 f8 f9 f11 S hg s2
  exact lat_out3 c i arg6 arg7 arg8 arg9 arg11 h4 f6 f7 f8 f9 f11 S hg s3 (lat_out2 c i arg6 arg7 arg8 arg9 arg11 h4 f6 f7 f8 f9 f11 S hg s2
    (lat_out1 c i arg6 arg7 arg8 arg9 arg11 h4 f6 f7 f8 f9 f11 S hg s1 (lat_out0 c i arg6 arg7 arg8 arg9 arg11 h4 f6 f7 f8 f9 f11 S hg s0 (OkO.nil _ _))))

/-- The flags as written. -/
theorem flags_read (A : Memref sig .tc .smem S4 .i32) (f : A.view.ty.Contents (Elt Ideal)) (w : Fin 4 → BitVec 32) (r : Fin 4)
    (i0 : ∀ a, (![0] : Fin 1 → ℕ) a + S1.size a ≤ S4.size a) (i1 : ∀ a, (![1] : Fin 1 → ℕ) a + S1.size a ≤ S4.size a)
    (i2 : ∀ a, (![2] : Fin 1 → ℕ) a + S1.size a ≤ S4.size a) (i3 : ∀ a, (![3] : Fin 1 → ℕ) a + S1.size a ≤ S4.size a) :
    A.view.read (Elt Ideal) (A.view.writes (Elt Ideal) f [⟨Rect.unit (s := S4) ![3] S1.size i3, fun _ => w 3⟩, ⟨Rect.unit (s := S4) ![2] S1.size i2, fun _ => w 2⟩,
      ⟨Rect.unit (s := S4) ![1] S1.size i1, fun _ => w 1⟩, ⟨Rect.unit (s := S4) ![0] S1.size i0, fun _ => w 0⟩]) (ix1 r) = w r := by
  have hv : ∀ (n : Fin 4) (inb : ∀ a, (![n.val] : Fin 1 → ℕ) a + S1.size a ≤ S4.size a) (x : S1.Idx),
      w n = (fun y : S4.Idx => w (y 0)) ((Rect.unit (s := S4) ![n.val] S1.size inb).emb x) := by
    intro n inb x
    refine congrArg w (Fin.ext ?_)
    show n.val = n.val + 1 * (x 0).val
    have hx : (x 0).val < 1 := (x 0).isLt
    omega
  have hm : ∀ (n : Fin 4) (inb : ∀ a, (![n.val] : Fin 1 → ℕ) a + S1.size a ≤ S4.size a), (ix1 n : S4.Idx) ∈ (Rect.unit (s := S4) ![n.val] S1.size inb).set := by
    intro n inb
    rw [Rect.mem_set_unit]
    intro a
    fin_cases a
    exact ⟨le_refl _, Nat.lt_succ_self _⟩
  refine View.read_writes_apply_of_pieces A.view f (fun y : S4.Idx => w (y 0)) _ (fun p hp x => ?_) (ix1 r) ?_
  · rcases List.mem_cons.mp hp with hp | hp
    · subst hp; exact hv 3 i3 x
    rcases List.mem_cons.mp hp with hp | hp
    · subst hp; exact hv 2 i2 x
    rcases List.mem_cons.mp hp with hp | hp
    · subst hp; exact hv 1 i1 x
    rw [List.mem_singleton] at hp
    subst hp; exact hv 0 i0 x
  · fin_cases r
    · exact ⟨_, List.mem_cons_of_mem _ (List.mem_cons_of_mem _ (List.mem_cons_of_mem _ (List.mem_singleton_self _))), hm 0 i0⟩
    · exact ⟨_, List.mem_cons_of_mem _ (List.mem_cons_of_mem _ List.mem_cons_self), hm 1 i1⟩
    · exact ⟨_, List.mem_cons_of_mem _ List.mem_cons_self, hm 2 i2⟩
    · exact ⟨_, List.mem_cons_self, hm 3 i3⟩

theorem lat_flags (c : Dev nD) (i : grid0.Coords) (arg8 : Memref sig .tc .vmem S1x256x2048 .bf16) (arg9 : Memref sig .tc .vmem S1x1x2048 .f32) (arg12 : Memref sig .tc .smem S4 .i32) (h4 : k0_cond4 i = 1#1) (f8 : arg8.view.ty.Contents (Elt Ideal)) (f9 : arg9.view.ty.Contents (Elt Ideal)) (g : arg12.view.ty.Contents (Elt Ideal)) (Q V : Vec Ideal S1x256x2048 .bf16) (S : States) (hg : Good (k0_pay3 (F := Ideal) (View.readAt (Elt Ideal) arg9.view (Rect.unit (s := S1x1x2048) ![0, 0, 0] S1x1x2048.size inb_S1x1x2048_S1x1x2048_0_0_0).toLoadRect f9))) (r : Fin 4)
    (hr : arg12.view.read (Elt Ideal) (arg12.view.writes (Elt Ideal) g (run_lat.sl.H12_4 (F := Ideal) c i arg8 arg9 h4 f8 f9)) (ix1 r) ≠ 1#32) (t : Fin 64) (h : Fin 16) (a : Fin 128) :
    fastG i (k0_pay3 (F := Ideal) (View.readAt (Elt Ideal) arg9.view (Rect.unit (s := S1x1x2048) ![0, 0, 0] S1x1x2048.size inb_S1x1x2048_S1x1x2048_0_0_0).toLoadRect f9)) Q (arg8.view.read (Elt Ideal) f8) V S r t h a = outG i (k0_pay3 (F := Ideal) (View.readAt (Elt Ideal) arg9.view (Rect.unit (s := S1x1x2048) ![0, 0, 0] S1x1x2048.size inb_S1x1x2048_S1x1x2048_0_0_0).toLoadRect f9)) Q (arg8.view.read (Elt Ideal) f8) V S r t h a := by
  have e := flags_read arg12 g ![run_lat.sl.v168 (F := Ideal) c i arg8 arg9 h4 f8 f9, run_lat.sl.v693 (F := Ideal) c i arg8 arg9 h4 f8 f9, run_lat.sl.v1218 (F := Ideal) c i arg8 arg9 h4 f8 f9, run_lat.sl.v1743 (F := Ideal) c i arg8 arg9 h4 f8 f9] r
    inb_S4_S1_0 inb_S4_S1_1 inb_S4_S1_2 inb_S4_S1_3
  have hr' : (![run_lat.sl.v168 (F := Ideal) c i arg8 arg9 h4 f8 f9, run_lat.sl.v693 (F := Ideal) c i arg8 arg9 h4 f8 f9, run_lat.sl.v1218 (F := Ideal) c i arg8 arg9 h4 f8 f9, run_lat.sl.v1743 (F := Ideal) c i arg8 arg9 h4 f8 f9] : Fin 4 → BitVec 32) r ≠ 1#32 :=
    fun he => hr (e.trans he)
  clear e hr
  fin_cases r
  · exact fast_ok i _ _ _ _ S hg 0 _ (chk_off2 i 0 arg8 f8 (k0_off2_inb i h4 0)) hr' t h a
  · exact fast_ok i _ _ _ _ S hg 1 _ (chk_off2 i 1 arg8 f8 (k0_off2_inb i h4 1)) hr' t h a
  · exact fast_ok i _ _ _ _ S hg 2 _ (chk_off2 i 2 arg8 f8 (k0_off2_inb i h4 2)) hr' t h a
  · exact fast_ok i _ _ _ _ S hg 3 _ (chk_off2 i 3 arg8 f8 (k0_off2_inb i h4 3)) hr' t h a

set_option maxHeartbeats 40000000 in
/-- On a latent block the body leaves the block's outputs in its output, and the state after the block in its scratch's last layer. -/
theorem run_latV (c : Dev nD) (i : grid0.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x1x256x2048 .bf16) (harg10 : arg10.IsWhole) (arg11 : Memref sig .tc .vmem S5x16x128x128 .f32) (harg11 : arg11.IsWhole) (arg12 : Memref sig .tc .smem S4 .i32) (harg12 : arg12.IsWhole) (arg13 : Memref sig .tc .vmem S64x2048 .f32) (harg13 : arg13.IsWhole) (arg14 : Memref sig .tc .vmem S64x2048 .f32) (harg14 : arg14.IsWhole) (arg15 : Memref sig .tc .vmem S64x2048 .f32) (harg15 : arg15.IsWhole) (arg16 : Memref sig .tc .vmem S64x2048 .f32) (harg16 : arg16.IsWhole)
    (h1 : ¬ (Scalar.cmpi .ne (Scalar.extui (Scalar.cmpi .eq (BitVec.ofNat 32 (i 2).val) 0#32)) 0#32 = 1#1))
    (h2 : Scalar.cmpi .ne (Scalar.extui (Scalar.cmpi .sgt (BitVec.ofNat 32 (i 2).val) 0#32)) 0#32 = 1#1)
    (h3 : ¬ (k0_cond3 i = 1#1)) (h4 : k0_cond4 i = 1#1)
    (x6 : Vec Ideal S1x256x2048 .bf16) (x7 : Vec Ideal S1x256x2048 .bf16) (x8 : Vec Ideal S1x256x2048 .bf16) (x9 : Vec Ideal S1x1x2048 .f32) (S : States) (hg : Good (k0_pay3 (F := Ideal) x9)) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, ⌜∀ h a k, (d (ix4 4 h a k) : EReal) = S h a k⌝ ∗ owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg6 fullShare x6 ∗ owns (c : Thread nD τ) arg7 fullShare x7 ∗ owns (c : Thread nD τ) arg8 fullShare x8 ∗ owns (c : Thread nD τ) arg9 fullShare x9 ∗ (∃ d, ⌜∀ y, (d y : EReal) = outArr (dir i) (outG i (k0_pay3 (F := Ideal) x9) x6 x8 x7 S) y⌝ ∗ owns (c : Thread nD τ) arg10 fullShare d) ∗ (∃ d, ⌜∀ h a k, (d (ix4 4 h a k) : EReal) = stG i (k0_pay3 (F := Ideal) x9) x8 x7 S 4 h a k⌝ ∗ owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := Ideal)) Variants.none c none) Set.univ (cc0_hgrn_scan i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_hgrn_scan_eq_skeleton]; unfold cc0_hgrn_scan_skel
  unfold owns
  iintro ⟨⟨%f6, %hf6, H6⟩, ⟨%f7, %hf7, H7⟩, ⟨%f8, %hf8, H8⟩, ⟨%f9, %hf9, H9⟩, ⟨%d10, %f10, -, H10⟩, ⟨%d11, %hd11, %f11, %hf11, H11⟩, ⟨%d12, %f12, -, H12⟩, ⟨%d13, %f13, -, H13⟩, ⟨%d14, %f14, -, H14⟩, ⟨%d15, %f15, -, H15⟩, ⟨%d16, %f16, -, H16⟩, Hk⟩
  sl_exec_parts (disch := first | sl_exact h1 | sl_exact h2 | sl_exact h3 | sl_exact h4)
  have hgs : Good (k0_pay3 (F := Ideal) (View.readAt (Elt Ideal) arg9.view (Rect.unit (s := S1x1x2048) ![0, 0, 0] S1x1x2048.size inb_S1x1x2048_S1x1x2048_0_0_0).toLoadRect f9)) := by rw [bound_whole, hf9]; exact hg
  have hSs : ∀ h a k, (arg11.view.read (Elt Ideal) f11 (ix4 (4 : Fin 5) (h : Fin 16) (a : Fin 128) (k : Fin 128) : S5x16x128x128.Idx) : EReal) = S h a k := by
    intro h a k; rw [hf11]; exact hd11 h a k
  have hL : Ok (stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S) (run_latV.sl.H11_65 c i arg7 arg8 arg9 arg11 h4 f7 f8 f9 f11) 64 :=
    lat_states c i arg7 arg8 arg9 arg11 h4 f7 f8 f9 f11 S hgs hSs
  have hO : OkO (dir i) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) (run_latV.sl.H10_64 c i arg6 arg7 arg8 arg9 arg11 h4 f6 f7 f8 f9 f11) 64 :=
    lat_outs c i arg6 arg7 arg8 arg9 arg11 h4 f6 f7 f8 f9 f11 S hgs hSs
  have hO' := fun y => OkO.read (dir i) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) hO arg10 f10 y
  have hst : ∀ (r : Fin 4) h a k, (arg11.view.read (Elt Ideal) (arg11.view.writes (Elt Ideal) (View.junk (Val := Elt Ideal) arg11.view) (run_latV.sl.H11_65 c i arg7 arg8 arg9 arg11 h4 f7 f8 f9 f11)) (ix4 r.castSucc h a k) : EReal) = stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S r.val h a k :=
    fun r h a k => Ok.read _ hL arg11 _ r.castSucc h a k (by have := r.isLt; have := h.isLt; show 16 * r.val + h.val < 16 + 64; omega)
  have hst4 : ∀ h a k, (arg11.view.read (Elt Ideal) (arg11.view.writes (Elt Ideal) (View.junk (Val := Elt Ideal) arg11.view) (run_latV.sl.H11_65 c i arg7 arg8 arg9 arg11 h4 f7 f8 f9 f11)) (ix4 (4 : Fin 5) h a k) : EReal) = stG i (k0_pay3 (F := Ideal) (View.readAt (Elt Ideal) arg9.view (Rect.unit (s := S1x1x2048) ![0, 0, 0] S1x1x2048.size inb_S1x1x2048_S1x1x2048_0_0_0).toLoadRect f9)) (arg8.view.read (Elt Ideal) f8) (arg7.view.read (Elt Ideal) f7) S 4 h a k :=
    fun h a k => Ok.read _ hL arg11 _ 4 h a k (by have := h.isLt; show 16 * 4 + h.val < 16 + 64; omega)
  have h12 : ∀ r : Fin 4, arg12.view.read (Elt Ideal) (arg12.view.writes (Elt Ideal) (View.junk (Val := Elt Ideal) arg12.view) (run_latV.sl.H12_4 c i arg8 arg9 h4 f8 f9)) (ix1 r) ≠ 1#32 → ∀ t h a, fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S r t h a = outG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S r t h a := by
    intro r hr t h a
    exact lat_flags c i arg8 arg9 arg12 h4 f8 f9 _ _ _ S hgs r hr t h a
  sl_for (fun (n : ℕ) (_ : Unit) => iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, ⌜∀ y, (arg10.view.read (Elt Ideal) f y : EReal) = outArr (dir i) (mixG (outG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) (fastG i (k0_pay3 (F := Ideal) (View.readAt (Elt Ideal) arg9.view (Rect.unit (s := S1x1x2048) ![0, 0, 0] S1x1x2048.size inb_S1x1x2048_S1x1x2048_0_0_0).toLoadRect f9)) (arg6.view.read (Elt Ideal) f6) (arg8.view.read (Elt Ideal) f8) (arg7.view.read (Elt Ideal) f7) S) (16 * n)) y⌝ ∗ (arg10.view.loc (c : Thread nD τ) ↦[arg10.view.set]{fullShare} f)) ∗ (arg11.view.loc (c : Thread nD τ) ↦[arg11.view.set]{fullShare} (arg11.view.writes (Elt Ideal) (View.junk (Val := Elt Ideal) arg11.view) (run_latV.sl.H11_65 c i arg7 arg8 arg9 arg11 h4 f7 f8 f9 f11))) ∗ (arg12.view.loc (c : Thread nD τ) ↦[arg12.view.set]{fullShare} (arg12.view.writes (Elt Ideal) (View.junk (Val := Elt Ideal) arg12.view) (run_latV.sl.H12_4 c i arg8 arg9 h4 f8 f9))) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))) $$ [H6 H7 H8 H10 H11 H12 H13 H14 H15 H16]
  case region =>
    exact (redoV c i arg3 harg3 arg4 harg4 arg5 harg5 arg6 harg6 arg7 harg7 arg8 harg8 arg9 harg9 arg10 harg10 arg11 harg11 arg12 harg12 arg13 harg13 arg14 harg14 arg15 harg15 arg16 harg16 h4 _ rfl _ _ rfl (arg6.view.read (Elt Ideal) f6) (arg8.view.read (Elt Ideal) f8) (arg7.view.read (Elt Ideal) f7) S f6 f7 f8 _ _ hgs h12 rfl rfl rfl hst).step
  · isplitl [H6]; · iexact H6
    isplitl [H7]; · iexact H7
    isplitl [H8]; · iexact H8
    isplitl [H10]; · iexists _; isplitr; swap; · iexact H10
                     ipureintro; intro y; rw [Nat.mul_zero, mixG_zero]; exact hO' y
    isplitl [H11]; · iexact H11
    isplitl [H12]; · iexact H12
    isplitl [H13]; · iexists _; iexact H13
    isplitl [H14]; · iexists _; iexact H14
    isplitl [H15]; · iexists _; iexact H15
    iexists _; iexact H16
  iintro %_u ⟨H6, H7, H8, ⟨%g10, %hg10, H10⟩, H11, H12, ⟨%g13, H13⟩, ⟨%g14, H14⟩, ⟨%g15, H15⟩, ⟨%g16, H16⟩⟩
  sl_exec_parts (disch := first | sl_exact h1 | sl_exact h2 | sl_exact h3 | sl_exact h4)
  sl_step
  iapply Hk
  rw [show Scf.trips k0_t1_loop.lb k0_t1_loop.ub k0_t1_loop.st = 4 from trips1, mixG_all, bound_whole, hf6, hf7, hf8, hf9] at hg10
  rw [bound_whole, hf7, hf8, hf9] at hst4
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap
    · iexists _; isplitr; swap; · iexact H10
      ipureintro; rfl
    ipureintro; exact hg10
  isplitl [H11]
  · iexists _; isplitr; swap
    · iexists _; isplitr; swap; · iexact H11
      ipureintro; rfl
    ipureintro; exact hst4
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end Cert.Proof.Scan
-- ==== Proof.ScanRunVC.lean ====
/- Hand-written: the run of the recurrence's kernel body at the ideal values, with what it leaves. -/
module

public import proofs.«01_k».proof.Proof.ScanRedo
public import proofs.«01_k».proof.Proof.ScanLatPieces
public import proofs.«01_k».proof.Proof.ScanRunV

@[expose] public section

set_option maxRecDepth 65536

noncomputable section

namespace Cert.Proof.Scan

open Cert.ScanIdeal Cert.ScanIdeal.Gen Cert.Proof.ScanSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem pay1_apply (h : Fin 16) (a k : Fin 128) : (k0_pay1 (F := Ideal) (ix4 (0 : Fin 1) h a k : S1x16x128x128.Idx) : EReal) = 0 := by
  pointwise [k0_pay1]
  try rfl

theorem ctx_first (c : Dev nD) (i : grid0.Coords) (arg4 : Memref sig .tc .vmem S1x256x2048 .bf16) (arg5 : Memref sig .tc .vmem S1x256x2048 .bf16) (arg9 : Memref sig .tc .vmem S1x1x2048 .f32) (arg11 : Memref sig .tc .vmem S5x16x128x128 .f32)  (f4 : arg4.view.ty.Contents (Elt Ideal)) (f5 : arg5.view.ty.Contents (Elt Ideal)) (f9 : arg9.view.ty.Contents (Elt Ideal))  :
    Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) (fun _ _ _ => (0 : EReal))) (run_ctx.sl.HS_1 (F := Ideal)) 0 := by
  refine Ok.first _ _ _ fun h a k => ?_
  rw [pay1_apply]
  rfl

theorem ctx_states (c : Dev nD) (i : grid0.Coords) (arg4 : Memref sig .tc .vmem S1x256x2048 .bf16) (arg5 : Memref sig .tc .vmem S1x256x2048 .bf16) (arg9 : Memref sig .tc .vmem S1x1x2048 .f32) (arg11 : Memref sig .tc .vmem S5x16x128x128 .f32)  (h3 : k0_cond3 i = 1#1) (f4 : arg4.view.ty.Contents (Elt Ideal)) (f5 : arg5.view.ty.Contents (Elt Ideal)) (f9 : arg9.view.ty.Contents (Elt Ideal))  (hg : Good (k0_pay3 (F := Ideal) (View.readAt (Elt Ideal) arg9.view (Rect.unit (s := S1x1x2048) ![0, 0, 0] S1x1x2048.size inb_S1x1x2048_S1x1x2048_0_0_0).toLoadRect f9))) :
    Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) (fun _ _ _ => (0 : EReal))) (run_ctx.sl.HS_49 (F := Ideal) c i arg4 arg5 arg9 arg11 h3 f4 f5 f9) 48 ∧
    Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) (fun _ _ _ => (0 : EReal))) (run_ctx.sl.HS_57 (F := Ideal) c i arg4 arg5 arg9 arg11 h3 f4 f5 f9) 56 := by
  have s3 := ctx_st2 c i arg4 arg5 arg9 arg11 h3 f4 f5 f9 _ hg (ctx_st1 c i arg4 arg5 arg9 arg11 h3 f4 f5 f9 _ hg (ctx_st0 c i arg4 arg5 arg9 arg11 h3 f4 f5 f9 _ hg (ctx_first c i arg4 arg5 arg9 arg11 f4 f5 f9)))
  exact ⟨s3, ctx_st3 c i arg4 arg5 arg9 arg11 h3 f4 f5 f9 _ hg s3⟩

set_option maxHeartbeats 40000000 in
/-- On a context block the body leaves the state after the block in its scratch's last layer. -/
theorem run_ctxV (c : Dev nD) (i : grid0.Coords) (arg3 : Memref sig .tc .vmem S1x256x2048 .bf16) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x1x256x2048 .bf16) (harg10 : arg10.IsWhole) (arg11 : Memref sig .tc .vmem S5x16x128x128 .f32) (harg11 : arg11.IsWhole) (arg12 : Memref sig .tc .smem S4 .i32) (harg12 : arg12.IsWhole) (arg13 : Memref sig .tc .vmem S64x2048 .f32) (harg13 : arg13.IsWhole) (arg14 : Memref sig .tc .vmem S64x2048 .f32) (harg14 : arg14.IsWhole) (arg15 : Memref sig .tc .vmem S64x2048 .f32) (harg15 : arg15.IsWhole) (arg16 : Memref sig .tc .vmem S64x2048 .f32) (harg16 : arg16.IsWhole)
    (h1 : Scalar.cmpi .ne (Scalar.extui (Scalar.cmpi .eq (BitVec.ofNat 32 (i 2).val) 0#32)) 0#32 = 1#1)
    (h2 : ¬ (Scalar.cmpi .ne (Scalar.extui (Scalar.cmpi .sgt (BitVec.ofNat 32 (i 2).val) 0#32)) 0#32 = 1#1))
    (h3 : k0_cond3 i = 1#1) (h4 : ¬ (k0_cond4 i = 1#1))
    (x3 : Vec Ideal S1x256x2048 .bf16) (x4 : Vec Ideal S1x256x2048 .bf16) (x5 : Vec Ideal S1x256x2048 .bf16) (x9 : Vec Ideal S1x1x2048 .f32) (hg : Good (k0_pay3 (F := Ideal) x9)) (K : PUnit → sProp 𝕄) :
    iprop(owns (c : Thread nD τ) arg3 fullShare x3 ∗ owns (c : Thread nD τ) arg4 fullShare x4 ∗ owns (c : Thread nD τ) arg5 fullShare x5 ∗ owns (c : Thread nD τ) arg9 fullShare x9 ∗ (∃ d, owns (c : Thread nD τ) arg11 fullShare d)
        ∗ (iprop(owns (c : Thread nD τ) arg3 fullShare x3 ∗ owns (c : Thread nD τ) arg4 fullShare x4 ∗ owns (c : Thread nD τ) arg5 fullShare x5 ∗ owns (c : Thread nD τ) arg9 fullShare x9 ∗ (∃ d, ⌜∀ h a k, (d (ix4 4 h a k) : EReal) = stG i (k0_pay3 (F := Ideal) x9) x5 x4 (fun _ _ _ => (0 : EReal)) 4 h a k⌝ ∗ owns (c : Thread nD τ) arg11 fullShare d)) -∗ K ⟨⟩))
      ⊢ wp frame (wpE (defs₀ (F := Ideal)) Variants.none c none) Set.univ (cc0_hgrn_scan i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_hgrn_scan_eq_skeleton]; unfold cc0_hgrn_scan_skel
  unfold owns
  iintro ⟨⟨%f3, %hf3, H3⟩, ⟨%f4, %hf4, H4⟩, ⟨%f5, %hf5, H5⟩, ⟨%f9, %hf9, H9⟩, ⟨%ds, %fs, -, HS⟩, Hk⟩
  sl_exec_parts (disch := first | sl_exact h1 | sl_exact h2 | sl_exact h3 | sl_exact h4)
  sl_step
  iapply Hk
  have hgs : Good (k0_pay3 (F := Ideal) (View.readAt (Elt Ideal) arg9.view (Rect.unit (s := S1x1x2048) ![0, 0, 0] S1x1x2048.size inb_S1x1x2048_S1x1x2048_0_0_0).toLoadRect f9)) := by rw [bound_whole, hf9]; exact hg
  obtain ⟨s48, s56⟩ := ctx_states c i arg4 arg5 arg9 arg11 h3 f4 f5 f9 hgs
  have hz := chk_off1 i 3 arg5 f5 (k0_off1_inb i h3 3)
  have hv := chk_off1 i 3 arg4 f4 (k0_off1_inb i h3 3)
  have hO : ∀ (f : arg11.view.ty.Contents (Elt Ideal)) L, Ok (stG i (k0_pay3 (F := Ideal) (View.readAt (Elt Ideal) arg9.view (Rect.unit (s := S1x1x2048) ![0, 0, 0] S1x1x2048.size inb_S1x1x2048_S1x1x2048_0_0_0).toLoadRect f9)) (arg5.view.read (Elt Ideal) f5) (arg4.view.read (Elt Ideal) f4) (fun _ _ _ => (0 : EReal))) L 64 → ∀ h a k, (arg11.view.read (Elt Ideal) (arg11.view.writes (Elt Ideal) f L) (ix4 (4 : Fin 5) h a k) : EReal) = stG i (k0_pay3 (F := Ideal) x9) x5 x4 (fun _ _ _ => (0 : EReal)) 4 h a k := by
    intro f L hL h a k
    refine (Ok.read _ hL arg11 _ 4 h a k (by have := h.isLt; show 16 * 4 + h.val < 16 + 64; omega)).trans ?_
    rw [bound_whole, hf4, hf5, hf9]
    rfl
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H9]
  · iexists _; isplitr; swap; · iexact H9
    ipureintro; exact hf9
  iexists _; isplitr; swap
  · iexists _; isplitr; swap; · iexact HS
    ipureintro; rfl
  ipureintro
  refine hO _ _ ?_
  refine Ok.cons _ 3 15 _ _ (piece_state i _ hgs 3 15 _ _ hz hv (run_ctxV.sl.v779 c i arg4 arg5 arg9 arg11 h3 f4 f5 f9) (Ok.load _ s48 arg11 3 15 _ (by decide))) ?_
  refine Ok.cons _ 3 14 _ _ (piece_state i _ hgs 3 14 _ _ hz hv (run_ctxV.sl.v777 c i arg4 arg5 arg9 arg11 h3 f4 f5 f9) (Ok.load _ s48 arg11 3 14 _ (by decide))) ?_
  refine Ok.cons _ 3 13 _ _ (piece_state i _ hgs 3 13 _ _ hz hv (run_ctxV.sl.v775 c i arg4 arg5 arg9 arg11 h3 f4 f5 f9) (Ok.load _ s48 arg11 3 13 _ (by decide))) ?_
  refine Ok.cons _ 3 12 _ _ (piece_state i _ hgs 3 12 _ _ hz hv (run_ctxV.sl.v773 c i arg4 arg5 arg9 arg11 h3 f4 f5 f9) (Ok.load _ s48 arg11 3 12 _ (by decide))) ?_
  refine Ok.cons _ 3 11 _ _ (piece_state i _ hgs 3 11 _ _ hz hv (run_ctxV.sl.v771 c i arg4 arg5 arg9 arg11 h3 f4 f5 f9) (Ok.load _ s48 arg11 3 11 _ (by decide))) ?_
  refine Ok.cons _ 3 10 _ _ (piece_state i _ hgs 3 10 _ _ hz hv (run_ctxV.sl.v769 c i arg4 arg5 arg9 arg11 h3 f4 f5 f9) (Ok.load _ s48 arg11 3 10 _ (by decide))) ?_
  refine Ok.cons _ 3 9 _ _ (piece_state i _ hgs 3 9 _ _ hz hv (run_ctxV.sl.v767 c i arg4 arg5 arg9 arg11 h3 f4 f5 f9) (Ok.load _ s48 arg11 3 9 _ (by decide))) ?_
  refine Ok.cons _ 3 8 _ _ (piece_state i _ hgs 3 8 _ _ hz hv (run_ctxV.sl.v765 c i arg4 arg5 arg9 arg11 h3 f4 f5 f9) (Ok.load _ s48 arg11 3 8 _ (by decide))) ?_
  exact s56

end Cert.Proof.Scan
-- ==== Proof.ScanLaunch.lean ====
/- Hand-written: the recurrence's launch with its results. -/
module

public import proofs.«01_k».proof.Proof.ScanBlocks
public import proofs.«01_k».proof.Proof.ScanRunV
public import proofs.«01_k».proof.Proof.ScanRunVC
public import Idealize.ShloMosaic.Lib.Pipeline.DatRel
public import Idealize.ShloMosaic.Lib.Pipeline.ArrRel

@[expose] public section

set_option maxRecDepth 65536

noncomputable section

namespace Cert.Proof.Scan.Run

open Cert.ScanIdeal Cert.ScanIdeal.Gen Cert.Proof.ScanSpec Cert.Proof.Scan
open Idealize.ShloMosaic Idealize.ShloMosaic.TcCoe Idealize.ShloMosaic.Tactic
open Idealize.ShloMosaic.Pipeline (Dat RDat BodyObligationRel)
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The states before chunk `n` at a point's direction and batch row. -/
def stN (c : Dev nD) (t n : ℕ) : States := scanSt (lbA m c) (pcA m c) (plA m c) (dOf t) (bOf t) n

/-- The result block of a point. -/
def outN (c : Dev nD) (t : ℕ) (y : S1x1x256x2048.Idx) : EReal :=
  outArr (dOf t) (fun k => scanOut (lbA m c) (pcA m c) (plA m c) (dOf t) (bOf t) (4 * (t % 9) + k.val)) y

/-- The state's buffer between points: past a direction's first block it holds the states there. -/
def track (c : Dev nD) (n : ℕ) : sProp 𝕄 :=
  iprop(∃ d, ⌜n % 9 ≠ 0 → ∀ h a k, (d (ix4 (4 : Fin 5) (h : Fin 16) (a : Fin 128) (k : Fin 128) : S5x16x128x128.Idx) : EReal) = stN m c n (4 * (n % 9)) h a k⌝
    ∗ owns (c : Thread nD τ) sc0 fullShare d)

/-- The other buffers. -/
def others (c : Dev nD) : sProp 𝕄 :=
  iprop((∃ d, owns (Val := Elt Ideal) (c : Thread nD τ) sc2 fullShare d)
          ∗ (∃ d, owns (Val := Elt Ideal) (c : Thread nD τ) sc3 fullShare d) ∗ (∃ d, owns (Val := Elt Ideal) (c : Thread nD τ) sc4 fullShare d)
          ∗ (∃ d, owns (Val := Elt Ideal) (c : Thread nD τ) sc5 fullShare d) ∗ (∃ d, owns (Val := Elt Ideal) (c : Thread nD τ) sc1 fullShare d))

/-- The proof data: the inputs keep their blocks, the state is followed from point to point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ n := iprop(iprop(track m c n.val ∗ others c) ∗ (∃ r, prngReg c r))
  q w := Pipeline.shareOf spec0 w
  owed _ := 0

/-- What the output's buffer holds after a point: past the context, the result block. -/
def leaves (c : Dev nD) (w : Fin cfg0.W) (t : Fin cfg0.N) : ((cfg0.win w).block.Idx → Elt Ideal (cfg0.win w).elt) → Prop :=
  match w with
  | ⟨7, _⟩ => fun X => t.val % 9 ≠ 0 → ∀ y : S1x1x256x2048.Idx, ((X : Vec Ideal S1x1x256x2048 .bf16) y : EReal) = outN m c t.val y
  | _ => fun _ => True

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ Y, ⌜((dats m 0 c).toRRel forgets (leaves m c)).Finds 7 t Y⌝ ∗ owns (c : Thread nD τ) (ms7 t) fullShare Y))
/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ (∃ X, ⌜leaves m c 7 t X⌝ ∗ owns (c : Thread nD τ) (ms7 t) fullShare X))

section
variable (hgl : ∀ c d l, lbA m c d l ≠ ⊤)
include hgl

theorem good_blk (c : Dev nD) (t : Fin cfg0.N) : Good (k0_pay3 (F := Ideal) (iblk m c 6 t)) := fun l => by
  rw [bound_blk]; exact hgl c _ l
end

theorem st_ctx (c : Dev nD) (t : Fin cfg0.N) (h0 : t.val % 9 = 0) :
    stG (grid0.coords t) (k0_pay3 (F := Ideal) (iblk m c 6 t)) (iblk m c 2 t) (iblk m c 1 t) (fun _ _ _ => (0 : EReal)) 4 = stN m c (t.val + 1) (4 * ((t.val + 1) % 9)) := by
  have hN : t.val < 144 := t.isLt
  have hd : dOf (t.val + 1) = dOf t.val := Fin.ext (by show (t.val + 1) / 9 % 2 = t.val / 9 % 2; omega)
  have hb : bOf (t.val + 1) = bOf t.val := Fin.ext (by show (t.val + 1) / 18 % 8 = t.val / 18 % 8; omega)
  have hs : 4 * ((t.val + 1) % 9) = 4 := by omega
  rw [hs]
  unfold stG stN scanSt
  rw [hd, hb, dir_eq]
  exact states_congr _ _ _ _ _ _ _ _ _ _ (bound_blk m c t) (fun n hn => seq_2 m c t n hn) (fun n hn => seq_1 m c t n hn) rfl

theorem st_lat (c : Dev nD) (t : Fin cfg0.N) (h0 : t.val % 9 ≠ 0) (n : ℕ) (hn : n ≤ 4) :
    stG (grid0.coords t) (k0_pay3 (F := Ideal) (iblk m c 6 t)) (iblk m c 5 t) (iblk m c 4 t) (stN m c t.val (4 * (t.val % 9))) n = stN m c t.val (4 * (t.val % 9) + n) := by
  unfold stG stN scanSt
  rw [← states_add, dir_eq]
  exact states_congr _ _ _ _ _ _ _ _ _ _ (bound_blk m c t) (fun k hk => seq_5 m c t k (by omega) h0) (fun k hk => seq_4 m c t k (by omega) h0) rfl

theorem st_succ (c : Dev nD) (t : Fin cfg0.N) (h0 : t.val % 9 ≠ 0) (h1 : (t.val + 1) % 9 ≠ 0) :
    stN m c t.val (4 * (t.val % 9) + 4) = stN m c (t.val + 1) (4 * ((t.val + 1) % 9)) := by
  have hN : t.val < 144 := t.isLt
  have hd : dOf (t.val + 1) = dOf t.val := Fin.ext (by show (t.val + 1) / 9 % 2 = t.val / 9 % 2; omega)
  have hb : bOf (t.val + 1) = bOf t.val := Fin.ext (by show (t.val + 1) / 18 % 8 = t.val / 18 % 8; omega)
  have hs : 4 * ((t.val + 1) % 9) = 4 * (t.val % 9) + 4 := by omega
  rw [hs]
  unfold stN
  rw [hd, hb]

theorem outC_congr {d d' : Fin 2} {lb lb' : Fin 2048 → EReal} {q q' z z' v v' : Chunk} {S S' : States} (hd : d = d') (hl : lb = lb') (hq : q = q') (hz : z = z') (hv : v = v') (hS : S = S') :
    outC d lb q z v S = outC d' lb' q' z' v' S' := by subst hd hl hq hz hv hS; rfl

theorem out_k (c : Dev nD) (t : Fin cfg0.N) (h0 : t.val % 9 ≠ 0) (k : Fin 4) :
    outG (grid0.coords t) (k0_pay3 (F := Ideal) (iblk m c 6 t)) (iblk m c 3 t) (iblk m c 5 t) (iblk m c 4 t) (stN m c t.val (4 * (t.val % 9))) k
      = scanOut (lbA m c) (pcA m c) (plA m c) (dOf t.val) (bOf t.val) (4 * (t.val % 9) + k.val) := by
  funext q h a
  exact congrFun (congrFun (congrFun (outC_congr (dir_eq t) (bound_blk m c t) (by rw [dir_eq]; exact seq_3 m c t k.val k.isLt h0) (by rw [dir_eq]; exact seq_5 m c t k.val k.isLt h0)
    (by rw [dir_eq]; exact seq_4 m c t k.val k.isLt h0) (st_lat m c t h0 k.val (by have := k.isLt; omega))) q) h) a

theorem out_lat (c : Dev nD) (t : Fin cfg0.N) (h0 : t.val % 9 ≠ 0) (y : S1x1x256x2048.Idx) :
    outArr (dir (grid0.coords t)) (outG (grid0.coords t) (k0_pay3 (F := Ideal) (iblk m c 6 t)) (iblk m c 3 t) (iblk m c 5 t) (iblk m c 4 t) (stN m c t.val (4 * (t.val % 9)))) y = outN m c t.val y := by
  unfold outN
  rw [dir_eq]
  exact congrArg (fun G => outArr (dOf t.val) G y) (funext fun k => out_k m c t h0 k)

set_option maxHeartbeats 3200000 in
/-- The body at any point. -/
theorem sound_body (hgl : ∀ c d l, lbA m c d l ≠ ⊤) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6,
    show (dats m 0 c).Φ t.succ = iprop(iprop(track m c (t.val + 1) ∗ others c) ∗ (∃ r, prngReg c r)) from rfl,
    show (dats m 0 c).Φ t.castSucc = iprop(iprop(track m c t.val ∗ others c) ∗ (∃ r, prngReg c r)) from rfl]
  unfold track others
  by_cases h0 : t.val % 9 = 0
  · obtain ⟨h1, h2, h3, h4⟩ := conds_ctx (grid0.coords t 2) ((step_val t).trans h0)
    have hst := st_ctx m c t h0
    iintro ⟨⟨⟨⟨%ds, -, HS0⟩, HS2, HS3, HS4, HS5, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩⟩
    iapply (run_ctxV c (grid0.coords t) _ _ _ _ _ _ _ _ _ _ _ _ _ _ _ _ _ _ _ _ _ _ _ _ _ _ _ _ h1 h2 h3 h4 (iblk m c 0 t) (iblk m c 1 t) (iblk m c 2 t) (iblk m c 6 t) (good_blk m hgl c t) _)
    isplitl [H0]; · iexact H0
    isplitl [H1]; · iexact H1
    isplitl [H2]; · iexact H2
    isplitl [H6]; · iexact H6
    isplitl [HS0]; · iexists _; iexact HS0
    iintro ⟨H0, H1, H2, H6, ⟨%e, %he, HS0⟩⟩
    isplitl [HS0 HS1 HS2 HS3 HS4 HS5 Hg]
    · isplitl [HS0 HS1 HS2 HS3 HS4 HS5]
      · isplitl [HS0]
        · iexists e
          isplitr; swap; · iexact HS0
          ipureintro
          intro _ h a k
          rw [← hst]; exact he h a k
        isplitl [HS2]; · iexact HS2
        isplitl [HS3]; · iexact HS3
        isplitl [HS4]; · iexact HS4
        isplitl [HS5]; · iexact HS5
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7
    isplitr; swap; · iexact H7
    ipureintro
    exact fun h => absurd h0 h
  · obtain ⟨h1, h2, h3, h4⟩ := conds_lat (grid0.coords t 2) (by rw [step_val]; exact h0)
    have hst := st_lat m c t h0 4 (le_refl 4)
    have hout := out_lat m c t h0
    iintro ⟨⟨⟨⟨%ds, %hds, HS0⟩, HS2, HS3, HS4, HS5, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩⟩
    iapply (run_latV c (grid0.coords t) _ _ _ _ _ _ _ _ _ _ _ _ _ _ _ _ _ _ _ _ _ _ _ _ _ _ _ _ h1 h2 h3 h4 (iblk m c 3 t) (iblk m c 4 t) (iblk m c 5 t) (iblk m c 6 t) (stN m c t.val (4 * (t.val % 9)))
      (good_blk m hgl c t) _)
    isplitl [H3]; · iexact H3
    isplitl [H4]; · iexact H4
    isplitl [H5]; · iexact H5
    isplitl [H6]; · iexact H6
    isplitl [H7]; · iexists d7; iexact H7
    isplitl [HS0]
    · iexists ds
      isplitr; swap; · iexact HS0
      ipureintro; exact hds h0
    isplitl [HS1]; · iexact HS1
    isplitl [HS2]; · iexact HS2
    isplitl [HS3]; · iexact HS3
    isplitl [HS4]; · iexact HS4
    isplitl [HS5]; · iexact HS5
    iintro ⟨H3, H4, H5, H6, ⟨%x, %hx, H7⟩, ⟨%e, %he, HS0⟩, HS1, HS2, HS3, HS4, HS5⟩
    isplitl [HS0 HS1 HS2 HS3 HS4 HS5 Hg]
    · isplitl [HS0 HS1 HS2 HS3 HS4 HS5]
      · isplitl [HS0]
        · iexists e
          isplitr; swap; · iexact HS0
          ipureintro
          intro hne h a k
          rw [← st_succ m c t h0 hne, ← hst]; exact he h a k
        isplitl [HS2]; · iexact HS2
        isplitl [HS3]; · iexact HS3
        isplitl [HS4]; · iexact HS4
        isplitl [HS5]; · iexact HS5
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists x
    isplitr; swap; · iexact H7
    ipureintro
    exact fun _ y => (hx y).trans (hout y)

/-- The obligation of the body, the output's contents by relation. -/
theorem body_obligation (hgl : ∀ c d l, lbA m c d l ≠ ⊤) (c : Dev nD) :
    BodyObligationRel (dats m 0 c) (defs₀ (F := Ideal)) Variants.none () Set.univ forgets (leaves m c) := fun t => by
  rw [bigSep_W0, bigSep_W0, defs₀_row]
  exact triple_restated (sound_body m hgl c t) rfl .rfl fun _ => .rfl

theorem enter (c : Dev nD) : (Pipeline.ΦA spec0 c : sProp 𝕄) ⊢ (dats m 0 c).Φ 0 := by
  rw [PhiA_eq, show (dats m 0 c).Φ 0 = iprop(iprop(track m c 0 ∗ others c) ∗ (∃ r, prngReg c r)) from rfl]
  unfold track others
  iintro ⟨⟨⟨%d, H0⟩, H2, H3, H4, H5, H1⟩, Hg⟩
  isplitl [H0 H1 H2 H3 H4 H5]
  · isplitl [H0]
    · iexists d
      isplitr; swap; · iexact H0
      ipureintro; exact fun h => absurd rfl h
    isplitl [H2]; · iexact H2
    isplitl [H3]; · iexact H3
    isplitl [H4]; · iexact H4
    isplitl [H5]; · iexact H5
    iexact H1
  iexact Hg

theorem leave (c : Dev nD) : (dats m 0 c).Φ (Fin.last cfg0.N) ⊢ (Pipeline.ΦA spec0 c : sProp 𝕄) := by
  rw [PhiA_eq, show (dats m 0 c).Φ (Fin.last cfg0.N) = iprop(iprop(track m c (Fin.last cfg0.N).val ∗ others c) ∗ (∃ r, prngReg c r)) from rfl]
  unfold track others
  iintro ⟨⟨⟨%d, -, H0⟩, H2, H3, H4, H5, H1⟩, Hg⟩
  isplitl [H0 H1 H2 H3 H4 H5]
  · isplitl [H0]; · iexists d; iexact H0
    isplitl [H2]; · iexact H2
    isplitl [H3]; · iexact H3
    isplitl [H4]; · iexact H4
    isplitl [H5]; · iexact H5
    iexact H1
  iexact Hg

set_option backward.isDefEq.respectTransparency.types false in
/-- The launch: every execution ends with each array as the relation says. -/
theorem run_main (hgl : ∀ c d l, lbA m c d l ≠ ⊤) : θ_run defs (onTc (τ := τ) (main (F := Ideal))) (s₀ m ρ)
    (fun r => RDat.FramePost (cfgs 0) (fun c => (dats m 0 c).toRRel forgets (leaves m c)) (V m) r ∧ r.2.sem = fun _ => 0) :=
  RDat.θ_run_frame_track_shared (Q' := _) cfgs (0 : Fin 1) launch₀0 defs₀ Variants.none (fun c => (dats m 0 c).toRRel forgets (leaves m c)) m ρ main
    (hbody := fun c => (body_obligation m hgl c).toRRel) (hq := fun _ _ _ => rfl)
    (howed := fun _ _ => rfl) (V := V m) (hmain := hmain m Variants.none) (hA := A_eq m) (hin := enter m) (hout := leave m)

end Cert.Proof.Scan.Run
-- ==== Proof.ScanFinal.lean ====
/- Hand-written: the recurrence's result array after the launch. -/
module

public import proofs.«01_k».proof.Proof.ScanLaunch

@[expose] public section

set_option maxRecDepth 65536

noncomputable section

namespace Cert.Proof.Scan.Run

open Cert.ScanIdeal Cert.ScanIdeal.Gen Cert.Proof.ScanSpec Cert.Proof.Scan
open Idealize.ShloMosaic Idealize.ShloMosaic.TcCoe Idealize.ShloMosaic.Tactic
open Idealize.ShloMosaic.Pipeline (Dat RDat BodyObligationRel)
open Idealize.SL Idealize.SL.RA Idealize.SL.BI

variable (m : (ℓ : Loc nD τ sig) → Buf (Elt Ideal) ℓ) (ρ : Dev nD → PrngReg)

/-- The result array. -/
def result (c : Dev nD) : Vec Ideal S2x8x2048x2048 .bf16 := fun i => scanAt (lbA m c) (pcA m c) (plA m c) (i 0) (i 1) (i 2) (i 3)

theorem mem_blk (t : Fin cfg0.N) (i : S2x8x2048x2048.Idx) :
    i ∈ ((cfg0.win 7).blk t).view.set ↔ ∀ a : Fin 4, win0_7.index t a * S1x1x256x2048.size a ≤ (i a).val ∧ (i a).val < win0_7.index t a * S1x1x256x2048.size a + S1x1x256x2048.size a := by
  show i ∈ ((View.whole main_v15).slice (win0_7.rect t)).set ↔ _
  rw [View.set_slice_whole, Rect.mem_set_unit]
  exact Iff.rfl

/-- Every index of the result is in some block that is written. -/
theorem covered (i : S2x8x2048x2048.Idx) : ∃ t : Fin cfg0.N, (cfg0.win 7).flush t = true ∧ i ∈ ((cfg0.win 7).blk t).view.set := by
  have h0 : (i 0).val < 2 := (i 0).isLt
  have h1 : (i 1).val < 8 := (i 1).isLt
  have h2 : (i 2).val < 2048 := (i 2).isLt
  have h3 : (i 3).val < 2048 := (i 3).isLt
  have hp : ∃ s : ℕ, 1 ≤ s ∧ s < 9 ∧ (if (i 0).val = 0 then s - 1 else 7 - (s - 1)) = (i 2).val / 256 := by
    by_cases hd : (i 0).val = 0
    · exact ⟨(i 2).val / 256 + 1, by omega, by omega, by rw [if_pos hd]; omega⟩
    · exact ⟨8 - (i 2).val / 256, by omega, by omega, by rw [if_neg hd]; omega⟩
  obtain ⟨s, hs1, hs2, hs⟩ := hp
  have ht : ((i 1).val * 2 + (i 0).val) * 9 + s < cfg0.N := by show _ < 144; omega
  refine ⟨⟨((i 1).val * 2 + (i 0).val) * 9 + s, ht⟩, (flush_iff _).2 (by show (((i 1).val * 2 + (i 0).val) * 9 + s) % 9 ≠ 0; omega), ?_⟩
  rw [mem_blk]
  obtain ⟨e0, e1, e2, e3⟩ := where7 ⟨((i 1).val * 2 + (i 0).val) * 9 + s, ht⟩
  have hd : (dOf (((i 1).val * 2 + (i 0).val) * 9 + s)).val = (i 0).val := by show (((i 1).val * 2 + (i 0).val) * 9 + s) / 9 % 2 = _; omega
  have hb : (bOf (((i 1).val * 2 + (i 0).val) * 9 + s)).val = (i 1).val := by show (((i 1).val * 2 + (i 0).val) * 9 + s) / 18 % 8 = _; omega
  have hl : (lOf (((i 1).val * 2 + (i 0).val) * 9 + s)).val = (i 2).val / 256 := by
    rw [← hs]
    show (if dOf (((i 1).val * 2 + (i 0).val) * 9 + s) = 0 then _ else _) = _
    have hiff : dOf (((i 1).val * 2 + (i 0).val) * 9 + s) = 0 ↔ (i 0).val = 0 := by rw [Fin.ext_iff, hd]; rfl
    have hm : (((i 1).val * 2 + (i 0).val) * 9 + s) % 9 = s := by omega
    rw [hm]
    by_cases hz : (i 0).val = 0
    · rw [if_pos hz, if_pos (hiff.2 hz)]
    · rw [if_neg hz, if_neg (fun h => hz (hiff.1 h))]
  intro a
  match a with
  | ⟨0, _⟩ => show win0_7.index _ (0 : Fin 4) * 1 ≤ (i 0).val ∧ (i 0).val < win0_7.index _ (0 : Fin 4) * 1 + 1; rw [e0, hd]; omega
  | ⟨1, _⟩ => show win0_7.index _ (1 : Fin 4) * 1 ≤ (i 1).val ∧ (i 1).val < win0_7.index _ (1 : Fin 4) * 1 + 1; rw [e1, hb]; omega
  | ⟨2, _⟩ => show win0_7.index _ (2 : Fin 4) * 256 ≤ (i 2).val ∧ (i 2).val < win0_7.index _ (2 : Fin 4) * 256 + 256; rw [e2, hl]; omega
  | ⟨3, _⟩ => show win0_7.index _ (3 : Fin 4) * 2048 ≤ (i 3).val ∧ (i 3).val < win0_7.index _ (3 : Fin 4) * 2048 + 2048; rw [e3]; omega

/-- A point's block of the result array. -/
theorem block_eq (c : Dev nD) (t : Fin cfg0.N) (h0 : t.val % 9 ≠ 0) (X : Vec Ideal S1x1x256x2048 .bf16) (hX : ∀ y, (X y : EReal) = outN m c t.val y) :
    (cfg0.win 7).cut (grid0.coords t) X = ((cfg0.win 7).blk t).view.read (Elt Ideal) (result m c) := by
  have e := where7 t
  funext y
  have hy0 : (y 0).val < 1 := (y 0).isLt
  have hy1 : (y 1).val < 1 := (y 1).isLt
  have hy2 : (y 2).val < 256 := (y 2).isLt
  have hy3 : (y 3).val < 2048 := (y 3).isLt
  have hl := (lOf t.val).isLt
  rw [View.read_apply]
  show X ((cfg0.win 7).xinj (grid0.coords t) y) = _
  rw [hX]
  have hi : ((cfg0.win 7).blk t).view.emb y = ix4 (dOf t.val) (bOf t.val) (⟨256 * (lOf t.val).val + (y 2).val, by omega⟩ : Fin 2048) (⟨(y 3).val, hy3⟩ : Fin 2048) := by
    funext a; apply Fin.ext
    match a with
    | ⟨0, _⟩ => show win0_7.index t 0 * 1 + 1 * (y 0).val = (dOf t.val).val; rw [e.1]; omega
    | ⟨1, _⟩ => show win0_7.index t 1 * 1 + 1 * (y 1).val = (bOf t.val).val; rw [e.2.1]; omega
    | ⟨2, _⟩ => show win0_7.index t 2 * 256 + 1 * (y 2).val = 256 * (lOf t.val).val + (y 2).val; rw [e.2.2.1]; omega
    | ⟨3, _⟩ => show win0_7.index t 3 * 2048 + 1 * (y 3).val = (y 3).val; rw [e.2.2.2]; omega
  rw [hi]
  show scanOut _ _ _ (dOf t.val) (bOf t.val) (4 * (t.val % 9) + (if dOf t.val = 0 then (y 2).val / 64 else 3 - (y 2).val / 64)) ⟨(y 2).val % 64, _⟩ ⟨(y 3).val / 128, _⟩ ⟨(y 3).val % 128, _⟩
    = scanOut _ _ _ (dOf t.val) (bOf t.val) (if dOf t.val = 0 then 4 + (256 * (lOf t.val).val + (y 2).val) / 64 else 35 - (256 * (lOf t.val).val + (y 2).val) / 64)
      ⟨(256 * (lOf t.val).val + (y 2).val) % 64, _⟩ ⟨(y 3).val / 128, _⟩ ⟨(y 3).val % 128, _⟩
  have hn : 4 * (t.val % 9) + (if dOf t.val = 0 then (y 2).val / 64 else 3 - (y 2).val / 64) = (if dOf t.val = 0 then 4 + (256 * (lOf t.val).val + (y 2).val) / 64 else 35 - (256 * (lOf t.val).val + (y 2).val) / 64) := by
    have hv : (lOf t.val).val = if dOf t.val = 0 then t.val % 9 - 1 else 7 - (t.val % 9 - 1) := rfl
    rw [hv]
    split_ifs <;> omega
  have ht : (⟨(y 2).val % 64, Nat.mod_lt _ (by omega)⟩ : Fin 64) = ⟨(256 * (lOf t.val).val + (y 2).val) % 64, Nat.mod_lt _ (by omega)⟩ := Fin.ext (by show _ % 64 = _ % 64; omega)
  rw [hn, ht]

/-- The result array after the launch. -/
theorem final (c : Dev nD) (G : (w : Fin cfg0.W) → Buf (Elt Ideal) ((cfg0.win w).arr.view.loc (c.tc : Thread nD τ)))
    (hG : ∀ w, ((dats m 0 c).toRRel forgets (leaves m c)).ArrAt w cfg0.N (G w)) : G 7 = result m c := by
  obtain ⟨after, h1, h2⟩ := RDat.ArrAt.exists_exact_all hG
  refine (h2 7).trans (Dat.arrAt_eq_of_cover _ 7 _ (fun t hf => ?_) covered)
  have hl := Dat.toRRel_leaves (dats m 0 c) (fgt := forgets) (Rl := leaves m c) (w := 7) rfl (h1 7 t t.isLt hf)
  exact block_eq m c t ((flush_iff t).1 hf) _ (hl ((flush_iff t).1 hf))

/-- The run: the result array is the recurrence's, the arguments unchanged. -/
theorem run_value (hgl : ∀ c d l, lbA m c d l ≠ ⊤) :
    θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨final m c _ ((h.1 c).1),
     (RDat.FramePost.arr_in h.1 c 2 rfl).trans ((A_eq m c 2).trans (V_main_arg0 m c)),
     (RDat.FramePost.arr_in h.1 c 5 rfl).trans ((A_eq m c 5).trans (V_main_arg1 m c)),
     ((h.1 c).2 main_arg2 (Pipeline.mem_restRefs_of main_arg2 (by decide) (by decide))).trans (V_main_arg2 m c)⟩)
    (run_main m ρ hgl)

end Cert.Proof.Scan.Run
-- ==== Proof.ScanRefOps.lean ====
/- Hand-written: the operations of the reference's recurrence at an entry. -/
module

public import proofs.«01_k».proof.Proof.Gen.RefScanIdeal.Run
public import Idealize.ShloMosaic.Lib.Pointwise
public import Idealize.ShloMosaic.Lib.DynamicIndex
public import proofs.«01_k».proof.Proof.ScanSeq

@[expose] public section

set_option maxRecDepth 65536

noncomputable section

namespace Cert.Proof.ScanRef

open Cert.RefScanIdeal Cert.RefScanIdeal.Gen Cert.RefScanIdeal.Value Cert.Proof.ScanSpec
open Idealize.ShloMosaic Idealize.ShloMosaic.TcCoe Idealize.ShloMosaic.Tactic

theorem foldl_sum {N : ℕ} (g : Fin N → EReal) (v : EReal) : (List.finRange N).foldl (fun r n => r + g n) v = v + ∑ n, g n := by
  rw [← List.sum_ofFn, List.ofFn_eq_map]
  generalize List.finRange N = l
  induction l generalizing v with
  | nil => simp
  | cons a l ih => rw [List.foldl_cons, ih, List.map_cons, List.sum_cons, add_assoc]

set_option maxRecDepth 100000 in
/-- The running sum over a chunk's positions. -/
theorem cumsum_apply (x : FVec Ideal S16x16x64x128 .f32) (init : FVec Ideal S_ .f32) (h : S16x16x64x128.ReduceWindows (![1, 1, 64, 1] : Fin 4 → Nat) ![1, 1, 1, 1] ![0, 0, 63, 0] ![0, 0, 0, 0] S16x16x64x128)
    (hu : 0 < S_.numel) (hi : ∀ i, (init i : EReal) = 0) (b : Fin 16) (hh : Fin 16) (t : Fin 64) (k : Fin 128) :
    (Host.reduceWindowAdd ![1, 1, 64, 1] ![1, 1, 1, 1] ![0, 0, 63, 0] ![0, 0, 0, 0] x init h hu (ix4 b hh t k) : EReal) = cum 0 (fun s => x (ix4 b hh s k)) t := by
  unfold Host.reduceWindowAdd
  rw [Ideal.hostReduceWindowAdd_def]
  unfold Ideal.hostReduceWindowAdd
  rw [hi]
  unfold Host.reduceWindow
  dsimp only
  refine (foldl_sum _ 0).trans ?_
  rw [zero_add]
  unfold cum
  have hp : ∀ n : Fin (⟨4, ![1, 1, 64, 1]⟩ : Shape).numel, ((⟨4, ![1, 1, 64, 1]⟩ : Shape).rowMajor.symm n 2).val = n.val :=
    (by decide +kernel : ∀ n : Fin 64, ((⟨4, ![1, 1, 64, 1]⟩ : Shape).rowMajor.symm n 2).val = n.val)
  have hz : ∀ (n : Fin (⟨4, ![1, 1, 64, 1]⟩ : Shape).numel) (a : Fin 4), a ≠ 2 → ((⟨4, ![1, 1, 64, 1]⟩ : Shape).rowMajor.symm n a).val = 0 := by
    intro n a ha
    have hlt := ((⟨4, ![1, 1, 64, 1]⟩ : Shape).rowMajor.symm n a).isLt
    match a, ha with
    | ⟨0, _⟩, _ => have : ((⟨4, ![1, 1, 64, 1]⟩ : Shape).rowMajor.symm n 0).val < 1 := hlt; show ((⟨4, ![1, 1, 64, 1]⟩ : Shape).rowMajor.symm n 0).val = 0; omega
    | ⟨1, _⟩, _ => have : ((⟨4, ![1, 1, 64, 1]⟩ : Shape).rowMajor.symm n 1).val < 1 := hlt; show ((⟨4, ![1, 1, 64, 1]⟩ : Shape).rowMajor.symm n 1).val = 0; omega
    | ⟨2, _⟩, h => exact absurd rfl h
    | ⟨3, _⟩, _ => have : ((⟨4, ![1, 1, 64, 1]⟩ : Shape).rowMajor.symm n 3).val < 1 := hlt; show ((⟨4, ![1, 1, 64, 1]⟩ : Shape).rowMajor.symm n 3).val = 0; omega
  -- position `n` of the window reads position `t + n - 63`; turn the sum around
  have ht := t.isLt
  refine (Finset.sum_equiv (M := EReal) (Equiv.refl (Fin 64)) (s := Finset.univ) (t := Finset.univ) (g := fun n : Fin 64 => if h' : 63 ≤ t.val + n.val then (x (ix4 b hh (⟨t.val + n.val - 63, by omega⟩ : Fin 64) k) : EReal) else 0) (fun _ => ⟨fun _ => Finset.mem_univ _, fun _ => Finset.mem_univ _⟩) (fun n _ => ?_)).trans ?_
  · have h2 := hp n
    by_cases h' : 63 ≤ t.val + n.val
    · rw [dif_pos (show 63 ≤ t.val + ((Equiv.refl (Fin 64)) n).val from h')]
      have hin : ∀ a : Fin 4, (![0, 0, 63, 0] : Fin 4 → ℕ) a ≤ ((ix4 b hh t k : S16x16x64x128.Idx) (a.cast h.1.symm)).val * (![1, 1, 1, 1] : Fin 4 → ℕ) a + ((⟨4, ![1, 1, 64, 1]⟩ : Shape).rowMajor.symm n a).val
          ∧ ((ix4 b hh t k : S16x16x64x128.Idx) (a.cast h.1.symm)).val * (![1, 1, 1, 1] : Fin 4 → ℕ) a + ((⟨4, ![1, 1, 64, 1]⟩ : Shape).rowMajor.symm n a).val - (![0, 0, 63, 0] : Fin 4 → ℕ) a < S16x16x64x128.size a := by
        intro a
        match a with
        | ⟨0, _⟩ => have := hz n 0 (by decide); have := b.isLt; exact ⟨Nat.zero_le _, by show b.val * 1 + ((⟨4, ![1, 1, 64, 1]⟩ : Shape).rowMajor.symm n 0).val - 0 < 16; omega⟩
        | ⟨1, _⟩ => have := hz n 1 (by decide); have := hh.isLt; exact ⟨Nat.zero_le _, by show hh.val * 1 + ((⟨4, ![1, 1, 64, 1]⟩ : Shape).rowMajor.symm n 1).val - 0 < 16; omega⟩
        | ⟨2, _⟩ => exact ⟨by show 63 ≤ t.val * 1 + ((⟨4, ![1, 1, 64, 1]⟩ : Shape).rowMajor.symm n 2).val; omega, by show t.val * 1 + ((⟨4, ![1, 1, 64, 1]⟩ : Shape).rowMajor.symm n 2).val - 63 < 64; have := n.isLt; omega⟩
        | ⟨3, _⟩ => have := hz n 3 (by decide); have := k.isLt; exact ⟨Nat.zero_le _, by show k.val * 1 + ((⟨4, ![1, 1, 64, 1]⟩ : Shape).rowMajor.symm n 3).val - 0 < 128; omega⟩
      refine (dif_pos hin).trans ?_
      congr 1
      funext a
      apply Fin.ext
      match a with
      | ⟨0, _⟩ => have := hz n 0 (by decide); show b.val * 1 + ((⟨4, ![1, 1, 64, 1]⟩ : Shape).rowMajor.symm n 0).val - 0 = b.val; omega
      | ⟨1, _⟩ => have := hz n 1 (by decide); show hh.val * 1 + ((⟨4, ![1, 1, 64, 1]⟩ : Shape).rowMajor.symm n 1).val - 0 = hh.val; omega
      | ⟨2, _⟩ => show t.val * 1 + ((⟨4, ![1, 1, 64, 1]⟩ : Shape).rowMajor.symm n 2).val - 63 = t.val + n.val - 63; omega
      | ⟨3, _⟩ => have := hz n 3 (by decide); show k.val * 1 + ((⟨4, ![1, 1, 64, 1]⟩ : Shape).rowMajor.symm n 3).val - 0 = k.val; omega
    · rw [dif_neg (show ¬ 63 ≤ t.val + ((Equiv.refl (Fin 64)) n).val from h')]
      refine dif_neg fun hin => h' ?_
      have h3 : 63 ≤ t.val * 1 + ((⟨4, ![1, 1, 64, 1]⟩ : Shape).rowMajor.symm n 2).val := (hin 2).1
      omega
  · have hL : (∑ n : Fin 64, (if h' : 63 ≤ t.val + n.val then (x (ix4 b hh (⟨t.val + n.val - 63, by omega⟩ : Fin 64) k) : EReal) else 0))
        = ∑ n ∈ Finset.univ.filter (fun n : Fin 64 => 63 ≤ t.val + n.val), (x (ix4 b hh (⟨t.val + n.val - 63, by omega⟩ : Fin 64) k) : EReal) := by
      rw [Finset.sum_filter]
      exact Finset.sum_congr rfl fun n _ => by split_ifs <;> rfl
    have hR : (∑ s : Fin 64, (if bef 0 t s then (x (ix4 b hh s k) : EReal) else 0)) = ∑ s ∈ Finset.univ.filter (fun s : Fin 64 => bef 0 t s), (x (ix4 b hh s k) : EReal) := by
      rw [Finset.sum_filter]
    rw [hL, hR]
    refine Finset.sum_bij' (fun n _ => (⟨t.val + n.val - 63, by omega⟩ : Fin 64)) (fun s _ => (⟨(s.val + 63 - t.val) % 64, Nat.mod_lt _ (by omega)⟩ : Fin 64)) ?_ ?_ ?_ ?_ ?_
    · intro n hn
      have hn' := (Finset.mem_filter.1 hn).2
      refine Finset.mem_filter.2 ⟨Finset.mem_univ _, ?_⟩
      unfold bef; rw [if_pos rfl]; show t.val + n.val - 63 ≤ t.val; omega
    · intro s hs
      have hs' := (Finset.mem_filter.1 hs).2
      unfold bef at hs'; rw [if_pos rfl] at hs'
      have hs'' : s.val ≤ t.val := hs'
      refine Finset.mem_filter.2 ⟨Finset.mem_univ _, ?_⟩
      show 63 ≤ t.val + (s.val + 63 - t.val) % 64; omega
    · intro n hn
      have hn' := (Finset.mem_filter.1 hn).2
      apply Fin.ext; show (t.val + n.val - 63 + 63 - t.val) % 64 = n.val; omega
    · intro s hs
      have hs' := (Finset.mem_filter.1 hs).2
      unfold bef at hs'; rw [if_pos rfl] at hs'
      have hs'' : s.val ≤ t.val := hs'
      apply Fin.ext; show t.val + (s.val + 63 - t.val) % 64 - 63 = s.val; omega
    · intro n hn; rfl

theorem slice_apply {F : FTy → Type} [FloatOps F] (X : FVec F S36x16x16x64x128 .f32) (ctr : S_.Idx → BitVec 32) (n : Fin 36) (hc : ∀ i, ctr i = BitVec.ofNat 32 n.val) (b : Fin 16) (hh : Fin 16) (t : Fin 64) (k : Fin 128) :
    shapeCast S16x16x64x128 (Host.dynamicSlice S1x16x16x64x128 X (fun k => (((![ctr, constantI S_ 32 0#32, constantI S_ 32 0#32, constantI S_ 32 0#32, constantI S_ 32 0#32] : Fin 5 → (⟨S_, .i32⟩ : BufTy).Contents (Elt F))) k (Shape.Idx.first h_S_)).toInt) sliceFits_S36x16x16x64x128_S1x16x16x64x128) shapeCasts_S1x16x16x64x128_S16x16x64x128
      (ix4 b hh t k) = X (ix5 n b hh t k) := by
  have hn := n.isLt
  have hoff : S36x16x16x64x128.Slices (![n.val, 0, 0, 0, 0] : Fin 5 → ℕ) S1x16x16x64x128 := ⟨rfl, fun a => by fin_cases a <;> simp <;> omega⟩
  rw [Host.dynamicSlice_eq_extractStridedSlice _ _ _ ![n.val, 0, 0, 0, 0] _ hoff (fun a => by
    match a with
    | ⟨0, _⟩ => show (ctr _).toInt = (n.val : ℤ); rw [hc]; exact (by decide : ∀ n : Fin 36, (BitVec.ofNat 32 n.val).toInt = (n.val : ℤ)) n
    | ⟨1, _⟩ => rfl
    | ⟨2, _⟩ => rfl
    | ⟨3, _⟩ => rfl
    | ⟨4, _⟩ => rfl)]
  pointwise

end Cert.Proof.ScanRef
-- ==== Proof.ScanSoft.lean ====
/- Hand-written: the gates' lower bounds, the softmax over the layers. -/
module

public import proofs.«01_k».proof.Proof.ScanRefOps
public import Idealize.ShloMosaic.Lib.StableHlo.RunRead

@[expose] public section

set_option maxRecDepth 65536

noncomputable section

namespace Cert.Proof.ScanRef

open Cert.RefScanIdeal Cert.RefScanIdeal.Gen Cert.RefScanIdeal.Value Cert.Proof.ScanSpec
open Idealize.ShloMosaic Idealize.ShloMosaic.TcCoe Idealize.ShloMosaic.Tactic
open Idealize.ShloMosaic.Pipeline Idealize.ShloMosaic.StableHlo

/-- The largest of the three layers' values. -/
def mx (x : FVec Ideal S2x3x2048 .f32) : FVec Ideal S2x2048 .f32 :=
  maximumf (broadcastInDim S2x2048 ![] bcast_S_S2x2048 (constant (F := Ideal) S_ .f32 0xFF800000#32))
    (Host.reduce FloatOps.maximumf x (constant (F := Ideal) S_ .f32 0xFF800000#32) reducesTo_S2x3x2048_S2x2048_d1 h_S_)

/-- The exponentials. -/
def ex (x : FVec Ideal S2x3x2048 .f32) (M : FVec Ideal S2x2048 .f32) : FVec Ideal S2x3x2048 .f32 :=
  Host.exp (subf x (broadcastInDim S2x3x2048 ![0, 1, 2] bcast_S2x1x2048_S2x3x2048_0_1_2 (broadcastInDim S2x1x2048 ![0, 2] bcast_S2x2048_S2x1x2048_0_2 M)))

/-- The exponentials over their sum. -/
def sm (e : FVec Ideal S2x3x2048 .f32) : FVec Ideal S2x3x2048 .f32 :=
  Host.divf e (broadcastInDim S2x3x2048 ![0, 1, 2] bcast_S2x1x2048_S2x3x2048_0_1_2 (broadcastInDim S2x1x2048 ![0, 2] bcast_S2x2048_S2x1x2048_0_2
    (Host.reduceAdd e (constant (F := Ideal) S_ .f32 0x00000000#32) reducesTo_S2x3x2048_S2x2048_d1 h_S_)))

/-- The running sum over the layers. -/
def cs (x : FVec Ideal S2x3x2048 .f32) : FVec Ideal S2x3x2048 .f32 :=
  Host.reduceWindowAdd ![1, 3, 1] ![1, 1, 1] ![0, 2, 0] ![0, 0, 0] x (broadcastInDim S_ ![] bcast_S_S_ (constant (F := Ideal) S_ .f32 0x00000000#32))
    reduceWindows_S2x3x2048_S2x3x2048_w1s1p0_0_w3s1p2_0_w1s1p0_0 h_S_

/-- The first layer's row. -/
def slot (x : FVec Ideal S2x3x2048 .f32) : FVec Ideal S2x2048 .f32 :=
  shapeCast S2x2048 (extractStridedSlice S2x1x2048 ![0, 0, 0] x slices_S2x3x2048_S2x1x2048_0_0_0) shapeCasts_S2x1x2048_S2x2048

/-- The lower bounds. -/
def lbOf (x : FVec Ideal S2x3x2048 .f32) : FVec Ideal S2x2048 .f32 := slot (cs (sm (ex x (mx x))))

theorem mx_apply (x : FVec Ideal S2x3x2048 .f32) (d : Fin 2) (l : Fin 2048) :
    (mx x (ix2 d l) : EReal) = max ⊥ (Finset.fold max ⊥ (fun j : Fin 3 => (x (ix3 d j l) : EReal)) Finset.univ) := by
  have hb : Ideal.ofBits FTy.f32 0xFF800000#32 = (⊥ : EReal) := by simp [Ideal.ofBits, Ideal.ieee]
  unfold mx
  pointwise
  rw [hb]

theorem ex_apply (x : FVec Ideal S2x3x2048 .f32) (M : FVec Ideal S2x2048 .f32) (d : Fin 2) (j : Fin 3) (l : Fin 2048) :
    (ex x M (ix3 d j l) : EReal) = Ideal.exp ((x (ix3 d j l) : EReal) - M (ix2 d l)) := by
  unfold ex
  pointwise

theorem sm_apply (e : FVec Ideal S2x3x2048 .f32) (d : Fin 2) (j : Fin 3) (l : Fin 2048) :
    (sm e (ix3 d j l) : EReal) = Ideal.div (e (ix3 d j l)) (∑ i : Fin 3, (e (ix3 d i l) : EReal)) := by
  unfold sm
  pointwise

theorem slot_apply (x : FVec Ideal S2x3x2048 .f32) (d : Fin 2) (l : Fin 2048) : slot x (ix2 d l) = x (ix3 d 0 l) := by
  unfold slot
  pointwise

theorem cs_apply (x : FVec Ideal S2x3x2048 .f32) (d : Fin 2) (l : Fin 2048) : (cs x (ix3 d 0 l) : EReal) = x (ix3 d 0 l) := by
  have hi : ∀ i, ((broadcastInDim S_ ![] bcast_S_S_ (constant (F := Ideal) S_ .f32 0x00000000#32) : FVec Ideal S_ .f32) i : EReal) = 0 := by
    intro i
    have hb : Ideal.ofBits FTy.f32 0x00000000#32 = (0 : EReal) := by simp [Ideal.ofBits, Ideal.ieee]
    exact hb
  unfold cs Host.reduceWindowAdd
  rw [Ideal.hostReduceWindowAdd_def]
  unfold Ideal.hostReduceWindowAdd
  unfold Host.reduceWindow
  dsimp only
  refine (foldl_sum _ _).trans ?_
  rw [hi, zero_add]
  have hd := d.isLt
  have hl := l.isLt
  refine (Fin.sum_univ_three (M := EReal) _).trans ?_
  have h0 : ((⟨3, ![1, 3, 1]⟩ : Shape).rowMajor.symm (0 : Fin 3) 1).val = 0 := by decide +kernel
  have h1 : ((⟨3, ![1, 3, 1]⟩ : Shape).rowMajor.symm (1 : Fin 3) 1).val = 1 := by decide +kernel
  have h2 : ((⟨3, ![1, 3, 1]⟩ : Shape).rowMajor.symm (2 : Fin 3) 1).val = 2 := by decide +kernel
  have g0 : ((⟨3, ![1, 3, 1]⟩ : Shape).rowMajor.symm (2 : Fin 3) 0).val = 0 := by decide +kernel
  have g2 : ((⟨3, ![1, 3, 1]⟩ : Shape).rowMajor.symm (2 : Fin 3) 2).val = 0 := by decide +kernel
  refine (congrArg₂ (fun p q : EReal => p + q) (congrArg₂ (fun p q : EReal => p + q) (dif_neg ?_) (dif_neg ?_)) (dif_pos ?_)).trans ?_
  · intro hin
    have h3 : 2 ≤ 0 * 1 + ((⟨3, ![1, 3, 1]⟩ : Shape).rowMajor.symm (0 : Fin 3) 1).val := (hin 1).1
    omega
  · intro hin
    have h3 : 2 ≤ 0 * 1 + ((⟨3, ![1, 3, 1]⟩ : Shape).rowMajor.symm (1 : Fin 3) 1).val := (hin 1).1
    omega
  · intro a
    match a with
    | ⟨0, _⟩ => exact ⟨Nat.zero_le _, by show d.val * 1 + ((⟨3, ![1, 3, 1]⟩ : Shape).rowMajor.symm (2 : Fin 3) 0).val - 0 < 2; omega⟩
    | ⟨1, _⟩ => exact ⟨by show 2 ≤ 0 * 1 + ((⟨3, ![1, 3, 1]⟩ : Shape).rowMajor.symm (2 : Fin 3) 1).val; omega, by show 0 * 1 + ((⟨3, ![1, 3, 1]⟩ : Shape).rowMajor.symm (2 : Fin 3) 1).val - 2 < 3; omega⟩
    | ⟨2, _⟩ => exact ⟨Nat.zero_le _, by show l.val * 1 + ((⟨3, ![1, 3, 1]⟩ : Shape).rowMajor.symm (2 : Fin 3) 2).val - 0 < 2048; omega⟩
  · rw [zero_add, zero_add]
    congr 1
    funext a
    apply Fin.ext
    match a with
    | ⟨0, _⟩ => show d.val * 1 + ((⟨3, ![1, 3, 1]⟩ : Shape).rowMajor.symm (2 : Fin 3) 0).val - 0 = d.val; omega
    | ⟨1, _⟩ => show 0 * 1 + ((⟨3, ![1, 3, 1]⟩ : Shape).rowMajor.symm (2 : Fin 3) 1).val - 2 = 0; omega
    | ⟨2, _⟩ => show l.val * 1 + ((⟨3, ![1, 3, 1]⟩ : Shape).rowMajor.symm (2 : Fin 3) 2).val - 0 = l.val; omega

theorem exp_nonneg (x : EReal) : 0 ≤ Ideal.exp x := by
  induction x using EReal.rec with
  | bot => exact le_refl _
  | top => exact le_top
  | coe r => rw [Ideal.exp_coe]; exact EReal.coe_nonneg.2 (Real.exp_pos r).le

/-- A share of a sum of nonnegative values is not infinite upward. -/
theorem share_ne_top (e : Fin 3 → EReal) (he : ∀ j, 0 ≤ e j) : Ideal.div (e 0) (∑ j, e j) ≠ ⊤ := by
  have hs : 0 ≤ ∑ j, e j := Finset.sum_nonneg fun j _ => he j
  have hle : e 0 ≤ ∑ j, e j := Finset.single_le_sum (fun j _ => he j) (Finset.mem_univ 0)
  have h0 := he 0
  generalize (∑ j, e j) = t at hs hle
  generalize e 0 = x at h0 hle
  unfold Ideal.div
  split
  · rename_i ht
    rw [if_neg (by rw [ht] at hle; exact not_lt.2 hle)]
    exact bot_ne_top
  · induction t using EReal.rec with
    | bot => exact absurd hs (by simp)
    | top => rw [EReal.inv_top, mul_zero]; exact EReal.zero_ne_top
    | coe r =>
      obtain ⟨y, rfl⟩ : Fin' x := fin_of_ne (fun h => by rw [h] at h0; exact absurd h0 (by simp))
        (fun h => by rw [h] at hle; exact absurd hle (by simp))
      rw [← EReal.coe_inv, ← EReal.coe_mul]
      exact EReal.coe_ne_top _

/-- The lower bounds are not infinite upward. -/
theorem lbOf_ne_top (x : FVec Ideal S2x3x2048 .f32) (d : Fin 2) (l : Fin 2048) : (lbOf x (ix2 d l) : EReal) ≠ ⊤ := by
  unfold lbOf
  rw [slot_apply, cs_apply, sm_apply]
  refine share_ne_top (fun j => ex x (mx x) (ix3 d j l)) (fun j => ?_)
  show (0 : EReal) ≤ ex x (mx x) (ix3 d j l)
  rw [ex_apply]
  exact exp_nonneg _

end Cert.Proof.ScanRef
-- ==== Proof.ScanLb.lean ====
/- Hand-written: the lower bounds the kernel's program computes before its launch. -/
module

public import proofs.«01_k».proof.Proof.ScanFinal
public import proofs.«01_k».proof.Proof.ScanSoft
public import Idealize.ShloMosaic.Lib.Claim

@[expose] public section

set_option maxRecDepth 65536

noncomputable section

namespace Cert.Proof.Scan

open Cert.ScanIdeal Cert.ScanIdeal.Gen Cert.Proof.ScanSpec
open Idealize.ShloMosaic Idealize.ShloMosaic.TcCoe Idealize.ShloMosaic.Tactic
open Idealize.ShloMosaic.Pipeline Idealize.ShloMosaic.StableHlo

variable (m : (ℓ : Loc nD τ sig) → Buf (Elt Ideal) ℓ) (c : Dev nD)

theorem cast_v10 (h1 h2 h3) (X : FVec Ideal S2x3x2048 .f32) : (TRef.of main_v10 h1 h2 h3 : TRef sig ⟨S2x3x2048, .f32⟩).ofBuf (Val := Elt Ideal) X = X := rfl
theorem cast_v11 (h1 h2 h3) (X : FVec Ideal S2x3x2048 .f32) : (TRef.of main_v11 h1 h2 h3 : TRef sig ⟨S2x3x2048, .f32⟩).toBuf (Val := Elt Ideal) X = X := rfl

theorem k_v2 : (V m c main_v2 : FVec Ideal S2x2048 .f32) = ScanRef.mx (m ((c.tc : Thread nD τ).loc main_arg2)) := by
  unfold ScanRef.mx
  entry_read
  try rfl

theorem k_v6 : (V m c main_v6 : FVec Ideal S2x3x2048 .f32) = ScanRef.ex (m ((c.tc : Thread nD τ).loc main_arg2)) (V m c main_v2) := by
  unfold ScanRef.ex
  entry_read
  try rfl

theorem k_v10 : (V m c main_v10 : FVec Ideal S2x3x2048 .f32) = ScanRef.sm (V m c main_v6) := by
  unfold ScanRef.sm
  entry_read
  try rfl

theorem k_v11 : (V m c main_v11 : FVec Ideal S2x3x2048 .f32) = ScanRef.cs (V m c main_v10) := by
  unfold ScanRef.cs
  show StableHlo.after _ _ _ = _
  simp only [V, hostOps0, hostOps0_1, hostOps0_2, List.flatten_cons, List.flatten_nil, List.append_nil, List.cons_append, List.nil_append, after_cons, after_nil]
  after_results_simp
  simp only [TRef.ofBuf_toBuf]
  generalize hX : (Host.divf (F := Ideal) (s := S2x3x2048) (φ := .f32) _ _ : FVec Ideal S2x3x2048 .f32) = X
  clear hX
  refine (cast_v11 _ _ _ _).trans ?_
  erw [cast_v10]

theorem k_v13 : (V m c main_v13 : FVec Ideal S2x2048 .f32) = ScanRef.slot (V m c main_v11) := by
  unfold ScanRef.slot
  entry_read
  try rfl

theorem k_v14 : (V m c main_v14 : FVec Ideal S2x1x2048 .f32) = shapeCast S2x1x2048 (V m c main_v13 : FVec Ideal S2x2048 .f32) shapeCasts_S2x2048_S2x1x2048 := by
  entry_read
  try rfl

theorem row_apply (x : FVec Ideal S2x2048 .f32) (d : Fin 2) (l : Fin 2048) : shapeCast S2x1x2048 x shapeCasts_S2x2048_S2x1x2048 (ix3 d 0 l) = x (ix2 d l) := by
  pointwise

theorem lbA_eq (d : Fin 2) (l : Fin 2048) : lbA m c d l = ScanRef.lbOf (m ((c.tc : Thread nD τ).loc main_arg2)) (ix2 d l) := by
  unfold lbA ScanRef.lbOf
  rw [k_v14, row_apply, k_v13, k_v11, k_v10, k_v6, k_v2]

end Cert.Proof.Scan
-- ==== Proof.ScanRefTrip.lean ====
/- Hand-written: one trip of the reference's loop at an entry. -/
module

public import proofs.«01_k».proof.Proof.ScanRefOps
public import Idealize.ShloMosaic.Lib.Pipeline.Value

@[expose] public section

set_option maxRecDepth 65536

noncomputable section

namespace Cert.Proof.ScanRef

open Cert.RefScanIdeal Cert.RefScanIdeal.Gen Cert.RefScanIdeal.Value Cert.Proof.ScanSpec
open Idealize.ShloMosaic Idealize.ShloMosaic.TcCoe Idealize.ShloMosaic.Tactic

/-- The arrays of all the chunks: chunk, sequence, head, position, lane. -/
abbrev Seqs := ℕ → Fin 16 → Fin 16 → Fin 64 → Fin 128 → EReal

/-- The state before chunk `n`. -/
def stR (kf vf lf : Seqs) (b h : Fin 16) (k a : Fin 128) : ℕ → EReal
  | 0 => 0
  | n + 1 => stepS 0 (stR kf vf lf b h k a n) (fun s => lf n b h s k) (fun s => kf n b h s k) (fun s => vf n b h s a)

/-- The result of chunk `n`. -/
def outR (qf kf vf lf : Seqs) (n : ℕ) (b h : Fin 16) (t : Fin 64) (a : Fin 128) : EReal :=
  outS 0 (fun k => stR kf vf lf b h k a n) (qf n b h) (lf n b h) (kf n b h) (fun s => vf n b h s a) t

/-- What the loop carries before chunk `n`. -/
structure Holds (qf kf vf lf : Seqs) (n : ℕ) (V : Valuation τ sig (Elt Ideal)) : Prop where
  q : ∀ (j : Fin 36) b h t k, (V (Proc.devRef .tc main_v91_0) (ix5 j b h t k : S36x16x16x64x128.Idx) : EReal) = qf j.val b h t k
  k : ∀ (j : Fin 36) b h t k, (V (Proc.devRef .tc main_v91_1) (ix5 j b h t k : S36x16x16x64x128.Idx) : EReal) = kf j.val b h t k
  v : ∀ (j : Fin 36) b h t k, (V (Proc.devRef .tc main_v91_2) (ix5 j b h t k : S36x16x16x64x128.Idx) : EReal) = vf j.val b h t k
  l : ∀ (j : Fin 36) b h t k, (V (Proc.devRef .tc main_v91_3) (ix5 j b h t k : S36x16x16x64x128.Idx) : EReal) = lf j.val b h t k
  mask : ∀ t s : Fin 64, V (Proc.devRef .tc main_v91_4) (ix3 t s (0 : Fin 1) : S64x64x1.Idx) = if bef 0 t s then 1#1 else 0#1
  ctr : ∀ i, V (Proc.devRef .tc main_v91_5) i = BitVec.ofNat 32 n
  st : ∀ b h k a, (V (Proc.devRef .tc main_v91_6) (ix4 b h k a : S16x16x128x128.Idx) : EReal) = stR kf vf lf b h k a n
  out : ∀ (j : Fin 36), j.val < n → ∀ b h t a, (V (Proc.devRef .tc main_v91_7) (ix5 j b h t a : S36x16x16x64x128.Idx) : EReal) = outR qf kf vf lf j.val b h t a

variable {qf kf vf lf : Seqs} {V : Valuation τ sig (Elt Ideal)} {n : Fin 36}

theorem q_apply (H : Holds qf kf vf lf n.val V) (b h : Fin 16) (t : Fin 64) (k : Fin 128) :
    (res_main_while0b_v103 V (ix4 b h t k : S16x16x64x128.Idx) : EReal) = qf n.val b h t k :=
  (slice_apply _ _ n H.ctr b h t k).trans (H.q n b h t k)

theorem k_apply (H : Holds qf kf vf lf n.val V) (b h : Fin 16) (t : Fin 64) (k : Fin 128) :
    (res_main_while0b_v104 V (ix4 b h t k : S16x16x64x128.Idx) : EReal) = kf n.val b h t k :=
  (slice_apply _ _ n H.ctr b h t k).trans (H.k n b h t k)

theorem v_apply (H : Holds qf kf vf lf n.val V) (b h : Fin 16) (t : Fin 64) (k : Fin 128) :
    (res_main_while0b_v105 V (ix4 b h t k : S16x16x64x128.Idx) : EReal) = vf n.val b h t k :=
  (slice_apply _ _ n H.ctr b h t k).trans (H.v n b h t k)

theorem cum_apply (H : Holds qf kf vf lf n.val V) (b h : Fin 16) (t : Fin 64) (k : Fin 128) :
    (res_main_while0b_v107 V (ix4 b h t k : S16x16x64x128.Idx) : EReal) = cum 0 (fun s => lf n.val b h s k) t := by
  refine (cumsum_apply _ _ _ _ (fun i => by pointwise) b h t k).trans ?_
  congr 1
  funext s
  exact (slice_apply _ _ n H.ctr b h s k).trans (H.l n b h s k)

theorem tot_apply (H : Holds qf kf vf lf n.val V) (b h : Fin 16) (k : Fin 128) :
    (res_main_while0b_v127 V (ix4 b h (0 : Fin 1) k : S16x16x1x128.Idx) : EReal) = tot (fun s => lf n.val b h s k) := by
  refine Eq.trans ?_ ((cum_apply H b h 63 k).trans (cum_last 0 _))
  unfold res_main_while0b_v127
  pointwise

theorem st_step (H : Holds qf kf vf lf n.val V) (b h : Fin 16) (k a : Fin 128) :
    (step_main_v91_6 V (ix4 b h k a : S16x16x128x128.Idx) : EReal) = stR kf vf lf b h k a (n.val + 1) := by
  unfold step_main_v91_6
  dsimp only [id]
  pointwise
  rw [tot_apply H, H.st]
  have hs : stR kf vf lf b h k a (n.val + 1) = stepS 0 (stR kf vf lf b h k a n.val) (fun s => lf n.val b h s k) (fun s => kf n.val b h s k) (fun s => vf n.val b h s a) := rfl
  rw [hs]
  unfold stepS
  have h1 : ∀ x y : EReal, Ideal.exp x * y = y * Ideal.exp x := fun x y => mul_comm _ _
  rw [h1]
  refine congrArg (fun z : EReal => stR kf vf lf b h k a n.val * Ideal.exp (tot fun s => lf n.val b h s k) + z) ?_
  refine Finset.sum_congr rfl fun s _ => ?_
  rw [k_apply H, v_apply H, cum_apply H]
  exact mul_comm _ _

/-- A chunk's rows written into the result at the counter. -/
theorem upd_apply (x : FVec Ideal S36x16x16x64x128 .f32) (u : FVec Ideal S1x16x16x64x128 .f32) (ctr : S_.Idx → BitVec 32) (n : Fin 36) (hc : ∀ i, ctr i = BitVec.ofNat 32 n.val)
    (j : Fin 36) (b : Fin 16) (hh : Fin 16) (t : Fin 64) (k : Fin 128) :
    Host.dynamicUpdateSlice x u (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) updateFits_S36x16x16x64x128_S1x16x16x64x128
      (ix5 j b hh t k) = if j = n then u (ix5 (0 : Fin 1) b hh t k) else x (ix5 j b hh t k) := by
  have hn := n.isLt
  have hoff : S36x16x16x64x128.Slices (![n.val, 0, 0, 0, 0] : Fin 5 → ℕ) S1x16x16x64x128 := ⟨rfl, fun a => by fin_cases a <;> simp <;> omega⟩
  have hctr := (by decide : ∀ n : Fin 36, (BitVec.ofNat 32 n.val).toInt = (n.val : ℤ)) n
  rw [Host.dynamicUpdateSlice_eq_updateSlice _ _ _ _ ![n.val, 0, 0, 0, 0] (fun a => by
    match a with
    | ⟨0, _⟩ => show (min (max ((ctr _).toInt) 0) (35 : ℤ)).toNat = n.val; rw [hc, hctr]; omega
    | ⟨1, _⟩ => rfl
    | ⟨2, _⟩ => rfl
    | ⟨3, _⟩ => rfl
    | ⟨4, _⟩ => rfl) hoff]
  rw [updateSlice_apply]
  by_cases hj : j = n
  · subst hj
    rw [if_pos rfl]
    have hin : ∀ a : Fin 5, (![j.val, 0, 0, 0, 0] : Fin 5 → ℕ) a ≤ ((ix5 j b hh t k : S36x16x16x64x128.Idx) a).val
        ∧ ((ix5 j b hh t k : S36x16x16x64x128.Idx) a).val < (![j.val, 0, 0, 0, 0] : Fin 5 → ℕ) a + S1x16x16x64x128.size a := by
      intro a
      match a with
      | ⟨0, _⟩ => exact ⟨le_refl _, Nat.lt_succ_self _⟩
      | ⟨1, _⟩ => exact ⟨Nat.zero_le _, by show b.val < 0 + 16; omega⟩
      | ⟨2, _⟩ => exact ⟨Nat.zero_le _, by show hh.val < 0 + 16; omega⟩
      | ⟨3, _⟩ => exact ⟨Nat.zero_le _, by show t.val < 0 + 64; omega⟩
      | ⟨4, _⟩ => exact ⟨Nat.zero_le _, by show k.val < 0 + 128; omega⟩
    refine (dif_pos hin).trans ?_
    congr 1
    funext a
    apply Fin.ext
    match a with
    | ⟨0, _⟩ => show j.val - j.val = 0; omega
    | ⟨1, _⟩ => rfl
    | ⟨2, _⟩ => rfl
    | ⟨3, _⟩ => rfl
    | ⟨4, _⟩ => rfl
  · rw [if_neg hj]
    refine dif_neg fun hin => hj (Fin.ext ?_)
    have h0 : n.val ≤ j.val ∧ j.val < n.val + 1 := hin 0
    omega

theorem out_step (H : Holds qf kf vf lf n.val V) (j : Fin 36) (hj : j.val < n.val + 1) (b h : Fin 16) (t : Fin 64) (a : Fin 128) :
    (step_main_v91_7 V (ix5 j b h t a : S36x16x16x64x128.Idx) : EReal) = outR qf kf vf lf j.val b h t a := by
  unfold step_main_v91_7
  refine (upd_apply _ _ _ n H.ctr j b h t a).trans ?_
  by_cases hjn : j = n
  · subst hjn
    rw [if_pos rfl]
    dsimp only [id]
    pointwise
    unfold outR outS
    have e1 : ∀ p q p' q' : EReal, p = p' → q = q' → p + q = p' + q' := fun _ _ _ _ h1 h2 => by rw [h1, h2]
    refine e1 _ _ _ _ (Finset.sum_congr rfl fun x _ => ?_) (Finset.sum_congr rfl fun s _ => ?_)
    · rw [q_apply H, cum_apply H, H.st]
    · rw [v_apply H]
      refine congrArg (fun z : EReal => z * vf j.val b h s a) ?_
      unfold score
      refine Finset.sum_congr rfl fun x _ => ?_
      rw [H.mask, q_apply H, k_apply H, cum_apply H, cum_apply H]
      by_cases hb : bef 0 t s
      · rw [if_pos hb, if_pos hb]; rfl
      · rw [if_neg hb, if_neg hb, mul_zero, zero_mul]; rfl
  · rw [if_neg hjn]
    exact H.out j (by have := Fin.val_ne_of_ne hjn; omega) b h t a

theorem ctr_step' (n : Fin 36) : BitVec.ofNat 32 n.val + 1#32 = BitVec.ofNat 32 (n.val + 1) :=
  (by decide : ∀ n : Fin 36, BitVec.ofNat 32 n.val + 1#32 = BitVec.ofNat 32 (n.val + 1)) n

/-- One trip. -/
theorem holds_step (H : Holds qf kf vf lf n.val V) : Holds qf kf vf lf (n.val + 1) (STEP V) where
  q j b h t k := by rw [STEP_main_v91_0]; exact H.q j b h t k
  k j b h t k := by rw [STEP_main_v91_1]; exact H.k j b h t k
  v j b h t k := by rw [STEP_main_v91_2]; exact H.v j b h t k
  l j b h t k := by rw [STEP_main_v91_3]; exact H.l j b h t k
  mask t s := by rw [STEP_main_v91_4]; exact H.mask t s
  ctr i := by
    rw [STEP_main_v91_5]
    have h : (V (Proc.devRef .tc main_v91_5) i : BitVec 32) = BitVec.ofNat 32 n.val := H.ctr i
    exact (congrArg (fun z : BitVec 32 => z + 1#32) h).trans (ctr_step' n)
  st b h k a := by rw [STEP_main_v91_6]; exact st_step H b h k a
  out j hj b h t a := by rw [STEP_main_v91_7]; exact out_step H j hj b h t a

/-- All the trips. -/
theorem holds_all (H : Holds qf kf vf lf 0 V) (m : ℕ) (hm : m ≤ 36) : Holds qf kf vf lf m (STEP^[m] V) := by
  induction m with
  | zero => exact H
  | succ m ih =>
    rw [Function.iterate_succ_apply']
    exact holds_step (n := ⟨m, by omega⟩) (ih (by omega))

end Cert.Proof.ScanRef
-- ==== Proof.ScanRefEntry.lean ====
/- Hand-written: the arrays the reference's loop starts from, at an entry. -/
module

public import proofs.«01_k».proof.Proof.ScanRefTrip
public import Idealize.ShloMosaic.Lib.StableHlo.RunRead

@[expose] public section

set_option maxRecDepth 65536

noncomputable section

namespace Cert.Proof.ScanRef

open Cert.RefScanIdeal Cert.RefScanIdeal.Gen Cert.RefScanIdeal.Value Cert.Proof.ScanSpec
open Idealize.ShloMosaic Idealize.ShloMosaic.TcCoe Idealize.ShloMosaic.Tactic
open Idealize.ShloMosaic.Pipeline Idealize.ShloMosaic.StableHlo

/-- What the operations before the loop leave, each from the ones before it. -/
structure Eqs (V : Valuation τ sig (Elt Ideal)) (a0 : FVec Ideal S8x256x10240 .bf16) (a1 : FVec Ideal S8x2048x10240 .bf16) : Prop where
  e_v17 : (V (Proc.devRef .tc main_v17) : FVec Ideal S8x2304x10240 .f32) = extf .f32 (concatenate S8x2304x10240 1 [⟨S8x256x10240, (a0 : FVec Ideal S8x256x10240 .bf16)⟩, ⟨S8x2048x10240, (a1 : FVec Ideal S8x2048x10240 .bf16)⟩] concatenates_S8x256x10240_S8x2048x10240_S8x2304x10240_d1 : FVec Ideal S8x2304x10240 .bf16) bitsLt_bf16_f32
  e_v48 : (V (Proc.devRef .tc main_v48) : FVec Ideal S8x2304x10240 .f32) = extf .f32 (concatenate S8x2304x10240 1 [⟨S8x256x10240, (Host.reverse [1] a0 : FVec Ideal S8x256x10240 .bf16)⟩, ⟨S8x2048x10240, (Host.reverse [1] a1 : FVec Ideal S8x2048x10240 .bf16)⟩] concatenates_S8x256x10240_S8x2048x10240_S8x2304x10240_d1 : FVec Ideal S8x2304x10240 .bf16) bitsLt_bf16_f32
  e_v19 : (V (Proc.devRef .tc main_v19) : FVec Ideal S8x2304x16x128 .f32) = shapeCast S8x2304x16x128 (extractStridedSlice S8x2304x2048 ![0, 0, 4096] (V (Proc.devRef .tc main_v17) : FVec Ideal S8x2304x10240 .f32) slices_S8x2304x10240_S8x2304x2048_0_0_4096) shapeCasts_S8x2304x2048_S8x2304x16x128
  e_v39 : (V (Proc.devRef .tc main_v39) : FVec Ideal S8x2304x16x128 .f32) = shapeCast S8x2304x16x128 (extractStridedSlice S8x2304x2048 ![0, 0, 0] (V (Proc.devRef .tc main_v17) : FVec Ideal S8x2304x10240 .f32) slices_S8x2304x10240_S8x2304x2048_0_0_0) shapeCasts_S8x2304x2048_S8x2304x16x128
  e_v42 : (V (Proc.devRef .tc main_v42) : FVec Ideal S8x2304x16x128 .f32) = shapeCast S8x2304x16x128 (extractStridedSlice S8x2304x2048 ![0, 0, 2048] (V (Proc.devRef .tc main_v17) : FVec Ideal S8x2304x10240 .f32) slices_S8x2304x10240_S8x2304x2048_0_0_2048) shapeCasts_S8x2304x2048_S8x2304x16x128
  e_v50 : (V (Proc.devRef .tc main_v50) : FVec Ideal S8x2304x16x128 .f32) = shapeCast S8x2304x16x128 (extractStridedSlice S8x2304x2048 ![0, 0, 6144] (V (Proc.devRef .tc main_v48) : FVec Ideal S8x2304x10240 .f32) slices_S8x2304x10240_S8x2304x2048_0_0_6144) shapeCasts_S8x2304x2048_S8x2304x16x128
  e_v70 : (V (Proc.devRef .tc main_v70) : FVec Ideal S8x2304x16x128 .f32) = shapeCast S8x2304x16x128 (extractStridedSlice S8x2304x2048 ![0, 0, 0] (V (Proc.devRef .tc main_v48) : FVec Ideal S8x2304x10240 .f32) slices_S8x2304x10240_S8x2304x2048_0_0_0) shapeCasts_S8x2304x2048_S8x2304x16x128
  e_v73 : (V (Proc.devRef .tc main_v73) : FVec Ideal S8x2304x16x128 .f32) = shapeCast S8x2304x16x128 (extractStridedSlice S8x2304x2048 ![0, 0, 2048] (V (Proc.devRef .tc main_v48) : FVec Ideal S8x2304x10240 .f32) slices_S8x2304x10240_S8x2304x2048_0_0_2048) shapeCasts_S8x2304x2048_S8x2304x16x128
  e_v20 : (V (Proc.devRef .tc main_v20) : FVec Ideal S16x128 .f32) = shapeCast S16x128 (shapeCast S2048 (extractStridedSlice S1x2048 ![0, 0] (V (Proc.devRef .tc main_v13) : FVec Ideal S2x2048 .f32) slices_S2x2048_S1x2048_0_0) shapeCasts_S1x2048_S2048) shapeCasts_S2048_S16x128
  e_v51 : (V (Proc.devRef .tc main_v51) : FVec Ideal S16x128 .f32) = shapeCast S16x128 (shapeCast S2048 (extractStridedSlice S1x2048 ![1, 0] (V (Proc.devRef .tc main_v13) : FVec Ideal S2x2048 .f32) slices_S2x2048_S1x2048_1_0) shapeCasts_S1x2048_S2048) shapeCasts_S2048_S16x128
  e_v34 : (V (Proc.devRef .tc main_v34) : FVec Ideal S8x2304x16x128 .f32) = addf (broadcastInDim S8x2304x16x128 ![0, 1, 2, 3] bcast_S1x1x16x128_S8x2304x16x128_0_1_2_3 (broadcastInDim S1x1x16x128 ![2, 3] bcast_S16x128_S1x1x16x128_2_3 (V (Proc.devRef .tc main_v20) : FVec Ideal S16x128 .f32))) (mulf (broadcastInDim S8x2304x16x128 ![0, 1, 2, 3] bcast_S1x1x16x128_S8x2304x16x128_0_1_2_3 (broadcastInDim S1x1x16x128 ![2, 3] bcast_S16x128_S1x1x16x128_2_3 (subf (broadcastInDim S16x128 ![] bcast_S_S16x128 (constant (F := Ideal) S_ .f32 0x3F800000#32)) (V (Proc.devRef .tc main_v20) : FVec Ideal S16x128 .f32))))
    (Host.divf (broadcastInDim S8x2304x16x128 ![] bcast_S_S8x2304x16x128 (constant (F := Ideal) S_ .f32 0x3F800000#32)) (addf (broadcastInDim S8x2304x16x128 ![] bcast_S_S8x2304x16x128 (constant (F := Ideal) S_ .f32 0x3F800000#32)) (Host.exp (Host.negf (V (Proc.devRef .tc main_v19) : FVec Ideal S8x2304x16x128 .f32))))))
  e_v65 : (V (Proc.devRef .tc main_v65) : FVec Ideal S8x2304x16x128 .f32) = addf (broadcastInDim S8x2304x16x128 ![0, 1, 2, 3] bcast_S1x1x16x128_S8x2304x16x128_0_1_2_3 (broadcastInDim S1x1x16x128 ![2, 3] bcast_S16x128_S1x1x16x128_2_3 (V (Proc.devRef .tc main_v51) : FVec Ideal S16x128 .f32))) (mulf (broadcastInDim S8x2304x16x128 ![0, 1, 2, 3] bcast_S1x1x16x128_S8x2304x16x128_0_1_2_3 (broadcastInDim S1x1x16x128 ![2, 3] bcast_S16x128_S1x1x16x128_2_3 (subf (broadcastInDim S16x128 ![] bcast_S_S16x128 (constant (F := Ideal) S_ .f32 0x3F800000#32)) (V (Proc.devRef .tc main_v51) : FVec Ideal S16x128 .f32))))
    (Host.divf (broadcastInDim S8x2304x16x128 ![] bcast_S_S8x2304x16x128 (constant (F := Ideal) S_ .f32 0x3F800000#32)) (addf (broadcastInDim S8x2304x16x128 ![] bcast_S_S8x2304x16x128 (constant (F := Ideal) S_ .f32 0x3F800000#32)) (Host.exp (Host.negf (V (Proc.devRef .tc main_v50) : FVec Ideal S8x2304x16x128 .f32))))))
  e_v35 : (V (Proc.devRef .tc main_v35) : FVec Ideal S8x2304x16x128 .f32) = (Host.log (F := Ideal) (s := S8x2304x16x128) (φ := .f32) (V (Proc.devRef .tc main_v34) : FVec Ideal S8x2304x16x128 .f32) : FVec Ideal S8x2304x16x128 .f32)
  e_v66 : (V (Proc.devRef .tc main_v66) : FVec Ideal S8x2304x16x128 .f32) = (Host.log (F := Ideal) (s := S8x2304x16x128) (φ := .f32) (V (Proc.devRef .tc main_v65) : FVec Ideal S8x2304x16x128 .f32) : FVec Ideal S8x2304x16x128 .f32)
  e_v37 : (V (Proc.devRef .tc main_v37) : FVec Ideal S8x2304x16x128 .f32) = subf (broadcastInDim S8x2304x16x128 ![] bcast_S_S8x2304x16x128 (constant (F := Ideal) S_ .f32 0x3F800000#32)) (V (Proc.devRef .tc main_v34) : FVec Ideal S8x2304x16x128 .f32)
  e_v68 : (V (Proc.devRef .tc main_v68) : FVec Ideal S8x2304x16x128 .f32) = subf (broadcastInDim S8x2304x16x128 ![] bcast_S_S8x2304x16x128 (constant (F := Ideal) S_ .f32 0x3F800000#32)) (V (Proc.devRef .tc main_v65) : FVec Ideal S8x2304x16x128 .f32)
  e_v40 : (V (Proc.devRef .tc main_v40) : FVec Ideal S8x2304x16x128 .f32) = mulf (V (Proc.devRef .tc main_v39) : FVec Ideal S8x2304x16x128 .f32) (Host.divf (broadcastInDim S8x2304x16x128 ![] bcast_S_S8x2304x16x128 (constant (F := Ideal) S_ .f32 0x3F800000#32)) (addf (broadcastInDim S8x2304x16x128 ![] bcast_S_S8x2304x16x128 (constant (F := Ideal) S_ .f32 0x3F800000#32)) (Host.exp (Host.negf (V (Proc.devRef .tc main_v39) : FVec Ideal S8x2304x16x128 .f32)))))
  e_v71 : (V (Proc.devRef .tc main_v71) : FVec Ideal S8x2304x16x128 .f32) = mulf (V (Proc.devRef .tc main_v70) : FVec Ideal S8x2304x16x128 .f32) (Host.divf (broadcastInDim S8x2304x16x128 ![] bcast_S_S8x2304x16x128 (constant (F := Ideal) S_ .f32 0x3F800000#32)) (addf (broadcastInDim S8x2304x16x128 ![] bcast_S_S8x2304x16x128 (constant (F := Ideal) S_ .f32 0x3F800000#32)) (Host.exp (Host.negf (V (Proc.devRef .tc main_v70) : FVec Ideal S8x2304x16x128 .f32)))))
  e_v91_0 : (V (Proc.devRef .tc main_v91_0) : FVec Ideal S36x16x16x64x128 .f32) = transpose S36x16x16x64x128 [1, 0, 3, 2, 4] (shapeCast S16x36x64x16x128 (concatenate S16x2304x16x128 0 [⟨S8x2304x16x128, (V (Proc.devRef .tc main_v40) : FVec Ideal S8x2304x16x128 .f32)⟩, ⟨S8x2304x16x128, (V (Proc.devRef .tc main_v71) : FVec Ideal S8x2304x16x128 .f32)⟩] concatenates_S8x2304x16x128_S8x2304x16x128_S16x2304x16x128_d0) shapeCasts_S16x2304x16x128_S16x36x64x16x128) transposes_S16x36x64x16x128_S36x16x16x64x128_1_0_3_2_4
  e_v91_1 : (V (Proc.devRef .tc main_v91_1) : FVec Ideal S36x16x16x64x128 .f32) = transpose S36x16x16x64x128 [1, 0, 3, 2, 4] (shapeCast S16x36x64x16x128 (concatenate S16x2304x16x128 0 [⟨S8x2304x16x128, (V (Proc.devRef .tc main_v37) : FVec Ideal S8x2304x16x128 .f32)⟩, ⟨S8x2304x16x128, (V (Proc.devRef .tc main_v68) : FVec Ideal S8x2304x16x128 .f32)⟩] concatenates_S8x2304x16x128_S8x2304x16x128_S16x2304x16x128_d0) shapeCasts_S16x2304x16x128_S16x36x64x16x128) transposes_S16x36x64x16x128_S36x16x16x64x128_1_0_3_2_4
  e_v91_2 : (V (Proc.devRef .tc main_v91_2) : FVec Ideal S36x16x16x64x128 .f32) = transpose S36x16x16x64x128 [1, 0, 3, 2, 4] (shapeCast S16x36x64x16x128 (concatenate S16x2304x16x128 0 [⟨S8x2304x16x128, (V (Proc.devRef .tc main_v42) : FVec Ideal S8x2304x16x128 .f32)⟩, ⟨S8x2304x16x128, (V (Proc.devRef .tc main_v73) : FVec Ideal S8x2304x16x128 .f32)⟩] concatenates_S8x2304x16x128_S8x2304x16x128_S16x2304x16x128_d0) shapeCasts_S16x2304x16x128_S16x36x64x16x128) transposes_S16x36x64x16x128_S36x16x16x64x128_1_0_3_2_4
  e_v91_3 : (V (Proc.devRef .tc main_v91_3) : FVec Ideal S36x16x16x64x128 .f32) = transpose S36x16x16x64x128 [1, 0, 3, 2, 4] (shapeCast S16x36x64x16x128 (concatenate S16x2304x16x128 0 [⟨S8x2304x16x128, (V (Proc.devRef .tc main_v35) : FVec Ideal S8x2304x16x128 .f32)⟩, ⟨S8x2304x16x128, (V (Proc.devRef .tc main_v66) : FVec Ideal S8x2304x16x128 .f32)⟩] concatenates_S8x2304x16x128_S8x2304x16x128_S16x2304x16x128_d0) shapeCasts_S16x2304x16x128_S16x36x64x16x128) transposes_S16x36x64x16x128_S36x16x16x64x128_1_0_3_2_4
  e_v91_4 : (V (Proc.devRef .tc main_v91_4) : IVec S64x64x1 1) = broadcastInDim S64x64x1 ![0, 1] bcast_S64x64_S64x64x1_0_1 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))
  e_v91_6 : (V (Proc.devRef .tc main_v91_6) : FVec Ideal S16x16x128x128 .f32) = broadcastInDim S16x16x128x128 ![] bcast_S_S16x16x128x128 (constant (F := Ideal) S_ .f32 0x00000000#32)

/-- The two sequences' rows at every lane, and the gates' lower bounds. -/
def pcR (a0 : FVec Ideal S8x256x10240 .bf16) (b : Fin 8) (r : Fin 256) (l : Fin 10240) : EReal := a0 (ix3 b r l : S8x256x10240.Idx)
def plR (a1 : FVec Ideal S8x2048x10240 .bf16) (b : Fin 8) (r : Fin 2048) (l : Fin 10240) : EReal := a1 (ix3 b r l : S8x2048x10240.Idx)
def lbR (V : Valuation τ sig (Elt Ideal)) (d : Fin 2) (l : Fin 2048) : EReal := V (Proc.devRef .tc main_v13) (ix2 d l : S2x2048.Idx)

/-- A chunk with its positions in the direction's order. -/
def flipC (d : Fin 2) (C : Chunk) : Chunk := fun t l => C (if d = 0 then t else Fin.rev t) l

/-- Row `64 n + t` of the joined sequence. -/
def row (n : Fin 36) (t : Fin 64) : Fin 2304 := ⟨n.val * 64 + t.val, by omega⟩

theorem row_val (n : Fin 36) (t : Fin 64) : (row n t).val = n.val * 64 + t.val := rfl

/-- Chunk `n` of section `o`, in the direction's order. -/
def chunkR (a0 : FVec Ideal S8x256x10240 .bf16) (a1 : FVec Ideal S8x2048x10240 .bf16) (d : Fin 2) (b : Fin 8) (o : Fin 5) (n : ℕ) : Chunk := flipC d (seqC (pcR a0) (plR a1) d b o n)

variable {V : Valuation τ sig (Elt Ideal)} {a0 : FVec Ideal S8x256x10240 .bf16} {a1 : FVec Ideal S8x2048x10240 .bf16} (H : Eqs V a0 a1)
include H

theorem v17_entry (b : Fin 8) (n : Fin 36) (t : Fin 64) (o : Fin 5) (l : Fin 2048) :
    (V (Proc.devRef .tc main_v17) : FVec Ideal S8x2304x10240 .f32) (ix3 b (row n t) (col o l)) = chunkR a0 a1 0 b o n.val t l := by
  rw [H.e_v17]
  have hn := n.isLt
  have ht := t.isLt
  have hv := row_val n t
  generalize row n t = r at hv
  unfold chunkR flipC seqC pcR plR
  pointwise
  by_cases h : r.val < 256
  · rw [dif_pos h, if_pos (show n.val < 4 by omega)]
    congr 1
    refine congrArg (fun z : Fin 256 => (ix3 b z (col o l) : S8x256x10240.Idx)) (Fin.ext ?_)
    show r.val = (64 * (if (0 : Fin 2) = 0 then n.val else 3 - n.val) + (if (0 : Fin 2) = 0 then t else Fin.rev t).val) % 256
    rw [if_pos rfl, if_pos rfl]; omega
  · rw [dif_neg h, if_neg (show ¬ n.val < 4 by omega)]
    congr 1
    refine congrArg (fun z : Fin 2048 => (ix3 b z (col o l) : S8x2048x10240.Idx)) (Fin.ext ?_)
    show r.val - 256 = (64 * (if (0 : Fin 2) = 0 then n.val - 4 else 35 - n.val) + (if (0 : Fin 2) = 0 then t else Fin.rev t).val) % 2048
    rw [if_pos rfl, if_pos rfl]; omega

theorem v48_entry (b : Fin 8) (n : Fin 36) (t : Fin 64) (o : Fin 5) (l : Fin 2048) :
    (V (Proc.devRef .tc main_v48) : FVec Ideal S8x2304x10240 .f32) (ix3 b (row n t) (col o l)) = chunkR a0 a1 1 b o n.val t l := by
  rw [H.e_v48]
  have hn := n.isLt
  have ht := t.isLt
  have hv := row_val n t
  generalize row n t = r at hv
  unfold chunkR flipC seqC pcR plR
  pointwise
  by_cases h : r.val < 256
  · rw [dif_pos h, if_pos (show n.val < 4 by omega)]
    congr 1
    refine congrArg (fun z : Fin 256 => (ix3 b z (col o l) : S8x256x10240.Idx)) (Fin.ext ?_)
    show (Fin.rev (⟨r.val, h⟩ : Fin 256)).val = (64 * (3 - n.val) + (Fin.rev t).val) % 256
    rw [Fin.val_rev, Fin.val_rev]
    show 256 - (r.val + 1) = _
    omega
  · rw [dif_neg h, if_neg (show ¬ n.val < 4 by omega)]
    congr 1
    refine congrArg (fun z : Fin 2048 => (ix3 b z (col o l) : S8x2048x10240.Idx)) (Fin.ext ?_)
    show (Fin.rev (⟨r.val - 256, by omega⟩ : Fin 2048)).val = (64 * (35 - n.val) + (Fin.rev t).val) % 2048
    rw [Fin.val_rev, Fin.val_rev]
    show 2048 - (r.val - 256 + 1) = _
    omega

theorem v19_entry (b : Fin 8) (n : Fin 36) (t : Fin 64) (h : Fin 16) (k : Fin 128) :
    (V (Proc.devRef .tc main_v19) : FVec Ideal S8x2304x16x128 .f32) (ix4 b (row n t) h k) = chunkR a0 a1 0 b 2 n.val t (lane h k) := by
  rw [H.e_v19, ← v17_entry H]
  generalize (V (Proc.devRef .tc main_v17) : FVec Ideal S8x2304x10240 .f32) = A
  pointwise
  congr 1
  refine congrArg (fun z : Fin 10240 => (ix3 b (row n t) z : S8x2304x10240.Idx)) (Fin.ext ?_)
  show 4096 + (h.val * 128 + k.val) = 2048 * 2 + (128 * h.val + k.val)
  omega

theorem v39_entry (b : Fin 8) (n : Fin 36) (t : Fin 64) (h : Fin 16) (k : Fin 128) :
    (V (Proc.devRef .tc main_v39) : FVec Ideal S8x2304x16x128 .f32) (ix4 b (row n t) h k) = chunkR a0 a1 0 b 0 n.val t (lane h k) := by
  rw [H.e_v39, ← v17_entry H]
  generalize (V (Proc.devRef .tc main_v17) : FVec Ideal S8x2304x10240 .f32) = A
  pointwise
  congr 1
  refine congrArg (fun z : Fin 10240 => (ix3 b (row n t) z : S8x2304x10240.Idx)) (Fin.ext ?_)
  show (h.val * 128 + k.val) = 2048 * 0 + (128 * h.val + k.val)
  omega

theorem v42_entry (b : Fin 8) (n : Fin 36) (t : Fin 64) (h : Fin 16) (k : Fin 128) :
    (V (Proc.devRef .tc main_v42) : FVec Ideal S8x2304x16x128 .f32) (ix4 b (row n t) h k) = chunkR a0 a1 0 b 1 n.val t (lane h k) := by
  rw [H.e_v42, ← v17_entry H]
  generalize (V (Proc.devRef .tc main_v17) : FVec Ideal S8x2304x10240 .f32) = A
  pointwise
  congr 1
  refine congrArg (fun z : Fin 10240 => (ix3 b (row n t) z : S8x2304x10240.Idx)) (Fin.ext ?_)
  show 2048 + (h.val * 128 + k.val) = 2048 * 1 + (128 * h.val + k.val)
  omega

theorem v50_entry (b : Fin 8) (n : Fin 36) (t : Fin 64) (h : Fin 16) (k : Fin 128) :
    (V (Proc.devRef .tc main_v50) : FVec Ideal S8x2304x16x128 .f32) (ix4 b (row n t) h k) = chunkR a0 a1 1 b 3 n.val t (lane h k) := by
  rw [H.e_v50, ← v48_entry H]
  generalize (V (Proc.devRef .tc main_v48) : FVec Ideal S8x2304x10240 .f32) = A
  pointwise
  congr 1
  refine congrArg (fun z : Fin 10240 => (ix3 b (row n t) z : S8x2304x10240.Idx)) (Fin.ext ?_)
  show 6144 + (h.val * 128 + k.val) = 2048 * 3 + (128 * h.val + k.val)
  omega

theorem v70_entry (b : Fin 8) (n : Fin 36) (t : Fin 64) (h : Fin 16) (k : Fin 128) :
    (V (Proc.devRef .tc main_v70) : FVec Ideal S8x2304x16x128 .f32) (ix4 b (row n t) h k) = chunkR a0 a1 1 b 0 n.val t (lane h k) := by
  rw [H.e_v70, ← v48_entry H]
  generalize (V (Proc.devRef .tc main_v48) : FVec Ideal S8x2304x10240 .f32) = A
  pointwise
  congr 1
  refine congrArg (fun z : Fin 10240 => (ix3 b (row n t) z : S8x2304x10240.Idx)) (Fin.ext ?_)
  show (h.val * 128 + k.val) = 2048 * 0 + (128 * h.val + k.val)
  omega

theorem v73_entry (b : Fin 8) (n : Fin 36) (t : Fin 64) (h : Fin 16) (k : Fin 128) :
    (V (Proc.devRef .tc main_v73) : FVec Ideal S8x2304x16x128 .f32) (ix4 b (row n t) h k) = chunkR a0 a1 1 b 1 n.val t (lane h k) := by
  rw [H.e_v73, ← v48_entry H]
  generalize (V (Proc.devRef .tc main_v48) : FVec Ideal S8x2304x10240 .f32) = A
  pointwise
  congr 1
  refine congrArg (fun z : Fin 10240 => (ix3 b (row n t) z : S8x2304x10240.Idx)) (Fin.ext ?_)
  show 2048 + (h.val * 128 + k.val) = 2048 * 1 + (128 * h.val + k.val)
  omega

theorem v20_entry (h : Fin 16) (k : Fin 128) : (V (Proc.devRef .tc main_v20) : FVec Ideal S16x128 .f32) (ix2 h k) = lbR V 0 (lane h k) := by
  rw [H.e_v20]
  unfold lbR
  generalize (V (Proc.devRef .tc main_v13) : FVec Ideal S2x2048 .f32) = A
  pointwise
  congr 1
  refine congrArg (fun z : Fin 2048 => (ix2 0 z : S2x2048.Idx)) (Fin.ext ?_)
  show h.val * 128 + k.val = 128 * h.val + k.val
  omega

theorem v51_entry (h : Fin 16) (k : Fin 128) : (V (Proc.devRef .tc main_v51) : FVec Ideal S16x128 .f32) (ix2 h k) = lbR V 1 (lane h k) := by
  rw [H.e_v51]
  unfold lbR
  generalize (V (Proc.devRef .tc main_v13) : FVec Ideal S2x2048 .f32) = A
  pointwise
  congr 1
  refine congrArg (fun z : Fin 2048 => (ix2 1 z : S2x2048.Idx)) (Fin.ext ?_)
  show h.val * 128 + k.val = 128 * h.val + k.val
  omega

theorem v34_entry (b : Fin 8) (n : Fin 36) (t : Fin 64) (h : Fin 16) (k : Fin 128) :
    ((V (Proc.devRef .tc main_v34) : FVec Ideal S8x2304x16x128 .f32) (ix4 b (row n t) h k) : EReal) = forget (lbR V 0 (lane h k)) (chunkR a0 a1 0 b 2 n.val t (lane h k)) := by
  rw [H.e_v34, ← v20_entry H, ← v19_entry H]
  generalize (V (Proc.devRef .tc main_v20) : FVec Ideal S16x128 .f32) = A
  generalize (V (Proc.devRef .tc main_v19) : FVec Ideal S8x2304x16x128 .f32) = A'
  unfold forget Ideal.logistic
  pointwise

theorem v65_entry (b : Fin 8) (n : Fin 36) (t : Fin 64) (h : Fin 16) (k : Fin 128) :
    ((V (Proc.devRef .tc main_v65) : FVec Ideal S8x2304x16x128 .f32) (ix4 b (row n t) h k) : EReal) = forget (lbR V 1 (lane h k)) (chunkR a0 a1 1 b 3 n.val t (lane h k)) := by
  rw [H.e_v65, ← v51_entry H, ← v50_entry H]
  generalize (V (Proc.devRef .tc main_v51) : FVec Ideal S16x128 .f32) = A
  generalize (V (Proc.devRef .tc main_v50) : FVec Ideal S8x2304x16x128 .f32) = A'
  unfold forget Ideal.logistic
  pointwise

theorem v35_entry (b : Fin 8) (n : Fin 36) (t : Fin 64) (h : Fin 16) (k : Fin 128) :
    ((V (Proc.devRef .tc main_v35) : FVec Ideal S8x2304x16x128 .f32) (ix4 b (row n t) h k) : EReal) = lfC (lbR V 0) (chunkR a0 a1 0 b 2 n.val) t (lane h k) := by
  rw [H.e_v35]
  unfold lfC
  rw [← v34_entry H]
  generalize (V (Proc.devRef .tc main_v34) : FVec Ideal S8x2304x16x128 .f32) = A
  pointwise

theorem v66_entry (b : Fin 8) (n : Fin 36) (t : Fin 64) (h : Fin 16) (k : Fin 128) :
    ((V (Proc.devRef .tc main_v66) : FVec Ideal S8x2304x16x128 .f32) (ix4 b (row n t) h k) : EReal) = lfC (lbR V 1) (chunkR a0 a1 1 b 3 n.val) t (lane h k) := by
  rw [H.e_v66]
  unfold lfC
  rw [← v65_entry H]
  generalize (V (Proc.devRef .tc main_v65) : FVec Ideal S8x2304x16x128 .f32) = A
  pointwise

theorem v37_entry (b : Fin 8) (n : Fin 36) (t : Fin 64) (h : Fin 16) (k : Fin 128) :
    ((V (Proc.devRef .tc main_v37) : FVec Ideal S8x2304x16x128 .f32) (ix4 b (row n t) h k) : EReal) = kkC (lbR V 0) (chunkR a0 a1 0 b 2 n.val) t (lane h k) := by
  rw [H.e_v37]
  unfold kkC
  rw [← v34_entry H]
  generalize (V (Proc.devRef .tc main_v34) : FVec Ideal S8x2304x16x128 .f32) = A
  pointwise

theorem v68_entry (b : Fin 8) (n : Fin 36) (t : Fin 64) (h : Fin 16) (k : Fin 128) :
    ((V (Proc.devRef .tc main_v68) : FVec Ideal S8x2304x16x128 .f32) (ix4 b (row n t) h k) : EReal) = kkC (lbR V 1) (chunkR a0 a1 1 b 3 n.val) t (lane h k) := by
  rw [H.e_v68]
  unfold kkC
  rw [← v65_entry H]
  generalize (V (Proc.devRef .tc main_v65) : FVec Ideal S8x2304x16x128 .f32) = A
  pointwise

theorem v40_entry (b : Fin 8) (n : Fin 36) (t : Fin 64) (h : Fin 16) (k : Fin 128) :
    ((V (Proc.devRef .tc main_v40) : FVec Ideal S8x2304x16x128 .f32) (ix4 b (row n t) h k) : EReal) = siC (chunkR a0 a1 0 b 0 n.val) t (lane h k) := by
  rw [H.e_v40]
  unfold siC
  rw [← v39_entry H]
  generalize (V (Proc.devRef .tc main_v39) : FVec Ideal S8x2304x16x128 .f32) = A
  unfold Ideal.logistic
  pointwise

theorem v71_entry (b : Fin 8) (n : Fin 36) (t : Fin 64) (h : Fin 16) (k : Fin 128) :
    ((V (Proc.devRef .tc main_v71) : FVec Ideal S8x2304x16x128 .f32) (ix4 b (row n t) h k) : EReal) = siC (chunkR a0 a1 1 b 0 n.val) t (lane h k) := by
  rw [H.e_v71]
  unfold siC
  rw [← v70_entry H]
  generalize (V (Proc.devRef .tc main_v70) : FVec Ideal S8x2304x16x128 .f32) = A
  unfold Ideal.logistic
  pointwise

omit H

/-- The two directions stacked, cut into chunks. -/
theorem cut_apply (C : FVec Ideal S16x2304x16x128 .f32) (n : Fin 36) (B h : Fin 16) (t : Fin 64) (k : Fin 128) :
    transpose S36x16x16x64x128 [1, 0, 3, 2, 4] (shapeCast S16x36x64x16x128 C shapeCasts_S16x2304x16x128_S16x36x64x16x128) transposes_S16x36x64x16x128_S36x16x16x64x128_1_0_3_2_4 (ix5 n B h t k) = C (ix4 B (row n t) h k) := by
  pointwise
  rfl

theorem cat_apply (A A' : FVec Ideal S8x2304x16x128 .f32) (B : Fin 16) (r : Fin 2304) (h : Fin 16) (k : Fin 128) :
    (concatenate S16x2304x16x128 0 [⟨S8x2304x16x128, A⟩, ⟨S8x2304x16x128, A'⟩] concatenates_S8x2304x16x128_S8x2304x16x128_S16x2304x16x128_d0) (ix4 B r h k) = if hB : B.val < 8 then A (ix4 (⟨B.val, hB⟩ : Fin 8) r h k) else A' (ix4 (⟨B.val - 8, by omega⟩ : Fin 8) r h k) := by
  pointwise

theorem stack_lo (A A' : FVec Ideal S8x2304x16x128 .f32) (n : Fin 36) (B h : Fin 16) (t : Fin 64) (k : Fin 128) (hB : B.val < 8) :
    transpose S36x16x16x64x128 [1, 0, 3, 2, 4] (shapeCast S16x36x64x16x128 (concatenate S16x2304x16x128 0 [⟨S8x2304x16x128, A⟩, ⟨S8x2304x16x128, A'⟩] concatenates_S8x2304x16x128_S8x2304x16x128_S16x2304x16x128_d0) shapeCasts_S16x2304x16x128_S16x36x64x16x128) transposes_S16x36x64x16x128_S36x16x16x64x128_1_0_3_2_4 (ix5 n B h t k) = A (ix4 (⟨B.val, hB⟩ : Fin 8) (row n t) h k) :=
  (cut_apply _ n B h t k).trans ((cat_apply A A' B (row n t) h k).trans (dif_pos hB))

theorem stack_hi (A A' : FVec Ideal S8x2304x16x128 .f32) (n : Fin 36) (B h : Fin 16) (t : Fin 64) (k : Fin 128) (hB : ¬ B.val < 8) :
    transpose S36x16x16x64x128 [1, 0, 3, 2, 4] (shapeCast S16x36x64x16x128 (concatenate S16x2304x16x128 0 [⟨S8x2304x16x128, A⟩, ⟨S8x2304x16x128, A'⟩] concatenates_S8x2304x16x128_S8x2304x16x128_S16x2304x16x128_d0) shapeCasts_S16x2304x16x128_S16x36x64x16x128) transposes_S16x36x64x16x128_S36x16x16x64x128_1_0_3_2_4 (ix5 n B h t k) = A' (ix4 (⟨B.val - 8, by omega⟩ : Fin 8) (row n t) h k) :=
  (cut_apply _ n B h t k).trans ((cat_apply A A' B (row n t) h k).trans (dif_neg hB))

/-- The direction and the batch row of a sequence. -/
def dS (B : Fin 16) : Fin 2 := if B.val < 8 then 0 else 1
def bS (B : Fin 16) : Fin 8 := ⟨B.val % 8, Nat.mod_lt _ (by omega)⟩

/-- The arrays of all the chunks. -/
def qS (V : Valuation τ sig (Elt Ideal)) (a0 : FVec Ideal S8x256x10240 .bf16) (a1 : FVec Ideal S8x2048x10240 .bf16) : Seqs := fun n B h t k => siC (chunkR a0 a1 (dS B) (bS B) 0 n) t (lane h k)
def kS (V : Valuation τ sig (Elt Ideal)) (a0 : FVec Ideal S8x256x10240 .bf16) (a1 : FVec Ideal S8x2048x10240 .bf16) : Seqs := fun n B h t k => kkC (lbR V (dS B)) (chunkR a0 a1 (dS B) (bS B) (zsec (dS B)) n) t (lane h k)
def vS (V : Valuation τ sig (Elt Ideal)) (a0 : FVec Ideal S8x256x10240 .bf16) (a1 : FVec Ideal S8x2048x10240 .bf16) : Seqs := fun n B h t k => chunkR a0 a1 (dS B) (bS B) 1 n t (lane h k)
def lS (V : Valuation τ sig (Elt Ideal)) (a0 : FVec Ideal S8x256x10240 .bf16) (a1 : FVec Ideal S8x2048x10240 .bf16) : Seqs := fun n B h t k => lfC (lbR V (dS B)) (chunkR a0 a1 (dS B) (bS B) (zsec (dS B)) n) t (lane h k)

include H

theorem v91_0_entry (n : Fin 36) (B h : Fin 16) (t : Fin 64) (k : Fin 128) :
    ((V (Proc.devRef .tc main_v91_0) : FVec Ideal S36x16x16x64x128 .f32) (ix5 n B h t k) : EReal) = qS V a0 a1 n.val B h t k := by
  rw [H.e_v91_0]
  unfold qS
  by_cases hB : B.val < 8
  · refine (stack_lo _ _ n B h t k hB).trans ?_
    have hd : dS B = 0 := if_pos hB
    have hb : bS B = ⟨B.val, hB⟩ := Fin.ext (Nat.mod_eq_of_lt hB)
    rw [hd, hb]
    exact v40_entry H _ n t h k
  · refine (stack_hi _ _ n B h t k hB).trans ?_
    have hd : dS B = 1 := if_neg hB
    have hb : bS B = ⟨B.val - 8, by omega⟩ := Fin.ext (by show B.val % 8 = B.val - 8; omega)
    rw [hd, hb]
    exact v71_entry H _ n t h k

theorem v91_1_entry (n : Fin 36) (B h : Fin 16) (t : Fin 64) (k : Fin 128) :
    ((V (Proc.devRef .tc main_v91_1) : FVec Ideal S36x16x16x64x128 .f32) (ix5 n B h t k) : EReal) = kS V a0 a1 n.val B h t k := by
  rw [H.e_v91_1]
  unfold kS
  by_cases hB : B.val < 8
  · refine (stack_lo _ _ n B h t k hB).trans ?_
    have hd : dS B = 0 := if_pos hB
    have hb : bS B = ⟨B.val, hB⟩ := Fin.ext (Nat.mod_eq_of_lt hB)
    rw [hd, hb]
    exact v37_entry H _ n t h k
  · refine (stack_hi _ _ n B h t k hB).trans ?_
    have hd : dS B = 1 := if_neg hB
    have hb : bS B = ⟨B.val - 8, by omega⟩ := Fin.ext (by show B.val % 8 = B.val - 8; omega)
    rw [hd, hb]
    exact v68_entry H _ n t h k

theorem v91_2_entry (n : Fin 36) (B h : Fin 16) (t : Fin 64) (k : Fin 128) :
    ((V (Proc.devRef .tc main_v91_2) : FVec Ideal S36x16x16x64x128 .f32) (ix5 n B h t k) : EReal) = vS V a0 a1 n.val B h t k := by
  rw [H.e_v91_2]
  unfold vS
  by_cases hB : B.val < 8
  · refine (stack_lo _ _ n B h t k hB).trans ?_
    have hd : dS B = 0 := if_pos hB
    have hb : bS B = ⟨B.val, hB⟩ := Fin.ext (Nat.mod_eq_of_lt hB)
    rw [hd, hb]
    exact v42_entry H _ n t h k
  · refine (stack_hi _ _ n B h t k hB).trans ?_
    have hd : dS B = 1 := if_neg hB
    have hb : bS B = ⟨B.val - 8, by omega⟩ := Fin.ext (by show B.val % 8 = B.val - 8; omega)
    rw [hd, hb]
    exact v73_entry H _ n t h k

theorem v91_3_entry (n : Fin 36) (B h : Fin 16) (t : Fin 64) (k : Fin 128) :
    ((V (Proc.devRef .tc main_v91_3) : FVec Ideal S36x16x16x64x128 .f32) (ix5 n B h t k) : EReal) = lS V a0 a1 n.val B h t k := by
  rw [H.e_v91_3]
  unfold lS
  by_cases hB : B.val < 8
  · refine (stack_lo _ _ n B h t k hB).trans ?_
    have hd : dS B = 0 := if_pos hB
    have hb : bS B = ⟨B.val, hB⟩ := Fin.ext (Nat.mod_eq_of_lt hB)
    rw [hd, hb]
    exact v35_entry H _ n t h k
  · refine (stack_hi _ _ n B h t k hB).trans ?_
    have hd : dS B = 1 := if_neg hB
    have hb : bS B = ⟨B.val - 8, by omega⟩ := Fin.ext (by show B.val % 8 = B.val - 8; omega)
    rw [hd, hb]
    exact v66_entry H _ n t h k

theorem mask_entry (t s : Fin 64) : (V (Proc.devRef .tc main_v91_4) : IVec S64x64x1 1) (ix3 t s (0 : Fin 1)) = if bef 0 t s then 1#1 else 0#1 := by
  rw [H.e_v91_4]
  pointwise
  have key := (by decide +kernel : ∀ t s : Fin 64, Scalar.select (IntOp.cmpi CmpIPredicate.sge (IntOp.addi (BitVec.ofNat 32 t.val) 0#32) (BitVec.ofNat 32 s.val)) 1#1 0#1 = if bef 0 t s then 1#1 else 0#1)
  exact key t s

theorem v91_6_entry (i : S16x16x128x128.Idx) : ((V (Proc.devRef .tc main_v91_6) : FVec Ideal S16x16x128x128 .f32) i : EReal) = (0 : EReal) := by
  rw [H.e_v91_6]
  pointwise

theorem holds_entry (hc : ∀ i, V (Proc.devRef .tc main_v91_5) i = 0#32) : Holds (qS V a0 a1) (kS V a0 a1) (vS V a0 a1) (lS V a0 a1) 0 V where
  q := v91_0_entry H
  k := v91_1_entry H
  v := v91_2_entry H
  l := v91_3_entry H
  mask := mask_entry H
  ctr := hc
  st b h k a := v91_6_entry H _
  out j hj := absurd hj (Nat.not_lt_zero _)

end Cert.Proof.ScanRef
-- ==== Proof.ScanRefFlip.lean ====
/- Hand-written: the recurrence in the reversed order is the other direction's. -/
module

public import proofs.«01_k».proof.Proof.ScanRefEntry

@[expose] public section

set_option maxRecDepth 65536

noncomputable section

namespace Cert.Proof.ScanRef

open Cert.RefScanIdeal Cert.RefScanIdeal.Gen Cert.RefScanIdeal.Value Cert.Proof.ScanSpec
open Idealize.ShloMosaic Idealize.ShloMosaic.TcCoe

/-- A position in the direction's order. -/
def pf (d : Fin 2) (t : Fin 64) : Fin 64 := if d = 0 then t else Fin.rev t

theorem pf_pf (d : Fin 2) (t : Fin 64) : pf d (pf d t) = t := by
  unfold pf; split_ifs
  · rfl
  · exact Fin.rev_rev t

def pe (d : Fin 2) : Fin 64 ≃ Fin 64 := ⟨pf d, pf d, pf_pf d, pf_pf d⟩

theorem sum_pf (d : Fin 2) (f : Fin 64 → EReal) : (∑ s, f (pf d s) : EReal) = ∑ s, f s := Equiv.sum_comp (pe d) f

theorem bef_pf (d : Fin 2) (t s : Fin 64) : bef 0 t s ↔ bef d (pf d t) (pf d s) := by
  unfold bef pf
  by_cases hd : d = 0
  · subst hd; exact Iff.rfl
  · simp only [if_neg hd, if_true]
    exact Fin.rev_le_rev.symm

theorem cum_pf (d : Fin 2) (lf : Fin 64 → EReal) (t : Fin 64) : cum 0 (fun s => lf (pf d s)) t = cum d lf (pf d t) := by
  unfold cum
  refine Eq.trans ?_ (sum_pf d (fun s => if bef d (pf d t) s then lf s else 0))
  refine Finset.sum_congr rfl fun s _ => ?_
  by_cases h : bef 0 t s
  · rw [if_pos h, if_pos ((bef_pf d t s).1 h)]
  · rw [if_neg h, if_neg (fun h' => h ((bef_pf d t s).2 h'))]

theorem tot_pf (d : Fin 2) (lf : Fin 64 → EReal) : tot (fun s => lf (pf d s)) = tot lf := sum_pf d lf

theorem stepS_pf (d : Fin 2) (S : EReal) (lf kk v : Fin 64 → EReal) :
    stepS 0 S (fun s => lf (pf d s)) (fun s => kk (pf d s)) (fun s => v (pf d s)) = stepS d S lf kk v := by
  unfold stepS
  rw [tot_pf]
  refine congrArg (fun z : EReal => S * Ideal.exp (tot lf) + z) ?_
  refine Eq.trans ?_ (sum_pf d (fun s => v s * (kk s * Ideal.exp (tot lf - cum d lf s))))
  refine Finset.sum_congr rfl fun s _ => ?_
  rw [cum_pf]

theorem score_pf (d : Fin 2) (q lf kk : Fin 64 → Fin 128 → EReal) (t s : Fin 64) :
    score 0 (fun u => q (pf d u)) (fun u => lf (pf d u)) (fun u => kk (pf d u)) t s = score d q lf kk (pf d t) (pf d s) := by
  unfold score
  refine Finset.sum_congr rfl fun k _ => ?_
  have h1 : ∀ u, cum 0 (fun s => lf (pf d s) k) u = cum d (fun s => lf s k) (pf d u) := fun u => cum_pf d (fun s => lf s k) u
  rw [h1, h1]
  by_cases h : bef 0 t s
  · rw [if_pos h, if_pos ((bef_pf d t s).1 h)]
  · rw [if_neg h, if_neg (fun h' => h ((bef_pf d t s).2 h'))]

theorem outS_pf (d : Fin 2) (S : Fin 128 → EReal) (q lf kk : Fin 64 → Fin 128 → EReal) (v : Fin 64 → EReal) (t : Fin 64) :
    outS 0 S (fun u => q (pf d u)) (fun u => lf (pf d u)) (fun u => kk (pf d u)) (fun u => v (pf d u)) t = outS d S q lf kk v (pf d t) := by
  unfold outS
  have e1 : ∀ p q p' q' : EReal, p = p' → q = q' → p + q = p' + q' := fun _ _ _ _ h1 h2 => by rw [h1, h2]
  refine e1 _ _ _ _ (Finset.sum_congr rfl fun k _ => ?_) ?_
  · have h1 : ∀ u, cum 0 (fun s => lf (pf d s) k) u = cum d (fun s => lf s k) (pf d u) := fun u => cum_pf d (fun s => lf s k) u
    rw [h1]
  · refine Eq.trans ?_ (sum_pf d (fun s => score d q lf kk (pf d t) s * v s))
    refine Finset.sum_congr rfl fun s _ => ?_
    rw [score_pf]

variable (V : Valuation τ sig (Elt Ideal)) (a0 : FVec Ideal S8x256x10240 .bf16) (a1 : FVec Ideal S8x2048x10240 .bf16)

/-- The states before chunk `n`. -/
theorem stR_eq (B h : Fin 16) (k a : Fin 128) (n : ℕ) :
    stR (kS V a0 a1) (vS V a0 a1) (lS V a0 a1) B h k a n = scanSt (lbR V) (pcR a0) (plR a1) (dS B) (bS B) n h a k := by
  induction n with
  | zero => rfl
  | succ n ih =>
    show stepS 0 (stR (kS V a0 a1) (vS V a0 a1) (lS V a0 a1) B h k a n) _ _ _ = stepS (dS B) (scanSt (lbR V) (pcR a0) (plR a1) (dS B) (bS B) n h a k) _ _ _
    rw [ih]
    exact stepS_pf (dS B) _ (fun s => lfC (lbR V (dS B)) (seqC (pcR a0) (plR a1) (dS B) (bS B) (zsec (dS B)) n) s (lane h k))
      (fun s => kkC (lbR V (dS B)) (seqC (pcR a0) (plR a1) (dS B) (bS B) (zsec (dS B)) n) s (lane h k))
      (fun s => seqC (pcR a0) (plR a1) (dS B) (bS B) 1 n s (lane h a))

/-- The results of chunk `n`. -/
theorem outR_eq (B h : Fin 16) (t : Fin 64) (a : Fin 128) (n : ℕ) :
    outR (qS V a0 a1) (kS V a0 a1) (vS V a0 a1) (lS V a0 a1) n B h t a = scanOut (lbR V) (pcR a0) (plR a1) (dS B) (bS B) n (pf (dS B) t) h a := by
  unfold outR scanOut outC
  have hS : (fun k => stR (kS V a0 a1) (vS V a0 a1) (lS V a0 a1) B h k a n) = scanSt (lbR V) (pcR a0) (plR a1) (dS B) (bS B) n h a :=
    funext fun k => stR_eq V a0 a1 B h k a n
  rw [hS]
  exact outS_pf (dS B) _ (fun s k => siC (seqC (pcR a0) (plR a1) (dS B) (bS B) 0 n) s (lane h k))
    (fun s k => lfC (lbR V (dS B)) (seqC (pcR a0) (plR a1) (dS B) (bS B) (zsec (dS B)) n) s (lane h k))
    (fun s k => kkC (lbR V (dS B)) (seqC (pcR a0) (plR a1) (dS B) (bS B) (zsec (dS B)) n) s (lane h k))
    (fun s => seqC (pcR a0) (plR a1) (dS B) (bS B) 1 n s (lane h a)) t

end Cert.Proof.ScanRef
-- ==== Proof.ScanRefEqs.lean ====
/- Hand-written: the operations before the reference's loop, one by one. -/
module

public import proofs.«01_k».proof.Proof.ScanRefEntry
public import Idealize.ShloMosaic.Lib.StableHlo.RunRead

@[expose] public section

set_option maxRecDepth 65536

noncomputable section

namespace Cert.Proof.ScanRef

open Cert.RefScanIdeal Cert.RefScanIdeal.Gen Cert.RefScanIdeal.Value Cert.Proof.ScanSpec
open Idealize.ShloMosaic Idealize.ShloMosaic.TcCoe Idealize.ShloMosaic.Tactic
open Idealize.ShloMosaic.Pipeline Idealize.ShloMosaic.StableHlo

variable (m : (ℓ : Loc nD τ sig) → Buf (Elt Ideal) ℓ) (c : Dev nD)

theorem cast_v39 (h1 h2 h3) (X : FVec Ideal S8x2304x16x128 .f32) : (TRef.of main_v39 h1 h2 h3 : TRef sig ⟨S8x2304x16x128, .f32⟩).ofBuf (Val := Elt Ideal) X = X := rfl

theorem cast_v40 (h1 h2 h3) (X : FVec Ideal S8x2304x16x128 .f32) : (TRef.of main_v40 h1 h2 h3 : TRef sig ⟨S8x2304x16x128, .f32⟩).toBuf (Val := Elt Ideal) X = X := rfl

theorem cast_v70 (h1 h2 h3) (X : FVec Ideal S8x2304x16x128 .f32) : (TRef.of main_v70 h1 h2 h3 : TRef sig ⟨S8x2304x16x128, .f32⟩).ofBuf (Val := Elt Ideal) X = X := rfl

theorem cast_v71 (h1 h2 h3) (X : FVec Ideal S8x2304x16x128 .f32) : (TRef.of main_v71 h1 h2 h3 : TRef sig ⟨S8x2304x16x128, .f32⟩).toBuf (Val := Elt Ideal) X = X := rfl

theorem e_v17 : ((entryContents preI m c) (Proc.devRef .tc main_v17) : FVec Ideal S8x2304x10240 .f32) = extf .f32 (concatenate S8x2304x10240 1 [⟨S8x256x10240, ((m ((c.tc : Thread nD τ).loc main_arg0)) : FVec Ideal S8x256x10240 .bf16)⟩, ⟨S8x2048x10240, ((m ((c.tc : Thread nD τ).loc main_arg1)) : FVec Ideal S8x2048x10240 .bf16)⟩] concatenates_S8x256x10240_S8x2048x10240_S8x2304x10240_d1 : FVec Ideal S8x2304x10240 .bf16) bitsLt_bf16_f32 := by
  simp only [entryContents, afterL_cons, afterL_nil]
  after_reads_simp
  try rfl

theorem e_v48 : ((entryContents preI m c) (Proc.devRef .tc main_v48) : FVec Ideal S8x2304x10240 .f32) = extf .f32 (concatenate S8x2304x10240 1 [⟨S8x256x10240, (Host.reverse [1] (m ((c.tc : Thread nD τ).loc main_arg0)) : FVec Ideal S8x256x10240 .bf16)⟩, ⟨S8x2048x10240, (Host.reverse [1] (m ((c.tc : Thread nD τ).loc main_arg1)) : FVec Ideal S8x2048x10240 .bf16)⟩] concatenates_S8x256x10240_S8x2048x10240_S8x2304x10240_d1 : FVec Ideal S8x2304x10240 .bf16) bitsLt_bf16_f32 := by
  simp only [entryContents, afterL_cons, afterL_nil]
  after_reads_simp
  try rfl

theorem e_v19 : ((entryContents preI m c) (Proc.devRef .tc main_v19) : FVec Ideal S8x2304x16x128 .f32) = shapeCast S8x2304x16x128 (extractStridedSlice S8x2304x2048 ![0, 0, 4096] ((entryContents preI m c) (Proc.devRef .tc main_v17) : FVec Ideal S8x2304x10240 .f32) slices_S8x2304x10240_S8x2304x2048_0_0_4096) shapeCasts_S8x2304x2048_S8x2304x16x128 := by
  simp only [entryContents, afterL_cons, afterL_nil]
  after_reads_simp
  try rfl

theorem e_v39 : ((entryContents preI m c) (Proc.devRef .tc main_v39) : FVec Ideal S8x2304x16x128 .f32) = shapeCast S8x2304x16x128 (extractStridedSlice S8x2304x2048 ![0, 0, 0] ((entryContents preI m c) (Proc.devRef .tc main_v17) : FVec Ideal S8x2304x10240 .f32) slices_S8x2304x10240_S8x2304x2048_0_0_0) shapeCasts_S8x2304x2048_S8x2304x16x128 := by
  simp only [entryContents, afterL_cons, afterL_nil]
  after_reads_simp
  try rfl

theorem e_v42 : ((entryContents preI m c) (Proc.devRef .tc main_v42) : FVec Ideal S8x2304x16x128 .f32) = shapeCast S8x2304x16x128 (extractStridedSlice S8x2304x2048 ![0, 0, 2048] ((entryContents preI m c) (Proc.devRef .tc main_v17) : FVec Ideal S8x2304x10240 .f32) slices_S8x2304x10240_S8x2304x2048_0_0_2048) shapeCasts_S8x2304x2048_S8x2304x16x128 := by
  simp only [entryContents, afterL_cons, afterL_nil]
  after_reads_simp
  try rfl

theorem e_v50 : ((entryContents preI m c) (Proc.devRef .tc main_v50) : FVec Ideal S8x2304x16x128 .f32) = shapeCast S8x2304x16x128 (extractStridedSlice S8x2304x2048 ![0, 0, 6144] ((entryContents preI m c) (Proc.devRef .tc main_v48) : FVec Ideal S8x2304x10240 .f32) slices_S8x2304x10240_S8x2304x2048_0_0_6144) shapeCasts_S8x2304x2048_S8x2304x16x128 := by
  simp only [entryContents, afterL_cons, afterL_nil]
  after_reads_simp
  try rfl

theorem e_v70 : ((entryContents preI m c) (Proc.devRef .tc main_v70) : FVec Ideal S8x2304x16x128 .f32) = shapeCast S8x2304x16x128 (extractStridedSlice S8x2304x2048 ![0, 0, 0] ((entryContents preI m c) (Proc.devRef .tc main_v48) : FVec Ideal S8x2304x10240 .f32) slices_S8x2304x10240_S8x2304x2048_0_0_0) shapeCasts_S8x2304x2048_S8x2304x16x128 := by
  simp only [entryContents, afterL_cons, afterL_nil]
  after_reads_simp
  try rfl

theorem e_v73 : ((entryContents preI m c) (Proc.devRef .tc main_v73) : FVec Ideal S8x2304x16x128 .f32) = shapeCast S8x2304x16x128 (extractStridedSlice S8x2304x2048 ![0, 0, 2048] ((entryContents preI m c) (Proc.devRef .tc main_v48) : FVec Ideal S8x2304x10240 .f32) slices_S8x2304x10240_S8x2304x2048_0_0_2048) shapeCasts_S8x2304x2048_S8x2304x16x128 := by
  simp only [entryContents, afterL_cons, afterL_nil]
  after_reads_simp
  try rfl

theorem e_v20 : ((entryContents preI m c) (Proc.devRef .tc main_v20) : FVec Ideal S16x128 .f32) = shapeCast S16x128 (shapeCast S2048 (extractStridedSlice S1x2048 ![0, 0] ((entryContents preI m c) (Proc.devRef .tc main_v13) : FVec Ideal S2x2048 .f32) slices_S2x2048_S1x2048_0_0) shapeCasts_S1x2048_S2048) shapeCasts_S2048_S16x128 := by
  simp only [entryContents, afterL_cons, afterL_nil]
  after_reads_simp
  try rfl

theorem e_v51 : ((entryContents preI m c) (Proc.devRef .tc main_v51) : FVec Ideal S16x128 .f32) = shapeCast S16x128 (shapeCast S2048 (extractStridedSlice S1x2048 ![1, 0] ((entryContents preI m c) (Proc.devRef .tc main_v13) : FVec Ideal S2x2048 .f32) slices_S2x2048_S1x2048_1_0) shapeCasts_S1x2048_S2048) shapeCasts_S2048_S16x128 := by
  simp only [entryContents, afterL_cons, afterL_nil]
  after_reads_simp
  try rfl

theorem e_v34 : ((entryContents preI m c) (Proc.devRef .tc main_v34) : FVec Ideal S8x2304x16x128 .f32) = addf (broadcastInDim S8x2304x16x128 ![0, 1, 2, 3] bcast_S1x1x16x128_S8x2304x16x128_0_1_2_3 (broadcastInDim S1x1x16x128 ![2, 3] bcast_S16x128_S1x1x16x128_2_3 ((entryContents preI m c) (Proc.devRef .tc main_v20) : FVec Ideal S16x128 .f32))) (mulf (broadcastInDim S8x2304x16x128 ![0, 1, 2, 3] bcast_S1x1x16x128_S8x2304x16x128_0_1_2_3 (broadcastInDim S1x1x16x128 ![2, 3] bcast_S16x128_S1x1x16x128_2_3 (subf (broadcastInDim S16x128 ![] bcast_S_S16x128 (constant (F := Ideal) S_ .f32 0x3F800000#32)) ((entryContents preI m c) (Proc.devRef .tc main_v20) : FVec Ideal S16x128 .f32))))
    (Host.divf (broadcastInDim S8x2304x16x128 ![] bcast_S_S8x2304x16x128 (constant (F := Ideal) S_ .f32 0x3F800000#32)) (addf (broadcastInDim S8x2304x16x128 ![] bcast_S_S8x2304x16x128 (constant (F := Ideal) S_ .f32 0x3F800000#32)) (Host.exp (Host.negf ((entryContents preI m c) (Proc.devRef .tc main_v19) : FVec Ideal S8x2304x16x128 .f32)))))) := by
  simp only [entryContents, afterL_cons, afterL_nil]
  after_reads_simp
  try rfl

theorem e_v65 : ((entryContents preI m c) (Proc.devRef .tc main_v65) : FVec Ideal S8x2304x16x128 .f32) = addf (broadcastInDim S8x2304x16x128 ![0, 1, 2, 3] bcast_S1x1x16x128_S8x2304x16x128_0_1_2_3 (broadcastInDim S1x1x16x128 ![2, 3] bcast_S16x128_S1x1x16x128_2_3 ((entryContents preI m c) (Proc.devRef .tc main_v51) : FVec Ideal S16x128 .f32))) (mulf (broadcastInDim S8x2304x16x128 ![0, 1, 2, 3] bcast_S1x1x16x128_S8x2304x16x128_0_1_2_3 (broadcastInDim S1x1x16x128 ![2, 3] bcast_S16x128_S1x1x16x128_2_3 (subf (broadcastInDim S16x128 ![] bcast_S_S16x128 (constant (F := Ideal) S_ .f32 0x3F800000#32)) ((entryContents preI m c) (Proc.devRef .tc main_v51) : FVec Ideal S16x128 .f32))))
    (Host.divf (broadcastInDim S8x2304x16x128 ![] bcast_S_S8x2304x16x128 (constant (F := Ideal) S_ .f32 0x3F800000#32)) (addf (broadcastInDim S8x2304x16x128 ![] bcast_S_S8x2304x16x128 (constant (F := Ideal) S_ .f32 0x3F800000#32)) (Host.exp (Host.negf ((entryContents preI m c) (Proc.devRef .tc main_v50) : FVec Ideal S8x2304x16x128 .f32)))))) := by
  simp only [entryContents, afterL_cons, afterL_nil]
  after_reads_simp
  try rfl

theorem e_v35 : ((entryContents preI m c) (Proc.devRef .tc main_v35) : FVec Ideal S8x2304x16x128 .f32) = (Host.log (F := Ideal) (s := S8x2304x16x128) (φ := .f32) ((entryContents preI m c) (Proc.devRef .tc main_v34) : FVec Ideal S8x2304x16x128 .f32) : FVec Ideal S8x2304x16x128 .f32) := by
  simp only [entryContents, afterL_cons, afterL_nil]
  after_reads_simp
  try rfl

theorem e_v66 : ((entryContents preI m c) (Proc.devRef .tc main_v66) : FVec Ideal S8x2304x16x128 .f32) = (Host.log (F := Ideal) (s := S8x2304x16x128) (φ := .f32) ((entryContents preI m c) (Proc.devRef .tc main_v65) : FVec Ideal S8x2304x16x128 .f32) : FVec Ideal S8x2304x16x128 .f32) := by
  simp only [entryContents, afterL_cons, afterL_nil]
  after_reads_simp
  try rfl

theorem e_v37 : ((entryContents preI m c) (Proc.devRef .tc main_v37) : FVec Ideal S8x2304x16x128 .f32) = subf (broadcastInDim S8x2304x16x128 ![] bcast_S_S8x2304x16x128 (constant (F := Ideal) S_ .f32 0x3F800000#32)) ((entryContents preI m c) (Proc.devRef .tc main_v34) : FVec Ideal S8x2304x16x128 .f32) := by
  simp only [entryContents, afterL_cons, afterL_nil]
  after_reads_simp
  try rfl

theorem e_v68 : ((entryContents preI m c) (Proc.devRef .tc main_v68) : FVec Ideal S8x2304x16x128 .f32) = subf (broadcastInDim S8x2304x16x128 ![] bcast_S_S8x2304x16x128 (constant (F := Ideal) S_ .f32 0x3F800000#32)) ((entryContents preI m c) (Proc.devRef .tc main_v65) : FVec Ideal S8x2304x16x128 .f32) := by
  simp only [entryContents, afterL_cons, afterL_nil]
  after_reads_simp
  try rfl

theorem e_v40 : ((entryContents preI m c) (Proc.devRef .tc main_v40) : FVec Ideal S8x2304x16x128 .f32) = mulf ((entryContents preI m c) (Proc.devRef .tc main_v39) : FVec Ideal S8x2304x16x128 .f32) (Host.divf (broadcastInDim S8x2304x16x128 ![] bcast_S_S8x2304x16x128 (constant (F := Ideal) S_ .f32 0x3F800000#32)) (addf (broadcastInDim S8x2304x16x128 ![] bcast_S_S8x2304x16x128 (constant (F := Ideal) S_ .f32 0x3F800000#32)) (Host.exp (Host.negf ((entryContents preI m c) (Proc.devRef .tc main_v39) : FVec Ideal S8x2304x16x128 .f32))))) := by
  simp only [entryContents, afterL_cons, afterL_nil]
  after_reads_simp
  simp only [TRef.ofBuf_toBuf]
  generalize hX : (fun i => shapeCast main_v39.ty.shape _ _ i) = X
  clear hX
  refine (cast_v40 _ _ _ _).trans ?_
  erw [cast_v39]

theorem e_v71 : ((entryContents preI m c) (Proc.devRef .tc main_v71) : FVec Ideal S8x2304x16x128 .f32) = mulf ((entryContents preI m c) (Proc.devRef .tc main_v70) : FVec Ideal S8x2304x16x128 .f32) (Host.divf (broadcastInDim S8x2304x16x128 ![] bcast_S_S8x2304x16x128 (constant (F := Ideal) S_ .f32 0x3F800000#32)) (addf (broadcastInDim S8x2304x16x128 ![] bcast_S_S8x2304x16x128 (constant (F := Ideal) S_ .f32 0x3F800000#32)) (Host.exp (Host.negf ((entryContents preI m c) (Proc.devRef .tc main_v70) : FVec Ideal S8x2304x16x128 .f32))))) := by
  simp only [entryContents, afterL_cons, afterL_nil]
  after_reads_simp
  simp only [TRef.ofBuf_toBuf]
  generalize hX : (fun i => shapeCast main_v70.ty.shape _ _ i) = X
  clear hX
  refine (cast_v71 _ _ _ _).trans ?_
  erw [cast_v70]

theorem e_v91_0 : ((entryContents preI m c) (Proc.devRef .tc main_v91_0) : FVec Ideal S36x16x16x64x128 .f32) = transpose S36x16x16x64x128 [1, 0, 3, 2, 4] (shapeCast S16x36x64x16x128 (concatenate S16x2304x16x128 0 [⟨S8x2304x16x128, ((entryContents preI m c) (Proc.devRef .tc main_v40) : FVec Ideal S8x2304x16x128 .f32)⟩, ⟨S8x2304x16x128, ((entryContents preI m c) (Proc.devRef .tc main_v71) : FVec Ideal S8x2304x16x128 .f32)⟩] concatenates_S8x2304x16x128_S8x2304x16x128_S16x2304x16x128_d0) shapeCasts_S16x2304x16x128_S16x36x64x16x128) transposes_S16x36x64x16x128_S36x16x16x64x128_1_0_3_2_4 := by
  simp only [entryContents, afterL_cons, afterL_nil]
  after_reads_simp
  try rfl

theorem e_v91_1 : ((entryContents preI m c) (Proc.devRef .tc main_v91_1) : FVec Ideal S36x16x16x64x128 .f32) = transpose S36x16x16x64x128 [1, 0, 3, 2, 4] (shapeCast S16x36x64x16x128 (concatenate S16x2304x16x128 0 [⟨S8x2304x16x128, ((entryContents preI m c) (Proc.devRef .tc main_v37) : FVec Ideal S8x2304x16x128 .f32)⟩, ⟨S8x2304x16x128, ((entryContents preI m c) (Proc.devRef .tc main_v68) : FVec Ideal S8x2304x16x128 .f32)⟩] concatenates_S8x2304x16x128_S8x2304x16x128_S16x2304x16x128_d0) shapeCasts_S16x2304x16x128_S16x36x64x16x128) transposes_S16x36x64x16x128_S36x16x16x64x128_1_0_3_2_4 := by
  simp only [entryContents, afterL_cons, afterL_nil]
  after_reads_simp
  try rfl

theorem e_v91_2 : ((entryContents preI m c) (Proc.devRef .tc main_v91_2) : FVec Ideal S36x16x16x64x128 .f32) = transpose S36x16x16x64x128 [1, 0, 3, 2, 4] (shapeCast S16x36x64x16x128 (concatenate S16x2304x16x128 0 [⟨S8x2304x16x128, ((entryContents preI m c) (Proc.devRef .tc main_v42) : FVec Ideal S8x2304x16x128 .f32)⟩, ⟨S8x2304x16x128, ((entryContents preI m c) (Proc.devRef .tc main_v73) : FVec Ideal S8x2304x16x128 .f32)⟩] concatenates_S8x2304x16x128_S8x2304x16x128_S16x2304x16x128_d0) shapeCasts_S16x2304x16x128_S16x36x64x16x128) transposes_S16x36x64x16x128_S36x16x16x64x128_1_0_3_2_4 := by
  simp only [entryContents, afterL_cons, afterL_nil]
  after_reads_simp
  try rfl

theorem e_v91_3 : ((entryContents preI m c) (Proc.devRef .tc main_v91_3) : FVec Ideal S36x16x16x64x128 .f32) = transpose S36x16x16x64x128 [1, 0, 3, 2, 4] (shapeCast S16x36x64x16x128 (concatenate S16x2304x16x128 0 [⟨S8x2304x16x128, ((entryContents preI m c) (Proc.devRef .tc main_v35) : FVec Ideal S8x2304x16x128 .f32)⟩, ⟨S8x2304x16x128, ((entryContents preI m c) (Proc.devRef .tc main_v66) : FVec Ideal S8x2304x16x128 .f32)⟩] concatenates_S8x2304x16x128_S8x2304x16x128_S16x2304x16x128_d0) shapeCasts_S16x2304x16x128_S16x36x64x16x128) transposes_S16x36x64x16x128_S36x16x16x64x128_1_0_3_2_4 := by
  simp only [entryContents, afterL_cons, afterL_nil]
  after_reads_simp
  try rfl

theorem e_v91_4 : ((entryContents preI m c) (Proc.devRef .tc main_v91_4) : IVec S64x64x1 1) = broadcastInDim S64x64x1 ![0, 1] bcast_S64x64_S64x64x1_0_1 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) := by
  simp only [entryContents, afterL_cons, afterL_nil]
  after_reads_simp
  try rfl

theorem e_v91_6 : ((entryContents preI m c) (Proc.devRef .tc main_v91_6) : FVec Ideal S16x16x128x128 .f32) = broadcastInDim S16x16x128x128 ![] bcast_S_S16x16x128x128 (constant (F := Ideal) S_ .f32 0x00000000#32) := by
  simp only [entryContents, afterL_cons, afterL_nil]
  after_reads_simp
  try rfl

/-- The operations before the loop. -/
theorem eqs : Eqs (entryContents preI m c) (m ((c.tc : Thread nD τ).loc main_arg0)) (m ((c.tc : Thread nD τ).loc main_arg1)) :=
  ⟨e_v17 m c, e_v48 m c, e_v19 m c, e_v39 m c, e_v42 m c, e_v50 m c, e_v70 m c, e_v73 m c, e_v20 m c, e_v51 m c, e_v34 m c, e_v65 m c, e_v35 m c, e_v66 m c, e_v37 m c, e_v68 m c, e_v40 m c, e_v71 m c, e_v91_0 m c, e_v91_1 m c, e_v91_2 m c, e_v91_3 m c, e_v91_4 m c, e_v91_6 m c⟩

end Cert.Proof.ScanRef
-- ==== Proof.ScanRefOut.lean ====
/- Hand-written: the reference's result at an entry. -/
module

public import proofs.«01_k».proof.Proof.ScanRefFlip
public import proofs.«01_k».proof.Proof.ScanRefEqs

@[expose] public section

set_option maxRecDepth 65536

noncomputable section

namespace Cert.Proof.ScanRef

open Cert.RefScanIdeal Cert.RefScanIdeal.Gen Cert.RefScanIdeal.Value Cert.Proof.ScanSpec
open Idealize.ShloMosaic Idealize.ShloMosaic.TcCoe Idealize.ShloMosaic.Tactic
open Idealize.ShloMosaic.Pipeline Idealize.ShloMosaic.StableHlo

/-- The chunks in a row again. -/
theorem join_apply (O : FVec Ideal S36x16x16x64x128 .f32) (B : Fin 16) (r : Fin 2304) (h : Fin 16) (a : Fin 128) :
    shapeCast S16x2304x16x128 (transpose S16x36x64x16x128 [1, 0, 3, 2, 4] O transposes_S36x16x16x64x128_S16x36x64x16x128_1_0_3_2_4) shapeCasts_S16x36x64x16x128_S16x2304x16x128
      (ix4 B r h a) = O (ix5 (⟨r.val / 64, by omega⟩ : Fin 36) B h (⟨r.val % 64, Nat.mod_lt _ (by omega)⟩ : Fin 64) a) := by
  pointwise

/-- The latents' rows. -/
theorem drop_apply (G : FVec Ideal S16x2304x16x128 .f32) (B : Fin 16) (r : Fin 2048) (h : Fin 16) (a : Fin 128) :
    extractStridedSlice S16x2048x16x128 ![0, 256, 0, 0] G slices_S16x2304x16x128_S16x2048x16x128_0_256_0_0 (ix4 B r h a)
      = G (ix4 B (⟨256 + r.val, by omega⟩ : Fin 2304) h a) := by
  pointwise

theorem fw_apply (G : FVec Ideal S16x2048x16x128 .f32) (b : Fin 8) (r : Fin 2048) (h : Fin 16) (a : Fin 128) :
    broadcastInDim S1x8x2048x16x128 ![1, 2, 3, 4] bcast_S8x2048x16x128_S1x8x2048x16x128_1_2_3_4 (extractStridedSlice S8x2048x16x128 ![0, 0, 0, 0] G slices_S16x2048x16x128_S8x2048x16x128_0_0_0_0) (ix5 (0 : Fin 1) b r h a)
      = G (ix4 (⟨b.val, by omega⟩ : Fin 16) r h a) := by
  pointwise

theorem bw_apply (G : FVec Ideal S16x2048x16x128 .f32) (b : Fin 8) (r : Fin 2048) (h : Fin 16) (a : Fin 128) :
    broadcastInDim S1x8x2048x16x128 ![1, 2, 3, 4] bcast_S8x2048x16x128_S1x8x2048x16x128_1_2_3_4 (Host.reverse [1] (extractStridedSlice S8x2048x16x128 ![8, 0, 0, 0] G slices_S16x2048x16x128_S8x2048x16x128_8_0_0_0)) (ix5 (0 : Fin 1) b r h a)
      = G (ix4 (⟨8 + b.val, by omega⟩ : Fin 16) (Fin.rev r) h a) := by
  pointwise
  rfl

theorem cat_dir (A A' : FVec Ideal S1x8x2048x16x128 .f32) (d : Fin 2) (b : Fin 8) (r : Fin 2048) (h : Fin 16) (a : Fin 128) :
    concatenate S2x8x2048x16x128 0 [⟨S1x8x2048x16x128, A⟩, ⟨S1x8x2048x16x128, A'⟩] concatenates_S1x8x2048x16x128_S1x8x2048x16x128_S2x8x2048x16x128_d0 (ix5 d b r h a)
      = if d.val < 1 then A (ix5 (0 : Fin 1) b r h a) else A' (ix5 (0 : Fin 1) b r h a) := by
  pointwise
  by_cases hd : d.val < 1
  · rw [dif_pos hd, if_pos hd]
    exact congrArg (fun z : Fin 1 => A (ix5 z b r h a)) (Subsingleton.elim _ _)
  · rw [dif_neg hd, if_neg hd]
    exact congrArg (fun z : Fin 1 => A' (ix5 z b r h a)) (Subsingleton.elim _ _)

theorem flat_apply (C : FVec Ideal S2x8x2048x16x128 .f32) (d : Fin 2) (b : Fin 8) (r l : Fin 2048) :
    (truncf .bf16 (shapeCast S2x8x2048x2048 C shapeCasts_S2x8x2048x16x128_S2x8x2048x2048) bitsLt_bf16_f32 (ix4 d b r l) : EReal)
      = C (ix5 d b r (⟨l.val / 128, by omega⟩ : Fin 16) (⟨l.val % 128, Nat.mod_lt _ (by omega)⟩ : Fin 128)) := by
  pointwise

/-- The result from the chunks' results. -/
theorem out_apply (V0 : Valuation τ sig (Elt Ideal)) (d : Fin 2) (b : Fin 8) (r l : Fin 2048) :
    ((out_main_v102 V0 : FVec Ideal S2x8x2048x2048 .bf16) (ix4 d b r l) : EReal)
      = if d.val < 1 then
          (V0 (Proc.devRef .tc main_v91_7) : FVec Ideal S36x16x16x64x128 .f32) (ix5 (⟨(256 + r.val) / 64, by omega⟩ : Fin 36) (⟨b.val, by omega⟩ : Fin 16) (⟨l.val / 128, by omega⟩ : Fin 16)
            (⟨(256 + r.val) % 64, Nat.mod_lt _ (by omega)⟩ : Fin 64) (⟨l.val % 128, Nat.mod_lt _ (by omega)⟩ : Fin 128))
        else
          (V0 (Proc.devRef .tc main_v91_7) : FVec Ideal S36x16x16x64x128 .f32) (ix5 (⟨(256 + (Fin.rev r).val) / 64, by omega⟩ : Fin 36) (⟨8 + b.val, by omega⟩ : Fin 16) (⟨l.val / 128, by omega⟩ : Fin 16)
            (⟨(256 + (Fin.rev r).val) % 64, Nat.mod_lt _ (by omega)⟩ : Fin 64) (⟨l.val % 128, Nat.mod_lt _ (by omega)⟩ : Fin 128)) := by
  unfold out_main_v102
  generalize V0 (Proc.devRef .tc main_v91_7) = O
  refine (flat_apply _ d b r l).trans ((cat_dir _ _ d b r _ _).trans ?_)
  by_cases hd : d.val < 1
  · rw [if_pos hd, if_pos hd]
    exact (fw_apply _ b r _ _).trans ((drop_apply _ _ r _ _).trans (join_apply _ _ _ _ _))
  · rw [if_neg hd, if_neg hd]
    exact (bw_apply _ b r _ _).trans ((drop_apply _ _ _ _ _).trans (join_apply _ _ _ _ _))

variable (m : (ℓ : Loc nD τ sig) → Buf (Elt Ideal) ℓ) (c : Dev nD)

/-- The gates' lower bounds the loop starts from. -/
def lbE (d : Fin 2) (l : Fin 2048) : EReal := lbR (entryContents preI m c) d l

/-- The reference's result. -/
theorem ref_result (d : Fin 2) (b : Fin 8) (r l : Fin 2048) :
    ((out_main_v102 (STEP^[36] (entryContents preI m c)) : FVec Ideal S2x8x2048x2048 .bf16) (ix4 d b r l) : EReal)
      = scanAt (lbE m c) (pcR (m ((c.tc : Thread nD τ).loc main_arg0))) (plR (m ((c.tc : Thread nD τ).loc main_arg1))) d b r l := by
  have H := holds_all (holds_entry (eqs m c) (fun i => congrFun (ctr_entry m c) i)) 36 le_rfl
  refine (out_apply _ d b r l).trans ?_
  unfold scanAt
  have hr := r.isLt
  by_cases hd : d.val < 1
  · have hd0 : d = 0 := Fin.ext (by omega)
    subst hd0
    rw [if_pos hd, if_pos rfl]
    refine (H.out _ (by show (256 + r.val) / 64 < 36; omega) _ _ _ _).trans ?_
    refine (outR_eq _ _ _ _ _ _ _ _).trans ?_
    have hB : dS (⟨b.val, by omega⟩ : Fin 16) = 0 := if_pos b.isLt
    have hb : bS (⟨b.val, by omega⟩ : Fin 16) = b := Fin.ext (Nat.mod_eq_of_lt b.isLt)
    rw [hB, hb]
    have hn : (256 + r.val) / 64 = 4 + r.val / 64 := by omega
    have ht : pf 0 (⟨(256 + r.val) % 64, Nat.mod_lt _ (by omega)⟩ : Fin 64) = ⟨r.val % 64, Nat.mod_lt _ (by omega)⟩ :=
      (if_pos rfl).trans (Fin.ext (by show (256 + r.val) % 64 = r.val % 64; omega))
    rw [ht]
    show scanOut _ _ _ 0 b ((256 + r.val) / 64) _ _ _ = _
    rw [hn]
    rfl
  · have hd1 : d = 1 := Fin.ext (by have := d.isLt; show d.val = 1; omega)
    subst hd1
    have hrev : (Fin.rev r).val = 2048 - (r.val + 1) := Fin.val_rev r
    rw [if_neg hd, if_neg (by decide)]
    refine (H.out _ (by show (256 + (Fin.rev r).val) / 64 < 36; omega) _ _ _ _).trans ?_
    refine (outR_eq _ _ _ _ _ _ _ _).trans ?_
    have hB : dS (⟨8 + b.val, by omega⟩ : Fin 16) = 1 := if_neg (by show ¬ 8 + b.val < 8; omega)
    have hb : bS (⟨8 + b.val, by omega⟩ : Fin 16) = b := Fin.ext (by show (8 + b.val) % 8 = b.val; omega)
    rw [hB, hb]
    have hn : (256 + (Fin.rev r).val) / 64 = 35 - r.val / 64 := by omega
    have ht : pf 1 (⟨(256 + (Fin.rev r).val) % 64, Nat.mod_lt _ (by omega)⟩ : Fin 64) = ⟨r.val % 64, Nat.mod_lt _ (by omega)⟩ :=
      (if_neg (by decide)).trans (Fin.ext (by rw [Fin.val_rev]; show 64 - ((256 + (Fin.rev r).val) % 64 + 1) = r.val % 64; omega))
    rw [ht]
    show scanOut _ _ _ 1 b ((256 + (Fin.rev r).val) / 64) _ _ _ = _
    rw [hn]
    rfl

end Cert.Proof.ScanRef
-- ==== Proof.ScanRefLb.lean ====
/- Hand-written: the lower bounds the reference computes before its loop. -/
module

public import proofs.«01_k».proof.Proof.ScanSoft
public import proofs.«01_k».proof.Proof.ScanRefOut

@[expose] public section

set_option maxRecDepth 65536

noncomputable section

namespace Cert.Proof.ScanRef

open Cert.RefScanIdeal Cert.RefScanIdeal.Gen Cert.RefScanIdeal.Value Cert.Proof.ScanSpec
open Idealize.ShloMosaic Idealize.ShloMosaic.TcCoe Idealize.ShloMosaic.Tactic
open Idealize.ShloMosaic.Pipeline Idealize.ShloMosaic.StableHlo

variable (m : (ℓ : Loc nD τ sig) → Buf (Elt Ideal) ℓ) (c : Dev nD)

theorem cast_v10 (h1 h2 h3) (X : FVec Ideal S2x3x2048 .f32) : (TRef.of main_v10 h1 h2 h3 : TRef sig ⟨S2x3x2048, .f32⟩).ofBuf (Val := Elt Ideal) X = X := rfl
theorem cast_v11 (h1 h2 h3) (X : FVec Ideal S2x3x2048 .f32) : (TRef.of main_v11 h1 h2 h3 : TRef sig ⟨S2x3x2048, .f32⟩).toBuf (Val := Elt Ideal) X = X := rfl

theorem e_v2 : ((entryContents preI m c) (Proc.devRef .tc main_v2) : FVec Ideal S2x2048 .f32) = mx (m ((c.tc : Thread nD τ).loc main_arg2)) := by
  unfold mx
  simp only [entryContents, afterL_cons, afterL_nil]
  after_reads_simp
  try rfl

theorem e_v6 : ((entryContents preI m c) (Proc.devRef .tc main_v6) : FVec Ideal S2x3x2048 .f32)
    = ex (m ((c.tc : Thread nD τ).loc main_arg2)) ((entryContents preI m c) (Proc.devRef .tc main_v2)) := by
  unfold ex
  simp only [entryContents, afterL_cons, afterL_nil]
  after_reads_simp
  try rfl

theorem e_v10 : ((entryContents preI m c) (Proc.devRef .tc main_v10) : FVec Ideal S2x3x2048 .f32) = sm ((entryContents preI m c) (Proc.devRef .tc main_v6)) := by
  unfold sm
  simp only [entryContents, afterL_cons, afterL_nil]
  after_reads_simp
  try rfl

theorem e_v11 : ((entryContents preI m c) (Proc.devRef .tc main_v11) : FVec Ideal S2x3x2048 .f32) = cs ((entryContents preI m c) (Proc.devRef .tc main_v10)) := by
  unfold cs
  simp only [entryContents, afterL_cons, afterL_nil]
  after_reads_simp
  simp only [TRef.ofBuf_toBuf]
  generalize hX : (Host.divf (F := Ideal) (s := S2x3x2048) (φ := .f32) _ _ : FVec Ideal S2x3x2048 .f32) = X
  clear hX
  refine (cast_v11 _ _ _ _).trans ?_
  erw [cast_v10]

theorem e_v13 : ((entryContents preI m c) (Proc.devRef .tc main_v13) : FVec Ideal S2x2048 .f32) = slot ((entryContents preI m c) (Proc.devRef .tc main_v11)) := by
  unfold slot
  simp only [entryContents, afterL_cons, afterL_nil]
  after_reads_simp
  try rfl

theorem lbE_eq (d : Fin 2) (l : Fin 2048) : lbE m c d l = lbOf (m ((c.tc : Thread nD τ).loc main_arg2)) (ix2 d l) := by
  unfold lbE lbR lbOf
  rw [e_v13, e_v11, e_v10, e_v6, e_v2]

end Cert.Proof.ScanRef
-- ==== Proof.ScanValue.lean ====
/- Hand-written: the gated scan's kernel and the plain recurrence leave the same result. -/
module

public import proofs.«01_k».proof.Defs
public import proofs.«01_k».proof.Proof.ScanLb
public import proofs.«01_k».proof.Proof.ScanRefLb

@[expose] public section

set_option maxRecDepth 65536

noncomputable section

namespace Cert.Proof

open Idealize.ShloMosaic Idealize.ShloMosaic.TcCoe Idealize.ShloMosaic.Tactic Idealize.SL.Sem
open Cert.Proof.ScanSpec

/-- The kernel's program and the reference leave the same array. -/
theorem algebraic_scan : Cert.algebraic_ScanIdeal_RefScanIdeal := by
  intro m ρ m' ρ' _ hargs
  have hgl : ∀ c d l, Scan.lbA m c d l ≠ ⊤ := by
    intro c d l
    rw [Scan.lbA_eq]
    exact ScanRef.lbOf_ne_top _ d l
  refine ⟨fun c => Scan.Run.result m c, ?_, ?_⟩
  · exact Scan.Run.run_value m ρ hgl
  · refine (θ_run Cert.RefScanIdeal.defs _ _).mono (fun r h c => ?_) (Cert.RefScanIdeal.Value.run (F := Ideal) m' ρ')
    refine ⟨(h c).1.trans ?_, (h c).2⟩
    obtain ⟨a0, a1, a2⟩ := hargs c
    have hlb : Scan.lbA m c = ScanRef.lbE m' c := by
      funext d l
      rw [Scan.lbA_eq, ScanRef.lbE_eq, a2]
    have hpc : Scan.pcA m c = ScanRef.pcR (m' ((c.tc : Thread Cert.RefScanIdeal.nD Cert.RefScanIdeal.τ).loc Cert.RefScanIdeal.main_arg0)) := by
      funext b r l
      unfold Scan.pcA ScanRef.pcR
      rw [Cert.ScanIdeal.Gen.V_main_arg0, a0]
    have hpl : Scan.plA m c = ScanRef.plR (m' ((c.tc : Thread Cert.RefScanIdeal.nD Cert.RefScanIdeal.τ).loc Cert.RefScanIdeal.main_arg1)) := by
      funext b r l
      unfold Scan.plA ScanRef.plR
      rw [Cert.ScanIdeal.Gen.V_main_arg1, a1]
    funext i
    idx_vars i
    refine (ScanRef.ref_result m' c i0 i1 i2 i3).trans ?_
    rw [← hlb, ← hpc, ← hpl]
    rfl

end Cert.Proof

end
-- ==== Proof.ProjValue.lean ====
/- The in-projection's value claim: the tiled product with a weight block rounded once per block column is the plain
   product of the reference. -/
module

public import proofs.«01_k».proof.Defs
public import proofs.«01_k».proof.Proof.Gen.ProjIdeal.Value
public import proofs.«01_k».proof.Proof.Gen.RefProjIdeal.Run
public import Idealize.ShloMosaic.Lib.Pointwise
public import Idealize.ShloMosaic.Lib.Claim

@[expose] public section

set_option maxRecDepth 16384

noncomputable section

namespace Cert.ProjIdeal.Hand

open Cert.ProjIdeal Cert.ProjIdeal.Gen Cert.ProjIdeal.Value Idealize.ShloMosaic Idealize.ShloMosaic.TcCoe Idealize.SL.Sem
open Idealize.ShloMosaic.Pipeline (Dat)

section Structure

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- At the first point of a block column the scratch receives the rounded weight block. -/
theorem scratch_A (c : Dev nD) (i : grid0.Coords) (a2 : Memref sig .tc .vmem S1024x2048 .bf16) (h2 : a2.IsWhole)
    (a3 : Memref sig .tc .vmem S2048x1024 .f32) (h3 : a3.IsWhole) (a4 : Memref sig .tc .vmem S1024x1024 .bf16) (h4 : a4.IsWhole)
    (a5 : Memref sig .tc .vmem S2048x1024 .bf16) (h5 : a5.IsWhole) (hc : cond0_0 i) (x : Vec F S1024x2048 .bf16) (w : Vec F S2048x1024 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S2048x1024) hz]

/-- There the output block is the product with that block. -/
theorem out_A (c : Dev nD) (i : grid0.Coords) (a2 : Memref sig .tc .vmem S1024x2048 .bf16) (h2 : a2.IsWhole)
    (a3 : Memref sig .tc .vmem S2048x1024 .f32) (h3 : a3.IsWhole) (a4 : Memref sig .tc .vmem S1024x1024 .bf16) (h4 : a4.IsWhole)
    (a5 : Memref sig .tc .vmem S2048x1024 .bf16) (h5 : a5.IsWhole) (hc : cond0_0 i) (x : Vec F S1024x2048 .bf16) (w : Vec F S2048x1024 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz]
  simp only [View.readAt_eq_ld, h2.read_unread, h3.read_unread, View.readCov_unit_zero (S := S2048x1024) _ hz,
    View.ld_unit_zero (S := S2048x1024) hz, View.ld_unit_zero (S := S1024x2048) hz]

/-- At the other points it is the product with what the scratch holds. -/
theorem out_B (c : Dev nD) (i : grid0.Coords) (a2 : Memref sig .tc .vmem S1024x2048 .bf16) (h2 : a2.IsWhole)
    (a3 : Memref sig .tc .vmem S2048x1024 .f32) (h3 : a3.IsWhole) (a4 : Memref sig .tc .vmem S1024x1024 .bf16) (h4 : a4.IsWhole)
    (a5 : Memref sig .tc .vmem S2048x1024 .bf16) (h5 : a5.IsWhole) (hc : ¬cond0_0 i) (x : Vec F S1024x2048 .bf16) (w : Vec F S2048x1024 .f32)
    (s : Vec F S2048x1024 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero hz]
  simp only [View.readAt_eq_ld, h2.read_unread, h5.read_unread, View.ld_unit_zero (S := S2048x1024) hz,
    View.ld_unit_zero (S := S1024x2048) hz]

theorem index0 : ∀ t : Fin cfg0.N, win0_0.index t (0 : Fin 2) = t.val % 16 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val / 16 :=
  (by decide +kernel : ∀ t : Fin grid0.N, _)
theorem index2 : ∀ t : Fin cfg0.N, win0_2.index t (0 : Fin 2) = t.val % 16 ∧ win0_2.index t (1 : Fin 2) = t.val / 16 :=
  (by decide +kernel : ∀ t : Fin grid0.N, _)

/-- The activation block at a point, by coordinates. -/
theorem blk0 (c : Dev nD) (t : Fin cfg0.N) (r : Fin 1024) (k : Fin 2048) (hr : t.val % 16 * 1024 + r.val < 16384) :
    (iblk m c 0 t : Vec F S1024x2048 .bf16) (ix2 r k) = V m c main_v0 (ix2 ⟨t.val % 16 * 1024 + r.val, hr⟩ k) := by
  obtain ⟨e0, e1⟩ := index0 t
  unfold iblk
  rw [View.read_apply]
  show V m c main_v0 _ = V m c main_v0 _
  congr 1
  funext a
  apply Fin.ext
  match a with
  | ⟨0, _⟩ => show win0_0.index t 0 * 1024 + 1 * r.val = t.val % 16 * 1024 + r.val; rw [e0]; omega
  | ⟨1, _⟩ => show win0_0.index t 1 * 2048 + 1 * k.val = k.val; rw [e1]; omega

/-- The weight block at a point, by coordinates. -/
theorem blk1 (c : Dev nD) (t : Fin cfg0.N) (k : Fin 2048) (l : Fin 1024) (hl : t.val / 16 * 1024 + l.val < 10240) :
    (iblk m c 1 t : Vec F S2048x1024 .f32) (ix2 k l) = V m c main_v1 (ix2 k ⟨t.val / 16 * 1024 + l.val, hl⟩) := by
  obtain ⟨e0, e1⟩ := index1 t
  unfold iblk
  rw [View.read_apply]
  show V m c main_v1 _ = V m c main_v1 _
  congr 1
  funext a
  apply Fin.ext
  match a with
  | ⟨0, _⟩ => show win0_1.index t 0 * 2048 + 1 * k.val = k.val; rw [e0]; omega
  | ⟨1, _⟩ => show win0_1.index t 1 * 1024 + 1 * l.val = t.val / 16 * 1024 + l.val; rw [e1]; omega

/-- Two points of one block column read one weight block. -/
theorem blk1_congr (c : Dev nD) (t t' : Fin cfg0.N) (h : t.val / 16 = t'.val / 16) :
    (iblk m c 1 t : Vec F S2048x1024 .f32) = iblk m c 1 t' := by
  have hN : cfg0.N = 160 := N_0
  have ht := t.isLt
  funext j
  idx_vars j
  rw [blk1 m c t j0 j1 (by omega), blk1 m c t' j0 j1 (by omega)]
  congr 3
  omega

/-- What a point leaves: the product in the output block, the rounded weight block in the scratch. -/
theorem left (c : Dev nD) : ∀ (n : ℕ) (h : n < cfg0.N), outsAt0 m c n h
    = (k0_pay2 (iblk m c 0 ⟨n, h⟩) (k0_pay1 (iblk m c 1 ⟨n, h⟩)), k0_pay1 (iblk m c 1 ⟨n, h⟩))
  | 0, h => by
    rw [outsAt0_A m c ⟨0, h⟩ rfl, out_A, scratch_A]
  | n + 1, h => by
    by_cases h0 : (n + 1) % 16 = 0
    · rw [outsAt0_A m c ⟨n + 1, h⟩ h0, out_A, scratch_A]
    · rw [outsAt0_B m c ⟨n + 1, h⟩ h0, out_B]
      unfold sout0_B_0
      have e := left c n (Nat.lt_of_succ_lt h)
      have e2 : (outsAt0 m c ((⟨n + 1, h⟩ : Fin cfg0.N).val - 1) (Nat.lt_of_le_of_lt (Nat.sub_le _ _) h)).2
          = k0_pay1 (iblk m c 1 ⟨n + 1, h⟩) := by
        show (outsAt0 m c n _).2 = _
        rw [e]
        show k0_pay1 (iblk m c 1 _) = _
        rw [blk1_congr m c ⟨n, Nat.lt_of_succ_lt h⟩ ⟨n + 1, h⟩ (by show n / 16 = (n + 1) / 16; omega)]
      rw [e2]

end Structure

variable (m : (ℓ : Loc nD τ sig) → Buf (Elt Ideal) ℓ) (ρ : Dev nD → PrngReg)

/-- The product of an activation matrix and a weight matrix, by coordinates. -/
def prodAt (x : Vec Ideal S16384x2048 .bf16) (w : Vec Ideal S2048x10240 .f32) (r : Fin 16384) (l : Fin 10240) : EReal :=
  ∑ k : Fin 2048, (x (ix2 r k) : EReal) * (w (ix2 k l) : EReal)

/-- The result array: that product of the arrays the region reads. -/
def prod (c : Dev nD) : Buf (Elt Ideal) ((c : Thread nD τ).loc main_v2) := fun i =>
  prodAt (V m c main_v0) (V m c main_v1) (i 0) (i 1)

theorem pay_apply (x : Vec Ideal S1024x2048 .bf16) (w : Vec Ideal S2048x1024 .f32) (r : Fin 1024) (l : Fin 1024) :
    k0_pay2 x (k0_pay1 w) (ix2 r l) = ∑ k : Fin 2048, (x (ix2 r k) : EReal) * (w (ix2 k l) : EReal) := by
  pointwise [k0_pay2, k0_pay1]

theorem flushed_eq (c : Dev nD) (t : Fin cfg0.N) (hf : (cfg0.win 2).flush t = true) :
    (dats m 0 c).flushed 2 t = ((cfg0.win 2).blk t).view.read (Elt Ideal) (prod m c) := by
  have hN : cfg0.N = 160 := N_0
  have ht := t.isLt
  show (cfg0.win 2).cut (grid0.coords t) ((dats m 0 c).after 2 t) = _
  rw [after0_2, left]
  obtain ⟨e0, e1⟩ := index2 t
  funext y
  have hy0 : (y 0).val < 1024 := (y 0).isLt
  have hy1 : (y 1).val < 1024 := (y 1).isLt
  rw [View.read_apply]
  show k0_pay2 _ _ ((cfg0.win 2).xinj (grid0.coords t) y) = _
  have hx : (cfg0.win 2).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  have hi : ((cfg0.win 2).blk t).view.emb y = ix2 (⟨t.val % 16 * 1024 + (y 0).val, by omega⟩ : Fin 16384) (⟨t.val / 16 * 1024 + (y 1).val, by omega⟩ : Fin 10240) := by
    funext a; apply Fin.ext
    match a with
    | ⟨0, _⟩ => show win0_2.index t 0 * 1024 + 1 * (y 0).val = t.val % 16 * 1024 + (y 0).val; rw [e0]; omega
    | ⟨1, _⟩ => show win0_2.index t 1 * 1024 + 1 * (y 1).val = t.val / 16 * 1024 + (y 1).val; rw [e1]; omega
  rw [hx, hi]
  rw [pay_apply]
  show _ = prodAt _ _ _ _
  unfold prodAt
  refine Finset.sum_congr rfl fun k _ => ?_
  rw [blk0 m c t _ k (by show _ + (y 0).val < _; omega), blk1 m c t k _ (by show _ + (y 1).val < _; omega)]
  rfl

theorem final (c : Dev nD) : (dats m 0 c).arrAt 2 cfg0.N = prod m c :=
  (dats m 0 c).arrAt_eq_of_cover 2 _ (fun t hf => flushed_eq m c t hf) (fun i => (covered_iff2 i).2 (by
    have h0 : (i 0).val < 16384 := (i 0).isLt; have h1 : (i 1).val < 10240 := (i 1).isLt; omega))

theorem entry0 (c : Dev nD) : (V m c main_v0 : Vec Ideal S16384x2048 .bf16)
    = shapeCast _ (m ((c : Thread nD τ).loc main_arg0) : Vec Ideal S8x2048x2048 .bf16) shapeCasts_S8x2048x2048_S16384x2048 := by
  entry_read; rfl

theorem entry1 (c : Dev nD) : (V m c main_v1 : Vec Ideal S2048x10240 .f32)
    = shapeCast _ (m ((c : Thread nD τ).loc main_arg1) : Vec Ideal S1x2048x10240 .f32) shapeCasts_S1x2048x10240_S2048x10240 := by
  entry_read; rfl

end Cert.ProjIdeal.Hand

namespace Cert.Proof

open Idealize.ShloMosaic Idealize.ShloMosaic.TcCoe Idealize.SL.Sem

/-- The reference's result as a term of its arguments. -/
def projRef (a : FVec Ideal Cert.RefProjIdeal.S8x2048x2048 .bf16) (w : FVec Ideal Cert.RefProjIdeal.S1x2048x10240 .f32) :
    FVec Ideal Cert.RefProjIdeal.S16384x10240 .bf16 :=
  shapeCast _ (truncf .bf16 (Host.dotGeneral Cert.RefProjIdeal.dot_S8x2048x2048_S2048x10240_S8x2048x10240_2_0_01_1_n_n none
        (extf .f32 a Cert.RefProjIdeal.Gen.bitsLt_bf16_f32) (shapeCast Cert.RefProjIdeal.S2048x10240 w Cert.RefProjIdeal.Gen.shapeCasts_S1x2048x10240_S2048x10240))
        Cert.RefProjIdeal.Gen.bitsLt_bf16_f32) Cert.RefProjIdeal.Gen.shapeCasts_S8x2048x10240_S16384x10240

/-- It is the product of the flattened arrays. -/
theorem proj_ref (a : FVec Ideal Cert.RefProjIdeal.S8x2048x2048 .bf16) (w : FVec Ideal Cert.RefProjIdeal.S1x2048x10240 .f32)
    (r : Fin 16384) (l : Fin 10240) : projRef a w (ix2 r l)
      = Cert.ProjIdeal.Hand.prodAt (shapeCast _ a Cert.ProjIdeal.Gen.shapeCasts_S8x2048x2048_S16384x2048) (shapeCast _ w Cert.ProjIdeal.Gen.shapeCasts_S1x2048x10240_S2048x10240) r l := by
  unfold projRef
  unfold Cert.ProjIdeal.Hand.prodAt
  pointwise

theorem algebraic_proj : Cert.algebraic_ProjIdeal_RefProjIdeal := by
  intro m ρ m' ρ' _ hargs
  refine ⟨fun c => Cert.ProjIdeal.Hand.prod m c, ?_, ?_⟩
  · refine (θ_run Cert.ProjIdeal.defs _ _).mono (fun r h c => ?_) (Cert.ProjIdeal.Value.run_blocks (F := Ideal) m ρ)
    exact ⟨(h c).1.trans (Cert.ProjIdeal.Hand.final m c), (h c).2⟩
  · refine (θ_run Cert.RefProjIdeal.defs _ _).mono (fun r h c => ?_) (Cert.RefProjIdeal.Value.run (F := Ideal) m' ρ')
    refine ⟨(h c).1.trans ?_, (h c).2⟩
    rw [(hargs c).1, (hargs c).2]
    funext i
    idx_vars i
    refine (proj_ref _ _ i0 i1).trans ?_
    unfold Cert.ProjIdeal.Hand.prod
    rw [Cert.ProjIdeal.Hand.entry0, Cert.ProjIdeal.Hand.entry1]
    rfl

end Cert.Proof

end
-- ==== Proof.GluValue.lean ====
/- The gated pointwise product's value claim: two tiled products with weight blocks rounded once per block column,
   one gated by the other, are the reference's split product. -/
module

public import proofs.«01_k».proof.Defs
public import proofs.«01_k».proof.Proof.Gen.GluIdeal.Value
public import proofs.«01_k».proof.Proof.Gen.RefGluIdeal.Run
public import Idealize.ShloMosaic.Lib.Pointwise
public import Idealize.ShloMosaic.Lib.Claim

@[expose] public section

set_option maxRecDepth 16384

noncomputable section

namespace Cert.GluIdeal.Hand

open Cert.GluIdeal Cert.GluIdeal.Gen Cert.GluIdeal.Value Idealize.ShloMosaic Idealize.ShloMosaic.TcCoe Idealize.SL.Sem
open Idealize.ShloMosaic.Pipeline (Dat)

section Structure

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- At the first point of a block column the first scratch receives the rounded value block. -/
theorem scratch_A0 (c i a2 h2 a3 h3 a4 h4 a5 h5 a6 h6 a7 h7 hc) (x : Vec F S1024x2048 .bf16) (w g : Vec F S2048x512 .f32) :
    sout0_A_0 c i a2 h2 a3 h3 a4 h4 a5 h5 a6 h6 a7 h7 hc x w g = k0_pay1 w := by
  unfold sout0_A_0
  rw [View.read_writes_eq_canon _ _ _ (scover0_A_0 c i a2 h2 a3 h3 a4 h4 a5 h5 a6 h6 a7 h7 hc x w g)]
  unfold kernelRun0_A
  dsimp only
  sl_unfold_words
  rw [View.canon_unit_zero hz]
  simp only [View.readAt_eq_ld, h3.read_unread, View.ld_unit_zero (S := S2048x512) hz]

/-- The second receives the rounded gate block. -/
theorem scratch_A1 (c i a2 h2 a3 h3 a4 h4 a5 h5 a6 h6 a7 h7 hc) (x : Vec F S1024x2048 .bf16) (w g : Vec F S2048x512 .f32) :
    sout0_A_1 c i a2 h2 a3 h3 a4 h4 a5 h5 a6 h6 a7 h7 hc x w g = k0_pay2 g := by
  unfold sout0_A_1
  rw [View.read_writes_eq_canon _ _ _ (scover0_A_1 c i a2 h2 a3 h3 a4 h4 a5 h5 a6 h6 a7 h7 hc x w g)]
  unfold kernelRun0_A
  dsimp only
  sl_unfold_words
  rw [View.canon_unit_zero hz]
  simp only [View.readAt_eq_ld, h4.read_unread, View.ld_unit_zero (S := S2048x512) hz]

theorem out_A (c i a2 h2 a3 h3 a4 h4 a5 h5 a6 h6 a7 h7 hc) (x : Vec F S1024x2048 .bf16) (w g : Vec F S2048x512 .f32) :
    out0_A_3 c i a2 h2 a3 h3 a4 h4 a5 h5 a6 h6 a7 h7 hc x w g = k0_pay3 x (k0_pay1 w) (k0_pay2 g) := by
  unfold out0_A_3
  rw [View.read_writes_eq_canon _ _ _ (cover0_A_3 c i a2 h2 a3 h3 a4 h4 a5 h5 a6 h6 a7 h7 hc x w g)]
  unfold kernelRun0_A
  dsimp only
  sl_unfold_words
  rw [View.canon_unit_zero hz]
  simp only [View.readAt_eq_ld, h2.read_unread, h3.read_unread, h4.read_unread, View.readCov_unit_zero (S := S2048x512) _ hz,
    View.ld_unit_zero (S := S2048x512) hz, View.ld_unit_zero (S := S1024x2048) hz]

theorem out_B (c i a2 h2 a3 h3 a4 h4 a5 h5 a6 h6 a7 h7 hc) (x : Vec F S1024x2048 .bf16) (w g : Vec F S2048x512 .f32)
    (s s' : Vec F S2048x512 .bf16) :
    out0_B_3 c i a2 h2 a3 h3 a4 h4 a5 h5 a6 h6 a7 h7 hc x w g s s' = k0_pay3 x s s' := by
  unfold out0_B_3
  rw [View.read_writes_eq_canon _ _ _ (cover0_B_3 c i a2 h2 a3 h3 a4 h4 a5 h5 a6 h6 a7 h7 hc x w g s s')]
  unfold kernelRun0_B
  dsimp only
  sl_unfold_words
  rw [View.canon_unit_zero hz]
  simp only [View.readAt_eq_ld, h2.read_unread, h6.read_unread, h7.read_unread, View.ld_unit_zero (S := S2048x512) hz,
    View.ld_unit_zero (S := S1024x2048) hz]

theorem index0 : ∀ t : Fin cfg0.N, win0_0.index t (0 : Fin 2) = t.val % 16 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val / 16 :=
  (by decide +kernel : ∀ t : Fin grid0.N, _)
theorem index2 : ∀ t : Fin cfg0.N, win0_2.index t (0 : Fin 2) = 0 ∧ win0_2.index t (1 : Fin 2) = t.val / 16 + 4 :=
  (by decide +kernel : ∀ t : Fin grid0.N, _)
theorem index3 : ∀ t : Fin cfg0.N, win0_3.index t (0 : Fin 2) = t.val % 16 ∧ win0_3.index t (1 : Fin 2) = t.val / 16 :=
  (by decide +kernel : ∀ t : Fin grid0.N, _)

/-- The activation block at a point, by coordinates. -/
theorem blk0 (c : Dev nD) (t : Fin cfg0.N) (r : Fin 1024) (k : Fin 2048) (hr : t.val % 16 * 1024 + r.val < 16384) :
    (iblk m c 0 t : Vec F S1024x2048 .bf16) (ix2 r k) = V m c main_v0 (ix2 ⟨t.val % 16 * 1024 + r.val, hr⟩ k) := by
  obtain ⟨e0, e1⟩ := index0 t
  unfold iblk
  rw [View.read_apply]
  show V m c main_v0 _ = V m c main_v0 _
  congr 1
  funext a
  apply Fin.ext
  match a with
  | ⟨0, _⟩ => show win0_0.index t 0 * 1024 + 1 * r.val = t.val % 16 * 1024 + r.val; rw [e0]; omega
  | ⟨1, _⟩ => show win0_0.index t 1 * 2048 + 1 * k.val = k.val; rw [e1]; omega

/-- The value half's weight block at a point. -/
theorem blk1 (c : Dev nD) (t : Fin cfg0.N) (k : Fin 2048) (l : Fin 512) (hl : t.val / 16 * 512 + l.val < 4096) :
    (iblk m c 1 t : Vec F S2048x512 .f32) (ix2 k l) = V m c main_v1 (ix2 k ⟨t.val / 16 * 512 + l.val, hl⟩) := by
  obtain ⟨e0, e1⟩ := index1 t
  unfold iblk
  rw [View.read_apply]
  show V m c main_v1 _ = V m c main_v1 _
  congr 1
  funext a
  apply Fin.ext
  match a with
  | ⟨0, _⟩ => show win0_1.index t 0 * 2048 + 1 * k.val = k.val; rw [e0]; omega
  | ⟨1, _⟩ => show win0_1.index t 1 * 512 + 1 * l.val = t.val / 16 * 512 + l.val; rw [e1]; omega

/-- The gate half's weight block at a point. -/
theorem blk2 (c : Dev nD) (t : Fin cfg0.N) (k : Fin 2048) (l : Fin 512) (hl : 2048 + (t.val / 16 * 512 + l.val) < 4096) :
    (iblk m c 2 t : Vec F S2048x512 .f32) (ix2 k l) = V m c main_v1 (ix2 k ⟨2048 + (t.val / 16 * 512 + l.val), hl⟩) := by
  obtain ⟨e0, e1⟩ := index2 t
  unfold iblk
  rw [View.read_apply]
  show V m c main_v1 _ = V m c main_v1 _
  congr 1
  funext a
  apply Fin.ext
  match a with
  | ⟨0, _⟩ => show win0_2.index t 0 * 2048 + 1 * k.val = k.val; rw [e0]; omega
  | ⟨1, _⟩ => show win0_2.index t 1 * 512 + 1 * l.val = 2048 + (t.val / 16 * 512 + l.val); rw [e1]; omega

theorem blk1_congr (c : Dev nD) (t t' : Fin cfg0.N) (h : t.val / 16 = t'.val / 16) :
    (iblk m c 1 t : Vec F S2048x512 .f32) = iblk m c 1 t' := by
  have hN : cfg0.N = 64 := N_0
  have ht := t.isLt
  funext j
  idx_vars j
  rw [blk1 m c t j0 j1 (by omega), blk1 m c t' j0 j1 (by omega)]
  congr 3
  omega

theorem blk2_congr (c : Dev nD) (t t' : Fin cfg0.N) (h : t.val / 16 = t'.val / 16) :
    (iblk m c 2 t : Vec F S2048x512 .f32) = iblk m c 2 t' := by
  have hN : cfg0.N = 64 := N_0
  have ht := t.isLt
  funext j
  idx_vars j
  rw [blk2 m c t j0 j1 (by omega), blk2 m c t' j0 j1 (by omega)]
  congr 3
  omega

/-- What a point leaves: the gated product in the output block, the rounded weight blocks in the scratches. -/
theorem left (c : Dev nD) : ∀ (n : ℕ) (h : n < cfg0.N), outsAt0 m c n h
    = (k0_pay3 (iblk m c 0 ⟨n, h⟩) (k0_pay1 (iblk m c 1 ⟨n, h⟩)) (k0_pay2 (iblk m c 2 ⟨n, h⟩)),
        k0_pay1 (iblk m c 1 ⟨n, h⟩), k0_pay2 (iblk m c 2 ⟨n, h⟩))
  | 0, h => by
    rw [outsAt0_A m c ⟨0, h⟩ rfl, out_A, scratch_A0, scratch_A1]
  | n + 1, h => by
    by_cases h0 : (n + 1) % 16 = 0
    · rw [outsAt0_A m c ⟨n + 1, h⟩ h0, out_A, scratch_A0, scratch_A1]
    · rw [outsAt0_B m c ⟨n + 1, h⟩ h0, out_B]
      unfold sout0_B_0 sout0_B_1
      have e := left c n (Nat.lt_of_succ_lt h)
      have hd : n / 16 = (n + 1) / 16 := by omega
      have e2 : (outsAt0 m c ((⟨n + 1, h⟩ : Fin cfg0.N).val - 1) (Nat.lt_of_le_of_lt (Nat.sub_le _ _) h)).2
          = (k0_pay1 (iblk m c 1 ⟨n + 1, h⟩), k0_pay2 (iblk m c 2 ⟨n + 1, h⟩)) := by
        show (outsAt0 m c n _).2 = _
        rw [e]
        show (k0_pay1 (iblk m c 1 _), k0_pay2 (iblk m c 2 _)) = _
        rw [blk1_congr m c ⟨n, Nat.lt_of_succ_lt h⟩ ⟨n + 1, h⟩ hd, blk2_congr m c ⟨n, Nat.lt_of_succ_lt h⟩ ⟨n + 1, h⟩ hd]
      rw [e2]

end Structure

variable (m : (ℓ : Loc nD τ sig) → Buf (Elt Ideal) ℓ) (ρ : Dev nD → PrngReg)

/-- The gated product, by coordinates: column `l` of the value half times the logistic of column `l` of the gate half. -/
def prodAt (x : Vec Ideal S16384x2048 .bf16) (w : Vec Ideal S2048x4096 .f32) (r : Fin 16384) (l : Fin 2048) : EReal :=
  (∑ k : Fin 2048, (x (ix2 r k) : EReal) * (w (ix2 k ⟨l.val, by omega⟩) : EReal))
    * Ideal.logistic (∑ k : Fin 2048, (x (ix2 r k) : EReal) * (w (ix2 k ⟨2048 + l.val, by omega⟩) : EReal))

/-- The result array: that product of the arrays the region reads. -/
def prod (c : Dev nD) : Buf (Elt Ideal) ((c : Thread nD τ).loc main_v2) := fun i =>
  prodAt (V m c main_v0) (V m c main_v1) (i 0) (i 1)

theorem pay_apply (x : Vec Ideal S1024x2048 .bf16) (w g : Vec Ideal S2048x512 .f32) (r : Fin 1024) (l : Fin 512) :
    k0_pay3 x (k0_pay1 w) (k0_pay2 g) (ix2 r l)
      = (∑ k : Fin 2048, (x (ix2 r k) : EReal) * (w (ix2 k l) : EReal))
        * Ideal.logistic (∑ k : Fin 2048, (x (ix2 r k) : EReal) * (g (ix2 k l) : EReal)) := by
  pointwise [k0_pay3, k0_pay1, k0_pay2]

theorem flushed_eq (c : Dev nD) (t : Fin cfg0.N) (hf : (cfg0.win 3).flush t = true) :
    (dats m 0 c).flushed 3 t = ((cfg0.win 3).blk t).view.read (Elt Ideal) (prod m c) := by
  have hN : cfg0.N = 64 := N_0
  have ht := t.isLt
  show (cfg0.win 3).cut (grid0.coords t) ((dats m 0 c).after 3 t) = _
  rw [after0_3, left]
  obtain ⟨e0, e1⟩ := index3 t
  funext y
  have hy0 : (y 0).val < 1024 := (y 0).isLt
  have hy1 : (y 1).val < 512 := (y 1).isLt
  rw [View.read_apply]
  show k0_pay3 _ _ _ ((cfg0.win 3).xinj (grid0.coords t) y) = _
  have hx : (cfg0.win 3).xinj (grid0.coords t) y = ix2 (⟨(y 0).val, hy0⟩ : Fin 1024) (⟨(y 1).val, hy1⟩ : Fin 512) := by
    funext a; apply Fin.ext
    match a with
    | ⟨0, _⟩ => rfl
    | ⟨1, _⟩ => rfl
  have hi : ((cfg0.win 3).blk t).view.emb y = ix2 (⟨t.val % 16 * 1024 + (y 0).val, by omega⟩ : Fin 16384) (⟨t.val / 16 * 512 + (y 1).val, by omega⟩ : Fin 2048) := by
    funext a; apply Fin.ext
    match a with
    | ⟨0, _⟩ => show win0_3.index t 0 * 1024 + 1 * (y 0).val = t.val % 16 * 1024 + (y 0).val; rw [e0]; omega
    | ⟨1, _⟩ => show win0_3.index t 1 * 512 + 1 * (y 1).val = t.val / 16 * 512 + (y 1).val; rw [e1]; omega
  rw [hx, hi]
  refine (pay_apply _ _ _ _ _).trans ?_
  refine congrArg₂ (fun a b : EReal => a * Ideal.logistic b) (Finset.sum_congr rfl fun k _ => ?_) (Finset.sum_congr rfl fun k _ => ?_)
  · exact congrArg₂ (fun a b : EReal => a * b) (blk0 m c t _ k (by omega)) (blk1 m c t k _ (by omega))
  · exact congrArg₂ (fun a b : EReal => a * b) (blk0 m c t _ k (by omega)) (blk2 m c t k _ (by omega))

theorem final (c : Dev nD) : (dats m 0 c).arrAt 3 cfg0.N = prod m c :=
  (dats m 0 c).arrAt_eq_of_cover 3 _ (fun t hf => flushed_eq m c t hf) (fun i => (covered_iff3 i).2 (by
    have h0 : (i 0).val < 16384 := (i 0).isLt; have h1 : (i 1).val < 2048 := (i 1).isLt; omega))

theorem entry0 (c : Dev nD) : (V m c main_v0 : Vec Ideal S16384x2048 .bf16)
    = shapeCast _ (m ((c : Thread nD τ).loc main_arg0) : Vec Ideal S8x2048x2048 .bf16) shapeCasts_S8x2048x2048_S16384x2048 := by
  entry_read; rfl

theorem entry1 (c : Dev nD) : (V m c main_v1 : Vec Ideal S2048x4096 .f32)
    = shapeCast _ (m ((c : Thread nD τ).loc main_arg1) : Vec Ideal S1x2048x4096 .f32) shapeCasts_S1x2048x4096_S2048x4096 := by
  entry_read; rfl

end Cert.GluIdeal.Hand

namespace Cert.RefGluIdeal.Hand

open Idealize.ShloMosaic Idealize.ShloMosaic.TcCoe Idealize.SL.Sem Cert.RefGluIdeal Cert.RefGluIdeal.Gen

/-- The reference's result as a term of its arguments. -/
def res (x0 : FVec Ideal S8x2048x2048 .bf16) (x1 : FVec Ideal S1x2048x4096 .f32) : FVec Ideal S16384x2048 .bf16 :=
  shapeCast _ (truncf .bf16 (mulf (extractStridedSlice S8x2048x2048 ![0, 0, 0] (Host.dotGeneral dot_S8x2048x2048_S2048x4096_S8x2048x4096_2_0_01_1_n_n none (extf .f32 x0 bitsLt_bf16_f32) (shapeCast _ x1 shapeCasts_S1x2048x4096_S2048x4096)) slices_S8x2048x4096_S8x2048x2048_0_0_0) (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 2048] (Host.dotGeneral dot_S8x2048x2048_S2048x4096_S8x2048x4096_2_0_01_1_n_n none (extf .f32 x0 bitsLt_bf16_f32) (shapeCast _ x1 shapeCasts_S1x2048x4096_S2048x4096)) slices_S8x2048x4096_S8x2048x2048_0_0_2048)))))) bitsLt_bf16_f32) shapeCasts_S8x2048x2048_S16384x2048

end Cert.RefGluIdeal.Hand

namespace Cert.Proof

open Idealize.ShloMosaic Idealize.ShloMosaic.TcCoe Idealize.SL.Sem

/-- It is the gated product of the flattened arrays. -/
theorem glu_ref (a : FVec Ideal Cert.RefGluIdeal.S8x2048x2048 .bf16) (w : FVec Ideal Cert.RefGluIdeal.S1x2048x4096 .f32)
    (r : Fin 16384) (l : Fin 2048) : Cert.RefGluIdeal.Hand.res a w (ix2 r l)
      = Cert.GluIdeal.Hand.prodAt (shapeCast _ a Cert.GluIdeal.Gen.shapeCasts_S8x2048x2048_S16384x2048) (shapeCast _ w Cert.GluIdeal.Gen.shapeCasts_S1x2048x4096_S2048x4096) r l := by
  unfold Cert.RefGluIdeal.Hand.res
  unfold Cert.GluIdeal.Hand.prodAt
  pointwise
  rfl

theorem algebraic_glu : Cert.algebraic_GluIdeal_RefGluIdeal := by
  intro m ρ m' ρ' _ hargs
  refine ⟨fun c => Cert.GluIdeal.Hand.prod m c, ?_, ?_⟩
  · refine (θ_run Cert.GluIdeal.defs _ _).mono (fun r h c => ?_) (Cert.GluIdeal.Value.run_blocks (F := Ideal) m ρ)
    exact ⟨(h c).1.trans (Cert.GluIdeal.Hand.final m c), (h c).2⟩
  · refine (θ_run Cert.RefGluIdeal.defs _ _).mono (fun r h c => ?_) (Cert.RefGluIdeal.Value.run (F := Ideal) m' ρ')
    refine ⟨(h c).1.trans ?_, (h c).2⟩
    rw [(hargs c).1, (hargs c).2]
    funext i
    idx_vars i
    refine (glu_ref _ _ i0 i1).trans ?_
    unfold Cert.GluIdeal.Hand.prod
    rw [Cert.GluIdeal.Hand.entry0, Cert.GluIdeal.Hand.entry1]
    rfl

end Cert.Proof

end
-- ==== Proof.OutValue.lean ====
/- The convolution output call's value claim: normalising a block of rows, gating it by its own logistic, multiplying by
   the weights rounded once at the first point and adding the gated result to the residual is the reference's whole-array computation. -/
module

public import proofs.«01_k».proof.Defs
public import proofs.«01_k».proof.Proof.Gen.OutIdeal.Value
public import proofs.«01_k».proof.Proof.Gen.RefOutIdeal.Run
public import Idealize.ShloMosaic.Lib.Pointwise
public import Idealize.ShloMosaic.Lib.Claim

@[expose] public section

set_option maxRecDepth 16384

noncomputable section

namespace Cert.OutIdeal.Hand

open Cert.OutIdeal Cert.OutIdeal.Gen Cert.OutIdeal.Value Idealize.ShloMosaic Idealize.ShloMosaic.TcCoe Idealize.SL.Sem
open Idealize.ShloMosaic.Pipeline (Dat)

section Structure

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- At the first point the scratch receives the rounded weights. -/
theorem scratch_A (c i a2 h2 a3 h3 a4 h4 a5 h5 a6 h6 a7 h7 a8 h8 a9 h9 hc) (v : Vec F S1x256x2048 .bf16) (lg lb : Vec F S1x2048 .f32) (w : Vec F S2048x2048 .f32) (h : Vec F S1x256x2048 .f32) (g : Vec F S1x1x2048 .f32) :
    sout0_A_0 c i a2 h2 a3 h3 a4 h4 a5 h5 a6 h6 a7 h7 a8 h8 a9 h9 hc v lg lb w h g = k0_pay2 w := by
  unfold sout0_A_0
  rw [View.read_writes_eq_canon _ _ _ (scover0_A_0 c i a2 h2 a3 h3 a4 h4 a5 h5 a6 h6 a7 h7 a8 h8 a9 h9 hc v lg lb w h g)]
  unfold kernelRun0_A
  dsimp only
  sl_unfold_words
  rw [View.canon_unit_zero hz2]
  simp only [View.readAt_eq_ld, h5.read_unread, View.ld_unit_zero (S := S2048x2048) hz2]

/-- The output block there. -/
theorem out_A (c i a2 h2 a3 h3 a4 h4 a5 h5 a6 h6 a7 h7 a8 h8 a9 h9 hc) (v : Vec F S1x256x2048 .bf16) (lg lb : Vec F S1x2048 .f32) (w : Vec F S2048x2048 .f32) (h : Vec F S1x256x2048 .f32) (g : Vec F S1x1x2048 .f32) :
    out0_A_6 c i a2 h2 a3 h3 a4 h4 a5 h5 a6 h6 a7 h7 a8 h8 a9 h9 hc v lg lb w h g = k0_pay1 (k0_pay3 v lg lb) (k0_pay4 h) g (k0_pay2 w) := by
  unfold out0_A_6
  rw [View.read_writes_eq_canon _ _ _ (cover0_A_6 c i a2 h2 a3 h3 a4 h4 a5 h5 a6 h6 a7 h7 a8 h8 a9 h9 hc v lg lb w h g)]
  unfold kernelRun0_A
  dsimp only
  sl_unfold_words
  rw [View.canon_unit_zero hz3]
  simp only [View.readAt_eq_ld, h2.read_unread, h3.read_unread, h4.read_unread, h5.read_unread, h6.read_unread, h7.read_unread,
    View.readCov_unit_zero (S := S2048x2048) _ hz2, View.ld_unit_zero (S := S2048x2048) hz2, View.ld_unit_zero (S := S1x2048) hz2,
    View.ld_unit_zero (S := S1x256x2048) hz3, View.ld_unit_zero (S := S1x1x2048) hz3]

/-- The output block at a later point, from the weights found in the scratch. -/
theorem out_B (c i a2 h2 a3 h3 a4 h4 a5 h5 a6 h6 a7 h7 a8 h8 a9 h9 hc) (v : Vec F S1x256x2048 .bf16) (lg lb : Vec F S1x2048 .f32) (w : Vec F S2048x2048 .f32) (h : Vec F S1x256x2048 .f32) (g : Vec F S1x1x2048 .f32) (s : Vec F S2048x2048 .bf16) :
    out0_B_6 c i a2 h2 a3 h3 a4 h4 a5 h5 a6 h6 a7 h7 a8 h8 a9 h9 hc v lg lb w h g s = k0_pay1 (k0_pay3 v lg lb) (k0_pay4 h) g s := by
  unfold out0_B_6
  rw [View.read_writes_eq_canon _ _ _ (cover0_B_6 c i a2 h2 a3 h3 a4 h4 a5 h5 a6 h6 a7 h7 a8 h8 a9 h9 hc v lg lb w h g s)]
  unfold kernelRun0_B
  dsimp only
  sl_unfold_words
  rw [View.canon_unit_zero hz3]
  simp only [View.readAt_eq_ld, h2.read_unread, h3.read_unread, h4.read_unread, h5.read_unread, h6.read_unread, h7.read_unread, h9.read_unread,
    View.ld_unit_zero (S := S2048x2048) hz2, View.ld_unit_zero (S := S1x2048) hz2,
    View.ld_unit_zero (S := S1x256x2048) hz3, View.ld_unit_zero (S := S1x1x2048) hz3]

theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)
theorem index5 : ∀ t : Fin cfg0.N, win0_5.index t (0 : Fin 3) = 16 + t.val / 8 ∧ win0_5.index t (1 : Fin 3) = 0 ∧ win0_5.index t (2 : Fin 3) = 2 :=
  (by decide +kernel : ∀ t : Fin grid0.N, _)
theorem index6 : ∀ t : Fin cfg0.N, win0_6.index t (0 : Fin 3) = t.val / 8 ∧ win0_6.index t (1 : Fin 3) = t.val % 8 ∧ win0_6.index t (2 : Fin 3) = 0 :=
  (by decide +kernel : ∀ t : Fin grid0.N, _)

theorem blk0 (c : Dev nD) (t : Fin cfg0.N) (i0 : Fin 1) (i1 : Fin 256) (i2 : Fin 2048) (h0 : t.val / 8 + i0.val < 8) (h1 : t.val % 8 * 256 + i1.val < 2048) :
    (iblk m c 0 t : Vec F S1x256x2048 .bf16) (ix3 i0 i1 i2) = V m c main_arg0 (ix3 ⟨t.val / 8 + i0.val, h0⟩ ⟨t.val % 8 * 256 + i1.val, h1⟩ i2) := by
  have e := index0 t
  unfold iblk
  rw [View.read_apply]
  show V m c main_arg0 _ = V m c main_arg0 _
  congr 1
  funext a
  apply Fin.ext
  match a with
  | ⟨0, _⟩ => show win0_0.index t 0 * 1 + 1 * i0.val = t.val / 8 + i0.val; rw [e.1]; omega
  | ⟨1, _⟩ => show win0_0.index t 1 * 256 + 1 * i1.val = t.val % 8 * 256 + i1.val; rw [e.2.1]; omega
  | ⟨2, _⟩ => show win0_0.index t 2 * 2048 + 1 * i2.val = i2.val; rw [e.2.2]; omega

theorem blk1 (c : Dev nD) (t : Fin cfg0.N) (i0 : Fin 1) (i1 : Fin 2048)  :
    (iblk m c 1 t : Vec F S1x2048 .f32) (ix2 i0 i1) = V m c main_v4 (ix2 i0 i1) := by
  have e := index1 t
  unfold iblk
  rw [View.read_apply]
  show V m c main_v4 _ = V m c main_v4 _
  congr 1
  funext a
  apply Fin.ext
  match a with
  | ⟨0, _⟩ => show win0_1.index t 0 * 1 + 1 * i0.val = i0.val; rw [e.1]; omega
  | ⟨1, _⟩ => show win0_1.index t 1 * 2048 + 1 * i1.val = i1.val; rw [e.2]; omega

theorem blk2 (c : Dev nD) (t : Fin cfg0.N) (i0 : Fin 1) (i1 : Fin 2048)  :
    (iblk m c 2 t : Vec F S1x2048 .f32) (ix2 i0 i1) = V m c main_v5 (ix2 i0 i1) := by
  have e := index2 t
  unfold iblk
  rw [View.read_apply]
  show V m c main_v5 _ = V m c main_v5 _
  congr 1
  funext a
  apply Fin.ext
  match a with
  | ⟨0, _⟩ => show win0_2.index t 0 * 1 + 1 * i0.val = i0.val; rw [e.1]; omega
  | ⟨1, _⟩ => show win0_2.index t 1 * 2048 + 1 * i1.val = i1.val; rw [e.2]; omega

theorem blk3 (c : Dev nD) (t : Fin cfg0.N) (i0 : Fin 2048) (i1 : Fin 2048)  :
    (iblk m c 3 t : Vec F S2048x2048 .f32) (ix2 i0 i1) = V m c main_v3 (ix2 i0 i1) := by
  have e := index3 t
  unfold iblk
  rw [View.read_apply]
  show V m c main_v3 _ = V m c main_v3 _
  congr 1
  funext a
  apply Fin.ext
  match a with
  | ⟨0, _⟩ => show win0_3.index t 0 * 2048 + 1 * i0.val = i0.val; rw [e.1]; omega
  | ⟨1, _⟩ => show win0_3.index t 1 * 2048 + 1 * i1.val = i1.val; rw [e.2]; omega

theorem blk4 (c : Dev nD) (t : Fin cfg0.N) (i0 : Fin 1) (i1 : Fin 256) (i2 : Fin 2048) (h0 : t.val / 8 + i0.val < 8) (h1 : t.val % 8 * 256 + i1.val < 2048) :
    (iblk m c 4 t : Vec F S1x256x2048 .f32) (ix3 i0 i1 i2) = V m c main_arg4 (ix3 ⟨t.val / 8 + i0.val, h0⟩ ⟨t.val % 8 * 256 + i1.val, h1⟩ i2) := by
  have e := index4 t
  unfold iblk
  rw [View.read_apply]
  show V m c main_arg4 _ = V m c main_arg4 _
  congr 1
  funext a
  apply Fin.ext
  match a with
  | ⟨0, _⟩ => show win0_4.index t 0 * 1 + 1 * i0.val = t.val / 8 + i0.val; rw [e.1]; omega
  | ⟨1, _⟩ => show win0_4.index t 1 * 256 + 1 * i1.val = t.val % 8 * 256 + i1.val; rw [e.2.1]; omega
  | ⟨2, _⟩ => show win0_4.index t 2 * 2048 + 1 * i2.val = i2.val; rw [e.2.2]; omega

theorem blk5 (c : Dev nD) (t : Fin cfg0.N) (i0 : Fin 1) (i1 : Fin 1) (i2 : Fin 2048) (h0 : 16 + t.val / 8 + i0.val < 32) (h2 : 4096 + i2.val < 12288) :
    (iblk m c 5 t : Vec F S1x1x2048 .f32) (ix3 i0 i1 i2) = V m c main_v0 (ix3 ⟨16 + t.val / 8 + i0.val, h0⟩ i1 ⟨4096 + i2.val, h2⟩) := by
  have e := index5 t
  unfold iblk
  rw [View.read_apply]
  show V m c main_v0 _ = V m c main_v0 _
  congr 1
  funext a
  apply Fin.ext
  match a with
  | ⟨0, _⟩ => show win0_5.index t 0 * 1 + 1 * i0.val = 16 + t.val / 8 + i0.val; rw [e.1]; omega
  | ⟨1, _⟩ => show win0_5.index t 1 * 1 + 1 * i1.val = i1.val; rw [e.2.1]; omega
  | ⟨2, _⟩ => show win0_5.index t 2 * 2048 + 1 * i2.val = 4096 + i2.val; rw [e.2.2]; omega

/-- The weight block is the same at every point. -/
theorem blk3_congr (c : Dev nD) (t t' : Fin cfg0.N) : (iblk m c 3 t : Vec F S2048x2048 .f32) = iblk m c 3 t' := by
  funext j
  idx_vars j
  rw [blk3 m c t j0 j1, blk3 m c t' j0 j1]

/-- What a point leaves. -/
theorem left (c : Dev nD) : ∀ (n : ℕ) (h : n < cfg0.N), outsAt0 m c n h
    = (k0_pay1 (k0_pay3 (iblk m c 0 ⟨n, h⟩) (iblk m c 1 ⟨n, h⟩) (iblk m c 2 ⟨n, h⟩)) (k0_pay4 (iblk m c 4 ⟨n, h⟩)) (iblk m c 5 ⟨n, h⟩) (k0_pay2 (iblk m c 3 ⟨n, h⟩)),
        k0_pay2 (iblk m c 3 ⟨n, h⟩))
  | 0, h => by
    rw [outsAt0_A m c ⟨0, h⟩ rfl, out_A, scratch_A]
  | n + 1, h => by
    have hN : cfg0.N = 64 := N_0
    have h0 : ¬ (n + 1) % 64 = 0 := by omega
    rw [outsAt0_B m c ⟨n + 1, h⟩ h0, out_B]
    unfold sout0_B_0
    have e := left c n (Nat.lt_of_succ_lt h)
    have e2 : (outsAt0 m c ((⟨n + 1, h⟩ : Fin cfg0.N).val - 1) (Nat.lt_of_le_of_lt (Nat.sub_le _ _) h)).2
        = k0_pay2 (iblk m c 3 ⟨n + 1, h⟩) := by
      show (outsAt0 m c n _).2 = _
      rw [e]
      show k0_pay2 (iblk m c 3 _) = _
      rw [blk3_congr m c ⟨n, Nat.lt_of_succ_lt h⟩ ⟨n + 1, h⟩]
    rw [e2]

end Structure

variable (m : (ℓ : Loc nD τ sig) → Buf (Elt Ideal) ℓ) (ρ : Dev nD → PrngReg)

/-- A row's mean. -/
def meanAt (v : Fin 2048 → EReal) : EReal := Ideal.div (∑ k, v k) (Ideal.ofBits FTy.f32 1157627904#32)

/-- The layer normalisation of a row, by position. -/
def lnAt (v g b : Fin 2048 → EReal) (k : Fin 2048) : EReal :=
  (v k - meanAt v) * Ideal.rsqrt (Ideal.div (∑ x, (v x - meanAt v) * (v x - meanAt v)) (Ideal.ofBits FTy.f32 1157627904#32) + Ideal.ofBits FTy.f32 897988541#32)
    * g k + b k

/-- One entry of the result: the residual plus the gate times the product of the normalised, gated row with a column. -/
def outAt (v g b w : Fin 2048 → EReal) (h gate : EReal) : EReal :=
  h + gate * ∑ k, (lnAt v g b k * Ideal.logistic (lnAt v g b k)) * w k

def prodAt (v : Vec Ideal S8x2048x2048 .bf16) (lg lb : Vec Ideal S1x2048 .f32) (w : Vec Ideal S2048x2048 .f32)
    (h : Vec Ideal S8x2048x2048 .f32) (mod : Vec Ideal S32x1x12288 .f32) (b : Fin 8) (r l : Fin 2048) : EReal :=
  outAt (fun k => v (ix3 b r k)) (fun k => lg (ix2 0 k)) (fun k => lb (ix2 0 k)) (fun k => w (ix2 k l)) (h (ix3 b r l))
    (mod (ix3 ⟨16 + b.val, by omega⟩ 0 ⟨4096 + l.val, by omega⟩))

/-- The result array. -/
def prod (c : Dev nD) : Buf (Elt Ideal) ((c : Thread nD τ).loc main_v6) := fun i =>
  prodAt (V m c main_arg0) (V m c main_v4) (V m c main_v5) (V m c main_v3) (V m c main_arg4) (V m c main_v0) (i 0) (i 1) (i 2)

theorem pay_apply (v : Vec Ideal S1x256x2048 .bf16) (lg lb : Vec Ideal S1x2048 .f32) (w : Vec Ideal S2048x2048 .f32) (h : Vec Ideal S1x256x2048 .f32)
    (g : Vec Ideal S1x1x2048 .f32) (r : Fin 256) (l : Fin 2048) : k0_pay1 (k0_pay3 v lg lb) (k0_pay4 h) g (k0_pay2 w) (ix3 0 r l)
      = outAt (fun k => v (ix3 0 r k)) (fun k => lg (ix2 0 k)) (fun k => lb (ix2 0 k)) (fun k => w (ix2 k l)) (h (ix3 0 r l)) (g (ix3 0 0 l)) := by
  unfold outAt lnAt meanAt
  pointwise [k0_pay1, k0_pay2, k0_pay3, k0_pay4]

theorem outAt_congr {v v' g g' b b' w w' : Fin 2048 → EReal} {h h' q q' : EReal} (e1 : ∀ k, v k = v' k) (e2 : ∀ k, g k = g' k)
    (e3 : ∀ k, b k = b' k) (e4 : ∀ k, w k = w' k) (e5 : h = h') (e6 : q = q') : outAt v g b w h q = outAt v' g' b' w' h' q' := by
  rw [funext e1, funext e2, funext e3, funext e4, e5, e6]

theorem flushed_eq (c : Dev nD) (t : Fin cfg0.N) (hf : (cfg0.win 6).flush t = true) :
    (dats m 0 c).flushed 6 t = ((cfg0.win 6).blk t).view.read (Elt Ideal) (prod m c) := by
  have hN : cfg0.N = 64 := N_0
  have ht := t.isLt
  show (cfg0.win 6).cut (grid0.coords t) ((dats m 0 c).after 6 t) = _
  rw [after0_6, left]
  have e := index6 t
  funext y
  have hy0 : (y 0).val < 1 := (y 0).isLt
  have hy1 : (y 1).val < 256 := (y 1).isLt
  have hy2 : (y 2).val < 2048 := (y 2).isLt
  rw [View.read_apply]
  show k0_pay1 _ _ _ _ ((cfg0.win 6).xinj (grid0.coords t) y) = _
  have hx : (cfg0.win 6).xinj (grid0.coords t) y = ix3 (0 : Fin 1) (⟨(y 1).val, hy1⟩ : Fin 256) (⟨(y 2).val, hy2⟩ : Fin 2048) := by
    funext a; apply Fin.ext
    match a with
    | ⟨0, _⟩ => show (y 0).val = 0; omega
    | ⟨1, _⟩ => rfl
    | ⟨2, _⟩ => rfl
  have hi : ((cfg0.win 6).blk t).view.emb y = ix3 (⟨t.val / 8 + (0 : Fin 1).val, by show t.val / 8 + 0 < 8; omega⟩ : Fin 8) (⟨t.val % 8 * 256 + (y 1).val, by omega⟩ : Fin 2048) (⟨(y 2).val, hy2⟩ : Fin 2048) := by
    funext a; apply Fin.ext
    match a with
    | ⟨0, _⟩ => show win0_6.index t 0 * 1 + 1 * (y 0).val = t.val / 8 + 0; rw [e.1]; omega
    | ⟨1, _⟩ => show win0_6.index t 1 * 256 + 1 * (y 1).val = t.val % 8 * 256 + (y 1).val; rw [e.2.1]; omega
    | ⟨2, _⟩ => show win0_6.index t 2 * 2048 + 1 * (y 2).val = (y 2).val; rw [e.2.2]; omega
  rw [hx, hi]
  refine (pay_apply _ _ _ _ _ _ _ _).trans ?_
  refine outAt_congr (fun k => ?_) (fun k => ?_) (fun k => ?_) (fun k => ?_) ?_ ?_
  · exact blk0 m c t 0 _ k _ _
  · exact blk1 m c t 0 k
  · exact blk2 m c t 0 k
  · exact blk3 m c t k _
  · exact blk4 m c t 0 _ _ _ _
  · exact blk5 m c t 0 0 _ (by show 16 + t.val / 8 + 0 < 32; omega) (by show 4096 + (y 2).val < 12288; omega)

theorem final (c : Dev nD) : (dats m 0 c).arrAt 6 cfg0.N = prod m c :=
  (dats m 0 c).arrAt_eq_of_cover 6 _ (fun t hf => flushed_eq m c t hf) (fun i => (covered_iff6 i).2 (by
    have h0 : (i 0).val < 8 := (i 0).isLt; have h1 : (i 1).val < 2048 := (i 1).isLt; have h2 : (i 2).val < 2048 := (i 2).isLt; omega))

theorem entry_v (c : Dev nD) : (V m c main_arg0 : Vec Ideal S8x2048x2048 .bf16) = m ((c : Thread nD τ).loc main_arg0) := by
  entry_read; rfl
theorem entry_g (c : Dev nD) : (V m c main_v4 : Vec Ideal S1x2048 .f32)
    = shapeCast _ (shapeCast S2048 (m ((c : Thread nD τ).loc main_arg1) : Vec Ideal S1x2048 .f32) shapeCasts_S1x2048_S2048) shapeCasts_S2048_S1x2048 := by
  entry_read; rfl
theorem entry_b (c : Dev nD) : (V m c main_v5 : Vec Ideal S1x2048 .f32)
    = shapeCast _ (shapeCast S2048 (m ((c : Thread nD τ).loc main_arg2) : Vec Ideal S1x2048 .f32) shapeCasts_S1x2048_S2048) shapeCasts_S2048_S1x2048 := by
  entry_read; rfl
theorem entry_w (c : Dev nD) : (V m c main_v3 : Vec Ideal S2048x2048 .f32)
    = shapeCast _ (m ((c : Thread nD τ).loc main_arg3) : Vec Ideal S1x2048x2048 .f32) shapeCasts_S1x2048x2048_S2048x2048 := by
  entry_read; rfl
theorem entry_h (c : Dev nD) : (V m c main_arg4 : Vec Ideal S8x2048x2048 .f32) = m ((c : Thread nD τ).loc main_arg4) := by
  entry_read; rfl
theorem entry_mod (c : Dev nD) : (V m c main_v0 : Vec Ideal S32x1x12288 .f32)
    = shapeCast _ (m ((c : Thread nD τ).loc main_arg5) : Vec Ideal S2x16x12288 .f32) shapeCasts_S2x16x12288_S32x1x12288 := by
  entry_read; rfl

/-- Row `16 + b` of the flattened modulation table is row `b` of the second layer's. -/
theorem mod_row (x : FVec Ideal S2x16x12288 .f32) (b : Fin 8) (l : Fin 12288) :
    shapeCast S32x1x12288 x shapeCasts_S2x16x12288_S32x1x12288 (ix3 ⟨16 + b.val, by omega⟩ 0 l) = x (ix3 1 ⟨b.val, by omega⟩ l) := by
  pointwise
  congr 1
  funext a
  apply Fin.ext
  match a with
  | ⟨0, _⟩ => show (16 + b.val) / 16 = 1; omega
  | ⟨1, _⟩ => show (16 + b.val) % 16 = b.val; omega
  | ⟨2, _⟩ => rfl

end Cert.OutIdeal.Hand

namespace Cert.RefOutIdeal.Hand

open Idealize.ShloMosaic Idealize.ShloMosaic.TcCoe Idealize.SL.Sem Cert.RefOutIdeal Cert.RefOutIdeal.Gen

/-- The reference's result as a term of its arguments. -/
def res (x0 : FVec Ideal S8x2048x2048 .bf16) (x1 : FVec Ideal S1x2048 .f32) (x2 : FVec Ideal S1x2048 .f32) (x3 : FVec Ideal S1x2048x2048 .f32) (x4 : FVec Ideal S8x2048x2048 .f32) (x5 : FVec Ideal S2x16x12288 .f32) : FVec Ideal S8x2048x2048 .f32 :=
  addf x4 (mulf (broadcastInDim S8x2048x2048 ![0, 1, 2] bcast_S8x1x2048_S8x2048x2048_0_1_2 (extractStridedSlice S8x1x2048 ![0, 0, 4096] (broadcastInDim S8x1x12288 ![0, 2] bcast_S8x12288_S8x1x12288_0_2 (shapeCast _ (extractStridedSlice S1x8x12288 ![1, 0, 0] x5 slices_S2x16x12288_S1x8x12288_1_0_0) shapeCasts_S1x8x12288_S8x12288)) slices_S8x1x12288_S8x1x2048_0_0_4096)) (Host.dotGeneral dot_S8x2048x2048_S2048x2048_S8x2048x2048_2_0_01_1_n_n none (mulf (addf (mulf (mulf (subf (extf .f32 x0 bitsLt_bf16_f32) (broadcastInDim S8x2048x2048 ![0, 1, 2] bcast_S8x2048x1_S8x2048x2048_0_1_2 (Host.divf (broadcastInDim S8x2048x1 ![0, 1] bcast_S8x2048_S8x2048x1_0_1 (Host.reduceAdd (extf .f32 x0 bitsLt_bf16_f32) (constant S_ .f32 0x00000000#32) reducesTo_S8x2048x2048_S8x2048_d2 h_S_)) (broadcastInDim S8x2048x1 ![] bcast_S_S8x2048x1 (constant S_ .f32 0x45000000#32))))) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (subf (extf .f32 x0 bitsLt_bf16_f32) (broadcastInDim S8x2048x2048 ![0, 1, 2] bcast_S8x2048x1_S8x2048x2048_0_1_2 (Host.divf (broadcastInDim S8x2048x1 ![0, 1] bcast_S8x2048_S8x2048x1_0_1 (Host.reduceAdd (extf .f32 x0 bitsLt_bf16_f32) (constant S_ .f32 0x00000000#32) reducesTo_S8x2048x2048_S8x2048_d2 h_S_)) (broadcastInDim S8x2048x1 ![] bcast_S_S8x2048x1 (constant S_ .f32 0x45000000#32))))) (subf (extf .f32 x0 bitsLt_bf16_f32) (broadcastInDim S8x2048x2048 ![0, 1, 2] bcast_S8x2048x1_S8x2048x2048_0_1_2 (Host.divf (broadcastInDim S8x2048x1 ![0, 1] bcast_S8x2048_S8x2048x1_0_1 (Host.reduceAdd (extf .f32 x0 bitsLt_bf16_f32) (constant S_ .f32 0x00000000#32) reducesTo_S8x2048x2048_S8x2048_d2 h_S_)) (broadcastInDim S8x2048x1 ![] bcast_S_S8x2048x1 (constant S_ .f32 0x45000000#32)))))) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ x1 shapeCasts_S1x2048_S2048)))) (broadcastInDim S8x2048x2048 ![0, 1, 2] bcast_S1x1x2048_S8x2048x2048_0_1_2 (broadcastInDim S1x1x2048 ![2] bcast_S2048_S1x1x2048_2 (shapeCast _ x2 shapeCasts_S1x2048_S2048)))) (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (addf (mulf (mulf (subf (extf .f32 x0 bitsLt_bf16_f32) (broadcastInDim S8x2048x2048 ![0, 1, 2] bcast_S8x2048x1_S8x2048x2048_0_1_2 (Host.divf (broadcastInDim S8x2048x1 ![0, 1] bcast_S8x2048_S8x2048x1_0_1 (Host.reduceAdd (extf .f32 x0 bitsLt_bf16_f32) (constant S_ .f32 0x00000000#32) reducesTo_S8x2048x2048_S8x2048_d2 h_S_)) (broadcastInDim S8x2048x1 ![] bcast_S_S8x2048x1 (constant S_ .f32 0x45000000#32))))) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (subf (extf .f32 x0 bitsLt_bf16_f32) (broadcastInDim S8x2048x2048 ![0, 1, 2] bcast_S8x2048x1_S8x2048x2048_0_1_2 (Host.divf (broadcastInDim S8x2048x1 ![0, 1] bcast_S8x2048_S8x2048x1_0_1 (Host.reduceAdd (extf .f32 x0 bitsLt_bf16_f32) (constant S_ .f32 0x00000000#32) reducesTo_S8x2048x2048_S8x2048_d2 h_S_)) (broadcastInDim S8x2048x1 ![] bcast_S_S8x2048x1 (constant S_ .f32 0x45000000#32))))) (subf (extf .f32 x0 bitsLt_bf16_f32) (broadcastInDim S8x2048x2048 ![0, 1, 2] bcast_S8x2048x1_S8x2048x2048_0_1_2 (Host.divf (broadcastInDim S8x2048x1 ![0, 1] bcast_S8x2048_S8x2048x1_0_1 (Host.reduceAdd (extf .f32 x0 bitsLt_bf16_f32) (constant S_ .f32 0x00000000#32) reducesTo_S8x2048x2048_S8x2048_d2 h_S_)) (broadcastInDim S8x2048x1 ![] bcast_S_S8x2048x1 (constant S_ .f32 0x45000000#32)))))) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ x1 shapeCasts_S1x2048_S2048)))) (broadcastInDim S8x2048x2048 ![0, 1, 2] bcast_S1x1x2048_S8x2048x2048_0_1_2 (broadcastInDim S1x1x2048 ![2] bcast_S2048_S1x1x2048_2 (shapeCast _ x2 shapeCasts_S1x2048_S2048))))))))) (shapeCast _ x3 shapeCasts_S1x2048x2048_S2048x2048)))

theorem res_apply (x0 : FVec Ideal S8x2048x2048 .bf16) (x1 : FVec Ideal S1x2048 .f32) (x2 : FVec Ideal S1x2048 .f32) (x3 : FVec Ideal S1x2048x2048 .f32) (x4 : FVec Ideal S8x2048x2048 .f32) (x5 : FVec Ideal S2x16x12288 .f32) (b : Fin 8) (r l : Fin 2048) : res x0 x1 x2 x3 x4 x5 (ix3 b r l)
    = Cert.OutIdeal.Hand.outAt (fun k => x0 (ix3 b r k)) (fun k => x1 (ix2 0 k)) (fun k => x2 (ix2 0 k)) (fun k => x3 (ix3 0 k l)) (x4 (ix3 b r l))
      (x5 (ix3 1 ⟨b.val, by omega⟩ ⟨4096 + l.val, by omega⟩)) := by
  unfold res Cert.OutIdeal.Hand.outAt Cert.OutIdeal.Hand.lnAt Cert.OutIdeal.Hand.meanAt
  pointwise
  rfl

end Cert.RefOutIdeal.Hand

namespace Cert.Proof

open Idealize.ShloMosaic Idealize.ShloMosaic.TcCoe Idealize.SL.Sem

open Cert.OutIdeal Cert.OutIdeal.Gen Cert.OutIdeal.Hand in
theorem out_ref (x0 : FVec Ideal S8x2048x2048 .bf16) (x1 x2 : FVec Ideal S1x2048 .f32) (x3 : FVec Ideal S1x2048x2048 .f32) (x4 : FVec Ideal S8x2048x2048 .f32)
    (x5 : FVec Ideal S2x16x12288 .f32) (b : Fin 8) (r l : Fin 2048) : Cert.RefOutIdeal.Hand.res x0 x1 x2 x3 x4 x5 (ix3 b r l)
      = prodAt x0 (shapeCast _ (shapeCast S2048 x1 shapeCasts_S1x2048_S2048) shapeCasts_S2048_S1x2048) (shapeCast _ (shapeCast S2048 x2 shapeCasts_S1x2048_S2048) shapeCasts_S2048_S1x2048)
          (shapeCast _ x3 shapeCasts_S1x2048x2048_S2048x2048) x4 (shapeCast _ x5 shapeCasts_S2x16x12288_S32x1x12288) b r l := by
  refine (Cert.RefOutIdeal.Hand.res_apply x0 x1 x2 x3 x4 x5 b r l).trans ?_
  unfold prodAt
  refine outAt_congr (fun k => rfl) (fun k => ?_) (fun k => ?_) (fun k => ?_) rfl (mod_row x5 b _).symm
  · pointwise
  · pointwise
  · pointwise

theorem algebraic_out : Cert.algebraic_OutIdeal_RefOutIdeal := by
  intro m ρ m' ρ' _ hargs
  refine ⟨fun c => Cert.OutIdeal.Hand.prod m c, ?_, ?_⟩
  · refine (θ_run Cert.OutIdeal.defs _ _).mono (fun r h c => ?_) (Cert.OutIdeal.Value.run_blocks (F := Ideal) m ρ)
    exact ⟨(h c).1.trans (Cert.OutIdeal.Hand.final m c), (h c).2⟩
  · refine (θ_run Cert.RefOutIdeal.defs _ _).mono (fun r h c => ?_) (Cert.RefOutIdeal.Value.run (F := Ideal) m' ρ')
    refine ⟨(h c).1.trans ?_, (h c).2⟩
    obtain ⟨a0, a1, a2, a3, a4, a5⟩ := hargs c
    show Cert.RefOutIdeal.Hand.res _ _ _ _ _ _ = _
    rw [a0, a1, a2, a3, a4, a5]
    funext i
    idx_vars i
    refine (out_ref _ _ _ _ _ _ i0 i1 i2).trans ?_
    unfold Cert.OutIdeal.Hand.prod
    rw [Cert.OutIdeal.Hand.entry_v, Cert.OutIdeal.Hand.entry_g, Cert.OutIdeal.Hand.entry_b, Cert.OutIdeal.Hand.entry_w, Cert.OutIdeal.Hand.entry_h, Cert.OutIdeal.Hand.entry_mod]
    rfl

end Cert.Proof

end
-- ==== Proof.ReadoutValue.lean ====
/- The recurrence readout's value claim: both directions summed, normalised head by head, gated by the projection's last
   section, multiplied by the weights rounded once at the first point and added, gated, to the residual. -/
module

public import proofs.«01_k».proof.Defs
public import proofs.«01_k».proof.Proof.Gen.ReadoutIdeal.Value
public import proofs.«01_k».proof.Proof.Gen.RefReadoutIdeal.Run
public import Idealize.ShloMosaic.Lib.Pointwise
public import Idealize.ShloMosaic.Lib.Claim

@[expose] public section

set_option maxRecDepth 16384

noncomputable section

namespace Cert.ReadoutIdeal.Hand

open Cert.ReadoutIdeal Cert.ReadoutIdeal.Gen Cert.ReadoutIdeal.Value Idealize.ShloMosaic Idealize.ShloMosaic.TcCoe Idealize.SL.Sem
open Idealize.ShloMosaic.Pipeline (Dat)

section Structure

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Position `j` of the head that position `k` lies in. -/
def hd (k : Fin 2048) (j : Fin 128) : Fin 2048 := ⟨k.val / 128 * 128 + j.val, by omega⟩

/-- One entry of the activations: the sum of both directions, normalised over its head, scaled and gated. -/
def actAt (f g p : Fin 2048 → EReal) (on : Fin 128 → EReal) (k : Fin 2048) : EReal :=
  (f k + g k)
    * Ideal.rsqrt (Ideal.div (∑ x : Fin 128, (f (hd k x) + g (hd k x)) * (f (hd k x) + g (hd k x))) (Ideal.ofBits FTy.f32 1124073472#32) + Ideal.ofBits FTy.f32 897988541#32)
    * on ⟨k.val % 128, by omega⟩ * (p k * Ideal.logistic (p k))

/-- The activations of a block of rows. -/
def act (f g : Vec Ideal S1x1x256x2048 .bf16) (p : Vec Ideal S1x256x2048 .bf16) (on : Vec Ideal S1x128 .f32) : Vec Ideal S256x2048 .bf16 := fun y =>
  actAt (fun k => f (ix4 0 0 (y 0) k)) (fun k => g (ix4 0 0 (y 0) k)) (fun k => p (ix3 0 (y 0) k)) (fun j => on (ix2 0 j)) (y 1)

theorem pay_act (f g : Vec Ideal S1x1x256x128 .bf16) (p : Vec Ideal S1x256x128 .bf16) (on : Vec Ideal S1x128 .f32)
    (r : Fin 256) (l : Fin 128) : k0_pay4 on f g p (ix2 r l)
      = (f (ix4 0 0 r l) + g (ix4 0 0 r l) : EReal)
        * Ideal.rsqrt (Ideal.div (∑ x : Fin 128, (f (ix4 0 0 r x) + g (ix4 0 0 r x) : EReal) * (f (ix4 0 0 r x) + g (ix4 0 0 r x))) (Ideal.ofBits FTy.f32 1124073472#32) + Ideal.ofBits FTy.f32 897988541#32)
        * on (ix2 0 l) * ((p (ix3 0 r l) : EReal) * Ideal.logistic (p (ix3 0 r l))) := by
  pointwise [k0_pay4, k0_pay3]

/-! Every head runs the first head's text. -/

section Heads
variable (f g : Vec Ideal S1x1x256x128 .bf16) (p : Vec Ideal S1x256x128 .bf16) (on : Vec Ideal S1x128 .f32)
theorem pay5 : k0_pay5 (k0_pay3 on) f g p = k0_pay4 on f g p := rfl
theorem pay8 : k0_pay8 (k0_pay3 on) (k0_pay6 f) (k0_pay7 g) p = k0_pay4 on f g p := rfl
theorem pay11 : k0_pay11 (k0_pay3 on) (k0_pay9 f g) (k0_pay10 f g) p = k0_pay4 on f g p := rfl
theorem pay13 : k0_pay13 (k0_pay12 (k0_pay3 on) f g p) = k0_pay4 on f g p := rfl
theorem pay14 : k0_pay14 (k0_pay3 on) f g p = k0_pay4 on f g p := rfl
theorem pay16 : k0_pay16 (k0_pay3 on) (k0_pay15 f) g p = k0_pay4 on f g p := rfl
theorem pay19 : k0_pay19 (k0_pay3 on) (k0_pay17 f g) (k0_pay18 f g) (FloatOps.ofBits FTy.f32 897988541#32) p = k0_pay4 on f g p := rfl
theorem pay23 : k0_pay23 (k0_pay20 (k0_pay3 on) f g) (k0_pay21 p) (k0_pay22 p) = k0_pay4 on f g p := rfl
theorem pay24 : k0_pay24 (k0_pay3 on) f g p = k0_pay4 on f g p := rfl
theorem pay25 : k0_pay25 (k0_pay3 on) f g p = k0_pay4 on f g p := rfl
theorem pay28 : k0_pay28 (k0_pay3 on) (k0_pay26 f g) (k0_pay27 f g) p = k0_pay4 on f g p := rfl
theorem pay30 : k0_pay30 (k0_pay29 (k0_pay3 on) f g) p = k0_pay4 on f g p := rfl
theorem pay31 : k0_pay31 (k0_pay3 on) f g p = k0_pay4 on f g p := rfl
theorem pay32 : k0_pay32 (k0_pay3 on) f g p = k0_pay4 on f g p := rfl
theorem pay34 : k0_pay34 (k0_pay3 on) (k0_pay33 f g) p = k0_pay4 on f g p := rfl
end Heads

/-- One head's strip of the activations is what the body stores there. -/
theorem piece (f g : Vec Ideal S1x1x256x2048 .bf16) (p : Vec Ideal S1x256x2048 .bf16) (on : Vec Ideal S1x128 .f32) (e o : ℕ) (ho : o = e * 128) (he : e < 16)
    (i4 : ∀ a, (![0, 0, 0, o] : Fin 4 → ℕ) a + (![1, 1, 256, 128] : Fin 4 → ℕ) a ≤ S1x1x256x2048.size a)
    (i3 : ∀ a, (![0, 0, o] : Fin 3 → ℕ) a + (![1, 256, 128] : Fin 3 → ℕ) a ≤ S1x256x2048.size a)
    (i2 : ∀ a, (![0, o] : Fin 2 → ℕ) a + (![256, 128] : Fin 2 → ℕ) a ≤ S256x2048.size a)
    (x : (Rect.unit (s := S256x2048) ![0, o] ![256, 128] i2).shape.Idx) :
    k0_pay4 on (View.ld f (Rect.unit ![0, 0, 0, o] ![1, 1, 256, 128] i4)) (View.ld g (Rect.unit ![0, 0, 0, o] ![1, 1, 256, 128] i4))
        (View.ld p (Rect.unit ![0, 0, o] ![1, 256, 128] i3)) x
      = act f g p on ((Rect.unit ![0, o] ![256, 128] i2).emb x) := by
  subst ho
  revert x
  intro (x : S256x128.Idx)
  idx_vars x
  refine (pay_act _ _ _ _ x0 x1).trans ?_
  have h4 : ∀ (r : Fin 256) (l : Fin 128), (Rect.unit (s := S1x1x256x2048) ![0, 0, 0, e * 128] ![1, 1, 256, 128] i4).emb (ix4 (0 : Fin 1) (0 : Fin 1) r l)
      = ix4 (0 : Fin 1) (0 : Fin 1) r (⟨e * 128 + l.val, by omega⟩ : Fin 2048) := by
    intro r l
    funext a; apply Fin.ext
    match a with
    | ⟨0, _⟩ => rfl
    | ⟨1, _⟩ => rfl
    | ⟨2, _⟩ => show 0 + 1 * r.val = r.val; omega
    | ⟨3, _⟩ => show e * 128 + 1 * l.val = e * 128 + l.val; omega
  have h3 : ∀ (r : Fin 256) (l : Fin 128), (Rect.unit (s := S1x256x2048) ![0, 0, e * 128] ![1, 256, 128] i3).emb (ix3 (0 : Fin 1) r l)
      = ix3 (0 : Fin 1) r (⟨e * 128 + l.val, by omega⟩ : Fin 2048) := by
    intro r l
    funext a; apply Fin.ext
    match a with
    | ⟨0, _⟩ => rfl
    | ⟨1, _⟩ => show 0 + 1 * r.val = r.val; omega
    | ⟨2, _⟩ => show e * 128 + 1 * l.val = e * 128 + l.val; omega
  have h2 : (Rect.unit (s := S256x2048) ![0, e * 128] ![256, 128] i2).emb (ix2 x0 x1) = ix2 x0 (⟨e * 128 + x1.val, by omega⟩ : Fin 2048) := by
    funext a; apply Fin.ext
    match a with
    | ⟨0, _⟩ => show 0 + 1 * x0.val = x0.val; omega
    | ⟨1, _⟩ => show e * 128 + 1 * x1.val = e * 128 + x1.val; omega
  have hf : ∀ l, View.ld f (Rect.unit ![0, 0, 0, e * 128] ![1, 1, 256, 128] i4) (ix4 (0 : Fin 1) (0 : Fin 1) x0 l) = f (ix4 (0 : Fin 1) (0 : Fin 1) x0 (⟨e * 128 + l.val, by omega⟩ : Fin 2048)) :=
    fun l => congrArg f (h4 x0 l)
  have hg : ∀ l, View.ld g (Rect.unit ![0, 0, 0, e * 128] ![1, 1, 256, 128] i4) (ix4 (0 : Fin 1) (0 : Fin 1) x0 l) = g (ix4 (0 : Fin 1) (0 : Fin 1) x0 (⟨e * 128 + l.val, by omega⟩ : Fin 2048)) :=
    fun l => congrArg g (h4 x0 l)
  have hp : View.ld p (Rect.unit ![0, 0, e * 128] ![1, 256, 128] i3) (ix3 (0 : Fin 1) x0 x1) = p (ix3 (0 : Fin 1) x0 (⟨e * 128 + x1.val, by omega⟩ : Fin 2048)) :=
    congrArg p (h3 x0 x1)
  have hh : ∀ j : Fin 128, hd (⟨e * 128 + x1.val, by omega⟩ : Fin 2048) j = (⟨e * 128 + j.val, by omega⟩ : Fin 2048) := fun j => by
    apply Fin.ext
    show (e * 128 + x1.val) / 128 * 128 + j.val = e * 128 + j.val
    omega
  have hm : (⟨(e * 128 + x1.val) % 128, by omega⟩ : Fin 128) = x1 := by apply Fin.ext; show (e * 128 + x1.val) % 128 = x1.val; omega
  rw [h2]
  show _ = actAt (fun k => f (ix4 0 0 x0 k)) (fun k => g (ix4 0 0 x0 k)) (fun k => p (ix3 0 x0 k)) (fun j => on (ix2 0 j)) (⟨e * 128 + x1.val, by omega⟩ : Fin 2048)
  unfold actAt
  simp only [hf, hg, hp, hh, hm]

theorem scratch_A (c i a2 h2 a3 h3 a4 h4 a5 h5 a6 h6 a7 h7 a8 h8 a9 h9 a10 h10 a11 h11 hc) (f g : Vec Ideal S1x1x256x2048 .bf16) (p : Vec Ideal S1x256x2048 .bf16) (on : Vec Ideal S1x128 .f32) (w : Vec Ideal S2048x2048 .f32) (h : Vec Ideal S1x256x2048 .f32) (q : Vec Ideal S1x1x2048 .f32) :
    sout0_A_0 c i a2 h2 a3 h3 a4 h4 a5 h5 a6 h6 a7 h7 a8 h8 a9 h9 a10 h10 a11 h11 hc f g p on w h q = k0_pay2 w := by
  unfold sout0_A_0
  rw [View.read_writes_eq_canon _ _ _ (scover0_A_0 c i a2 h2 a3 h3 a4 h4 a5 h5 a6 h6 a7 h7 a8 h8 a9 h9 a10 h10 a11 h11 hc f g p on w h q)]
  unfold kernelRun0_A
  dsimp only
  sl_unfold_words
  rw [View.canon_unit_zero hz2]
  simp only [View.readAt_eq_ld, h6.read_unread, View.ld_unit_zero (S := S2048x2048) hz2]

/-- The activations read back whole. -/
theorem read_act {sp : Space} (v : View sig .tc sp S256x2048 .bf16) (L : List (View.Piece (Elt Ideal) S256x2048 .bf16)) (u : Vec Ideal S256x2048 .bf16)
    (hL : ∀ q ∈ L, ∀ x : q.1.shape.Idx, q.2 x = u (q.1.emb x)) (hc : View.Piece.tiled L ![256, 128] = true)
    (ib : ∀ a, (![0, 0] : Fin 2 → ℕ) a + (![256, 2048] : Fin 2 → ℕ) a ≤ S256x2048.size a) :
    v.readCov L (Rect.unit ![0, 0] ![256, 2048] ib).toLoadRect = u := by
  rw [View.readCov_eq_canon']
  funext j
  refine (View.canon_apply_of_pieces u L hL _ (View.cover_of_tiled L _ hc _)).trans ?_
  congr 1
  funext a; apply Fin.ext
  match a with
  | ⟨0, _⟩ => show 0 + 1 * (j 0).val = (j 0).val; omega
  | ⟨1, _⟩ => show 0 + 1 * (j 1).val = (j 1).val; omega

theorem out_A (c i a2 h2 a3 h3 a4 h4 a5 h5 a6 h6 a7 h7 a8 h8 a9 h9 a10 h10 a11 h11 hc) (f g : Vec Ideal S1x1x256x2048 .bf16) (p : Vec Ideal S1x256x2048 .bf16) (on : Vec Ideal S1x128 .f32) (w : Vec Ideal S2048x2048 .f32) (h : Vec Ideal S1x256x2048 .f32) (q : Vec Ideal S1x1x2048 .f32) :
    out0_A_7 c i a2 h2 a3 h3 a4 h4 a5 h5 a6 h6 a7 h7 a8 h8 a9 h9 a10 h10 a11 h11 hc f g p on w h q = k0_pay1 (k0_pay35 (act f g p on) (k0_pay2 w)) (k0_pay36 h) q := by
  unfold out0_A_7
  rw [View.read_writes_eq_canon _ _ _ (cover0_A_7 c i a2 h2 a3 h3 a4 h4 a5 h5 a6 h6 a7 h7 a8 h8 a9 h9 a10 h10 a11 h11 hc f g p on w h q)]
  unfold kernelRun0_A
  dsimp only
  sl_unfold_words
  rw [View.canon_unit_zero hz3]
  simp only [View.readAt_eq_ld, h2.read_unread, h3.read_unread, h4.read_unread, h5.read_unread, h6.read_unread, h7.read_unread, h8.read_unread, View.readCov_unit_zero (S := S2048x2048) _ hz2,
    View.ld_unit_zero (S := S2048x2048) hz2, View.ld_unit_zero (S := S1x128) hz2,
    View.ld_unit_zero (S := S1x256x2048) hz3, View.ld_unit_zero (S := S1x1x2048) hz3]
  simp only [pay5, pay8, pay11, pay13, pay14, pay16, pay19, pay23, pay24, pay25, pay28, pay30, pay31, pay32, pay34]
  congr 2
  refine read_act _ _ _ ?_ rfl _
  intro q hq
  simp only [List.mem_cons, List.not_mem_nil, or_false] at hq
  rcases hq with rfl | rfl | rfl | rfl | rfl | rfl | rfl | rfl | rfl | rfl | rfl | rfl | rfl | rfl | rfl | rfl <;> intro x
  · exact piece f g p on 15 1920 rfl (by omega) _ _ inb_S256x2048_S256x128_0_1920 x
  · exact piece f g p on 14 1792 rfl (by omega) _ _ inb_S256x2048_S256x128_0_1792 x
  · exact piece f g p on 13 1664 rfl (by omega) _ _ inb_S256x2048_S256x128_0_1664 x
  · exact piece f g p on 12 1536 rfl (by omega) _ _ inb_S256x2048_S256x128_0_1536 x
  · exact piece f g p on 11 1408 rfl (by omega) _ _ inb_S256x2048_S256x128_0_1408 x
  · exact piece f g p on 10 1280 rfl (by omega) _ _ inb_S256x2048_S256x128_0_1280 x
  · exact piece f g p on 9 1152 rfl (by omega) _ _ inb_S256x2048_S256x128_0_1152 x
  · exact piece f g p on 8 1024 rfl (by omega) _ _ inb_S256x2048_S256x128_0_1024 x
  · exact piece f g p on 7 896 rfl (by omega) _ _ inb_S256x2048_S256x128_0_896 x
  · exact piece f g p on 6 768 rfl (by omega) _ _ inb_S256x2048_S256x128_0_768 x
  · exact piece f g p on 5 640 rfl (by omega) _ _ inb_S256x2048_S256x128_0_640 x
  · exact piece f g p on 4 512 rfl (by omega) _ _ inb_S256x2048_S256x128_0_512 x
  · exact piece f g p on 3 384 rfl (by omega) _ _ inb_S256x2048_S256x128_0_384 x
  · exact piece f g p on 2 256 rfl (by omega) _ _ inb_S256x2048_S256x128_0_256 x
  · exact piece f g p on 1 128 rfl (by omega) _ _ inb_S256x2048_S256x128_0_128 x
  · exact piece f g p on 0 0 rfl (by omega) _ _ inb_S256x2048_S256x128_0_0 x

theorem out_B (c i a2 h2 a3 h3 a4 h4 a5 h5 a6 h6 a7 h7 a8 h8 a9 h9 a10 h10 a11 h11 hc) (f g : Vec Ideal S1x1x256x2048 .bf16) (p : Vec Ideal S1x256x2048 .bf16) (on : Vec Ideal S1x128 .f32) (w : Vec Ideal S2048x2048 .f32) (h : Vec Ideal S1x256x2048 .f32) (q : Vec Ideal S1x1x2048 .f32) (s : Vec Ideal S2048x2048 .bf16) :
    out0_B_7 c i a2 h2 a3 h3 a4 h4 a5 h5 a6 h6 a7 h7 a8 h8 a9 h9 a10 h10 a11 h11 hc f g p on w h q s = k0_pay1 (k0_pay35 (act f g p on) s) (k0_pay36 h) q := by
  unfold out0_B_7
  rw [View.read_writes_eq_canon _ _ _ (cover0_B_7 c i a2 h2 a3 h3 a4 h4 a5 h5 a6 h6 a7 h7 a8 h8 a9 h9 a10 h10 a11 h11 hc f g p on w h q s)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h10.read_unread,
    View.ld_unit_zero (S := S2048x2048) hz2, View.ld_unit_zero (S := S1x128) hz2,
    View.ld_unit_zero (S := S1x256x2048) hz3, View.ld_unit_zero (S := S1x1x2048) hz3]
  simp only [pay5, pay8, pay11, pay13, pay14, pay16, pay19, pay23, pay24, pay25, pay28, pay30, pay31, pay32, pay34]
  congr 2
  refine read_act _ _ _ ?_ rfl _
  intro q hq
  simp only [List.mem_cons, List.not_mem_nil, or_false] at hq
  rcases hq with rfl | rfl | rfl | rfl | rfl | rfl | rfl | rfl | rfl | rfl | rfl | rfl | rfl | rfl | rfl | rfl <;> intro x
  · exact piece f g p on 15 1920 rfl (by omega) _ _ inb_S256x2048_S256x128_0_1920 x
  · exact piece f g p on 14 1792 rfl (by omega) _ _ inb_S256x2048_S256x128_0_1792 x
  · exact piece f g p on 13 1664 rfl (by omega) _ _ inb_S256x2048_S256x128_0_1664 x
  · exact piece f g p on 12 1536 rfl (by omega) _ _ inb_S256x2048_S256x128_0_1536 x
  · exact piece f g p on 11 1408 rfl (by omega) _ _ inb_S256x2048_S256x128_0_1408 x
  · exact piece f g p on 10 1280 rfl (by omega) _ _ inb_S256x2048_S256x128_0_1280 x
  · exact piece f g p on 9 1152 rfl (by omega) _ _ inb_S256x2048_S256x128_0_1152 x
  · exact piece f g p on 8 1024 rfl (by omega) _ _ inb_S256x2048_S256x128_0_1024 x
  · exact piece f g p on 7 896 rfl (by omega) _ _ inb_S256x2048_S256x128_0_896 x
  · exact piece f g p on 6 768 rfl (by omega) _ _ inb_S256x2048_S256x128_0_768 x
  · exact piece f g p on 5 640 rfl (by omega) _ _ inb_S256x2048_S256x128_0_640 x
  · exact piece f g p on 4 512 rfl (by omega) _ _ inb_S256x2048_S256x128_0_512 x
  · exact piece f g p on 3 384 rfl (by omega) _ _ inb_S256x2048_S256x128_0_384 x
  · exact piece f g p on 2 256 rfl (by omega) _ _ inb_S256x2048_S256x128_0_256 x
  · exact piece f g p on 1 128 rfl (by omega) _ _ inb_S256x2048_S256x128_0_128 x
  · exact piece f g p on 0 0 rfl (by omega) _ _ inb_S256x2048_S256x128_0_0 x

theorem index0 : ∀ t : Fin cfg0.N, win0_0.index t (0 : Fin 4) = 0 ∧ win0_0.index t (1 : Fin 4) = t.val / 8 ∧ win0_0.index t (2 : Fin 4) = t.val % 8 ∧ win0_0.index t (3 : Fin 4) = 0 :=
  (by decide +kernel : ∀ t : Fin grid0.N, _)
theorem index1 : ∀ t : Fin cfg0.N, win0_1.index t (0 : Fin 4) = 1 ∧ win0_1.index t (1 : Fin 4) = t.val / 8 ∧ win0_1.index t (2 : Fin 4) = t.val % 8 ∧ win0_1.index t (3 : Fin 4) = 0 :=
  (by decide +kernel : ∀ t : Fin grid0.N, _)
theorem index2 : ∀ t : Fin cfg0.N, win0_2.index t (0 : Fin 3) = t.val / 8 ∧ win0_2.index t (1 : Fin 3) = t.val % 8 ∧ win0_2.index t (2 : Fin 3) = 4 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)
theorem index6 : ∀ t : Fin cfg0.N, win0_6.index t (0 : Fin 3) = t.val / 8 ∧ win0_6.index t (1 : Fin 3) = 0 ∧ win0_6.index t (2 : Fin 3) = 2 :=
  (by decide +kernel : ∀ t : Fin grid0.N, _)
theorem index7 : ∀ t : Fin cfg0.N, win0_7.index t (0 : Fin 3) = t.val / 8 ∧ win0_7.index t (1 : Fin 3) = t.val % 8 ∧ win0_7.index t (2 : Fin 3) = 0 :=
  (by decide +kernel : ∀ t : Fin grid0.N, _)

theorem blk0 (c : Dev nD) (t : Fin cfg0.N) (i0 : Fin 1) (i1 : Fin 1) (i2 : Fin 256) (i3 : Fin 2048) (h0 : 0 + i0.val < 2) (h1 : t.val / 8 + i1.val < 8) (h2 : t.val % 8 * 256 + i2.val < 2048) :
    (iblk m c 0 t : Vec Ideal S1x1x256x2048 .bf16) (ix4 i0 i1 i2 i3) = V m c main_arg0 (ix4 ⟨0 + i0.val, h0⟩ ⟨t.val / 8 + i1.val, h1⟩ ⟨t.val % 8 * 256 + i2.val, h2⟩ i3) := by
  have e := index0 t
  unfold iblk
  rw [View.read_apply]
  show V m c main_arg0 _ = V m c main_arg0 _
  congr 1
  funext a
  apply Fin.ext
  match a with
  | ⟨0, _⟩ => show win0_0.index t 0 * 1 + 1 * i0.val = 0 + i0.val; rw [e.1]; omega
  | ⟨1, _⟩ => show win0_0.index t 1 * 1 + 1 * i1.val = t.val / 8 + i1.val; rw [e.2.1]; omega
  | ⟨2, _⟩ => show win0_0.index t 2 * 256 + 1 * i2.val = t.val % 8 * 256 + i2.val; rw [e.2.2.1]; omega
  | ⟨3, _⟩ => show win0_0.index t 3 * 2048 + 1 * i3.val = i3.val; rw [e.2.2.2]; omega

theorem blk1 (c : Dev nD) (t : Fin cfg0.N) (i0 : Fin 1) (i1 : Fin 1) (i2 : Fin 256) (i3 : Fin 2048) (h0 : 1 + i0.val < 2) (h1 : t.val / 8 + i1.val < 8) (h2 : t.val % 8 * 256 + i2.val < 2048) :
    (iblk m c 1 t : Vec Ideal S1x1x256x2048 .bf16) (ix4 i0 i1 i2 i3) = V m c main_arg0 (ix4 ⟨1 + i0.val, h0⟩ ⟨t.val / 8 + i1.val, h1⟩ ⟨t.val % 8 * 256 + i2.val, h2⟩ i3) := by
  have e := index1 t
  unfold iblk
  rw [View.read_apply]
  show V m c main_arg0 _ = V m c main_arg0 _
  congr 1
  funext a
  apply Fin.ext
  match a with
  | ⟨0, _⟩ => show win0_1.index t 0 * 1 + 1 * i0.val = 1 + i0.val; rw [e.1]; omega
  | ⟨1, _⟩ => show win0_1.index t 1 * 1 + 1 * i1.val = t.val / 8 + i1.val; rw [e.2.1]; omega
  | ⟨2, _⟩ => show win0_1.index t 2 * 256 + 1 * i2.val = t.val % 8 * 256 + i2.val; rw [e.2.2.1]; omega
  | ⟨3, _⟩ => show win0_1.index t 3 * 2048 + 1 * i3.val = i3.val; rw [e.2.2.2]; omega

theorem blk2 (c : Dev nD) (t : Fin cfg0.N) (i0 : Fin 1) (i1 : Fin 256) (i2 : Fin 2048) (h0 : t.val / 8 + i0.val < 8) (h1 : t.val % 8 * 256 + i1.val < 2048) (h2 : 8192 + i2.val < 10240) :
    (iblk m c 2 t : Vec Ideal S1x256x2048 .bf16) (ix3 i0 i1 i2) = V m c main_arg1 (ix3 ⟨t.val / 8 + i0.val, h0⟩ ⟨t.val % 8 * 256 + i1.val, h1⟩ ⟨8192 + i2.val, h2⟩) := by
  have e := index2 t
  unfold iblk
  rw [View.read_apply]
  show V m c main_arg1 _ = V m c main_arg1 _
  congr 1
  funext a
  apply Fin.ext
  match a with
  | ⟨0, _⟩ => show win0_2.index t 0 * 1 + 1 * i0.val = t.val / 8 + i0.val; rw [e.1]; omega
  | ⟨1, _⟩ => show win0_2.index t 1 * 256 + 1 * i1.val = t.val % 8 * 256 + i1.val; rw [e.2.1]; omega
  | ⟨2, _⟩ => show win0_2.index t 2 * 2048 + 1 * i2.val = 8192 + i2.val; rw [e.2.2]; omega

theorem blk3 (c : Dev nD) (t : Fin cfg0.N) (i0 : Fin 1) (i1 : Fin 128)  :
    (iblk m c 3 t : Vec Ideal S1x128 .f32) (ix2 i0 i1) = V m c main_v3 (ix2 i0 i1) := by
  have e := index3 t
  unfold iblk
  rw [View.read_apply]
  show V m c main_v3 _ = V m c main_v3 _
  congr 1
  funext a
  apply Fin.ext
  match a with
  | ⟨0, _⟩ => show win0_3.index t 0 * 1 + 1 * i0.val = i0.val; rw [e.1]; omega
  | ⟨1, _⟩ => show win0_3.index t 1 * 128 + 1 * i1.val = i1.val; rw [e.2]; omega

theorem blk4 (c : Dev nD) (t : Fin cfg0.N) (i0 : Fin 2048) (i1 : Fin 2048)  :
    (iblk m c 4 t : Vec Ideal S2048x2048 .f32) (ix2 i0 i1) = V m c main_v2 (ix2 i0 i1) := by
  have e := index4 t
  unfold iblk
  rw [View.read_apply]
  show V m c main_v2 _ = V m c main_v2 _
  congr 1
  funext a
  apply Fin.ext
  match a with
  | ⟨0, _⟩ => show win0_4.index t 0 * 2048 + 1 * i0.val = i0.val; rw [e.1]; omega
  | ⟨1, _⟩ => show win0_4.index t 1 * 2048 + 1 * i1.val = i1.val; rw [e.2]; omega

theorem blk5 (c : Dev nD) (t : Fin cfg0.N) (i0 : Fin 1) (i1 : Fin 256) (i2 : Fin 2048) (h0 : t.val / 8 + i0.val < 8) (h1 : t.val % 8 * 256 + i1.val < 2048) :
    (iblk m c 5 t : Vec Ideal S1x256x2048 .f32) (ix3 i0 i1 i2) = V m c main_arg4 (ix3 ⟨t.val / 8 + i0.val, h0⟩ ⟨t.val % 8 * 256 + i1.val, h1⟩ i2) := by
  have e := index5 t
  unfold iblk
  rw [View.read_apply]
  show V m c main_arg4 _ = V m c main_arg4 _
  congr 1
  funext a
  apply Fin.ext
  match a with
  | ⟨0, _⟩ => show win0_5.index t 0 * 1 + 1 * i0.val = t.val / 8 + i0.val; rw [e.1]; omega
  | ⟨1, _⟩ => show win0_5.index t 1 * 256 + 1 * i1.val = t.val % 8 * 256 + i1.val; rw [e.2.1]; omega
  | ⟨2, _⟩ => show win0_5.index t 2 * 2048 + 1 * i2.val = i2.val; rw [e.2.2]; omega

theorem blk6 (c : Dev nD) (t : Fin cfg0.N) (i0 : Fin 1) (i1 : Fin 1) (i2 : Fin 2048) (h0 : t.val / 8 + i0.val < 32) (h2 : 4096 + i2.val < 12288) :
    (iblk m c 6 t : Vec Ideal S1x1x2048 .f32) (ix3 i0 i1 i2) = V m c main_v0 (ix3 ⟨t.val / 8 + i0.val, h0⟩ i1 ⟨4096 + i2.val, h2⟩) := by
  have e := index6 t
  unfold iblk
  rw [View.read_apply]
  show V m c main_v0 _ = V m c main_v0 _
  congr 1
  funext a
  apply Fin.ext
  match a with
  | ⟨0, _⟩ => show win0_6.index t 0 * 1 + 1 * i0.val = t.val / 8 + i0.val; rw [e.1]; omega
  | ⟨1, _⟩ => show win0_6.index t 1 * 1 + 1 * i1.val = i1.val; rw [e.2.1]; omega
  | ⟨2, _⟩ => show win0_6.index t 2 * 2048 + 1 * i2.val = 4096 + i2.val; rw [e.2.2]; omega

/-- The weight block is the same at every point. -/
theorem blk4_congr (c : Dev nD) (t t' : Fin cfg0.N) : (iblk m c 4 t : Vec Ideal S2048x2048 .f32) = iblk m c 4 t' := by
  funext j
  idx_vars j
  rw [blk4 m c t j0 j1, blk4 m c t' j0 j1]

/-- What a point leaves. -/
theorem left (c : Dev nD) : ∀ (n : ℕ) (h : n < cfg0.N), outsAt0 m c n h
    = (k0_pay1 (k0_pay35 (act (iblk m c 0 ⟨n, h⟩) (iblk m c 1 ⟨n, h⟩) (iblk m c 2 ⟨n, h⟩) (iblk m c 3 ⟨n, h⟩)) (k0_pay2 (iblk m c 4 ⟨n, h⟩))) (k0_pay36 (iblk m c 5 ⟨n, h⟩)) (iblk m c 6 ⟨n, h⟩), k0_pay2 (iblk m c 4 ⟨n, h⟩))
  := by
  intro n
  induction n with
  | zero =>
    intro h
    rw [outsAt0_A m c ⟨0, h⟩ rfl, out_A, scratch_A]
  | succ n ih =>
    intro h
    have hN : cfg0.N = 64 := N_0
    have h0 : ¬ (n + 1) % 64 = 0 := by omega
    rw [outsAt0_B m c ⟨n + 1, h⟩ h0, out_B]
    unfold sout0_B_0
    have e := ih (Nat.lt_of_succ_lt h)
    have e1 : (outsAt0 m c n (Nat.lt_of_succ_lt h)).2 = k0_pay2 (iblk m c 4 ⟨n + 1, h⟩) := by
      rw [e, blk4_congr m c ⟨n, Nat.lt_of_succ_lt h⟩ ⟨n + 1, h⟩]
    have e2 : (outsAt0 m c ((⟨n + 1, h⟩ : Fin cfg0.N).val - 1) (Nat.lt_of_le_of_lt (Nat.sub_le _ _) h)).2
        = k0_pay2 (iblk m c 4 ⟨n + 1, h⟩) := e1
    rw [e2]

end Structure

variable (m : (ℓ : Loc nD τ sig) → Buf (Elt Ideal) ℓ) (ρ : Dev nD → PrngReg)

/-- One entry of the result. -/
def outAt (f g p : Fin 2048 → EReal) (on : Fin 128 → EReal) (w : Fin 2048 → EReal) (h gate : EReal) : EReal :=
  h + gate * ∑ k, actAt f g p on k * w k

def prodAt (o : Vec Ideal S2x8x2048x2048 .bf16) (p : Vec Ideal S8x2048x10240 .bf16) (on : Vec Ideal S1x128 .f32) (w : Vec Ideal S2048x2048 .f32)
    (h : Vec Ideal S8x2048x2048 .f32) (mod : Vec Ideal S32x1x12288 .f32) (b : Fin 8) (r l : Fin 2048) : EReal :=
  outAt (fun k => o (ix4 0 b r k)) (fun k => o (ix4 1 b r k)) (fun k => p (ix3 b r ⟨8192 + k.val, by omega⟩)) (fun j => on (ix2 0 j)) (fun k => w (ix2 k l)) (h (ix3 b r l))
    (mod (ix3 ⟨b.val, by omega⟩ 0 ⟨4096 + l.val, by omega⟩))

/-- The result array. -/
def prod (c : Dev nD) : Buf (Elt Ideal) ((c : Thread nD τ).loc main_v4) := fun i =>
  prodAt (V m c main_arg0) (V m c main_arg1) (V m c main_v3) (V m c main_v2) (V m c main_arg4) (V m c main_v0) (i 0) (i 1) (i 2)

theorem pay_apply (a : Vec Ideal S256x2048 .bf16) (w : Vec Ideal S2048x2048 .f32) (h : Vec Ideal S1x256x2048 .f32) (q : Vec Ideal S1x1x2048 .f32)
    (r : Fin 256) (l : Fin 2048) : k0_pay1 (k0_pay35 a (k0_pay2 w)) (k0_pay36 h) q (ix3 0 r l)
      = (h (ix3 0 r l) + q (ix3 0 0 l) * ∑ k : Fin 2048, (a (ix2 r k) : EReal) * (w (ix2 k l) : EReal) : EReal) := by
  pointwise [k0_pay1, k0_pay35, k0_pay36, k0_pay2]

theorem outAt_congr {f f' g g' p p' w w' : Fin 2048 → EReal} {on on' : Fin 128 → EReal} {h h' q q' : EReal} (e1 : ∀ k, f k = f' k) (e2 : ∀ k, g k = g' k)
    (e3 : ∀ k, p k = p' k) (e4 : ∀ k, on k = on' k) (e5 : ∀ k, w k = w' k) (e6 : h = h') (e7 : q = q') : outAt f g p on w h q = outAt f' g' p' on' w' h' q' := by
  rw [funext e1, funext e2, funext e3, funext e4, funext e5, e6, e7]

theorem flushed_eq (c : Dev nD) (t : Fin cfg0.N) (hf : (cfg0.win 7).flush t = true) :
    (dats m 0 c).flushed 7 t = ((cfg0.win 7).blk t).view.read (Elt Ideal) (prod m c) := by
  have hN : cfg0.N = 64 := N_0
  have ht := t.isLt
  show (cfg0.win 7).cut (grid0.coords t) ((dats m 0 c).after 7 t) = _
  rw [after0_7, left]
  have e := index7 t
  funext y
  have hy0 : (y 0).val < 1 := (y 0).isLt
  have hy1 : (y 1).val < 256 := (y 1).isLt
  have hy2 : (y 2).val < 2048 := (y 2).isLt
  rw [View.read_apply]
  show k0_pay1 _ _ _ ((cfg0.win 7).xinj (grid0.coords t) y) = _
  have hx : (cfg0.win 7).xinj (grid0.coords t) y = ix3 (0 : Fin 1) (⟨(y 1).val, hy1⟩ : Fin 256) (⟨(y 2).val, hy2⟩ : Fin 2048) := by
    funext a; apply Fin.ext
    match a with
    | ⟨0, _⟩ => show (y 0).val = 0; omega
    | ⟨1, _⟩ => rfl
    | ⟨2, _⟩ => rfl
  have hi : ((cfg0.win 7).blk t).view.emb y = ix3 (⟨t.val / 8 + (0 : Fin 1).val, by show t.val / 8 + 0 < 8; omega⟩ : Fin 8) (⟨t.val % 8 * 256 + (y 1).val, by omega⟩ : Fin 2048) (⟨(y 2).val, hy2⟩ : Fin 2048) := by
    funext a; apply Fin.ext
    match a with
    | ⟨0, _⟩ => show win0_7.index t 0 * 1 + 1 * (y 0).val = t.val / 8 + 0; rw [e.1]; omega
    | ⟨1, _⟩ => show win0_7.index t 1 * 256 + 1 * (y 1).val = t.val % 8 * 256 + (y 1).val; rw [e.2.1]; omega
    | ⟨2, _⟩ => show win0_7.index t 2 * 2048 + 1 * (y 2).val = (y 2).val; rw [e.2.2]; omega
  rw [hx, hi]
  refine (pay_apply _ _ _ _ _ _).trans ?_
  show outAt (fun k => iblk m c 0 t (ix4 0 0 _ k)) (fun k => iblk m c 1 t (ix4 0 0 _ k)) (fun k => iblk m c 2 t (ix3 0 _ k)) (fun j => iblk m c 3 t (ix2 0 j))
    (fun k => iblk m c 4 t (ix2 k _)) _ _ = prodAt _ _ _ _ _ _ _ _ _
  refine outAt_congr (fun k => ?_) (fun k => ?_) (fun k => ?_) (fun k => ?_) (fun k => ?_) ?_ ?_
  · exact blk0 m c t 0 0 _ k (by decide) _ _
  · exact blk1 m c t 0 0 _ k (by decide) _ _
  · exact blk2 m c t 0 _ k _ _ _
  · exact blk3 m c t 0 k
  · exact blk4 m c t k _
  · exact blk5 m c t 0 _ _ _ _
  · exact blk6 m c t 0 0 _ (by show t.val / 8 + 0 < 32; omega) (by show 4096 + (y 2).val < 12288; omega)

theorem final (c : Dev nD) : (dats m 0 c).arrAt 7 cfg0.N = prod m c :=
  (dats m 0 c).arrAt_eq_of_cover 7 _ (fun t hf => flushed_eq m c t hf) (fun i => (covered_iff7 i).2 (by
    have h0 : (i 0).val < 8 := (i 0).isLt; have h1 : (i 1).val < 2048 := (i 1).isLt; have h2 : (i 2).val < 2048 := (i 2).isLt; omega))

theorem entry_o (c : Dev nD) : (V m c main_arg0 : Vec Ideal S2x8x2048x2048 .bf16) = m ((c : Thread nD τ).loc main_arg0) := by
  entry_read; rfl
theorem entry_p (c : Dev nD) : (V m c main_arg1 : Vec Ideal S8x2048x10240 .bf16) = m ((c : Thread nD τ).loc main_arg1) := by
  entry_read; rfl
theorem entry_on (c : Dev nD) : (V m c main_v3 : Vec Ideal S1x128 .f32)
    = shapeCast _ (shapeCast S128 (m ((c : Thread nD τ).loc main_arg2) : Vec Ideal S1x128 .f32) shapeCasts_S1x128_S128) shapeCasts_S128_S1x128 := by
  entry_read; rfl
theorem entry_w (c : Dev nD) : (V m c main_v2 : Vec Ideal S2048x2048 .f32)
    = shapeCast _ (m ((c : Thread nD τ).loc main_arg3) : Vec Ideal S1x2048x2048 .f32) shapeCasts_S1x2048x2048_S2048x2048 := by
  entry_read; rfl
theorem entry_h (c : Dev nD) : (V m c main_arg4 : Vec Ideal S8x2048x2048 .f32) = m ((c : Thread nD τ).loc main_arg4) := by
  entry_read; rfl
theorem entry_mod (c : Dev nD) : (V m c main_v0 : Vec Ideal S32x1x12288 .f32)
    = shapeCast _ (m ((c : Thread nD τ).loc main_arg5) : Vec Ideal S2x16x12288 .f32) shapeCasts_S2x16x12288_S32x1x12288 := by
  entry_read; rfl

/-- Row `b` of the flattened modulation table is row `b` of the first layer's. -/
theorem mod_row (x : FVec Ideal S2x16x12288 .f32) (b : Fin 8) (l : Fin 12288) :
    shapeCast S32x1x12288 x shapeCasts_S2x16x12288_S32x1x12288 (ix3 ⟨b.val, by omega⟩ 0 l) = x (ix3 0 ⟨b.val, by omega⟩ l) := by
  pointwise
  congr 1
  funext a
  apply Fin.ext
  match a with
  | ⟨0, _⟩ => show b.val / 16 = 0; omega
  | ⟨1, _⟩ => show b.val % 16 = b.val; omega
  | ⟨2, _⟩ => rfl

end Cert.ReadoutIdeal.Hand

namespace Cert.RefReadoutIdeal.Hand

open Idealize.ShloMosaic Idealize.ShloMosaic.TcCoe Idealize.SL.Sem Cert.RefReadoutIdeal Cert.RefReadoutIdeal.Gen

/-- The reference's result as a term of its arguments. -/
def res (x0 : FVec Ideal S2x8x2048x2048 .bf16) (x1 : FVec Ideal S8x2048x10240 .bf16) (x2 : FVec Ideal S1x128 .f32) (x3 : FVec Ideal S1x2048x2048 .f32) (x4 : FVec Ideal S8x2048x2048 .f32) (x5 : FVec Ideal S2x16x12288 .f32) : FVec Ideal S8x2048x2048 .f32 :=
  addf x4 (mulf (broadcastInDim S8x2048x2048 ![0, 1, 2] bcast_S8x1x2048_S8x2048x2048_0_1_2 (extractStridedSlice S8x1x2048 ![0, 0, 4096] (broadcastInDim S8x1x12288 ![0, 2] bcast_S8x12288_S8x1x12288_0_2 (shapeCast _ (extractStridedSlice S1x8x12288 ![0, 0, 0] x5 slices_S2x16x12288_S1x8x12288_0_0_0) shapeCasts_S1x8x12288_S8x12288)) slices_S8x1x12288_S8x1x2048_0_0_4096)) (Host.dotGeneral dot_S8x2048x2048_S2048x2048_S8x2048x2048_2_0_01_1_n_n none (shapeCast _ (mulf (mulf (mulf (shapeCast _ (addf (extf .f32 (shapeCast _ (extractStridedSlice S1x8x2048x2048 ![0, 0, 0, 0] x0 slices_S2x8x2048x2048_S1x8x2048x2048_0_0_0_0) shapeCasts_S1x8x2048x2048_S8x2048x2048) bitsLt_bf16_f32) (extf .f32 (shapeCast _ (extractStridedSlice S1x8x2048x2048 ![1, 0, 0, 0] x0 slices_S2x8x2048x2048_S1x8x2048x2048_1_0_0_0) shapeCasts_S1x8x2048x2048_S8x2048x2048) bitsLt_bf16_f32)) shapeCasts_S8x2048x2048_S8x2048x16x128) (broadcastInDim S8x2048x16x128 ![0, 1, 2, 3] bcast_S8x2048x16x1_S8x2048x16x128_0_1_2_3 (Host.rsqrt (addf (Host.divf (broadcastInDim S8x2048x16x1 ![0, 1, 2] bcast_S8x2048x16_S8x2048x16x1_0_1_2 (Host.reduceAdd (mulf (shapeCast _ (addf (extf .f32 (shapeCast _ (extractStridedSlice S1x8x2048x2048 ![0, 0, 0, 0] x0 slices_S2x8x2048x2048_S1x8x2048x2048_0_0_0_0) shapeCasts_S1x8x2048x2048_S8x2048x2048) bitsLt_bf16_f32) (extf .f32 (shapeCast _ (extractStridedSlice S1x8x2048x2048 ![1, 0, 0, 0] x0 slices_S2x8x2048x2048_S1x8x2048x2048_1_0_0_0) shapeCasts_S1x8x2048x2048_S8x2048x2048) bitsLt_bf16_f32)) shapeCasts_S8x2048x2048_S8x2048x16x128) (shapeCast _ (addf (extf .f32 (shapeCast _ (extractStridedSlice S1x8x2048x2048 ![0, 0, 0, 0] x0 slices_S2x8x2048x2048_S1x8x2048x2048_0_0_0_0) shapeCasts_S1x8x2048x2048_S8x2048x2048) bitsLt_bf16_f32) (extf .f32 (shapeCast _ (extractStridedSlice S1x8x2048x2048 ![1, 0, 0, 0] x0 slices_S2x8x2048x2048_S1x8x2048x2048_1_0_0_0) shapeCasts_S1x8x2048x2048_S8x2048x2048) bitsLt_bf16_f32)) shapeCasts_S8x2048x2048_S8x2048x16x128)) (constant S_ .f32 0x00000000#32) reducesTo_S8x2048x16x128_S8x2048x16_d3 h_S_)) (broadcastInDim S8x2048x16x1 ![] bcast_S_S8x2048x16x1 (constant S_ .f32 0x43000000#32))) (broadcastInDim S8x2048x16x1 ![] bcast_S_S8x2048x16x1 (constant S_ .f32 0x358637BD#32)))))) (broadcastInDim S8x2048x16x128 ![0, 1, 2, 3] bcast_S1x1x1x128_S8x2048x16x128_0_1_2_3 (broadcastInDim S1x1x1x128 ![3] bcast_S128_S1x1x1x128_3 (shapeCast _ x2 shapeCasts_S1x128_S128)))) (shapeCast _ (mulf (extf .f32 (extractStridedSlice S8x2048x2048 ![0, 0, 8192] x1 slices_S8x2048x10240_S8x2048x2048_0_0_8192) bitsLt_bf16_f32) (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extf .f32 (extractStridedSlice S8x2048x2048 ![0, 0, 8192] x1 slices_S8x2048x10240_S8x2048x2048_0_0_8192) bitsLt_bf16_f32)))))) shapeCasts_S8x2048x2048_S8x2048x16x128)) shapeCasts_S8x2048x16x128_S8x2048x2048) (shapeCast _ x3 shapeCasts_S1x2048x2048_S2048x2048)))

theorem res_apply (x0 : FVec Ideal S2x8x2048x2048 .bf16) (x1 : FVec Ideal S8x2048x10240 .bf16) (x2 : FVec Ideal S1x128 .f32) (x3 : FVec Ideal S1x2048x2048 .f32) (x4 : FVec Ideal S8x2048x2048 .f32) (x5 : FVec Ideal S2x16x12288 .f32) (b : Fin 8) (r l : Fin 2048) : res x0 x1 x2 x3 x4 x5 (ix3 b r l)
    = Cert.ReadoutIdeal.Hand.outAt (fun k => x0 (ix4 0 b r k)) (fun k => x0 (ix4 1 b r k)) (fun k => x1 (ix3 b r ⟨8192 + k.val, by omega⟩)) (fun j => x2 (ix2 0 j)) (fun k => x3 (ix3 0 k l)) (x4 (ix3 b r l))
      (x5 (ix3 0 ⟨b.val, by omega⟩ ⟨4096 + l.val, by omega⟩)) := by
  unfold res Cert.ReadoutIdeal.Hand.outAt Cert.ReadoutIdeal.Hand.actAt Cert.ReadoutIdeal.Hand.hd
  pointwise
  rfl

end Cert.RefReadoutIdeal.Hand

namespace Cert.Proof

open Idealize.ShloMosaic Idealize.ShloMosaic.TcCoe Idealize.SL.Sem

open Cert.ReadoutIdeal Cert.ReadoutIdeal.Gen Cert.ReadoutIdeal.Hand in
theorem readout_ref (x0 : FVec Ideal S2x8x2048x2048 .bf16) (x1 : FVec Ideal S8x2048x10240 .bf16) (x2 : FVec Ideal S1x128 .f32) (x3 : FVec Ideal S1x2048x2048 .f32) (x4 : FVec Ideal S8x2048x2048 .f32)
    (x5 : FVec Ideal S2x16x12288 .f32) (b : Fin 8) (r l : Fin 2048) : Cert.RefReadoutIdeal.Hand.res x0 x1 x2 x3 x4 x5 (ix3 b r l)
      = prodAt x0 x1 (shapeCast _ (shapeCast S128 x2 shapeCasts_S1x128_S128) shapeCasts_S128_S1x128)
          (shapeCast _ x3 shapeCasts_S1x2048x2048_S2048x2048) x4 (shapeCast _ x5 shapeCasts_S2x16x12288_S32x1x12288) b r l := by
  refine (Cert.RefReadoutIdeal.Hand.res_apply x0 x1 x2 x3 x4 x5 b r l).trans ?_
  unfold prodAt
  refine outAt_congr (fun k => rfl) (fun k => rfl) (fun k => rfl) (fun k => ?_) (fun k => ?_) rfl (mod_row x5 b _).symm
  · pointwise
  · pointwise

theorem algebraic_readout : Cert.algebraic_ReadoutIdeal_RefReadoutIdeal := by
  intro m ρ m' ρ' _ hargs
  refine ⟨fun c => Cert.ReadoutIdeal.Hand.prod m c, ?_, ?_⟩
  · refine (θ_run Cert.ReadoutIdeal.defs _ _).mono (fun r h c => ?_) (Cert.ReadoutIdeal.Value.run_blocks (F := Ideal) m ρ)
    exact ⟨(h c).1.trans (Cert.ReadoutIdeal.Hand.final m c), (h c).2⟩
  · refine (θ_run Cert.RefReadoutIdeal.defs _ _).mono (fun r h c => ?_) (Cert.RefReadoutIdeal.Value.run (F := Ideal) m' ρ')
    refine ⟨(h c).1.trans ?_, (h c).2⟩
    obtain ⟨a0, a1, a2, a3, a4, a5⟩ := hargs c
    show Cert.RefReadoutIdeal.Hand.res _ _ _ _ _ _ = _
    rw [a0, a1, a2, a3, a4, a5]
    funext i
    idx_vars i
    refine (readout_ref _ _ _ _ _ _ i0 i1 i2).trans ?_
    unfold Cert.ReadoutIdeal.Hand.prod
    rw [Cert.ReadoutIdeal.Hand.entry_o, Cert.ReadoutIdeal.Hand.entry_p, Cert.ReadoutIdeal.Hand.entry_on, Cert.ReadoutIdeal.Hand.entry_w, Cert.ReadoutIdeal.Hand.entry_h, Cert.ReadoutIdeal.Hand.entry_mod]
    rfl

end Cert.Proof

end
-- ==== Proof.NormValue.lean ====
/- The modulated normalisation's value claim: a block of rows normalised, scaled by the weight, then modulated, is the
   reference's whole-array computation. -/
module

public import proofs.«01_k».proof.Defs
public import proofs.«01_k».proof.Proof.Gen.NormIdeal.Value
public import proofs.«01_k».proof.Proof.Gen.RefNormIdeal.Run
public import Idealize.ShloMosaic.Lib.Pointwise
public import Idealize.ShloMosaic.Lib.Claim

@[expose] public section

set_option maxRecDepth 16384

noncomputable section

namespace Cert.NormIdeal.Hand

open Cert.NormIdeal Cert.NormIdeal.Gen Cert.NormIdeal.Value Idealize.ShloMosaic Idealize.ShloMosaic.TcCoe Idealize.SL.Sem
open Idealize.ShloMosaic.Pipeline (Dat)

section Structure

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block. -/
theorem out_eq (x : Vec Ideal S1x512x2048 .f32) (g : Vec Ideal S1x2048 .f32) (sh sc : Vec Ideal S1x1x2048 .f32) : out0_4 x g sh sc = k0_pay1 x g sc sh := by
  unfold out0_4
  rw [View.canon_unit_zero hz3]
  simp only [View.ld_unit_zero (S := S1x512x2048) hz3, View.ld_unit_zero (S := S1x2048) hz2, View.ld_unit_zero (S := S1x1x2048) hz3]

theorem index0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val / 4 ∧ win0_3.index t (1 : Fin 3) = 0 ∧ win0_3.index t (2 : Fin 3) = 1 :=
  (by decide +kernel : ∀ t : Fin grid0.N, _)
theorem index4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)

theorem blk0 (c : Dev nD) (t : Fin cfg0.N) (i0 : Fin 1) (i1 : Fin 512) (i2 : Fin 2048) (h0 : t.val / 4 + i0.val < 8) (h1 : t.val % 4 * 512 + i1.val < 2048) :
    (iblk m c 0 t : Vec Ideal S1x512x2048 .f32) (ix3 i0 i1 i2) = V m c main_arg0 (ix3 ⟨t.val / 4 + i0.val, h0⟩ ⟨t.val % 4 * 512 + i1.val, h1⟩ i2) := by
  have e := index0 t
  unfold iblk
  rw [View.read_apply]
  show V m c main_arg0 _ = V m c main_arg0 _
  congr 1
  funext a
  apply Fin.ext
  match a with
  | ⟨0, _⟩ => show win0_0.index t 0 * 1 + 1 * i0.val = t.val / 4 + i0.val; rw [e.1]; omega
  | ⟨1, _⟩ => show win0_0.index t 1 * 512 + 1 * i1.val = t.val % 4 * 512 + i1.val; rw [e.2.1]; omega
  | ⟨2, _⟩ => show win0_0.index t 2 * 2048 + 1 * i2.val = i2.val; rw [e.2.2]; omega

theorem blk1 (c : Dev nD) (t : Fin cfg0.N) (i0 : Fin 1) (i1 : Fin 2048)  :
    (iblk m c 1 t : Vec Ideal S1x2048 .f32) (ix2 i0 i1) = V m c main_v3 (ix2 i0 i1) := by
  have e := index1 t
  unfold iblk
  rw [View.read_apply]
  show V m c main_v3 _ = V m c main_v3 _
  congr 1
  funext a
  apply Fin.ext
  match a with
  | ⟨0, _⟩ => show win0_1.index t 0 * 1 + 1 * i0.val = i0.val; rw [e.1]; omega
  | ⟨1, _⟩ => show win0_1.index t 1 * 2048 + 1 * i1.val = i1.val; rw [e.2]; omega

theorem blk2 (c : Dev nD) (t : Fin cfg0.N) (i0 : Fin 1) (i1 : Fin 1) (i2 : Fin 2048) (h0 : t.val / 4 + i0.val < 32) (h2 : 0 + i2.val < 12288) :
    (iblk m c 2 t : Vec Ideal S1x1x2048 .f32) (ix3 i0 i1 i2) = V m c main_v0 (ix3 ⟨t.val / 4 + i0.val, h0⟩ i1 ⟨0 + i2.val, h2⟩) := by
  have e := index2 t
  unfold iblk
  rw [View.read_apply]
  show V m c main_v0 _ = V m c main_v0 _
  congr 1
  funext a
  apply Fin.ext
  match a with
  | ⟨0, _⟩ => show win0_2.index t 0 * 1 + 1 * i0.val = t.val / 4 + i0.val; rw [e.1]; omega
  | ⟨1, _⟩ => show win0_2.index t 1 * 1 + 1 * i1.val = i1.val; rw [e.2.1]; omega
  | ⟨2, _⟩ => show win0_2.index t 2 * 2048 + 1 * i2.val = 0 + i2.val; rw [e.2.2]; omega

theorem blk3 (c : Dev nD) (t : Fin cfg0.N) (i0 : Fin 1) (i1 : Fin 1) (i2 : Fin 2048) (h0 : t.val / 4 + i0.val < 32) (h2 : 2048 + i2.val < 12288) :
    (iblk m c 3 t : Vec Ideal S1x1x2048 .f32) (ix3 i0 i1 i2) = V m c main_v0 (ix3 ⟨t.val / 4 + i0.val, h0⟩ i1 ⟨2048 + i2.val, h2⟩) := by
  have e := index3 t
  unfold iblk
  rw [View.read_apply]
  show V m c main_v0 _ = V m c main_v0 _
  congr 1
  funext a
  apply Fin.ext
  match a with
  | ⟨0, _⟩ => show win0_3.index t 0 * 1 + 1 * i0.val = t.val / 4 + i0.val; rw [e.1]; omega
  | ⟨1, _⟩ => show win0_3.index t 1 * 1 + 1 * i1.val = i1.val; rw [e.2.1]; omega
  | ⟨2, _⟩ => show win0_3.index t 2 * 2048 + 1 * i2.val = 2048 + i2.val; rw [e.2.2]; omega

end Structure

variable (m : (ℓ : Loc nD τ sig) → Buf (Elt Ideal) ℓ) (ρ : Dev nD → PrngReg)

/-- One entry of the result. -/
def outAt (x g : Fin 2048 → EReal) (sc sh : EReal) (l : Fin 2048) : EReal :=
  x l * Ideal.rsqrt (Ideal.div (∑ k, x k * x k) (Ideal.ofBits FTy.f32 1157627904#32) + Ideal.ofBits FTy.f32 897988541#32) * g l * (1 + sc) + sh

def prodAt (x : Vec Ideal S8x2048x2048 .f32) (g : Vec Ideal S1x2048 .f32) (mod : Vec Ideal S32x1x12288 .f32) (b : Fin 8) (r l : Fin 2048) : EReal :=
  outAt (fun k => x (ix3 b r k)) (fun k => g (ix2 0 k)) (mod (ix3 ⟨b.val, by omega⟩ 0 ⟨2048 + l.val, by omega⟩)) (mod (ix3 ⟨b.val, by omega⟩ 0 ⟨0 + l.val, by omega⟩)) l

/-- The result array. -/
def prod (c : Dev nD) : Buf (Elt Ideal) ((c : Thread nD τ).loc main_v4) := fun i =>
  prodAt (V m c main_arg0) (V m c main_v3) (V m c main_v0) (i 0) (i 1) (i 2)

theorem pay_apply (x : Vec Ideal S1x512x2048 .f32) (g : Vec Ideal S1x2048 .f32) (sc sh : Vec Ideal S1x1x2048 .f32) (r : Fin 512) (l : Fin 2048) :
    k0_pay1 x g sc sh (ix3 0 r l) = outAt (fun k => x (ix3 0 r k)) (fun k => g (ix2 0 k)) (sc (ix3 0 0 l)) (sh (ix3 0 0 l)) l := by
  unfold outAt
  pointwise [k0_pay1]

theorem outAt_congr {x x' g g' : Fin 2048 → EReal} {a a' b b' : EReal} (l : Fin 2048) (e1 : ∀ k, x k = x' k) (e2 : ∀ k, g k = g' k)
    (e3 : a = a') (e4 : b = b') : outAt x g a b l = outAt x' g' a' b' l := by
  rw [funext e1, funext e2, e3, e4]

theorem flushed_eq (c : Dev nD) (t : Fin cfg0.N) (hf : (cfg0.win 4).flush t = true) :
    (dats m 0 c).flushed 4 t = ((cfg0.win 4).blk t).view.read (Elt Ideal) (prod m c) := by
  have hN : cfg0.N = 32 := N_0
  have ht := t.isLt
  rw [flushed4, out_eq]
  have e := index4 t
  funext y
  have hy0 : (y 0).val < 1 := (y 0).isLt
  have hy1 : (y 1).val < 512 := (y 1).isLt
  have hy2 : (y 2).val < 2048 := (y 2).isLt
  rw [View.read_apply]
  show k0_pay1 _ _ _ _ ((cfg0.win 4).xinj (grid0.coords t) y) = _
  have hx : (cfg0.win 4).xinj (grid0.coords t) y = ix3 (0 : Fin 1) (⟨(y 1).val, hy1⟩ : Fin 512) (⟨(y 2).val, hy2⟩ : Fin 2048) := by
    funext a; apply Fin.ext
    match a with
    | ⟨0, _⟩ => show (y 0).val = 0; omega
    | ⟨1, _⟩ => rfl
    | ⟨2, _⟩ => rfl
  have hi : ((cfg0.win 4).blk t).view.emb y = ix3 (⟨t.val / 4 + (0 : Fin 1).val, by show t.val / 4 + 0 < 8; omega⟩ : Fin 8) (⟨t.val % 4 * 512 + (y 1).val, by omega⟩ : Fin 2048) (⟨(y 2).val, hy2⟩ : Fin 2048) := by
    funext a; apply Fin.ext
    match a with
    | ⟨0, _⟩ => show win0_4.index t 0 * 1 + 1 * (y 0).val = t.val / 4 + 0; rw [e.1]; omega
    | ⟨1, _⟩ => show win0_4.index t 1 * 512 + 1 * (y 1).val = t.val % 4 * 512 + (y 1).val; rw [e.2.1]; omega
    | ⟨2, _⟩ => show win0_4.index t 2 * 2048 + 1 * (y 2).val = (y 2).val; rw [e.2.2]; omega
  rw [hx, hi]
  refine (pay_apply _ _ _ _ _ _).trans ?_
  have q0 : t.val / 4 + (0 : Fin 1).val < 8 := by show t.val / 4 + 0 < 8; omega
  have q2 : t.val / 4 + (0 : Fin 1).val < 32 := by show t.val / 4 + 0 < 32; omega
  have q1 : t.val % 4 * 512 + (y 1).val < 2048 := by omega
  show _ = outAt (fun k => V m c main_arg0 (ix3 (⟨t.val / 4 + (0 : Fin 1).val, q0⟩ : Fin 8) (⟨t.val % 4 * 512 + (y 1).val, q1⟩ : Fin 2048) k)) (fun k => V m c main_v3 (ix2 0 k))
    (V m c main_v0 (ix3 (⟨t.val / 4 + (0 : Fin 1).val, q2⟩ : Fin 32) 0 (⟨2048 + (y 2).val, by omega⟩ : Fin 12288))) (V m c main_v0 (ix3 (⟨t.val / 4 + (0 : Fin 1).val, q2⟩ : Fin 32) 0 (⟨0 + (y 2).val, by omega⟩ : Fin 12288))) _
  refine outAt_congr _ (fun k => ?_) (fun k => ?_) ?_ ?_
  · exact blk0 m c t 0 ⟨(y 1).val, hy1⟩ k q0 q1
  · exact blk1 m c t 0 k
  · exact blk3 m c t 0 0 ⟨(y 2).val, hy2⟩ (by show t.val / 4 + 0 < 32; omega) (by show 2048 + (y 2).val < 12288; omega)
  · exact blk2 m c t 0 0 ⟨(y 2).val, hy2⟩ (by show t.val / 4 + 0 < 32; omega) (by show 0 + (y 2).val < 12288; omega)

/-- Every index of the array lies in some point's block. -/
theorem covered (i : S8x2048x2048.Idx) : ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 2048 := (i 2).isLt
  have hlt : (i 0).val * 4 + (i 1).val / 512 < cfg0.N := by rw [show cfg0.N = 32 from N_0]; omega
  refine ⟨⟨(i 0).val * 4 + (i 1).val / 512, hlt⟩, (by decide +kernel : ∀ t : Fin grid0.N, (cfg0.win 4).flush t = true) _, ?_⟩
  have e := index4 ⟨(i 0).val * 4 + (i 1).val / 512, hlt⟩
  show i ∈ ((View.whole main_v4).slice (win0_4.rect ⟨(i 0).val * 4 + (i 1).val / 512, hlt⟩)).set
  rw [View.set_slice_whole, Rect.mem_set_unit]
  intro a
  match a with
  | ⟨0, _⟩ => show win0_4.index _ 0 * 1 ≤ (i 0).val ∧ (i 0).val < win0_4.index _ 0 * 1 + 1; rw [e.1]; dsimp only; omega
  | ⟨1, _⟩ => show win0_4.index _ 1 * 512 ≤ (i 1).val ∧ (i 1).val < win0_4.index _ 1 * 512 + 512; rw [e.2.1]; dsimp only; omega
  | ⟨2, _⟩ => show win0_4.index _ 2 * 2048 ≤ (i 2).val ∧ (i 2).val < win0_4.index _ 2 * 2048 + 2048; rw [e.2.2]; omega

theorem final (c : Dev nD) : (dats m 0 c).arrAt 4 cfg0.N = prod m c :=
  (dats m 0 c).arrAt_eq_of_cover 4 _ (fun t hf => flushed_eq m c t hf) covered

theorem entry_x (c : Dev nD) : (V m c main_arg0 : Vec Ideal S8x2048x2048 .f32) = m ((c : Thread nD τ).loc main_arg0) := by
  entry_read; rfl
theorem entry_g (c : Dev nD) : (V m c main_v3 : Vec Ideal S1x2048 .f32)
    = shapeCast _ (shapeCast S2048 (extractStridedSlice S1x2048 ![0, 0] (m ((c : Thread nD τ).loc main_arg1) : Vec Ideal S2x2048 .f32) slices_S2x2048_S1x2048_0_0) shapeCasts_S1x2048_S2048) shapeCasts_S2048_S1x2048 := by
  entry_read; rfl
theorem entry_mod (c : Dev nD) : (V m c main_v0 : Vec Ideal S32x1x12288 .f32)
    = shapeCast _ (m ((c : Thread nD τ).loc main_arg2) : Vec Ideal S2x16x12288 .f32) shapeCasts_S2x16x12288_S32x1x12288 := by
  entry_read; rfl

/-- Row `b` of the flattened modulation table is row `b` of the first layer's. -/
theorem mod_row (x : FVec Ideal S2x16x12288 .f32) (b : Fin 8) (l : Fin 12288) :
    shapeCast S32x1x12288 x shapeCasts_S2x16x12288_S32x1x12288 (ix3 ⟨b.val, by omega⟩ 0 l) = x (ix3 0 ⟨b.val, by omega⟩ l) := by
  pointwise
  congr 1
  funext a
  apply Fin.ext
  match a with
  | ⟨0, _⟩ => show b.val / 16 = 0; omega
  | ⟨1, _⟩ => show b.val % 16 = b.val; omega
  | ⟨2, _⟩ => rfl

end Cert.NormIdeal.Hand

namespace Cert.RefNormIdeal.Hand

open Idealize.ShloMosaic Idealize.ShloMosaic.TcCoe Idealize.SL.Sem Cert.RefNormIdeal Cert.RefNormIdeal.Gen

/-- The reference's result as a term of its arguments. -/
def res (x0 : FVec Ideal S8x2048x2048 .f32) (x1 : FVec Ideal S2x2048 .f32) (x2 : FVec Ideal S2x16x12288 .f32) : FVec Ideal S8x2048x2048 .bf16 :=
  truncf .bf16 (addf (mulf (mulf (mulf x0 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x0 x0) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] x1 slices_S2x2048_S1x2048_0_0) shapeCasts_S1x2048_S2048)))) (broadcastInDim S8x2048x2048 ![0, 1, 2] bcast_S8x1x2048_S8x2048x2048_0_1_2 (addf (broadcastInDim S8x1x2048 ![] bcast_S_S8x1x2048 (constant S_ .f32 0x3F800000#32)) (extractStridedSlice S8x1x2048 ![0, 0, 2048] (broadcastInDim S8x1x12288 ![0, 2] bcast_S8x12288_S8x1x12288_0_2 (shapeCast _ (extractStridedSlice S1x8x12288 ![0, 0, 0] x2 slices_S2x16x12288_S1x8x12288_0_0_0) shapeCasts_S1x8x12288_S8x12288)) slices_S8x1x12288_S8x1x2048_0_0_2048)))) (broadcastInDim S8x2048x2048 ![0, 1, 2] bcast_S8x1x2048_S8x2048x2048_0_1_2 (extractStridedSlice S8x1x2048 ![0, 0, 0] (broadcastInDim S8x1x12288 ![0, 2] bcast_S8x12288_S8x1x12288_0_2 (shapeCast _ (extractStridedSlice S1x8x12288 ![0, 0, 0] x2 slices_S2x16x12288_S1x8x12288_0_0_0) shapeCasts_S1x8x12288_S8x12288)) slices_S8x1x12288_S8x1x2048_0_0_0))) bitsLt_bf16_f32

theorem res_apply (x0 : FVec Ideal S8x2048x2048 .f32) (x1 : FVec Ideal S2x2048 .f32) (x2 : FVec Ideal S2x16x12288 .f32) (b : Fin 8) (r l : Fin 2048) : res x0 x1 x2 (ix3 b r l)
    = Cert.NormIdeal.Hand.outAt (fun k => x0 (ix3 b r k)) (fun k => x1 (ix2 0 k)) (x2 (ix3 0 ⟨b.val, by omega⟩ ⟨2048 + l.val, by omega⟩)) (x2 (ix3 0 ⟨b.val, by omega⟩ ⟨l.val, by omega⟩)) l := by
  unfold res Cert.NormIdeal.Hand.outAt
  pointwise

end Cert.RefNormIdeal.Hand

namespace Cert.Proof

open Idealize.ShloMosaic Idealize.ShloMosaic.TcCoe Idealize.SL.Sem

open Cert.NormIdeal Cert.NormIdeal.Gen Cert.NormIdeal.Hand in
theorem norm_ref (x0 : FVec Ideal S8x2048x2048 .f32) (x1 : FVec Ideal S2x2048 .f32)
    (x2 : FVec Ideal S2x16x12288 .f32) (b : Fin 8) (r l : Fin 2048) : Cert.RefNormIdeal.Hand.res x0 x1 x2 (ix3 b r l)
      = prodAt x0 (shapeCast _ (shapeCast S2048 (extractStridedSlice S1x2048 ![0, 0] x1 slices_S2x2048_S1x2048_0_0) shapeCasts_S1x2048_S2048) shapeCasts_S2048_S1x2048)
          (shapeCast _ x2 shapeCasts_S2x16x12288_S32x1x12288) b r l := by
  refine (Cert.RefNormIdeal.Hand.res_apply x0 x1 x2 b r l).trans ?_
  unfold prodAt
  refine outAt_congr _ (fun k => rfl) (fun k => ?_) (mod_row x2 b _).symm ?_
  · pointwise
  · refine Eq.trans ?_ (mod_row x2 b _).symm
    congr 2
    apply Fin.ext
    show l.val = 0 + l.val
    omega

theorem algebraic_norm : Cert.algebraic_NormIdeal_RefNormIdeal := by
  intro m ρ m' ρ' _ hargs
  refine ⟨fun c => Cert.NormIdeal.Hand.prod m c, ?_, ?_⟩
  · refine (θ_run Cert.NormIdeal.defs _ _).mono (fun r h c => ?_) (Cert.NormIdeal.Value.run_blocks (F := Ideal) m ρ)
    exact ⟨(h c).1.trans (Cert.NormIdeal.Hand.final m c), (h c).2⟩
  · refine (θ_run Cert.RefNormIdeal.defs _ _).mono (fun r h c => ?_) (Cert.RefNormIdeal.Value.run (F := Ideal) m' ρ')
    refine ⟨(h c).1.trans ?_, (h c).2⟩
    obtain ⟨a0, a1, a2⟩ := hargs c
    show Cert.RefNormIdeal.Hand.res _ _ _ = _
    rw [a0, a1, a2]
    funext i
    idx_vars i
    refine (norm_ref _ _ _ i0 i1 i2).trans ?_
    unfold Cert.NormIdeal.Hand.prod
    rw [Cert.NormIdeal.Hand.entry_x, Cert.NormIdeal.Hand.entry_g, Cert.NormIdeal.Hand.entry_mod]
    rfl

end Cert.Proof

end
-- ==== Proof.AdaValue.lean ====
/- The modulation table's value claim: column blocks of a product of the gated conditioning rows with the weights, plus the
   bias, are the reference's two stacked products. -/
module

public import proofs.«01_k».proof.Defs
public import proofs.«01_k».proof.Proof.Gen.AdaIdeal.Value
public import proofs.«01_k».proof.Proof.Gen.RefAdaIdeal.Run
public import Idealize.ShloMosaic.Lib.Pointwise
public import Idealize.ShloMosaic.Lib.Claim

@[expose] public section

set_option maxRecDepth 16384

noncomputable section

namespace Cert.AdaIdeal.Hand

open Cert.AdaIdeal Cert.AdaIdeal.Gen Cert.AdaIdeal.Value Idealize.ShloMosaic Idealize.ShloMosaic.TcCoe Idealize.SL.Sem
open Idealize.ShloMosaic.Pipeline (Dat)

section Structure

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block. -/
theorem out_eq (x : Vec Ideal S16x2048 .f32) (w : Vec Ideal S1x2048x1024 .f32) (b : Vec Ideal S1x1x1024 .f32) : out0_3 x w b = k0_pay1 x w b := by
  unfold out0_3
  rw [View.canon_unit_zero hz3]
  simp only [View.ld_unit_zero (S := S16x2048) hz2, View.ld_unit_zero (S := S1x2048x1024) hz3, View.ld_unit_zero (S := S1x1x1024) hz3]

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 3) = t.val / 12 ∧ win0_1.index t (1 : Fin 3) = 0 ∧ win0_1.index t (2 : Fin 3) = t.val % 12 :=
  (by decide +kernel : ∀ t : Fin grid0.N, _)
theorem index2 : ∀ t : Fin cfg0.N, win0_2.index t (0 : Fin 3) = t.val / 12 ∧ win0_2.index t (1 : Fin 3) = 0 ∧ win0_2.index t (2 : Fin 3) = t.val % 12 :=
  (by decide +kernel : ∀ t : Fin grid0.N, _)
theorem index3 : ∀ t : Fin cfg0.N, win0_3.index t (0 : Fin 3) = t.val / 12 ∧ win0_3.index t (1 : Fin 3) = 0 ∧ win0_3.index t (2 : Fin 3) = t.val % 12 :=
  (by decide +kernel : ∀ t : Fin grid0.N, _)

theorem blk0 (c : Dev nD) (t : Fin cfg0.N) (i0 : Fin 16) (i1 : Fin 2048)  :
    (iblk m c 0 t : Vec Ideal S16x2048 .f32) (ix2 i0 i1) = V m c main_v2 (ix2 i0 i1) := by
  have e := index0 t
  unfold iblk
  rw [View.read_apply]
  show V m c main_v2 _ = V m c main_v2 _
  congr 1
  funext a
  apply Fin.ext
  match a with
  | ⟨0, _⟩ => show win0_0.index t 0 * 16 + 1 * i0.val = i0.val; rw [e.1]; omega
  | ⟨1, _⟩ => show win0_0.index t 1 * 2048 + 1 * i1.val = i1.val; rw [e.2]; omega

theorem blk1 (c : Dev nD) (t : Fin cfg0.N) (i0 : Fin 1) (i1 : Fin 2048) (i2 : Fin 1024) (h0 : t.val / 12 + i0.val < 2) (h2 : t.val % 12 * 1024 + i2.val < 12288) :
    (iblk m c 1 t : Vec Ideal S1x2048x1024 .f32) (ix3 i0 i1 i2) = V m c main_arg2 (ix3 ⟨t.val / 12 + i0.val, h0⟩ i1 ⟨t.val % 12 * 1024 + i2.val, h2⟩) := by
  have e := index1 t
  unfold iblk
  rw [View.read_apply]
  show V m c main_arg2 _ = V m c main_arg2 _
  congr 1
  funext a
  apply Fin.ext
  match a with
  | ⟨0, _⟩ => show win0_1.index t 0 * 1 + 1 * i0.val = t.val / 12 + i0.val; rw [e.1]; omega
  | ⟨1, _⟩ => show win0_1.index t 1 * 2048 + 1 * i1.val = i1.val; rw [e.2.1]; omega
  | ⟨2, _⟩ => show win0_1.index t 2 * 1024 + 1 * i2.val = t.val % 12 * 1024 + i2.val; rw [e.2.2]; omega

theorem blk2 (c : Dev nD) (t : Fin cfg0.N) (i0 : Fin 1) (i1 : Fin 1) (i2 : Fin 1024) (h0 : t.val / 12 + i0.val < 2) (h2 : t.val % 12 * 1024 + i2.val < 12288) :
    (iblk m c 2 t : Vec Ideal S1x1x1024 .f32) (ix3 i0 i1 i2) = V m c main_v3 (ix3 ⟨t.val / 12 + i0.val, h0⟩ i1 ⟨t.val % 12 * 1024 + i2.val, h2⟩) := by
  have e := index2 t
  unfold iblk
  rw [View.read_apply]
  show V m c main_v3 _ = V m c main_v3 _
  congr 1
  funext a
  apply Fin.ext
  match a with
  | ⟨0, _⟩ => show win0_2.index t 0 * 1 + 1 * i0.val = t.val / 12 + i0.val; rw [e.1]; omega
  | ⟨1, _⟩ => show win0_2.index t 1 * 1 + 1 * i1.val = i1.val; rw [e.2.1]; omega
  | ⟨2, _⟩ => show win0_2.index t 2 * 1024 + 1 * i2.val = t.val % 12 * 1024 + i2.val; rw [e.2.2]; omega

end Structure

variable (m : (ℓ : Loc nD τ sig) → Buf (Elt Ideal) ℓ) (ρ : Dev nD → PrngReg)

/-- One entry of the result. -/
def outAt (x w : Fin 2048 → EReal) (b : EReal) : EReal := ∑ k, x k * Ideal.logistic (x k) * w k + b

def prodAt (x : Vec Ideal S16x2048 .f32) (w : Vec Ideal S2x2048x12288 .f32) (b : Vec Ideal S2x1x12288 .f32) (d : Fin 2) (r : Fin 16) (l : Fin 12288) : EReal :=
  outAt (fun k => x (ix2 r k)) (fun k => w (ix3 d k l)) (b (ix3 d 0 l))

/-- The result array. -/
def prod (c : Dev nD) : Buf (Elt Ideal) ((c : Thread nD τ).loc main_v4) := fun i =>
  prodAt (V m c main_v2) (V m c main_arg2) (V m c main_v3) (i 0) (i 1) (i 2)

theorem pay_apply (x : Vec Ideal S16x2048 .f32) (w : Vec Ideal S1x2048x1024 .f32) (b : Vec Ideal S1x1x1024 .f32) (r : Fin 16) (l : Fin 1024) :
    k0_pay1 x w b (ix3 0 r l) = outAt (fun k => x (ix2 r k)) (fun k => w (ix3 0 k l)) (b (ix3 0 0 l)) := by
  unfold outAt
  pointwise [k0_pay1]

theorem outAt_congr {x x' w w' : Fin 2048 → EReal} {b b' : EReal} (e1 : ∀ k, x k = x' k) (e2 : ∀ k, w k = w' k)
    (e3 : b = b') : outAt x w b = outAt x' w' b' := by
  rw [funext e1, funext e2, e3]

theorem flushed_eq (c : Dev nD) (t : Fin cfg0.N) (hf : (cfg0.win 3).flush t = true) :
    (dats m 0 c).flushed 3 t = ((cfg0.win 3).blk t).view.read (Elt Ideal) (prod m c) := by
  have hN : cfg0.N = 24 := N_0
  have ht := t.isLt
  rw [flushed3, out_eq]
  have e := index3 t
  funext y
  have hy0 : (y 0).val < 1 := (y 0).isLt
  have hy1 : (y 1).val < 16 := (y 1).isLt
  have hy2 : (y 2).val < 1024 := (y 2).isLt
  rw [View.read_apply]
  show k0_pay1 _ _ _ ((cfg0.win 3).xinj (grid0.coords t) y) = _
  have hx : (cfg0.win 3).xinj (grid0.coords t) y = ix3 (0 : Fin 1) (⟨(y 1).val, hy1⟩ : Fin 16) (⟨(y 2).val, hy2⟩ : Fin 1024) := by
    funext a; apply Fin.ext
    match a with
    | ⟨0, _⟩ => show (y 0).val = 0; omega
    | ⟨1, _⟩ => rfl
    | ⟨2, _⟩ => rfl
  have hi : ((cfg0.win 3).blk t).view.emb y = ix3 (⟨t.val / 12 + (0 : Fin 1).val, by show t.val / 12 + 0 < 2; omega⟩ : Fin 2) (⟨(y 1).val, hy1⟩ : Fin 16) (⟨t.val % 12 * 1024 + (y 2).val, by omega⟩ : Fin 12288) := by
    funext a; apply Fin.ext
    match a with
    | ⟨0, _⟩ => show win0_3.index t 0 * 1 + 1 * (y 0).val = t.val / 12 + 0; rw [e.1]; omega
    | ⟨1, _⟩ => show win0_3.index t 1 * 16 + 1 * (y 1).val = (y 1).val; rw [e.2.1]; omega
    | ⟨2, _⟩ => show win0_3.index t 2 * 1024 + 1 * (y 2).val = t.val % 12 * 1024 + (y 2).val; rw [e.2.2]; omega
  rw [hx, hi]
  refine (pay_apply _ _ _ _ _).trans ?_
  refine outAt_congr (fun k => ?_) (fun k => ?_) ?_
  · exact blk0 m c t _ k
  · exact blk1 m c t 0 k _ _ _
  · exact blk2 m c t 0 0 _ _ _

/-- Every index of the array lies in some point's block. -/
theorem covered (i : S2x16x12288.Idx) : ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 12288 := (i 2).isLt
  have hlt : (i 0).val * 12 + (i 2).val / 1024 < cfg0.N := by rw [show cfg0.N = 24 from N_0]; omega
  refine ⟨⟨(i 0).val * 12 + (i 2).val / 1024, hlt⟩, (by decide +kernel : ∀ t : Fin grid0.N, (cfg0.win 3).flush t = true) _, ?_⟩
  have e := index3 ⟨(i 0).val * 12 + (i 2).val / 1024, hlt⟩
  show i ∈ ((View.whole main_v4).slice (win0_3.rect ⟨(i 0).val * 12 + (i 2).val / 1024, hlt⟩)).set
  rw [View.set_slice_whole, Rect.mem_set_unit]
  intro a
  match a with
  | ⟨0, _⟩ => show win0_3.index _ 0 * 1 ≤ (i 0).val ∧ (i 0).val < win0_3.index _ 0 * 1 + 1; rw [e.1]; dsimp only; omega
  | ⟨1, _⟩ => show win0_3.index _ 1 * 16 ≤ (i 1).val ∧ (i 1).val < win0_3.index _ 1 * 16 + 16; rw [e.2.1]; omega
  | ⟨2, _⟩ => show win0_3.index _ 2 * 1024 ≤ (i 2).val ∧ (i 2).val < win0_3.index _ 2 * 1024 + 1024; rw [e.2.2]; dsimp only; omega

theorem final (c : Dev nD) : (dats m 0 c).arrAt 3 cfg0.N = prod m c :=
  (dats m 0 c).arrAt_eq_of_cover 3 _ (fun t hf => flushed_eq m c t hf) covered

/-- The conditioning rows: the batch's, the context's and rows of zero. -/
def rows (x : FVec Ideal S8x2048 .f32) (y : FVec Ideal S2048 .f32) : FVec Ideal S16x2048 .f32 :=
  concatenate S16x2048 0 [⟨S8x2048, x⟩, ⟨S1x2048, broadcastInDim S1x2048 ![1] bcast_S2048_S1x2048_1 y⟩,
    ⟨S7x2048, broadcastInDim S7x2048 ![] bcast_S_S7x2048 (constant (F := Ideal) S_ .f32 0x00000000#32 : FVec Ideal S_ .f32)⟩] concatenates_S8x2048_S1x2048_S7x2048_S16x2048_d0

/-- The conditioning rows in terms of their three pieces. -/
def stack (x : FVec Ideal S8x2048 .f32) (y : FVec Ideal S1x2048 .f32) (z : FVec Ideal S7x2048 .f32) : FVec Ideal S16x2048 .f32 :=
  concatenate S16x2048 0 [⟨S8x2048, x⟩, ⟨S1x2048, y⟩, ⟨S7x2048, z⟩] concatenates_S8x2048_S1x2048_S7x2048_S16x2048_d0

theorem stack_of (G : Valuation τ sig (Elt Ideal)) :
    ((StableHlo.nary (τ := τ) ![main_arg0, main_v0, main_v1] main_v2 (fun u => (concatenate S16x2048 0 [⟨S8x2048, (u 0 : (⟨S8x2048, .f32⟩ : BufTy).Contents (Elt Ideal))⟩, ⟨S1x2048, (u 1 : (⟨S1x2048, .f32⟩ : BufTy).Contents (Elt Ideal))⟩, ⟨S7x2048, (u 2 : (⟨S7x2048, .f32⟩ : BufTy).Contents (Elt Ideal))⟩] concatenates_S8x2048_S1x2048_S7x2048_S16x2048_d0 : (⟨S16x2048, .f32⟩ : BufTy).Contents (Elt Ideal)))).result G (Proc.devRef .tc main_v2) : FVec Ideal S16x2048 .f32)
      = stack (G (Proc.devRef .tc main_arg0)) (G (Proc.devRef .tc main_v0)) (G (Proc.devRef .tc main_v1)) := by
  rw [StableHlo.nary_result]
  rfl

theorem entry_x (c : Dev nD) : (V m c main_v2 : Vec Ideal S16x2048 .f32)
    = rows (m ((c : Thread nD τ).loc main_arg0)) (m ((c : Thread nD τ).loc main_arg1)) := by
  show StableHlo.after hostOps0 (fun b => m (c, b)) (Proc.devRef .tc main_v2) = _
  simp only [StableHlo.after_cons, StableHlo.after_nil]
  rw [StableHlo.reshape_result_ne' _ _ _ _ _ (by decide)]
  refine (stack_of _).trans ?_
  rw [StableHlo.unary_result', StableHlo.unary_result_ne' _ _ _ _ (by decide), StableHlo.unary_result_ne' _ _ _ _ (by decide),
    StableHlo.nullary_result', StableHlo.nullary_result_ne' _ _ _ (by decide), StableHlo.nullary_result_ne' _ _ _ (by decide),
    StableHlo.unary_result', StableHlo.unary_result_ne' _ _ _ _ (by decide)]
  rfl
theorem entry_w (c : Dev nD) : (V m c main_arg2 : Vec Ideal S2x2048x12288 .f32) = m ((c : Thread nD τ).loc main_arg2) := by
  entry_read; rfl
theorem entry_b (c : Dev nD) : (V m c main_v3 : Vec Ideal S2x1x12288 .f32)
    = shapeCast _ (m ((c : Thread nD τ).loc main_arg3) : Vec Ideal S2x12288 .f32) shapeCasts_S2x12288_S2x1x12288 := by
  entry_read; rfl

end Cert.AdaIdeal.Hand

namespace Cert.RefAdaIdeal.Hand

open Idealize.ShloMosaic Idealize.ShloMosaic.TcCoe Idealize.SL.Sem Cert.RefAdaIdeal Cert.RefAdaIdeal.Gen

/-- The reference's result as a term of the conditioning rows and its other arguments. -/
def res (C : FVec Ideal S16x2048 .f32) (x2 : FVec Ideal S2x2048x12288 .f32) (x3 : FVec Ideal S2x12288 .f32) : FVec Ideal S2x16x12288 .f32 :=
  concatenate S2x16x12288 0 [⟨S1x16x12288, (broadcastInDim S1x16x12288 ![1, 2] bcast_S16x12288_S1x16x12288_1_2 (addf (Host.dotGeneral dot_S16x2048_S2048x12288_S16x12288_1_0_0_1_n_n none (mulf (C) (Host.divf (broadcastInDim S16x2048 ![] bcast_S_S16x2048 (constant S_ .f32 0x3F800000#32)) (addf (broadcastInDim S16x2048 ![] bcast_S_S16x2048 (constant S_ .f32 0x3F800000#32)) (Host.exp (Host.negf (C)))))) (shapeCast _ (extractStridedSlice S1x2048x12288 ![0, 0, 0] x2 slices_S2x2048x12288_S1x2048x12288_0_0_0) shapeCasts_S1x2048x12288_S2048x12288)) (broadcastInDim S16x12288 ![0, 1] bcast_S1x12288_S16x12288_0_1 (broadcastInDim S1x12288 ![1] bcast_S12288_S1x12288_1 (shapeCast _ (extractStridedSlice S1x12288 ![0, 0] x3 slices_S2x12288_S1x12288_0_0) shapeCasts_S1x12288_S12288)))))⟩, ⟨S1x16x12288, (broadcastInDim S1x16x12288 ![1, 2] bcast_S16x12288_S1x16x12288_1_2 (addf (Host.dotGeneral dot_S16x2048_S2048x12288_S16x12288_1_0_0_1_n_n none (mulf (C) (Host.divf (broadcastInDim S16x2048 ![] bcast_S_S16x2048 (constant S_ .f32 0x3F800000#32)) (addf (broadcastInDim S16x2048 ![] bcast_S_S16x2048 (constant S_ .f32 0x3F800000#32)) (Host.exp (Host.negf (C)))))) (shapeCast _ (extractStridedSlice S1x2048x12288 ![1, 0, 0] x2 slices_S2x2048x12288_S1x2048x12288_1_0_0) shapeCasts_S1x2048x12288_S2048x12288)) (broadcastInDim S16x12288 ![0, 1] bcast_S1x12288_S16x12288_0_1 (broadcastInDim S1x12288 ![1] bcast_S12288_S1x12288_1 (shapeCast _ (extractStridedSlice S1x12288 ![1, 0] x3 slices_S2x12288_S1x12288_1_0) shapeCasts_S1x12288_S12288)))))⟩] concatenates_S1x16x12288_S1x16x12288_S2x16x12288_d0

theorem res_apply (C : FVec Ideal S16x2048 .f32) (x2 : FVec Ideal S2x2048x12288 .f32) (x3 : FVec Ideal S2x12288 .f32) (d : Fin 2) (r : Fin 16) (l : Fin 12288) : res C x2 x3 (ix3 d r l)
    = Cert.AdaIdeal.Hand.outAt (fun k => C (ix2 r k)) (fun k => x2 (ix3 d k l)) (x3 (ix2 d l)) := by
  unfold res Cert.AdaIdeal.Hand.outAt
  fin_cases d
  · pointwise
    rfl
  · pointwise
    rfl

end Cert.RefAdaIdeal.Hand

namespace Cert.Proof

open Idealize.ShloMosaic Idealize.ShloMosaic.TcCoe Idealize.SL.Sem

open Cert.AdaIdeal Cert.AdaIdeal.Gen Cert.AdaIdeal.Hand in
theorem ada_ref (C : FVec Ideal S16x2048 .f32) (x2 : FVec Ideal S2x2048x12288 .f32) (x3 : FVec Ideal S2x12288 .f32) (d : Fin 2) (r : Fin 16) (l : Fin 12288) :
    Cert.RefAdaIdeal.Hand.res C x2 x3 (ix3 d r l)
      = prodAt C x2 (shapeCast _ x3 shapeCasts_S2x12288_S2x1x12288) d r l := by
  refine (Cert.RefAdaIdeal.Hand.res_apply C x2 x3 d r l).trans ?_
  unfold prodAt
  refine outAt_congr (fun k => rfl) (fun k => rfl) ?_
  pointwise

theorem algebraic_ada : Cert.algebraic_AdaIdeal_RefAdaIdeal := by
  intro m ρ m' ρ' _ hargs
  refine ⟨fun c => Cert.AdaIdeal.Hand.prod m c, ?_, ?_⟩
  · refine (θ_run Cert.AdaIdeal.defs _ _).mono (fun r h c => ?_) (Cert.AdaIdeal.Value.run_blocks (F := Ideal) m ρ)
    exact ⟨(h c).1.trans (Cert.AdaIdeal.Hand.final m c), (h c).2⟩
  · refine (θ_run Cert.RefAdaIdeal.defs _ _).mono (fun r h c => ?_) (Cert.RefAdaIdeal.Value.run (F := Ideal) m' ρ')
    refine ⟨(h c).1.trans ?_, (h c).2⟩
    obtain ⟨a0, a1, a2, a3⟩ := hargs c
    show Cert.RefAdaIdeal.Hand.res (Cert.AdaIdeal.Hand.rows _ _) _ _ = _
    rw [a0, a1, a2, a3]
    funext i
    idx_vars i
    refine (ada_ref _ _ _ i0 i1 i2).trans ?_
    unfold Cert.AdaIdeal.Hand.prod
    rw [Cert.AdaIdeal.Hand.entry_x, Cert.AdaIdeal.Hand.entry_w, Cert.AdaIdeal.Hand.entry_b]
    rfl

end Cert.Proof

end
-- ==== Proof.ProjCtxValue.lean ====
/- The context's in-projection's value claim: the tiled product with a weight block rounded once per block column is the plain
   product of the reference. -/
module

public import proofs.«01_k».proof.Defs
public import proofs.«01_k».proof.Proof.Gen.ProjCtxIdeal.Value
public import proofs.«01_k».proof.Proof.Gen.RefProjCtxIdeal.Run
public import Idealize.ShloMosaic.Lib.Pointwise
public import Idealize.ShloMosaic.Lib.Claim

@[expose] public section

set_option maxRecDepth 16384

noncomputable section

namespace Cert.ProjCtxIdeal.Hand

open Cert.ProjCtxIdeal Cert.ProjCtxIdeal.Gen Cert.ProjCtxIdeal.Value Idealize.ShloMosaic Idealize.ShloMosaic.TcCoe Idealize.SL.Sem
open Idealize.ShloMosaic.Pipeline (Dat)

section Structure

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- At the first point of a block column the scratch receives the rounded weight block. -/
theorem scratch_A (c : Dev nD) (i : grid0.Coords) (a2 : Memref sig .tc .vmem S1024x2048 .bf16) (h2 : a2.IsWhole)
    (a3 : Memref sig .tc .vmem S2048x1024 .f32) (h3 : a3.IsWhole) (a4 : Memref sig .tc .vmem S1024x1024 .bf16) (h4 : a4.IsWhole)
    (a5 : Memref sig .tc .vmem S2048x1024 .bf16) (h5 : a5.IsWhole) (hc : cond0_0 i) (x : Vec F S1024x2048 .bf16) (w : Vec F S2048x1024 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S2048x1024) hz]

/-- There the output block is the product with that block. -/
theorem out_A (c : Dev nD) (i : grid0.Coords) (a2 : Memref sig .tc .vmem S1024x2048 .bf16) (h2 : a2.IsWhole)
    (a3 : Memref sig .tc .vmem S2048x1024 .f32) (h3 : a3.IsWhole) (a4 : Memref sig .tc .vmem S1024x1024 .bf16) (h4 : a4.IsWhole)
    (a5 : Memref sig .tc .vmem S2048x1024 .bf16) (h5 : a5.IsWhole) (hc : cond0_0 i) (x : Vec F S1024x2048 .bf16) (w : Vec F S2048x1024 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz]
  simp only [View.readAt_eq_ld, h2.read_unread, h3.read_unread, View.readCov_unit_zero (S := S2048x1024) _ hz,
    View.ld_unit_zero (S := S2048x1024) hz, View.ld_unit_zero (S := S1024x2048) hz]

/-- At the other points it is the product with what the scratch holds. -/
theorem out_B (c : Dev nD) (i : grid0.Coords) (a2 : Memref sig .tc .vmem S1024x2048 .bf16) (h2 : a2.IsWhole)
    (a3 : Memref sig .tc .vmem S2048x1024 .f32) (h3 : a3.IsWhole) (a4 : Memref sig .tc .vmem S1024x1024 .bf16) (h4 : a4.IsWhole)
    (a5 : Memref sig .tc .vmem S2048x1024 .bf16) (h5 : a5.IsWhole) (hc : ¬cond0_0 i) (x : Vec F S1024x2048 .bf16) (w : Vec F S2048x1024 .f32)
    (s : Vec F S2048x1024 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero hz]
  simp only [View.readAt_eq_ld, h2.read_unread, h5.read_unread, View.ld_unit_zero (S := S2048x1024) hz,
    View.ld_unit_zero (S := S1024x2048) hz]

theorem index0 : ∀ t : Fin cfg0.N, win0_0.index t (0 : Fin 2) = t.val % 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val / 2 :=
  (by decide +kernel : ∀ t : Fin grid0.N, _)
theorem index2 : ∀ t : Fin cfg0.N, win0_2.index t (0 : Fin 2) = t.val % 2 ∧ win0_2.index t (1 : Fin 2) = t.val / 2 :=
  (by decide +kernel : ∀ t : Fin grid0.N, _)

/-- The activation block at a point, by coordinates. -/
theorem blk0 (c : Dev nD) (t : Fin cfg0.N) (r : Fin 1024) (k : Fin 2048) (hr : t.val % 2 * 1024 + r.val < 2048) :
    (iblk m c 0 t : Vec F S1024x2048 .bf16) (ix2 r k) = V m c main_v0 (ix2 ⟨t.val % 2 * 1024 + r.val, hr⟩ k) := by
  obtain ⟨e0, e1⟩ := index0 t
  unfold iblk
  rw [View.read_apply]
  show V m c main_v0 _ = V m c main_v0 _
  congr 1
  funext a
  apply Fin.ext
  match a with
  | ⟨0, _⟩ => show win0_0.index t 0 * 1024 + 1 * r.val = t.val % 2 * 1024 + r.val; rw [e0]; omega
  | ⟨1, _⟩ => show win0_0.index t 1 * 2048 + 1 * k.val = k.val; rw [e1]; omega

/-- The weight block at a point, by coordinates. -/
theorem blk1 (c : Dev nD) (t : Fin cfg0.N) (k : Fin 2048) (l : Fin 1024) (hl : t.val / 2 * 1024 + l.val < 10240) :
    (iblk m c 1 t : Vec F S2048x1024 .f32) (ix2 k l) = V m c main_v1 (ix2 k ⟨t.val / 2 * 1024 + l.val, hl⟩) := by
  obtain ⟨e0, e1⟩ := index1 t
  unfold iblk
  rw [View.read_apply]
  show V m c main_v1 _ = V m c main_v1 _
  congr 1
  funext a
  apply Fin.ext
  match a with
  | ⟨0, _⟩ => show win0_1.index t 0 * 2048 + 1 * k.val = k.val; rw [e0]; omega
  | ⟨1, _⟩ => show win0_1.index t 1 * 1024 + 1 * l.val = t.val / 2 * 1024 + l.val; rw [e1]; omega

/-- Two points of one block column read one weight block. -/
theorem blk1_congr (c : Dev nD) (t t' : Fin cfg0.N) (h : t.val / 2 = t'.val / 2) :
    (iblk m c 1 t : Vec F S2048x1024 .f32) = iblk m c 1 t' := by
  have hN : cfg0.N = 20 := N_0
  have ht := t.isLt
  funext j
  idx_vars j
  rw [blk1 m c t j0 j1 (by omega), blk1 m c t' j0 j1 (by omega)]
  congr 3
  omega

/-- What a point leaves: the product in the output block, the rounded weight block in the scratch. -/
theorem left (c : Dev nD) : ∀ (n : ℕ) (h : n < cfg0.N), outsAt0 m c n h
    = (k0_pay2 (iblk m c 0 ⟨n, h⟩) (k0_pay1 (iblk m c 1 ⟨n, h⟩)), k0_pay1 (iblk m c 1 ⟨n, h⟩))
  | 0, h => by
    rw [outsAt0_A m c ⟨0, h⟩ rfl, out_A, scratch_A]
  | n + 1, h => by
    by_cases h0 : (n + 1) % 2 = 0
    · rw [outsAt0_A m c ⟨n + 1, h⟩ h0, out_A, scratch_A]
    · rw [outsAt0_B m c ⟨n + 1, h⟩ h0, out_B]
      unfold sout0_B_0
      have e := left c n (Nat.lt_of_succ_lt h)
      have e2 : (outsAt0 m c ((⟨n + 1, h⟩ : Fin cfg0.N).val - 1) (Nat.lt_of_le_of_lt (Nat.sub_le _ _) h)).2
          = k0_pay1 (iblk m c 1 ⟨n + 1, h⟩) := by
        show (outsAt0 m c n _).2 = _
        rw [e]
        show k0_pay1 (iblk m c 1 _) = _
        rw [blk1_congr m c ⟨n, Nat.lt_of_succ_lt h⟩ ⟨n + 1, h⟩ (by show n / 2 = (n + 1) / 2; omega)]
      rw [e2]

end Structure

variable (m : (ℓ : Loc nD τ sig) → Buf (Elt Ideal) ℓ) (ρ : Dev nD → PrngReg)

/-- The product of an activation matrix and a weight matrix, by coordinates. -/
def prodAt (x : Vec Ideal S2048x2048 .bf16) (w : Vec Ideal S2048x10240 .f32) (r : Fin 2048) (l : Fin 10240) : EReal :=
  ∑ k : Fin 2048, (x (ix2 r k) : EReal) * (w (ix2 k l) : EReal)

/-- The result array: that product of the arrays the region reads. -/
def prod (c : Dev nD) : Buf (Elt Ideal) ((c : Thread nD τ).loc main_v2) := fun i =>
  prodAt (V m c main_v0) (V m c main_v1) (i 0) (i 1)

theorem pay_apply (x : Vec Ideal S1024x2048 .bf16) (w : Vec Ideal S2048x1024 .f32) (r : Fin 1024) (l : Fin 1024) :
    k0_pay2 x (k0_pay1 w) (ix2 r l) = ∑ k : Fin 2048, (x (ix2 r k) : EReal) * (w (ix2 k l) : EReal) := by
  pointwise [k0_pay2, k0_pay1]

theorem flushed_eq (c : Dev nD) (t : Fin cfg0.N) (hf : (cfg0.win 2).flush t = true) :
    (dats m 0 c).flushed 2 t = ((cfg0.win 2).blk t).view.read (Elt Ideal) (prod m c) := by
  have hN : cfg0.N = 20 := N_0
  have ht := t.isLt
  show (cfg0.win 2).cut (grid0.coords t) ((dats m 0 c).after 2 t) = _
  rw [after0_2, left]
  obtain ⟨e0, e1⟩ := index2 t
  funext y
  have hy0 : (y 0).val < 1024 := (y 0).isLt
  have hy1 : (y 1).val < 1024 := (y 1).isLt
  rw [View.read_apply]
  show k0_pay2 _ _ ((cfg0.win 2).xinj (grid0.coords t) y) = _
  have hx : (cfg0.win 2).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  have hi : ((cfg0.win 2).blk t).view.emb y = ix2 (⟨t.val % 2 * 1024 + (y 0).val, by omega⟩ : Fin 2048) (⟨t.val / 2 * 1024 + (y 1).val, by omega⟩ : Fin 10240) := by
    funext a; apply Fin.ext
    match a with
    | ⟨0, _⟩ => show win0_2.index t 0 * 1024 + 1 * (y 0).val = t.val % 2 * 1024 + (y 0).val; rw [e0]; omega
    | ⟨1, _⟩ => show win0_2.index t 1 * 1024 + 1 * (y 1).val = t.val / 2 * 1024 + (y 1).val; rw [e1]; omega
  rw [hx, hi]
  rw [pay_apply]
  show _ = prodAt _ _ _ _
  unfold prodAt
  refine Finset.sum_congr rfl fun k _ => ?_
  rw [blk0 m c t _ k (by show _ + (y 0).val < _; omega), blk1 m c t k _ (by show _ + (y 1).val < _; omega)]
  rfl

theorem final (c : Dev nD) : (dats m 0 c).arrAt 2 cfg0.N = prod m c :=
  (dats m 0 c).arrAt_eq_of_cover 2 _ (fun t hf => flushed_eq m c t hf) (fun i => (covered_iff2 i).2 (by
    have h0 : (i 0).val < 2048 := (i 0).isLt; have h1 : (i 1).val < 10240 := (i 1).isLt; omega))

theorem entry0 (c : Dev nD) : (V m c main_v0 : Vec Ideal S2048x2048 .bf16)
    = shapeCast _ (m ((c : Thread nD τ).loc main_arg0) : Vec Ideal S8x256x2048 .bf16) shapeCasts_S8x256x2048_S2048x2048 := by
  entry_read; rfl

theorem entry1 (c : Dev nD) : (V m c main_v1 : Vec Ideal S2048x10240 .f32)
    = shapeCast _ (m ((c : Thread nD τ).loc main_arg1) : Vec Ideal S1x2048x10240 .f32) shapeCasts_S1x2048x10240_S2048x10240 := by
  entry_read; rfl

end Cert.ProjCtxIdeal.Hand

namespace Cert.Proof

open Idealize.ShloMosaic Idealize.ShloMosaic.TcCoe Idealize.SL.Sem

/-- The reference's result as a term of its arguments. -/
def projCtxRef (a : FVec Ideal Cert.RefProjCtxIdeal.S8x256x2048 .bf16) (w : FVec Ideal Cert.RefProjCtxIdeal.S1x2048x10240 .f32) :
    FVec Ideal Cert.RefProjCtxIdeal.S2048x10240 .bf16 :=
  shapeCast _ (truncf .bf16 (Host.dotGeneral Cert.RefProjCtxIdeal.dot_S8x256x2048_S2048x10240_S8x256x10240_2_0_01_1_n_n none
        (extf .f32 a Cert.RefProjCtxIdeal.Gen.bitsLt_bf16_f32) (shapeCast Cert.RefProjCtxIdeal.S2048x10240 w Cert.RefProjCtxIdeal.Gen.shapeCasts_S1x2048x10240_S2048x10240))
        Cert.RefProjCtxIdeal.Gen.bitsLt_bf16_f32) Cert.RefProjCtxIdeal.Gen.shapeCasts_S8x256x10240_S2048x10240

/-- It is the product of the flattened arrays. -/
theorem projctx_ref (a : FVec Ideal Cert.RefProjCtxIdeal.S8x256x2048 .bf16) (w : FVec Ideal Cert.RefProjCtxIdeal.S1x2048x10240 .f32)
    (r : Fin 2048) (l : Fin 10240) : projCtxRef a w (ix2 r l)
      = Cert.ProjCtxIdeal.Hand.prodAt (shapeCast _ a Cert.ProjCtxIdeal.Gen.shapeCasts_S8x256x2048_S2048x2048) (shapeCast _ w Cert.ProjCtxIdeal.Gen.shapeCasts_S1x2048x10240_S2048x10240) r l := by
  unfold projCtxRef
  unfold Cert.ProjCtxIdeal.Hand.prodAt
  pointwise

theorem algebraic_projctx : Cert.algebraic_ProjCtxIdeal_RefProjCtxIdeal := by
  intro m ρ m' ρ' _ hargs
  refine ⟨fun c => Cert.ProjCtxIdeal.Hand.prod m c, ?_, ?_⟩
  · refine (θ_run Cert.ProjCtxIdeal.defs _ _).mono (fun r h c => ?_) (Cert.ProjCtxIdeal.Value.run_blocks (F := Ideal) m ρ)
    exact ⟨(h c).1.trans (Cert.ProjCtxIdeal.Hand.final m c), (h c).2⟩
  · refine (θ_run Cert.RefProjCtxIdeal.defs _ _).mono (fun r h c => ?_) (Cert.RefProjCtxIdeal.Value.run (F := Ideal) m' ρ')
    refine ⟨(h c).1.trans ?_, (h c).2⟩
    rw [(hargs c).1, (hargs c).2]
    funext i
    idx_vars i
    refine (projctx_ref _ _ i0 i1).trans ?_
    unfold Cert.ProjCtxIdeal.Hand.prod
    rw [Cert.ProjCtxIdeal.Hand.entry0, Cert.ProjCtxIdeal.Hand.entry1]
    rfl

end Cert.Proof

end
-- ==== Proof.lean ====
module

public import proofs.«01_k».proof.Defs
public import proofs.«01_k».proof.Proof.Gen.Scan.Frame
public import proofs.«01_k».proof.Proof.Gen.Proj.Frame
public import proofs.«01_k».proof.Proof.Gen.Glu.Frame
public import proofs.«01_k».proof.Proof.Gen.Out.Frame
public import proofs.«01_k».proof.Proof.Gen.Readout.Frame
public import proofs.«01_k».proof.Proof.Gen.Norm.Frame
public import proofs.«01_k».proof.Proof.Gen.Ada.Frame
public import proofs.«01_k».proof.Proof.Gen.ProjCtx.Frame
public import proofs.«01_k».proof.Proof.Gen.ScanIdeal.Skeleton
public import proofs.«01_k».proof.Proof.Gen.ScanIdeal.Loops
public import proofs.«01_k».proof.Proof.Gen.ScanIdeal.Frame
public import proofs.«01_k».proof.Proof.Gen.RefScanIdeal.Run
public import proofs.«01_k».proof.Proof.Gen.ProjIdeal.Value
public import proofs.«01_k».proof.Proof.Gen.RefProjIdeal.Run
public import proofs.«01_k».proof.Proof.Gen.GluIdeal.Value
public import proofs.«01_k».proof.Proof.Gen.RefGluIdeal.Run
public import proofs.«01_k».proof.Proof.Gen.OutIdeal.Value
public import proofs.«01_k».proof.Proof.Gen.RefOutIdeal.Run
public import proofs.«01_k».proof.Proof.Gen.ReadoutIdeal.Value
public import proofs.«01_k».proof.Proof.Gen.RefReadoutIdeal.Run
public import proofs.«01_k».proof.Proof.Gen.NormIdeal.Value
public import proofs.«01_k».proof.Proof.Gen.RefNormIdeal.Run
public import proofs.«01_k».proof.Proof.Gen.AdaIdeal.Value
public import proofs.«01_k».proof.Proof.Gen.RefAdaIdeal.Run
public import proofs.«01_k».proof.Proof.Gen.ProjCtxIdeal.Value
public import proofs.«01_k».proof.Proof.Gen.RefProjCtxIdeal.Run
public import proofs.«01_k».proof.Proof.ScanFrames
public import proofs.«01_k».proof.Proof.ScanValue
public import proofs.«01_k».proof.Proof.ProjValue
public import proofs.«01_k».proof.Proof.GluValue
public import proofs.«01_k».proof.Proof.OutValue
public import proofs.«01_k».proof.Proof.ReadoutValue
public import proofs.«01_k».proof.Proof.NormValue
public import proofs.«01_k».proof.Proof.AdaValue
public import proofs.«01_k».proof.Proof.ProjCtxValue
public import Idealize.ShloMosaic.Adequacy
public import Idealize.ShloMosaic.Init

@[expose] public section

noncomputable section

namespace Cert.Proof

open Idealize.ShloMosaic Idealize.ShloMosaic.TcCoe Idealize.SL.Sem

/-- The reference of Scan: its run leaves the arguments as they were, and it declares no semaphore. -/
theorem frame_refscan : Cert.quiescent_RefScanIdeal := by
  intro m ρ _
  exact (θ_run Cert.RefScanIdeal.defs _ _).mono (fun r h => ⟨fun c => (h c).2, sem_eq_zero_of_no_sems (by decide) r.2⟩)
    (Cert.RefScanIdeal.Value.run (F := Ideal) m ρ)

/-- The reference of Proj: its run leaves the arguments as they were, and it declares no semaphore. -/
theorem frame_refproj : Cert.quiescent_RefProjIdeal := by
  intro m ρ _
  exact (θ_run Cert.RefProjIdeal.defs _ _).mono (fun r h => ⟨fun c => (h c).2, sem_eq_zero_of_no_sems (by decide) r.2⟩)
    (Cert.RefProjIdeal.Value.run (F := Ideal) m ρ)

/-- The reference of Glu: its run leaves the arguments as they were, and it declares no semaphore. -/
theorem frame_refglu : Cert.quiescent_RefGluIdeal := by
  intro m ρ _
  exact (θ_run Cert.RefGluIdeal.defs _ _).mono (fun r h => ⟨fun c => (h c).2, sem_eq_zero_of_no_sems (by decide) r.2⟩)
    (Cert.RefGluIdeal.Value.run (F := Ideal) m ρ)

/-- The reference of Out: its run leaves the arguments as they were, and it declares no semaphore. -/
theorem frame_refout : Cert.quiescent_RefOutIdeal := by
  intro m ρ _
  exact (θ_run Cert.RefOutIdeal.defs _ _).mono (fun r h => ⟨fun c => (h c).2, sem_eq_zero_of_no_sems (by decide) r.2⟩)
    (Cert.RefOutIdeal.Value.run (F := Ideal) m ρ)

/-- The reference of Readout: its run leaves the arguments as they were, and it declares no semaphore. -/
theorem frame_refreadout : Cert.quiescent_RefReadoutIdeal := by
  intro m ρ _
  exact (θ_run Cert.RefReadoutIdeal.defs _ _).mono (fun r h => ⟨fun c => (h c).2, sem_eq_zero_of_no_sems (by decide) r.2⟩)
    (Cert.RefReadoutIdeal.Value.run (F := Ideal) m ρ)

/-- The reference of Norm: its run leaves the arguments as they were, and it declares no semaphore. -/
theorem frame_refnorm : Cert.quiescent_RefNormIdeal := by
  intro m ρ _
  exact (θ_run Cert.RefNormIdeal.defs _ _).mono (fun r h => ⟨fun c => (h c).2, sem_eq_zero_of_no_sems (by decide) r.2⟩)
    (Cert.RefNormIdeal.Value.run (F := Ideal) m ρ)

/-- The reference of Ada: its run leaves the arguments as they were, and it declares no semaphore. -/
theorem frame_refada : Cert.quiescent_RefAdaIdeal := by
  intro m ρ _
  exact (θ_run Cert.RefAdaIdeal.defs _ _).mono (fun r h => ⟨fun c => (h c).2, sem_eq_zero_of_no_sems (by decide) r.2⟩)
    (Cert.RefAdaIdeal.Value.run (F := Ideal) m ρ)

/-- The reference of ProjCtx: its run leaves the arguments as they were, and it declares no semaphore. -/
theorem frame_refprojctx : Cert.quiescent_RefProjCtxIdeal := by
  intro m ρ _
  exact (θ_run Cert.RefProjCtxIdeal.defs _ _).mono (fun r h => ⟨fun c => (h c).2, sem_eq_zero_of_no_sems (by decide) r.2⟩)
    (Cert.RefProjCtxIdeal.Value.run (F := Ideal) m ρ)

theorem claim : Cert.Claim := ⟨Cert.Scan.Gen.facts,
  Cert.ScanIdeal.Gen.facts,
  Cert.RefScanIdeal.Gen.facts,
  Cert.Proj.Gen.facts,
  Cert.ProjIdeal.Gen.facts,
  Cert.RefProjIdeal.Gen.facts,
  Cert.Glu.Gen.facts,
  Cert.GluIdeal.Gen.facts,
  Cert.RefGluIdeal.Gen.facts,
  Cert.Out.Gen.facts,
  Cert.OutIdeal.Gen.facts,
  Cert.RefOutIdeal.Gen.facts,
  Cert.Readout.Gen.facts,
  Cert.ReadoutIdeal.Gen.facts,
  Cert.RefReadoutIdeal.Gen.facts,
  Cert.Norm.Gen.facts,
  Cert.NormIdeal.Gen.facts,
  Cert.RefNormIdeal.Gen.facts,
  Cert.Ada.Gen.facts,
  Cert.AdaIdeal.Gen.facts,
  Cert.RefAdaIdeal.Gen.facts,
  Cert.ProjCtx.Gen.facts,
  Cert.ProjCtxIdeal.Gen.facts,
  Cert.RefProjCtxIdeal.Gen.facts,
  frame_scan,
  frame_scanideal,
  frame_refscan,
  fun m ρ _ => Cert.Proj.Gen.frame m ρ,
  fun m ρ _ => Cert.ProjIdeal.Gen.frame m ρ,
  frame_refproj,
  fun m ρ _ => Cert.Glu.Gen.frame m ρ,
  fun m ρ _ => Cert.GluIdeal.Gen.frame m ρ,
  frame_refglu,
  fun m ρ _ => Cert.Out.Gen.frame m ρ,
  fun m ρ _ => Cert.OutIdeal.Gen.frame m ρ,
  frame_refout,
  fun m ρ _ => Cert.Readout.Gen.frame m ρ,
  fun m ρ _ => Cert.ReadoutIdeal.Gen.frame m ρ,
  frame_refreadout,
  fun m ρ _ => Cert.Norm.Gen.frame m ρ,
  fun m ρ _ => Cert.NormIdeal.Gen.frame m ρ,
  frame_refnorm,
  fun m ρ _ => Cert.Ada.Gen.frame m ρ,
  fun m ρ _ => Cert.AdaIdeal.Gen.frame m ρ,
  frame_refada,
  fun m ρ _ => Cert.ProjCtx.Gen.frame m ρ,
  fun m ρ _ => Cert.ProjCtxIdeal.Gen.frame m ρ,
  frame_refprojctx,
  trivial,
  algebraic_scan,
  trivial,
  algebraic_proj,
  trivial,
  algebraic_glu,
  trivial,
  algebraic_out,
  trivial,
  algebraic_readout,
  trivial,
  algebraic_norm,
  trivial,
  algebraic_ada,
  trivial,
  algebraic_projctx⟩

end Cert.Proof

end
